-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelWattn (m : (ℓ : Loc Cert.KernelWattn.nD Cert.KernelWattn.τ Cert.KernelWattn.sig) → Buf (Elt Bits) ℓ) : Prop :=
  True

def Pre_KernelWattnIdeal (m : (ℓ : Loc Cert.KernelWattnIdeal.nD Cert.KernelWattnIdeal.τ Cert.KernelWattnIdeal.sig) → Buf (Elt Ideal) ℓ) : Prop :=
  True

def Pre_ReferenceWattnIdeal (m : (ℓ : Loc Cert.ReferenceWattnIdeal.nD Cert.ReferenceWattnIdeal.τ Cert.ReferenceWattnIdeal.sig) → Buf (Elt Ideal) ℓ) : Prop :=
  True

def Pre_KernelWconv (m : (ℓ : Loc Cert.KernelWconv.nD Cert.KernelWconv.τ Cert.KernelWconv.sig) → Buf (Elt Bits) ℓ) : Prop :=
  True

def Pre_KernelWconvIdeal (m : (ℓ : Loc Cert.KernelWconvIdeal.nD Cert.KernelWconvIdeal.τ Cert.KernelWconvIdeal.sig) → Buf (Elt Ideal) ℓ) : Prop :=
  True

def Pre_ReferenceWconvIdeal (m : (ℓ : Loc Cert.ReferenceWconvIdeal.nD Cert.ReferenceWconvIdeal.τ Cert.ReferenceWconvIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_ReferenceAttnIdeal (m : (ℓ : Loc Cert.ReferenceAttnIdeal.nD Cert.ReferenceAttnIdeal.τ Cert.ReferenceAttnIdeal.sig) → Buf (Elt Ideal) ℓ) : Prop :=
  True

def Pre_KernelAdamMlp (m : (ℓ : Loc Cert.KernelAdamMlp.nD Cert.KernelAdamMlp.τ Cert.KernelAdamMlp.sig) → Buf (Elt Bits) ℓ) : Prop :=
  True

def Pre_KernelAdamMlpIdeal (m : (ℓ : Loc Cert.KernelAdamMlpIdeal.nD Cert.KernelAdamMlpIdeal.τ Cert.KernelAdamMlpIdeal.sig) → Buf (Elt Ideal) ℓ) : Prop :=
  True

def Pre_ReferenceAdamMlpIdeal (m : (ℓ : Loc Cert.ReferenceAdamMlpIdeal.nD Cert.ReferenceAdamMlpIdeal.τ Cert.ReferenceAdamMlpIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamProj (m : (ℓ : Loc Cert.KernelAdamProj.nD Cert.KernelAdamProj.τ Cert.KernelAdamProj.sig) → Buf (Elt Bits) ℓ) : Prop :=
  True

def Pre_KernelAdamProjIdeal (m : (ℓ : Loc Cert.KernelAdamProjIdeal.nD Cert.KernelAdamProjIdeal.τ Cert.KernelAdamProjIdeal.sig) → Buf (Elt Ideal) ℓ) : Prop :=
  True

def Pre_ReferenceAdamProjIdeal (m : (ℓ : Loc Cert.ReferenceAdamProjIdeal.nD Cert.ReferenceAdamProjIdeal.τ Cert.ReferenceAdamProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8)
      ∧ r.2.mem ((c.tc : Thread Cert.KernelIn.nD Cert.KernelIn.τ).loc Cert.KernelIn.main_arg9) = m ((c.tc : Thread Cert.KernelIn.nD Cert.KernelIn.τ).loc Cert.KernelIn.main_arg9)
      ∧ r.2.mem ((c.tc : Thread Cert.KernelIn.nD Cert.KernelIn.τ).loc Cert.KernelIn.main_arg10) = m ((c.tc : Thread Cert.KernelIn.nD Cert.KernelIn.τ).loc Cert.KernelIn.main_arg10)
      ∧ r.2.mem ((c.tc : Thread Cert.KernelIn.nD Cert.KernelIn.τ).loc Cert.KernelIn.main_arg11) = m ((c.tc : Thread Cert.KernelIn.nD Cert.KernelIn.τ).loc Cert.KernelIn.main_arg11))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
      ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
      ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
      ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8)
      ∧ r.2.mem ((c.tc : Thread Cert.ReferenceInIdeal.nD Cert.ReferenceInIdeal.τ).loc Cert.ReferenceInIdeal.main_arg9) = m ((c.tc : Thread Cert.ReferenceInIdeal.nD Cert.ReferenceInIdeal.τ).loc Cert.ReferenceInIdeal.main_arg9)
      ∧ r.2.mem ((c.tc : Thread Cert.ReferenceInIdeal.nD Cert.ReferenceInIdeal.τ).loc Cert.ReferenceInIdeal.main_arg10) = m ((c.tc : Thread Cert.ReferenceInIdeal.nD Cert.ReferenceInIdeal.τ).loc Cert.ReferenceInIdeal.main_arg10)
      ∧ r.2.mem ((c.tc : Thread Cert.ReferenceInIdeal.nD Cert.ReferenceInIdeal.τ).loc Cert.ReferenceInIdeal.main_arg11) = m ((c.tc : Thread Cert.ReferenceInIdeal.nD Cert.ReferenceInIdeal.τ).loc Cert.ReferenceInIdeal.main_arg11))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1))
      ∧ r.2.sem = fun _ => 0)

def quiescent_KernelWattn [hKernelWattn : Cert.KernelWattn.Facts] : Prop :=
  ∀ (m : (ℓ : Loc Cert.KernelWattn.nD Cert.KernelWattn.τ Cert.KernelWattn.sig) → Buf (Elt Bits) ℓ) (g : Dev Cert.KernelWattn.nD → PrngReg), Pre_KernelWattn m →
    θ_run (Cert.KernelWattn.defs (F := Bits)) (onTc (τ := Cert.KernelWattn.τ) (Cert.KernelWattn.main (F := Bits))) ⟨m, fun _ => 0, g⟩ (fun r => (∀ c : Dev Cert.KernelWattn.nD,
      r.2.mem ((c.tc : Thread Cert.KernelWattn.nD Cert.KernelWattn.τ).loc Cert.KernelWattn.main_arg0) = m ((c.tc : Thread Cert.KernelWattn.nD Cert.KernelWattn.τ).loc Cert.KernelWattn.main_arg0)
      ∧ r.2.mem ((c.tc : Thread Cert.KernelWattn.nD Cert.KernelWattn.τ).loc Cert.KernelWattn.main_arg1) = m ((c.tc : Thread Cert.KernelWattn.nD Cert.KernelWattn.τ).loc Cert.KernelWattn.main_arg1))
      ∧ r.2.sem = fun _ => 0)

def quiescent_KernelWattnIdeal [hKernelWattnIdeal : Cert.KernelWattnIdeal.Facts] : Prop :=
  ∀ (m : (ℓ : Loc Cert.KernelWattnIdeal.nD Cert.KernelWattnIdeal.τ Cert.KernelWattnIdeal.sig) → Buf (Elt Ideal) ℓ) (g : Dev Cert.KernelWattnIdeal.nD → PrngReg), Pre_KernelWattnIdeal m →
    θ_run (Cert.KernelWattnIdeal.defs (F := Ideal)) (onTc (τ := Cert.KernelWattnIdeal.τ) (Cert.KernelWattnIdeal.main (F := Ideal))) ⟨m, fun _ => 0, g⟩ (fun r => (∀ c : Dev Cert.KernelWattnIdeal.nD,
      r.2.mem ((c.tc : Thread Cert.KernelWattnIdeal.nD Cert.KernelWattnIdeal.τ).loc Cert.KernelWattnIdeal.main_arg0) = m ((c.tc : Thread Cert.KernelWattnIdeal.nD Cert.KernelWattnIdeal.τ).loc Cert.KernelWattnIdeal.main_arg0)
      ∧ r.2.mem ((c.tc : Thread Cert.KernelWattnIdeal.nD Cert.KernelWattnIdeal.τ).loc Cert.KernelWattnIdeal.main_arg1) = m ((c.tc : Thread Cert.KernelWattnIdeal.nD Cert.KernelWattnIdeal.τ).loc Cert.KernelWattnIdeal.main_arg1))
      ∧ r.2.sem = fun _ => 0)

def quiescent_ReferenceWattnIdeal [hReferenceWattnIdeal : Cert.ReferenceWattnIdeal.Facts] : Prop :=
  ∀ (m : (ℓ : Loc Cert.ReferenceWattnIdeal.nD Cert.ReferenceWattnIdeal.τ Cert.ReferenceWattnIdeal.sig) → Buf (Elt Ideal) ℓ) (g : Dev Cert.ReferenceWattnIdeal.nD → PrngReg), Pre_ReferenceWattnIdeal m →
    θ_run (Cert.ReferenceWattnIdeal.defs (F := Ideal)) (onTc (τ := Cert.ReferenceWattnIdeal.τ) (Cert.ReferenceWattnIdeal.main (F := Ideal))) ⟨m, fun _ => 0, g⟩ (fun r => (∀ c : Dev Cert.ReferenceWattnIdeal.nD,
      r.2.mem ((c.tc : Thread Cert.ReferenceWattnIdeal.nD Cert.ReferenceWattnIdeal.τ).loc Cert.ReferenceWattnIdeal.main_arg0) = m ((c.tc : Thread Cert.ReferenceWattnIdeal.nD Cert.ReferenceWattnIdeal.τ).loc Cert.ReferenceWattnIdeal.main_arg0)
      ∧ r.2.mem ((c.tc : Thread Cert.ReferenceWattnIdeal.nD Cert.ReferenceWattnIdeal.τ).loc Cert.ReferenceWattnIdeal.main_arg1) = m ((c.tc : Thread Cert.ReferenceWattnIdeal.nD Cert.ReferenceWattnIdeal.τ).loc Cert.ReferenceWattnIdeal.main_arg1))
      ∧ r.2.sem = fun _ => 0)

def quiescent_KernelWconv [hKernelWconv : Cert.KernelWconv.Facts] : Prop :=
  ∀ (m : (ℓ : Loc Cert.KernelWconv.nD Cert.KernelWconv.τ Cert.KernelWconv.sig) → Buf (Elt Bits) ℓ) (g : Dev Cert.KernelWconv.nD → PrngReg), Pre_KernelWconv m →
    θ_run (Cert.KernelWconv.defs (F := Bits)) (onTc (τ := Cert.KernelWconv.τ) (Cert.KernelWconv.main (F := Bits))) ⟨m, fun _ => 0, g⟩ (fun r => (∀ c : Dev Cert.KernelWconv.nD,
      r.2.mem ((c.tc : Thread Cert.KernelWconv.nD Cert.KernelWconv.τ).loc Cert.KernelWconv.main_arg0) = m ((c.tc : Thread Cert.KernelWconv.nD Cert.KernelWconv.τ).loc Cert.KernelWconv.main_arg0)
      ∧ r.2.mem ((c.tc : Thread Cert.KernelWconv.nD Cert.KernelWconv.τ).loc Cert.KernelWconv.main_arg1) = m ((c.tc : Thread Cert.KernelWconv.nD Cert.KernelWconv.τ).loc Cert.KernelWconv.main_arg1))
      ∧ r.2.sem = fun _ => 0)

def quiescent_KernelWconvIdeal [hKernelWconvIdeal : Cert.KernelWconvIdeal.Facts] : Prop :=
  ∀ (m : (ℓ : Loc Cert.KernelWconvIdeal.nD Cert.KernelWconvIdeal.τ Cert.KernelWconvIdeal.sig) → Buf (Elt Ideal) ℓ) (g : Dev Cert.KernelWconvIdeal.nD → PrngReg), Pre_KernelWconvIdeal m →
    θ_run (Cert.KernelWconvIdeal.defs (F := Ideal)) (onTc (τ := Cert.KernelWconvIdeal.τ) (Cert.KernelWconvIdeal.main (F := Ideal))) ⟨m, fun _ => 0, g⟩ (fun r => (∀ c : Dev Cert.KernelWconvIdeal.nD,
      r.2.mem ((c.tc : Thread Cert.KernelWconvIdeal.nD Cert.KernelWconvIdeal.τ).loc Cert.KernelWconvIdeal.main_arg0) = m ((c.tc : Thread Cert.KernelWconvIdeal.nD Cert.KernelWconvIdeal.τ).loc Cert.KernelWconvIdeal.main_arg0)
      ∧ r.2.mem ((c.tc : Thread Cert.KernelWconvIdeal.nD Cert.KernelWconvIdeal.τ).loc Cert.KernelWconvIdeal.main_arg1) = m ((c.tc : Thread Cert.KernelWconvIdeal.nD Cert.KernelWconvIdeal.τ).loc Cert.KernelWconvIdeal.main_arg1))
      ∧ r.2.sem = fun _ => 0)

def quiescent_ReferenceWconvIdeal [hReferenceWconvIdeal : Cert.ReferenceWconvIdeal.Facts] : Prop :=
  ∀ (m : (ℓ : Loc Cert.ReferenceWconvIdeal.nD Cert.ReferenceWconvIdeal.τ Cert.ReferenceWconvIdeal.sig) → Buf (Elt Ideal) ℓ) (g : Dev Cert.ReferenceWconvIdeal.nD → PrngReg), Pre_ReferenceWconvIdeal m →
    θ_run (Cert.ReferenceWconvIdeal.defs (F := Ideal)) (onTc (τ := Cert.ReferenceWconvIdeal.τ) (Cert.ReferenceWconvIdeal.main (F := Ideal))) ⟨m, fun _ => 0, g⟩ (fun r => (∀ c : Dev Cert.ReferenceWconvIdeal.nD,
      r.2.mem ((c.tc : Thread Cert.ReferenceWconvIdeal.nD Cert.ReferenceWconvIdeal.τ).loc Cert.ReferenceWconvIdeal.main_arg0) = m ((c.tc : Thread Cert.ReferenceWconvIdeal.nD Cert.ReferenceWconvIdeal.τ).loc Cert.ReferenceWconvIdeal.main_arg0)
      ∧ r.2.mem ((c.tc : Thread Cert.ReferenceWconvIdeal.nD Cert.ReferenceWconvIdeal.τ).loc Cert.ReferenceWconvIdeal.main_arg1) = m ((c.tc : Thread Cert.ReferenceWconvIdeal.nD Cert.ReferenceWconvIdeal.τ).loc Cert.ReferenceWconvIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1))
      ∧ r.2.sem = fun _ => 0)

def quiescent_KernelAdamMlp [hKernelAdamMlp : Cert.KernelAdamMlp.Facts] : Prop :=
  ∀ (m : (ℓ : Loc Cert.KernelAdamMlp.nD Cert.KernelAdamMlp.τ Cert.KernelAdamMlp.sig) → Buf (Elt Bits) ℓ) (g : Dev Cert.KernelAdamMlp.nD → PrngReg), Pre_KernelAdamMlp m →
    θ_run (Cert.KernelAdamMlp.defs (F := Bits)) (onTc (τ := Cert.KernelAdamMlp.τ) (Cert.KernelAdamMlp.main (F := Bits))) ⟨m, fun _ => 0, g⟩ (fun r => (∀ c : Dev Cert.KernelAdamMlp.nD,
      r.2.mem ((c.tc : Thread Cert.KernelAdamMlp.nD Cert.KernelAdamMlp.τ).loc Cert.KernelAdamMlp.main_arg0) = m ((c.tc : Thread Cert.KernelAdamMlp.nD Cert.KernelAdamMlp.τ).loc Cert.KernelAdamMlp.main_arg0)
      ∧ r.2.mem ((c.tc : Thread Cert.KernelAdamMlp.nD Cert.KernelAdamMlp.τ).loc Cert.KernelAdamMlp.main_arg1) = m ((c.tc : Thread Cert.KernelAdamMlp.nD Cert.KernelAdamMlp.τ).loc Cert.KernelAdamMlp.main_arg1)
      ∧ r.2.mem ((c.tc : Thread Cert.KernelAdamMlp.nD Cert.KernelAdamMlp.τ).loc Cert.KernelAdamMlp.main_arg2) = m ((c.tc : Thread Cert.KernelAdamMlp.nD Cert.KernelAdamMlp.τ).loc Cert.KernelAdamMlp.main_arg2)
      ∧ r.2.mem ((c.tc : Thread Cert.KernelAdamMlp.nD Cert.KernelAdamMlp.τ).loc Cert.KernelAdamMlp.main_arg3) = m ((c.tc : Thread Cert.KernelAdamMlp.nD Cert.KernelAdamMlp.τ).loc Cert.KernelAdamMlp.main_arg3))
      ∧ r.2.sem = fun _ => 0)

def quiescent_KernelAdamMlpIdeal [hKernelAdamMlpIdeal : Cert.KernelAdamMlpIdeal.Facts] : Prop :=
  ∀ (m : (ℓ : Loc Cert.KernelAdamMlpIdeal.nD Cert.KernelAdamMlpIdeal.τ Cert.KernelAdamMlpIdeal.sig) → Buf (Elt Ideal) ℓ) (g : Dev Cert.KernelAdamMlpIdeal.nD → PrngReg), Pre_KernelAdamMlpIdeal m →
    θ_run (Cert.KernelAdamMlpIdeal.defs (F := Ideal)) (onTc (τ := Cert.KernelAdamMlpIdeal.τ) (Cert.KernelAdamMlpIdeal.main (F := Ideal))) ⟨m, fun _ => 0, g⟩ (fun r => (∀ c : Dev Cert.KernelAdamMlpIdeal.nD,
      r.2.mem ((c.tc : Thread Cert.KernelAdamMlpIdeal.nD Cert.KernelAdamMlpIdeal.τ).loc Cert.KernelAdamMlpIdeal.main_arg0) = m ((c.tc : Thread Cert.KernelAdamMlpIdeal.nD Cert.KernelAdamMlpIdeal.τ).loc Cert.KernelAdamMlpIdeal.main_arg0)
      ∧ r.2.mem ((c.tc : Thread Cert.KernelAdamMlpIdeal.nD Cert.KernelAdamMlpIdeal.τ).loc Cert.KernelAdamMlpIdeal.main_arg1) = m ((c.tc : Thread Cert.KernelAdamMlpIdeal.nD Cert.KernelAdamMlpIdeal.τ).loc Cert.KernelAdamMlpIdeal.main_arg1)
      ∧ r.2.mem ((c.tc : Thread Cert.KernelAdamMlpIdeal.nD Cert.KernelAdamMlpIdeal.τ).loc Cert.KernelAdamMlpIdeal.main_arg2) = m ((c.tc : Thread Cert.KernelAdamMlpIdeal.nD Cert.KernelAdamMlpIdeal.τ).loc Cert.KernelAdamMlpIdeal.main_arg2)
      ∧ r.2.mem ((c.tc : Thread Cert.KernelAdamMlpIdeal.nD Cert.KernelAdamMlpIdeal.τ).loc Cert.KernelAdamMlpIdeal.main_arg3) = m ((c.tc : Thread Cert.KernelAdamMlpIdeal.nD Cert.KernelAdamMlpIdeal.τ).loc Cert.KernelAdamMlpIdeal.main_arg3))
      ∧ r.2.sem = fun _ => 0)

def quiescent_ReferenceAdamMlpIdeal [hReferenceAdamMlpIdeal : Cert.ReferenceAdamMlpIdeal.Facts] : Prop :=
  ∀ (m : (ℓ : Loc Cert.ReferenceAdamMlpIdeal.nD Cert.ReferenceAdamMlpIdeal.τ Cert.ReferenceAdamMlpIdeal.sig) → Buf (Elt Ideal) ℓ) (g : Dev Cert.ReferenceAdamMlpIdeal.nD → PrngReg), Pre_ReferenceAdamMlpIdeal m →
    θ_run (Cert.ReferenceAdamMlpIdeal.defs (F := Ideal)) (onTc (τ := Cert.ReferenceAdamMlpIdeal.τ) (Cert.ReferenceAdamMlpIdeal.main (F := Ideal))) ⟨m, fun _ => 0, g⟩ (fun r => (∀ c : Dev Cert.ReferenceAdamMlpIdeal.nD,
      r.2.mem ((c.tc : Thread Cert.ReferenceAdamMlpIdeal.nD Cert.ReferenceAdamMlpIdeal.τ).loc Cert.ReferenceAdamMlpIdeal.main_arg0) = m ((c.tc : Thread Cert.ReferenceAdamMlpIdeal.nD Cert.ReferenceAdamMlpIdeal.τ).loc Cert.ReferenceAdamMlpIdeal.main_arg0)
      ∧ r.2.mem ((c.tc : Thread Cert.ReferenceAdamMlpIdeal.nD Cert.ReferenceAdamMlpIdeal.τ).loc Cert.ReferenceAdamMlpIdeal.main_arg1) = m ((c.tc : Thread Cert.ReferenceAdamMlpIdeal.nD Cert.ReferenceAdamMlpIdeal.τ).loc Cert.ReferenceAdamMlpIdeal.main_arg1)
      ∧ r.2.mem ((c.tc : Thread Cert.ReferenceAdamMlpIdeal.nD Cert.ReferenceAdamMlpIdeal.τ).loc Cert.ReferenceAdamMlpIdeal.main_arg2) = m ((c.tc : Thread Cert.ReferenceAdamMlpIdeal.nD Cert.ReferenceAdamMlpIdeal.τ).loc Cert.ReferenceAdamMlpIdeal.main_arg2)
      ∧ r.2.mem ((c.tc : Thread Cert.ReferenceAdamMlpIdeal.nD Cert.ReferenceAdamMlpIdeal.τ).loc Cert.ReferenceAdamMlpIdeal.main_arg3) = m ((c.tc : Thread Cert.ReferenceAdamMlpIdeal.nD Cert.ReferenceAdamMlpIdeal.τ).loc Cert.ReferenceAdamMlpIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamProj [hKernelAdamProj : Cert.KernelAdamProj.Facts] : Prop :=
  ∀ (m : (ℓ : Loc Cert.KernelAdamProj.nD Cert.KernelAdamProj.τ Cert.KernelAdamProj.sig) → Buf (Elt Bits) ℓ) (g : Dev Cert.KernelAdamProj.nD → PrngReg), Pre_KernelAdamProj m →
    θ_run (Cert.KernelAdamProj.defs (F := Bits)) (onTc (τ := Cert.KernelAdamProj.τ) (Cert.KernelAdamProj.main (F := Bits))) ⟨m, fun _ => 0, g⟩ (fun r => (∀ c : Dev Cert.KernelAdamProj.nD,
      r.2.mem ((c.tc : Thread Cert.KernelAdamProj.nD Cert.KernelAdamProj.τ).loc Cert.KernelAdamProj.main_arg0) = m ((c.tc : Thread Cert.KernelAdamProj.nD Cert.KernelAdamProj.τ).loc Cert.KernelAdamProj.main_arg0)
      ∧ r.2.mem ((c.tc : Thread Cert.KernelAdamProj.nD Cert.KernelAdamProj.τ).loc Cert.KernelAdamProj.main_arg1) = m ((c.tc : Thread Cert.KernelAdamProj.nD Cert.KernelAdamProj.τ).loc Cert.KernelAdamProj.main_arg1)
      ∧ r.2.mem ((c.tc : Thread Cert.KernelAdamProj.nD Cert.KernelAdamProj.τ).loc Cert.KernelAdamProj.main_arg2) = m ((c.tc : Thread Cert.KernelAdamProj.nD Cert.KernelAdamProj.τ).loc Cert.KernelAdamProj.main_arg2)
      ∧ r.2.mem ((c.tc : Thread Cert.KernelAdamProj.nD Cert.KernelAdamProj.τ).loc Cert.KernelAdamProj.main_arg3) = m ((c.tc : Thread Cert.KernelAdamProj.nD Cert.KernelAdamProj.τ).loc Cert.KernelAdamProj.main_arg3))
      ∧ r.2.sem = fun _ => 0)

def quiescent_KernelAdamProjIdeal [hKernelAdamProjIdeal : Cert.KernelAdamProjIdeal.Facts] : Prop :=
  ∀ (m : (ℓ : Loc Cert.KernelAdamProjIdeal.nD Cert.KernelAdamProjIdeal.τ Cert.KernelAdamProjIdeal.sig) → Buf (Elt Ideal) ℓ) (g : Dev Cert.KernelAdamProjIdeal.nD → PrngReg), Pre_KernelAdamProjIdeal m →
    θ_run (Cert.KernelAdamProjIdeal.defs (F := Ideal)) (onTc (τ := Cert.KernelAdamProjIdeal.τ) (Cert.KernelAdamProjIdeal.main (F := Ideal))) ⟨m, fun _ => 0, g⟩ (fun r => (∀ c : Dev Cert.KernelAdamProjIdeal.nD,
      r.2.mem ((c.tc : Thread Cert.KernelAdamProjIdeal.nD Cert.KernelAdamProjIdeal.τ).loc Cert.KernelAdamProjIdeal.main_arg0) = m ((c.tc : Thread Cert.KernelAdamProjIdeal.nD Cert.KernelAdamProjIdeal.τ).loc Cert.KernelAdamProjIdeal.main_arg0)
      ∧ r.2.mem ((c.tc : Thread Cert.KernelAdamProjIdeal.nD Cert.KernelAdamProjIdeal.τ).loc Cert.KernelAdamProjIdeal.main_arg1) = m ((c.tc : Thread Cert.KernelAdamProjIdeal.nD Cert.KernelAdamProjIdeal.τ).loc Cert.KernelAdamProjIdeal.main_arg1)
      ∧ r.2.mem ((c.tc : Thread Cert.KernelAdamProjIdeal.nD Cert.KernelAdamProjIdeal.τ).loc Cert.KernelAdamProjIdeal.main_arg2) = m ((c.tc : Thread Cert.KernelAdamProjIdeal.nD Cert.KernelAdamProjIdeal.τ).loc Cert.KernelAdamProjIdeal.main_arg2)
      ∧ r.2.mem ((c.tc : Thread Cert.KernelAdamProjIdeal.nD Cert.KernelAdamProjIdeal.τ).loc Cert.KernelAdamProjIdeal.main_arg3) = m ((c.tc : Thread Cert.KernelAdamProjIdeal.nD Cert.KernelAdamProjIdeal.τ).loc Cert.KernelAdamProjIdeal.main_arg3))
      ∧ r.2.sem = fun _ => 0)

def quiescent_ReferenceAdamProjIdeal [hReferenceAdamProjIdeal : Cert.ReferenceAdamProjIdeal.Facts] : Prop :=
  ∀ (m : (ℓ : Loc Cert.ReferenceAdamProjIdeal.nD Cert.ReferenceAdamProjIdeal.τ Cert.ReferenceAdamProjIdeal.sig) → Buf (Elt Ideal) ℓ) (g : Dev Cert.ReferenceAdamProjIdeal.nD → PrngReg), Pre_ReferenceAdamProjIdeal m →
    θ_run (Cert.ReferenceAdamProjIdeal.defs (F := Ideal)) (onTc (τ := Cert.ReferenceAdamProjIdeal.τ) (Cert.ReferenceAdamProjIdeal.main (F := Ideal))) ⟨m, fun _ => 0, g⟩ (fun r => (∀ c : Dev Cert.ReferenceAdamProjIdeal.nD,
      r.2.mem ((c.tc : Thread Cert.ReferenceAdamProjIdeal.nD Cert.ReferenceAdamProjIdeal.τ).loc Cert.ReferenceAdamProjIdeal.main_arg0) = m ((c.tc : Thread Cert.ReferenceAdamProjIdeal.nD Cert.ReferenceAdamProjIdeal.τ).loc Cert.ReferenceAdamProjIdeal.main_arg0)
      ∧ r.2.mem ((c.tc : Thread Cert.ReferenceAdamProjIdeal.nD Cert.ReferenceAdamProjIdeal.τ).loc Cert.ReferenceAdamProjIdeal.main_arg1) = m ((c.tc : Thread Cert.ReferenceAdamProjIdeal.nD Cert.ReferenceAdamProjIdeal.τ).loc Cert.ReferenceAdamProjIdeal.main_arg1)
      ∧ r.2.mem ((c.tc : Thread Cert.ReferenceAdamProjIdeal.nD Cert.ReferenceAdamProjIdeal.τ).loc Cert.ReferenceAdamProjIdeal.main_arg2) = m ((c.tc : Thread Cert.ReferenceAdamProjIdeal.nD Cert.ReferenceAdamProjIdeal.τ).loc Cert.ReferenceAdamProjIdeal.main_arg2)
      ∧ r.2.mem ((c.tc : Thread Cert.ReferenceAdamProjIdeal.nD Cert.ReferenceAdamProjIdeal.τ).loc Cert.ReferenceAdamProjIdeal.main_arg3) = m ((c.tc : Thread Cert.ReferenceAdamProjIdeal.nD Cert.ReferenceAdamProjIdeal.τ).loc Cert.ReferenceAdamProjIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_v49) = v5 c
          ∧ r.2.mem ((c.tc : Thread Cert.ReferenceIdeal.nD Cert.ReferenceIdeal.τ).loc Cert.ReferenceIdeal.main_v51) = v6 c
          ∧ r.2.mem ((c.tc : Thread Cert.ReferenceIdeal.nD Cert.ReferenceIdeal.τ).loc Cert.ReferenceIdeal.main_v41) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)) →
    ∃ (v0 : (c : Dev Cert.KernelMlpIdeal.nD) → Buf (Elt Ideal) ((c.tc : Thread Cert.KernelMlpIdeal.nD Cert.KernelMlpIdeal.τ).loc Cert.KernelMlpIdeal.main_v14_0)) (v1 : (c : Dev Cert.KernelMlpIdeal.nD) → Buf (Elt Ideal) ((c.tc : Thread Cert.KernelMlpIdeal.nD Cert.KernelMlpIdeal.τ).loc Cert.KernelMlpIdeal.main_v14_1)) (v2 : (c : Dev Cert.KernelMlpIdeal.nD) → Buf (Elt Ideal) ((c.tc : Thread Cert.KernelMlpIdeal.nD Cert.KernelMlpIdeal.τ).loc Cert.KernelMlpIdeal.main_v14_2)) (v3 : (c : Dev Cert.KernelMlpIdeal.nD) → Buf (Elt Ideal) ((c.tc : Thread Cert.KernelMlpIdeal.nD Cert.KernelMlpIdeal.τ).loc Cert.KernelMlpIdeal.main_v14_3)) (v4 : (c : Dev Cert.KernelMlpIdeal.nD) → Buf (Elt Ideal) ((c.tc : Thread Cert.KernelMlpIdeal.nD Cert.KernelMlpIdeal.τ).loc Cert.KernelMlpIdeal.main_v14_4)) (v5 : (c : Dev Cert.KernelMlpIdeal.nD) → Buf (Elt Ideal) ((c.tc : Thread Cert.KernelMlpIdeal.nD Cert.KernelMlpIdeal.τ).loc Cert.KernelMlpIdeal.main_v14_5)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v14_0) = v0 c
          ∧ r.2.mem ((c.tc : Thread Cert.KernelMlpIdeal.nD Cert.KernelMlpIdeal.τ).loc Cert.KernelMlpIdeal.main_v14_1) = v1 c
          ∧ r.2.mem ((c.tc : Thread Cert.KernelMlpIdeal.nD Cert.KernelMlpIdeal.τ).loc Cert.KernelMlpIdeal.main_v14_2) = v2 c
          ∧ r.2.mem ((c.tc : Thread Cert.KernelMlpIdeal.nD Cert.KernelMlpIdeal.τ).loc Cert.KernelMlpIdeal.main_v14_3) = v3 c
          ∧ r.2.mem ((c.tc : Thread Cert.KernelMlpIdeal.nD Cert.KernelMlpIdeal.τ).loc Cert.KernelMlpIdeal.main_v14_4) = v4 c
          ∧ r.2.mem ((c.tc : Thread Cert.KernelMlpIdeal.nD Cert.KernelMlpIdeal.τ).loc Cert.KernelMlpIdeal.main_v14_5) = v5 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v50) = v0 c
          ∧ r.2.mem ((c.tc : Thread Cert.ReferenceMlpIdeal.nD Cert.ReferenceMlpIdeal.τ).loc Cert.ReferenceMlpIdeal.main_v33) = v1 c
          ∧ r.2.mem ((c.tc : Thread Cert.ReferenceMlpIdeal.nD Cert.ReferenceMlpIdeal.τ).loc Cert.ReferenceMlpIdeal.main_v51) = v2 c
          ∧ r.2.mem ((c.tc : Thread Cert.ReferenceMlpIdeal.nD Cert.ReferenceMlpIdeal.τ).loc Cert.ReferenceMlpIdeal.main_v52) = v3 c
          ∧ r.2.mem ((c.tc : Thread Cert.ReferenceMlpIdeal.nD Cert.ReferenceMlpIdeal.τ).loc Cert.ReferenceMlpIdeal.main_v53) = v4 c
          ∧ r.2.mem ((c.tc : Thread Cert.ReferenceMlpIdeal.nD Cert.ReferenceMlpIdeal.τ).loc Cert.ReferenceMlpIdeal.main_v54) = v5 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v0_0)) (v1 : (c : Dev Cert.KernelFwdIdeal.nD) → Buf (Elt Ideal) ((c.tc : Thread Cert.KernelFwdIdeal.nD Cert.KernelFwdIdeal.τ).loc Cert.KernelFwdIdeal.main_v0_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v0_0) = v0 c
          ∧ r.2.mem ((c.tc : Thread Cert.KernelFwdIdeal.nD Cert.KernelFwdIdeal.τ).loc Cert.KernelFwdIdeal.main_v0_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v18) = v0 c
          ∧ r.2.mem ((c.tc : Thread Cert.ReferenceFwdIdeal.nD Cert.ReferenceFwdIdeal.τ).loc Cert.ReferenceFwdIdeal.main_v14) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v67) = v1 c
          ∧ r.2.mem ((c.tc : Thread Cert.ReferenceLossIdeal.nD Cert.ReferenceLossIdeal.τ).loc Cert.ReferenceLossIdeal.main_v51) = v2 c
          ∧ r.2.mem ((c.tc : Thread Cert.ReferenceLossIdeal.nD Cert.ReferenceLossIdeal.τ).loc Cert.ReferenceLossIdeal.main_v68) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)
      ∧ m' ((c.tc : Thread Cert.ReferenceInIdeal.nD Cert.ReferenceInIdeal.τ).loc Cert.ReferenceInIdeal.main_arg9) = m ((c.tc : Thread Cert.KernelInIdeal.nD Cert.KernelInIdeal.τ).loc Cert.KernelInIdeal.main_arg9)
      ∧ m' ((c.tc : Thread Cert.ReferenceInIdeal.nD Cert.ReferenceInIdeal.τ).loc Cert.ReferenceInIdeal.main_arg10) = m ((c.tc : Thread Cert.KernelInIdeal.nD Cert.KernelInIdeal.τ).loc Cert.KernelInIdeal.main_arg10)
      ∧ m' ((c.tc : Thread Cert.ReferenceInIdeal.nD Cert.ReferenceInIdeal.τ).loc Cert.ReferenceInIdeal.main_arg11) = m ((c.tc : Thread Cert.KernelInIdeal.nD Cert.KernelInIdeal.τ).loc Cert.KernelInIdeal.main_arg11)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)) (v2 : (c : Dev Cert.KernelInIdeal.nD) → Buf (Elt Ideal) ((c.tc : Thread Cert.KernelInIdeal.nD Cert.KernelInIdeal.τ).loc Cert.KernelInIdeal.main_v0_2)) (v3 : (c : Dev Cert.KernelInIdeal.nD) → Buf (Elt Ideal) ((c.tc : Thread Cert.KernelInIdeal.nD Cert.KernelInIdeal.τ).loc Cert.KernelInIdeal.main_v0_3)) (v4 : (c : Dev Cert.KernelInIdeal.nD) → Buf (Elt Ideal) ((c.tc : Thread Cert.KernelInIdeal.nD Cert.KernelInIdeal.τ).loc Cert.KernelInIdeal.main_v0_4)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_v0_2) = v2 c
          ∧ r.2.mem ((c.tc : Thread Cert.KernelInIdeal.nD Cert.KernelInIdeal.τ).loc Cert.KernelInIdeal.main_v0_3) = v3 c
          ∧ r.2.mem ((c.tc : Thread Cert.KernelInIdeal.nD Cert.KernelInIdeal.τ).loc Cert.KernelInIdeal.main_v0_4) = v4 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8)
          ∧ r.2.mem ((c.tc : Thread Cert.KernelInIdeal.nD Cert.KernelInIdeal.τ).loc Cert.KernelInIdeal.main_arg9) = m ((c.tc : Thread Cert.KernelInIdeal.nD Cert.KernelInIdeal.τ).loc Cert.KernelInIdeal.main_arg9)
          ∧ r.2.mem ((c.tc : Thread Cert.KernelInIdeal.nD Cert.KernelInIdeal.τ).loc Cert.KernelInIdeal.main_arg10) = m ((c.tc : Thread Cert.KernelInIdeal.nD Cert.KernelInIdeal.τ).loc Cert.KernelInIdeal.main_arg10)
          ∧ r.2.mem ((c.tc : Thread Cert.KernelInIdeal.nD Cert.KernelInIdeal.τ).loc Cert.KernelInIdeal.main_arg11) = m ((c.tc : Thread Cert.KernelInIdeal.nD Cert.KernelInIdeal.τ).loc Cert.KernelInIdeal.main_arg11))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v52) = v0 c
          ∧ r.2.mem ((c.tc : Thread Cert.ReferenceInIdeal.nD Cert.ReferenceInIdeal.τ).loc Cert.ReferenceInIdeal.main_v53) = v1 c
          ∧ r.2.mem ((c.tc : Thread Cert.ReferenceInIdeal.nD Cert.ReferenceInIdeal.τ).loc Cert.ReferenceInIdeal.main_v54) = v2 c
          ∧ r.2.mem ((c.tc : Thread Cert.ReferenceInIdeal.nD Cert.ReferenceInIdeal.τ).loc Cert.ReferenceInIdeal.main_v32) = v3 c
          ∧ r.2.mem ((c.tc : Thread Cert.ReferenceInIdeal.nD Cert.ReferenceInIdeal.τ).loc Cert.ReferenceInIdeal.main_v51) = v4 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8)
          ∧ r.2.mem ((c.tc : Thread Cert.ReferenceInIdeal.nD Cert.ReferenceInIdeal.τ).loc Cert.ReferenceInIdeal.main_arg9) = m' ((c.tc : Thread Cert.ReferenceInIdeal.nD Cert.ReferenceInIdeal.τ).loc Cert.ReferenceInIdeal.main_arg9)
          ∧ r.2.mem ((c.tc : Thread Cert.ReferenceInIdeal.nD Cert.ReferenceInIdeal.τ).loc Cert.ReferenceInIdeal.main_arg10) = m' ((c.tc : Thread Cert.ReferenceInIdeal.nD Cert.ReferenceInIdeal.τ).loc Cert.ReferenceInIdeal.main_arg10)
          ∧ r.2.mem ((c.tc : Thread Cert.ReferenceInIdeal.nD Cert.ReferenceInIdeal.τ).loc Cert.ReferenceInIdeal.main_arg11) = m' ((c.tc : Thread Cert.ReferenceInIdeal.nD Cert.ReferenceInIdeal.τ).loc Cert.ReferenceInIdeal.main_arg11))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v6) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v0_0)) (v1 : (c : Dev Cert.KernelProjIdeal.nD) → Buf (Elt Ideal) ((c.tc : Thread Cert.KernelProjIdeal.nD Cert.KernelProjIdeal.τ).loc Cert.KernelProjIdeal.main_v0_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0_0) = v0 c
          ∧ r.2.mem ((c.tc : Thread Cert.KernelProjIdeal.nD Cert.KernelProjIdeal.τ).loc Cert.KernelProjIdeal.main_v0_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v18) = v0 c
          ∧ r.2.mem ((c.tc : Thread Cert.ReferenceProjIdeal.nD Cert.ReferenceProjIdeal.τ).loc Cert.ReferenceProjIdeal.main_v19) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v27) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v4) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1))

def preserves_KernelWattn_KernelWattnIdeal : Prop :=
  True

def algebraic_KernelWattnIdeal_ReferenceWattnIdeal [hKernelWattnIdeal : Cert.KernelWattnIdeal.Facts] [hReferenceWattnIdeal : Cert.ReferenceWattnIdeal.Facts] : Prop :=
  ∀ (m : (ℓ : Loc Cert.KernelWattnIdeal.nD Cert.KernelWattnIdeal.τ Cert.KernelWattnIdeal.sig) → Buf (Elt Ideal) ℓ) (g : Dev Cert.KernelWattnIdeal.nD → PrngReg)
    (m' : (ℓ : Loc Cert.ReferenceWattnIdeal.nD Cert.ReferenceWattnIdeal.τ Cert.ReferenceWattnIdeal.sig) → Buf (Elt Ideal) ℓ) (g' : Dev Cert.ReferenceWattnIdeal.nD → PrngReg), Pre_KernelWattnIdeal m →
    (∀ c : Dev Cert.KernelWattnIdeal.nD,
      m' ((c.tc : Thread Cert.ReferenceWattnIdeal.nD Cert.ReferenceWattnIdeal.τ).loc Cert.ReferenceWattnIdeal.main_arg0) = m ((c.tc : Thread Cert.KernelWattnIdeal.nD Cert.KernelWattnIdeal.τ).loc Cert.KernelWattnIdeal.main_arg0)
      ∧ m' ((c.tc : Thread Cert.ReferenceWattnIdeal.nD Cert.ReferenceWattnIdeal.τ).loc Cert.ReferenceWattnIdeal.main_arg1) = m ((c.tc : Thread Cert.KernelWattnIdeal.nD Cert.KernelWattnIdeal.τ).loc Cert.KernelWattnIdeal.main_arg1)) →
    ∃ (v0 : (c : Dev Cert.KernelWattnIdeal.nD) → Buf (Elt Ideal) ((c.tc : Thread Cert.KernelWattnIdeal.nD Cert.KernelWattnIdeal.τ).loc Cert.KernelWattnIdeal.main_v0)),
      θ_run (Cert.KernelWattnIdeal.defs (F := Ideal)) (onTc (τ := Cert.KernelWattnIdeal.τ) (Cert.KernelWattnIdeal.main (F := Ideal))) ⟨m, fun _ => 0, g⟩ (fun r => ∀ c : Dev Cert.KernelWattnIdeal.nD,
          r.2.mem ((c.tc : Thread Cert.KernelWattnIdeal.nD Cert.KernelWattnIdeal.τ).loc Cert.KernelWattnIdeal.main_v0) = v0 c
          ∧ r.2.mem ((c.tc : Thread Cert.KernelWattnIdeal.nD Cert.KernelWattnIdeal.τ).loc Cert.KernelWattnIdeal.main_arg0) = m ((c.tc : Thread Cert.KernelWattnIdeal.nD Cert.KernelWattnIdeal.τ).loc Cert.KernelWattnIdeal.main_arg0)
          ∧ r.2.mem ((c.tc : Thread Cert.KernelWattnIdeal.nD Cert.KernelWattnIdeal.τ).loc Cert.KernelWattnIdeal.main_arg1) = m ((c.tc : Thread Cert.KernelWattnIdeal.nD Cert.KernelWattnIdeal.τ).loc Cert.KernelWattnIdeal.main_arg1))
      ∧ θ_run (Cert.ReferenceWattnIdeal.defs (F := Ideal)) (onTc (τ := Cert.ReferenceWattnIdeal.τ) (Cert.ReferenceWattnIdeal.main (F := Ideal))) ⟨m', fun _ => 0, g'⟩ (fun r => ∀ c : Dev Cert.ReferenceWattnIdeal.nD,
          r.2.mem ((c.tc : Thread Cert.ReferenceWattnIdeal.nD Cert.ReferenceWattnIdeal.τ).loc Cert.ReferenceWattnIdeal.main_v7) = v0 c
          ∧ r.2.mem ((c.tc : Thread Cert.ReferenceWattnIdeal.nD Cert.ReferenceWattnIdeal.τ).loc Cert.ReferenceWattnIdeal.main_arg0) = m' ((c.tc : Thread Cert.ReferenceWattnIdeal.nD Cert.ReferenceWattnIdeal.τ).loc Cert.ReferenceWattnIdeal.main_arg0)
          ∧ r.2.mem ((c.tc : Thread Cert.ReferenceWattnIdeal.nD Cert.ReferenceWattnIdeal.τ).loc Cert.ReferenceWattnIdeal.main_arg1) = m' ((c.tc : Thread Cert.ReferenceWattnIdeal.nD Cert.ReferenceWattnIdeal.τ).loc Cert.ReferenceWattnIdeal.main_arg1))

def preserves_KernelWconv_KernelWconvIdeal : Prop :=
  True

def algebraic_KernelWconvIdeal_ReferenceWconvIdeal [hKernelWconvIdeal : Cert.KernelWconvIdeal.Facts] [hReferenceWconvIdeal : Cert.ReferenceWconvIdeal.Facts] : Prop :=
  ∀ (m : (ℓ : Loc Cert.KernelWconvIdeal.nD Cert.KernelWconvIdeal.τ Cert.KernelWconvIdeal.sig) → Buf (Elt Ideal) ℓ) (g : Dev Cert.KernelWconvIdeal.nD → PrngReg)
    (m' : (ℓ : Loc Cert.ReferenceWconvIdeal.nD Cert.ReferenceWconvIdeal.τ Cert.ReferenceWconvIdeal.sig) → Buf (Elt Ideal) ℓ) (g' : Dev Cert.ReferenceWconvIdeal.nD → PrngReg), Pre_KernelWconvIdeal m →
    (∀ c : Dev Cert.KernelWconvIdeal.nD,
      m' ((c.tc : Thread Cert.ReferenceWconvIdeal.nD Cert.ReferenceWconvIdeal.τ).loc Cert.ReferenceWconvIdeal.main_arg0) = m ((c.tc : Thread Cert.KernelWconvIdeal.nD Cert.KernelWconvIdeal.τ).loc Cert.KernelWconvIdeal.main_arg0)
      ∧ m' ((c.tc : Thread Cert.ReferenceWconvIdeal.nD Cert.ReferenceWconvIdeal.τ).loc Cert.ReferenceWconvIdeal.main_arg1) = m ((c.tc : Thread Cert.KernelWconvIdeal.nD Cert.KernelWconvIdeal.τ).loc Cert.KernelWconvIdeal.main_arg1)) →
    ∃ (v0 : (c : Dev Cert.KernelWconvIdeal.nD) → Buf (Elt Ideal) ((c.tc : Thread Cert.KernelWconvIdeal.nD Cert.KernelWconvIdeal.τ).loc Cert.KernelWconvIdeal.main_v0)),
      θ_run (Cert.KernelWconvIdeal.defs (F := Ideal)) (onTc (τ := Cert.KernelWconvIdeal.τ) (Cert.KernelWconvIdeal.main (F := Ideal))) ⟨m, fun _ => 0, g⟩ (fun r => ∀ c : Dev Cert.KernelWconvIdeal.nD,
          r.2.mem ((c.tc : Thread Cert.KernelWconvIdeal.nD Cert.KernelWconvIdeal.τ).loc Cert.KernelWconvIdeal.main_v0) = v0 c
          ∧ r.2.mem ((c.tc : Thread Cert.KernelWconvIdeal.nD Cert.KernelWconvIdeal.τ).loc Cert.KernelWconvIdeal.main_arg0) = m ((c.tc : Thread Cert.KernelWconvIdeal.nD Cert.KernelWconvIdeal.τ).loc Cert.KernelWconvIdeal.main_arg0)
          ∧ r.2.mem ((c.tc : Thread Cert.KernelWconvIdeal.nD Cert.KernelWconvIdeal.τ).loc Cert.KernelWconvIdeal.main_arg1) = m ((c.tc : Thread Cert.KernelWconvIdeal.nD Cert.KernelWconvIdeal.τ).loc Cert.KernelWconvIdeal.main_arg1))
      ∧ θ_run (Cert.ReferenceWconvIdeal.defs (F := Ideal)) (onTc (τ := Cert.ReferenceWconvIdeal.τ) (Cert.ReferenceWconvIdeal.main (F := Ideal))) ⟨m', fun _ => 0, g'⟩ (fun r => ∀ c : Dev Cert.ReferenceWconvIdeal.nD,
          r.2.mem ((c.tc : Thread Cert.ReferenceWconvIdeal.nD Cert.ReferenceWconvIdeal.τ).loc Cert.ReferenceWconvIdeal.main_v7) = v0 c
          ∧ r.2.mem ((c.tc : Thread Cert.ReferenceWconvIdeal.nD Cert.ReferenceWconvIdeal.τ).loc Cert.ReferenceWconvIdeal.main_arg0) = m' ((c.tc : Thread Cert.ReferenceWconvIdeal.nD Cert.ReferenceWconvIdeal.τ).loc Cert.ReferenceWconvIdeal.main_arg0)
          ∧ r.2.mem ((c.tc : Thread Cert.ReferenceWconvIdeal.nD Cert.ReferenceWconvIdeal.τ).loc Cert.ReferenceWconvIdeal.main_arg1) = m' ((c.tc : Thread Cert.ReferenceWconvIdeal.nD Cert.ReferenceWconvIdeal.τ).loc Cert.ReferenceWconvIdeal.main_arg1))

def preserves_KernelAttn_KernelAttnIdeal : Prop :=
  True

def algebraic_KernelAttnIdeal_ReferenceAttnIdeal [hKernelAttnIdeal : Cert.KernelAttnIdeal.Facts] [hReferenceAttnIdeal : Cert.ReferenceAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)) →
    ∃ (v0 : (c : Dev Cert.KernelAttnIdeal.nD) → Buf (Elt Ideal) ((c.tc : Thread Cert.KernelAttnIdeal.nD Cert.KernelAttnIdeal.τ).loc Cert.KernelAttnIdeal.main_v24_0)) (v1 : (c : Dev Cert.KernelAttnIdeal.nD) → Buf (Elt Ideal) ((c.tc : Thread Cert.KernelAttnIdeal.nD Cert.KernelAttnIdeal.τ).loc Cert.KernelAttnIdeal.main_v24_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v24_0) = v0 c
          ∧ r.2.mem ((c.tc : Thread Cert.KernelAttnIdeal.nD Cert.KernelAttnIdeal.τ).loc Cert.KernelAttnIdeal.main_v24_1) = v1 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v86) = v0 c
          ∧ r.2.mem ((c.tc : Thread Cert.ReferenceAttnIdeal.nD Cert.ReferenceAttnIdeal.τ).loc Cert.ReferenceAttnIdeal.main_v87) = v1 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1))

def preserves_KernelAdamMlp_KernelAdamMlpIdeal : Prop :=
  True

def algebraic_KernelAdamMlpIdeal_ReferenceAdamMlpIdeal [hKernelAdamMlpIdeal : Cert.KernelAdamMlpIdeal.Facts] [hReferenceAdamMlpIdeal : Cert.ReferenceAdamMlpIdeal.Facts] : Prop :=
  ∀ (m : (ℓ : Loc Cert.KernelAdamMlpIdeal.nD Cert.KernelAdamMlpIdeal.τ Cert.KernelAdamMlpIdeal.sig) → Buf (Elt Ideal) ℓ) (g : Dev Cert.KernelAdamMlpIdeal.nD → PrngReg)
    (m' : (ℓ : Loc Cert.ReferenceAdamMlpIdeal.nD Cert.ReferenceAdamMlpIdeal.τ Cert.ReferenceAdamMlpIdeal.sig) → Buf (Elt Ideal) ℓ) (g' : Dev Cert.ReferenceAdamMlpIdeal.nD → PrngReg), Pre_KernelAdamMlpIdeal m →
    (∀ c : Dev Cert.KernelAdamMlpIdeal.nD,
      m' ((c.tc : Thread Cert.ReferenceAdamMlpIdeal.nD Cert.ReferenceAdamMlpIdeal.τ).loc Cert.ReferenceAdamMlpIdeal.main_arg0) = m ((c.tc : Thread Cert.KernelAdamMlpIdeal.nD Cert.KernelAdamMlpIdeal.τ).loc Cert.KernelAdamMlpIdeal.main_arg0)
      ∧ m' ((c.tc : Thread Cert.ReferenceAdamMlpIdeal.nD Cert.ReferenceAdamMlpIdeal.τ).loc Cert.ReferenceAdamMlpIdeal.main_arg1) = m ((c.tc : Thread Cert.KernelAdamMlpIdeal.nD Cert.KernelAdamMlpIdeal.τ).loc Cert.KernelAdamMlpIdeal.main_arg1)
      ∧ m' ((c.tc : Thread Cert.ReferenceAdamMlpIdeal.nD Cert.ReferenceAdamMlpIdeal.τ).loc Cert.ReferenceAdamMlpIdeal.main_arg2) = m ((c.tc : Thread Cert.KernelAdamMlpIdeal.nD Cert.KernelAdamMlpIdeal.τ).loc Cert.KernelAdamMlpIdeal.main_arg2)
      ∧ m' ((c.tc : Thread Cert.ReferenceAdamMlpIdeal.nD Cert.ReferenceAdamMlpIdeal.τ).loc Cert.ReferenceAdamMlpIdeal.main_arg3) = m ((c.tc : Thread Cert.KernelAdamMlpIdeal.nD Cert.KernelAdamMlpIdeal.τ).loc Cert.KernelAdamMlpIdeal.main_arg3)) →
    ∃ (v0 : (c : Dev Cert.KernelAdamMlpIdeal.nD) → Buf (Elt Ideal) ((c.tc : Thread Cert.KernelAdamMlpIdeal.nD Cert.KernelAdamMlpIdeal.τ).loc Cert.KernelAdamMlpIdeal.main_v0_0)) (v1 : (c : Dev Cert.KernelAdamMlpIdeal.nD) → Buf (Elt Ideal) ((c.tc : Thread Cert.KernelAdamMlpIdeal.nD Cert.KernelAdamMlpIdeal.τ).loc Cert.KernelAdamMlpIdeal.main_v0_1)) (v2 : (c : Dev Cert.KernelAdamMlpIdeal.nD) → Buf (Elt Ideal) ((c.tc : Thread Cert.KernelAdamMlpIdeal.nD Cert.KernelAdamMlpIdeal.τ).loc Cert.KernelAdamMlpIdeal.main_v0_2)),
      θ_run (Cert.KernelAdamMlpIdeal.defs (F := Ideal)) (onTc (τ := Cert.KernelAdamMlpIdeal.τ) (Cert.KernelAdamMlpIdeal.main (F := Ideal))) ⟨m, fun _ => 0, g⟩ (fun r => ∀ c : Dev Cert.KernelAdamMlpIdeal.nD,
          r.2.mem ((c.tc : Thread Cert.KernelAdamMlpIdeal.nD Cert.KernelAdamMlpIdeal.τ).loc Cert.KernelAdamMlpIdeal.main_v0_0) = v0 c
          ∧ r.2.mem ((c.tc : Thread Cert.KernelAdamMlpIdeal.nD Cert.KernelAdamMlpIdeal.τ).loc Cert.KernelAdamMlpIdeal.main_v0_1) = v1 c
          ∧ r.2.mem ((c.tc : Thread Cert.KernelAdamMlpIdeal.nD Cert.KernelAdamMlpIdeal.τ).loc Cert.KernelAdamMlpIdeal.main_v0_2) = v2 c
          ∧ r.2.mem ((c.tc : Thread Cert.KernelAdamMlpIdeal.nD Cert.KernelAdamMlpIdeal.τ).loc Cert.KernelAdamMlpIdeal.main_arg0) = m ((c.tc : Thread Cert.KernelAdamMlpIdeal.nD Cert.KernelAdamMlpIdeal.τ).loc Cert.KernelAdamMlpIdeal.main_arg0)
          ∧ r.2.mem ((c.tc : Thread Cert.KernelAdamMlpIdeal.nD Cert.KernelAdamMlpIdeal.τ).loc Cert.KernelAdamMlpIdeal.main_arg1) = m ((c.tc : Thread Cert.KernelAdamMlpIdeal.nD Cert.KernelAdamMlpIdeal.τ).loc Cert.KernelAdamMlpIdeal.main_arg1)
          ∧ r.2.mem ((c.tc : Thread Cert.KernelAdamMlpIdeal.nD Cert.KernelAdamMlpIdeal.τ).loc Cert.KernelAdamMlpIdeal.main_arg2) = m ((c.tc : Thread Cert.KernelAdamMlpIdeal.nD Cert.KernelAdamMlpIdeal.τ).loc Cert.KernelAdamMlpIdeal.main_arg2)
          ∧ r.2.mem ((c.tc : Thread Cert.KernelAdamMlpIdeal.nD Cert.KernelAdamMlpIdeal.τ).loc Cert.KernelAdamMlpIdeal.main_arg3) = m ((c.tc : Thread Cert.KernelAdamMlpIdeal.nD Cert.KernelAdamMlpIdeal.τ).loc Cert.KernelAdamMlpIdeal.main_arg3))
      ∧ θ_run (Cert.ReferenceAdamMlpIdeal.defs (F := Ideal)) (onTc (τ := Cert.ReferenceAdamMlpIdeal.τ) (Cert.ReferenceAdamMlpIdeal.main (F := Ideal))) ⟨m', fun _ => 0, g'⟩ (fun r => ∀ c : Dev Cert.ReferenceAdamMlpIdeal.nD,
          r.2.mem ((c.tc : Thread Cert.ReferenceAdamMlpIdeal.nD Cert.ReferenceAdamMlpIdeal.τ).loc Cert.ReferenceAdamMlpIdeal.main_v23) = v0 c
          ∧ r.2.mem ((c.tc : Thread Cert.ReferenceAdamMlpIdeal.nD Cert.ReferenceAdamMlpIdeal.τ).loc Cert.ReferenceAdamMlpIdeal.main_v4) = v1 c
          ∧ r.2.mem ((c.tc : Thread Cert.ReferenceAdamMlpIdeal.nD Cert.ReferenceAdamMlpIdeal.τ).loc Cert.ReferenceAdamMlpIdeal.main_v10) = v2 c
          ∧ r.2.mem ((c.tc : Thread Cert.ReferenceAdamMlpIdeal.nD Cert.ReferenceAdamMlpIdeal.τ).loc Cert.ReferenceAdamMlpIdeal.main_arg0) = m' ((c.tc : Thread Cert.ReferenceAdamMlpIdeal.nD Cert.ReferenceAdamMlpIdeal.τ).loc Cert.ReferenceAdamMlpIdeal.main_arg0)
          ∧ r.2.mem ((c.tc : Thread Cert.ReferenceAdamMlpIdeal.nD Cert.ReferenceAdamMlpIdeal.τ).loc Cert.ReferenceAdamMlpIdeal.main_arg1) = m' ((c.tc : Thread Cert.ReferenceAdamMlpIdeal.nD Cert.ReferenceAdamMlpIdeal.τ).loc Cert.ReferenceAdamMlpIdeal.main_arg1)
          ∧ r.2.mem ((c.tc : Thread Cert.ReferenceAdamMlpIdeal.nD Cert.ReferenceAdamMlpIdeal.τ).loc Cert.ReferenceAdamMlpIdeal.main_arg2) = m' ((c.tc : Thread Cert.ReferenceAdamMlpIdeal.nD Cert.ReferenceAdamMlpIdeal.τ).loc Cert.ReferenceAdamMlpIdeal.main_arg2)
          ∧ r.2.mem ((c.tc : Thread Cert.ReferenceAdamMlpIdeal.nD Cert.ReferenceAdamMlpIdeal.τ).loc Cert.ReferenceAdamMlpIdeal.main_arg3) = m' ((c.tc : Thread Cert.ReferenceAdamMlpIdeal.nD Cert.ReferenceAdamMlpIdeal.τ).loc Cert.ReferenceAdamMlpIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamProj_KernelAdamProjIdeal : Prop :=
  True

def algebraic_KernelAdamProjIdeal_ReferenceAdamProjIdeal [hKernelAdamProjIdeal : Cert.KernelAdamProjIdeal.Facts] [hReferenceAdamProjIdeal : Cert.ReferenceAdamProjIdeal.Facts] : Prop :=
  ∀ (m : (ℓ : Loc Cert.KernelAdamProjIdeal.nD Cert.KernelAdamProjIdeal.τ Cert.KernelAdamProjIdeal.sig) → Buf (Elt Ideal) ℓ) (g : Dev Cert.KernelAdamProjIdeal.nD → PrngReg)
    (m' : (ℓ : Loc Cert.ReferenceAdamProjIdeal.nD Cert.ReferenceAdamProjIdeal.τ Cert.ReferenceAdamProjIdeal.sig) → Buf (Elt Ideal) ℓ) (g' : Dev Cert.ReferenceAdamProjIdeal.nD → PrngReg), Pre_KernelAdamProjIdeal m →
    (∀ c : Dev Cert.KernelAdamProjIdeal.nD,
      m' ((c.tc : Thread Cert.ReferenceAdamProjIdeal.nD Cert.ReferenceAdamProjIdeal.τ).loc Cert.ReferenceAdamProjIdeal.main_arg0) = m ((c.tc : Thread Cert.KernelAdamProjIdeal.nD Cert.KernelAdamProjIdeal.τ).loc Cert.KernelAdamProjIdeal.main_arg0)
      ∧ m' ((c.tc : Thread Cert.ReferenceAdamProjIdeal.nD Cert.ReferenceAdamProjIdeal.τ).loc Cert.ReferenceAdamProjIdeal.main_arg1) = m ((c.tc : Thread Cert.KernelAdamProjIdeal.nD Cert.KernelAdamProjIdeal.τ).loc Cert.KernelAdamProjIdeal.main_arg1)
      ∧ m' ((c.tc : Thread Cert.ReferenceAdamProjIdeal.nD Cert.ReferenceAdamProjIdeal.τ).loc Cert.ReferenceAdamProjIdeal.main_arg2) = m ((c.tc : Thread Cert.KernelAdamProjIdeal.nD Cert.KernelAdamProjIdeal.τ).loc Cert.KernelAdamProjIdeal.main_arg2)
      ∧ m' ((c.tc : Thread Cert.ReferenceAdamProjIdeal.nD Cert.ReferenceAdamProjIdeal.τ).loc Cert.ReferenceAdamProjIdeal.main_arg3) = m ((c.tc : Thread Cert.KernelAdamProjIdeal.nD Cert.KernelAdamProjIdeal.τ).loc Cert.KernelAdamProjIdeal.main_arg3)) →
    ∃ (v0 : (c : Dev Cert.KernelAdamProjIdeal.nD) → Buf (Elt Ideal) ((c.tc : Thread Cert.KernelAdamProjIdeal.nD Cert.KernelAdamProjIdeal.τ).loc Cert.KernelAdamProjIdeal.main_v0_0)) (v1 : (c : Dev Cert.KernelAdamProjIdeal.nD) → Buf (Elt Ideal) ((c.tc : Thread Cert.KernelAdamProjIdeal.nD Cert.KernelAdamProjIdeal.τ).loc Cert.KernelAdamProjIdeal.main_v0_1)) (v2 : (c : Dev Cert.KernelAdamProjIdeal.nD) → Buf (Elt Ideal) ((c.tc : Thread Cert.KernelAdamProjIdeal.nD Cert.KernelAdamProjIdeal.τ).loc Cert.KernelAdamProjIdeal.main_v0_2)),
      θ_run (Cert.KernelAdamProjIdeal.defs (F := Ideal)) (onTc (τ := Cert.KernelAdamProjIdeal.τ) (Cert.KernelAdamProjIdeal.main (F := Ideal))) ⟨m, fun _ => 0, g⟩ (fun r => ∀ c : Dev Cert.KernelAdamProjIdeal.nD,
          r.2.mem ((c.tc : Thread Cert.KernelAdamProjIdeal.nD Cert.KernelAdamProjIdeal.τ).loc Cert.KernelAdamProjIdeal.main_v0_0) = v0 c
          ∧ r.2.mem ((c.tc : Thread Cert.KernelAdamProjIdeal.nD Cert.KernelAdamProjIdeal.τ).loc Cert.KernelAdamProjIdeal.main_v0_1) = v1 c
          ∧ r.2.mem ((c.tc : Thread Cert.KernelAdamProjIdeal.nD Cert.KernelAdamProjIdeal.τ).loc Cert.KernelAdamProjIdeal.main_v0_2) = v2 c
          ∧ r.2.mem ((c.tc : Thread Cert.KernelAdamProjIdeal.nD Cert.KernelAdamProjIdeal.τ).loc Cert.KernelAdamProjIdeal.main_arg0) = m ((c.tc : Thread Cert.KernelAdamProjIdeal.nD Cert.KernelAdamProjIdeal.τ).loc Cert.KernelAdamProjIdeal.main_arg0)
          ∧ r.2.mem ((c.tc : Thread Cert.KernelAdamProjIdeal.nD Cert.KernelAdamProjIdeal.τ).loc Cert.KernelAdamProjIdeal.main_arg1) = m ((c.tc : Thread Cert.KernelAdamProjIdeal.nD Cert.KernelAdamProjIdeal.τ).loc Cert.KernelAdamProjIdeal.main_arg1)
          ∧ r.2.mem ((c.tc : Thread Cert.KernelAdamProjIdeal.nD Cert.KernelAdamProjIdeal.τ).loc Cert.KernelAdamProjIdeal.main_arg2) = m ((c.tc : Thread Cert.KernelAdamProjIdeal.nD Cert.KernelAdamProjIdeal.τ).loc Cert.KernelAdamProjIdeal.main_arg2)
          ∧ r.2.mem ((c.tc : Thread Cert.KernelAdamProjIdeal.nD Cert.KernelAdamProjIdeal.τ).loc Cert.KernelAdamProjIdeal.main_arg3) = m ((c.tc : Thread Cert.KernelAdamProjIdeal.nD Cert.KernelAdamProjIdeal.τ).loc Cert.KernelAdamProjIdeal.main_arg3))
      ∧ θ_run (Cert.ReferenceAdamProjIdeal.defs (F := Ideal)) (onTc (τ := Cert.ReferenceAdamProjIdeal.τ) (Cert.ReferenceAdamProjIdeal.main (F := Ideal))) ⟨m', fun _ => 0, g'⟩ (fun r => ∀ c : Dev Cert.ReferenceAdamProjIdeal.nD,
          r.2.mem ((c.tc : Thread Cert.ReferenceAdamProjIdeal.nD Cert.ReferenceAdamProjIdeal.τ).loc Cert.ReferenceAdamProjIdeal.main_v23) = v0 c
          ∧ r.2.mem ((c.tc : Thread Cert.ReferenceAdamProjIdeal.nD Cert.ReferenceAdamProjIdeal.τ).loc Cert.ReferenceAdamProjIdeal.main_v4) = v1 c
          ∧ r.2.mem ((c.tc : Thread Cert.ReferenceAdamProjIdeal.nD Cert.ReferenceAdamProjIdeal.τ).loc Cert.ReferenceAdamProjIdeal.main_v10) = v2 c
          ∧ r.2.mem ((c.tc : Thread Cert.ReferenceAdamProjIdeal.nD Cert.ReferenceAdamProjIdeal.τ).loc Cert.ReferenceAdamProjIdeal.main_arg0) = m' ((c.tc : Thread Cert.ReferenceAdamProjIdeal.nD Cert.ReferenceAdamProjIdeal.τ).loc Cert.ReferenceAdamProjIdeal.main_arg0)
          ∧ r.2.mem ((c.tc : Thread Cert.ReferenceAdamProjIdeal.nD Cert.ReferenceAdamProjIdeal.τ).loc Cert.ReferenceAdamProjIdeal.main_arg1) = m' ((c.tc : Thread Cert.ReferenceAdamProjIdeal.nD Cert.ReferenceAdamProjIdeal.τ).loc Cert.ReferenceAdamProjIdeal.main_arg1)
          ∧ r.2.mem ((c.tc : Thread Cert.ReferenceAdamProjIdeal.nD Cert.ReferenceAdamProjIdeal.τ).loc Cert.ReferenceAdamProjIdeal.main_arg2) = m' ((c.tc : Thread Cert.ReferenceAdamProjIdeal.nD Cert.ReferenceAdamProjIdeal.τ).loc Cert.ReferenceAdamProjIdeal.main_arg2)
          ∧ r.2.mem ((c.tc : Thread Cert.ReferenceAdamProjIdeal.nD Cert.ReferenceAdamProjIdeal.τ).loc Cert.ReferenceAdamProjIdeal.main_arg3) = m' ((c.tc : Thread Cert.ReferenceAdamProjIdeal.nD Cert.ReferenceAdamProjIdeal.τ).loc Cert.ReferenceAdamProjIdeal.main_arg3))

def Claim : Prop :=
  ∃ (hKernel : Cert.Kernel.Facts) (hKernelIdeal : Cert.KernelIdeal.Facts) (hReferenceIdeal : Cert.ReferenceIdeal.Facts) (hKernelMlp : Cert.KernelMlp.Facts) (hKernelMlpIdeal : Cert.KernelMlpIdeal.Facts) (hReferenceMlpIdeal : Cert.ReferenceMlpIdeal.Facts) (hKernelFwd : Cert.KernelFwd.Facts) (hKernelFwdIdeal : Cert.KernelFwdIdeal.Facts) (hReferenceFwdIdeal : Cert.ReferenceFwdIdeal.Facts) (hKernelLoss : Cert.KernelLoss.Facts) (hKernelLossIdeal : Cert.KernelLossIdeal.Facts) (hReferenceLossIdeal : Cert.ReferenceLossIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelWin : Cert.KernelWin.Facts) (hKernelWinIdeal : Cert.KernelWinIdeal.Facts) (hReferenceWinIdeal : Cert.ReferenceWinIdeal.Facts) (hKernelProj : Cert.KernelProj.Facts) (hKernelProjIdeal : Cert.KernelProjIdeal.Facts) (hReferenceProjIdeal : Cert.ReferenceProjIdeal.Facts) (hKernelOut : Cert.KernelOut.Facts) (hKernelOutIdeal : Cert.KernelOutIdeal.Facts) (hReferenceOutIdeal : Cert.ReferenceOutIdeal.Facts) (hKernelWout : Cert.KernelWout.Facts) (hKernelWoutIdeal : Cert.KernelWoutIdeal.Facts) (hReferenceWoutIdeal : Cert.ReferenceWoutIdeal.Facts) (hKernelWattn : Cert.KernelWattn.Facts) (hKernelWattnIdeal : Cert.KernelWattnIdeal.Facts) (hReferenceWattnIdeal : Cert.ReferenceWattnIdeal.Facts) (hKernelWconv : Cert.KernelWconv.Facts) (hKernelWconvIdeal : Cert.KernelWconvIdeal.Facts) (hReferenceWconvIdeal : Cert.ReferenceWconvIdeal.Facts) (hKernelAttn : Cert.KernelAttn.Facts) (hKernelAttnIdeal : Cert.KernelAttnIdeal.Facts) (hReferenceAttnIdeal : Cert.ReferenceAttnIdeal.Facts) (hKernelAdamMlp : Cert.KernelAdamMlp.Facts) (hKernelAdamMlpIdeal : Cert.KernelAdamMlpIdeal.Facts) (hReferenceAdamMlpIdeal : Cert.ReferenceAdamMlpIdeal.Facts) (hKernelAdamIn : Cert.KernelAdamIn.Facts) (hKernelAdamInIdeal : Cert.KernelAdamInIdeal.Facts) (hReferenceAdamInIdeal : Cert.ReferenceAdamInIdeal.Facts) (hKernelAdamOut : Cert.KernelAdamOut.Facts) (hKernelAdamOutIdeal : Cert.KernelAdamOutIdeal.Facts) (hReferenceAdamOutIdeal : Cert.ReferenceAdamOutIdeal.Facts) (hKernelAdamProj : Cert.KernelAdamProj.Facts) (hKernelAdamProjIdeal : Cert.KernelAdamProjIdeal.Facts) (hReferenceAdamProjIdeal : Cert.ReferenceAdamProjIdeal.Facts),
    quiescent_Kernel (hKernel := hKernel)
    ∧ quiescent_KernelIdeal (hKernelIdeal := hKernelIdeal)
    ∧ quiescent_ReferenceIdeal (hReferenceIdeal := hReferenceIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelWattn (hKernelWattn := hKernelWattn)
    ∧ quiescent_KernelWattnIdeal (hKernelWattnIdeal := hKernelWattnIdeal)
    ∧ quiescent_ReferenceWattnIdeal (hReferenceWattnIdeal := hReferenceWattnIdeal)
    ∧ quiescent_KernelWconv (hKernelWconv := hKernelWconv)
    ∧ quiescent_KernelWconvIdeal (hKernelWconvIdeal := hKernelWconvIdeal)
    ∧ quiescent_ReferenceWconvIdeal (hReferenceWconvIdeal := hReferenceWconvIdeal)
    ∧ quiescent_KernelAttn (hKernelAttn := hKernelAttn)
    ∧ quiescent_KernelAttnIdeal (hKernelAttnIdeal := hKernelAttnIdeal)
    ∧ quiescent_ReferenceAttnIdeal (hReferenceAttnIdeal := hReferenceAttnIdeal)
    ∧ quiescent_KernelAdamMlp (hKernelAdamMlp := hKernelAdamMlp)
    ∧ quiescent_KernelAdamMlpIdeal (hKernelAdamMlpIdeal := hKernelAdamMlpIdeal)
    ∧ quiescent_ReferenceAdamMlpIdeal (hReferenceAdamMlpIdeal := hReferenceAdamMlpIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamProj (hKernelAdamProj := hKernelAdamProj)
    ∧ quiescent_KernelAdamProjIdeal (hKernelAdamProjIdeal := hKernelAdamProjIdeal)
    ∧ quiescent_ReferenceAdamProjIdeal (hReferenceAdamProjIdeal := hReferenceAdamProjIdeal)
    ∧ preserves_Kernel_KernelIdeal
    ∧ algebraic_KernelIdeal_ReferenceIdeal (hKernelIdeal := hKernelIdeal) (hReferenceIdeal := hReferenceIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelWin_KernelWinIdeal
    ∧ algebraic_KernelWinIdeal_ReferenceWinIdeal (hKernelWinIdeal := hKernelWinIdeal) (hReferenceWinIdeal := hReferenceWinIdeal)
    ∧ preserves_KernelProj_KernelProjIdeal
    ∧ algebraic_KernelProjIdeal_ReferenceProjIdeal (hKernelProjIdeal := hKernelProjIdeal) (hReferenceProjIdeal := hReferenceProjIdeal)
    ∧ preserves_KernelOut_KernelOutIdeal
    ∧ algebraic_KernelOutIdeal_ReferenceOutIdeal (hKernelOutIdeal := hKernelOutIdeal) (hReferenceOutIdeal := hReferenceOutIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelWattn_KernelWattnIdeal
    ∧ algebraic_KernelWattnIdeal_ReferenceWattnIdeal (hKernelWattnIdeal := hKernelWattnIdeal) (hReferenceWattnIdeal := hReferenceWattnIdeal)
    ∧ preserves_KernelWconv_KernelWconvIdeal
    ∧ algebraic_KernelWconvIdeal_ReferenceWconvIdeal (hKernelWconvIdeal := hKernelWconvIdeal) (hReferenceWconvIdeal := hReferenceWconvIdeal)
    ∧ preserves_KernelAttn_KernelAttnIdeal
    ∧ algebraic_KernelAttnIdeal_ReferenceAttnIdeal (hKernelAttnIdeal := hKernelAttnIdeal) (hReferenceAttnIdeal := hReferenceAttnIdeal)
    ∧ preserves_KernelAdamMlp_KernelAdamMlpIdeal
    ∧ algebraic_KernelAdamMlpIdeal_ReferenceAdamMlpIdeal (hKernelAdamMlpIdeal := hKernelAdamMlpIdeal) (hReferenceAdamMlpIdeal := hReferenceAdamMlpIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamProj_KernelAdamProjIdeal
    ∧ algebraic_KernelAdamProjIdeal_ReferenceAdamProjIdeal (hKernelAdamProjIdeal := hKernelAdamProjIdeal) (hReferenceAdamProjIdeal := hReferenceAdamProjIdeal)
-- ==== Kernel.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S16384x2048 : Shape := ⟨2, ![16384, 2048]⟩
abbrev S1x2048 : Shape := ⟨2, ![1, 2048]⟩
abbrev S512x512 : Shape := ⟨2, ![512, 512]⟩
abbrev S512x2048 : Shape := ⟨2, ![512, 2048]⟩
abbrev S1024 : Shape := ⟨1, ![1024]⟩

abbrev nBuf : Space → Nat
  | .hbm => 16
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x512, .bf16⟩
  | .hbm, ⟨12, _⟩ => ⟨S16384x512, .f32⟩
  | .hbm, ⟨13, _⟩ => ⟨S16384x2048, .bf16⟩
  | .hbm, ⟨14, _⟩ => ⟨S1x2048, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x512, .f32⟩
  | .local _ .vmem, ⟨23, _⟩ => ⟨S512x512, .f32⟩
  | .local _ .vmem, ⟨24, _⟩ => ⟨S512x2048, .bf16⟩
  | .local _ .vmem, ⟨25, _⟩ => ⟨S512x2048, .bf16⟩
  | .local _ .vmem, ⟨26, _⟩ => ⟨S1x2048, .f32⟩
  | .local _ .vmem, ⟨27, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S16384x2048 : Shape := ⟨2, ![16384, 2048]⟩
abbrev S2048 : Shape := ⟨1, ![2048]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S16384x512, .f32⟩
  | .hbm, ⟨9, _⟩ => ⟨S16384x512, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S16384x512, .f32⟩
  | .hbm, ⟨58, _⟩ => ⟨S16384x512, .f32⟩
  | .hbm, ⟨59, _⟩ => ⟨S16384x2048, .f32⟩
  | .hbm, ⟨60, _⟩ => ⟨S16384x1024, .bf16⟩
  | .hbm, ⟨61, _⟩ => ⟨S16384x1024, .bf16⟩
  | .hbm, ⟨62, _⟩ => ⟨S16384x1024, .bf16⟩
  | .hbm, ⟨63, _⟩ => ⟨S16384x512, .bf16⟩
  | .hbm, ⟨64, _⟩ => ⟨S16384x2048, .bf16⟩
  | .hbm, ⟨65, _⟩ => ⟨S_, .f32⟩
  | .hbm, ⟨66, _⟩ => ⟨S2048, .f32⟩
  | .hbm, ⟨67, _⟩ => ⟨S1x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== KernelMlp.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩

abbrev nBuf : Space → Nat
  | .hbm => 28
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x4096, .f32⟩
  | .hbm, ⟨21, _⟩ => ⟨S16384x4096, .f32⟩
  | .hbm, ⟨22, _⟩ => ⟨S16384x1024, .f32⟩
  | .hbm, ⟨23, _⟩ => ⟨S1x1024, .f32⟩
  | .hbm, ⟨24, _⟩ => ⟨S16384x1024, .bf16⟩
  | .hbm, ⟨25, _⟩ => ⟨S16384x4096, .bf16⟩
  | .hbm, ⟨26, _⟩ => ⟨S16384x4096, .bf16⟩
  | .hbm, ⟨27, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x4096, .f32⟩
  | .local _ .vmem, ⟨6, _⟩ => ⟨S256x4096, .f32⟩
  | .local _ .vmem, ⟨7, _⟩ => ⟨S1024x4096, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![64, 1], ![false, false]⟩

def k0_cond3 (i : grid0.Coords) : BitVec 1 :=
  let arg1 : BitVec 32 := BitVec.ofNat 32 (i 1).val
  let c0_i32_22 : BitVec 32 := 0#32
  let v30 : BitVec 1 := Scalar.cmpi .eq arg1 c0_i32_22
  let v31 : BitVec 32 := Scalar.extui v30
  let c0_i32_23 : BitVec 32 := 0#32
  let v32 : BitVec 1 := Scalar.cmpi .ne v31 c0_i32_23
  v32

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceMlpIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1024x4096, .bf16⟩
  | .hbm, ⟨4, _⟩ => ⟨S4096x1024, .bf16⟩
  | .hbm, ⟨5, _⟩ => ⟨S1024x4096, .f32⟩
  | .hbm, ⟨6, _⟩ => ⟨S4096x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .i1⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S16384x1024, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | .hbm, ⟨71, _⟩ => ⟨S16384x4096, .bf16⟩
  | .hbm, ⟨72, _⟩ => ⟨S16384x4096, .bf16⟩
  | .hbm, ⟨73, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== KernelFwd.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S16384x4096 : Shape := ⟨2, ![16384, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S16384x1024, .f32⟩
  | .hbm, ⟨5, _⟩ => ⟨S16384x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x4096, .f32⟩
  | .local _ .vmem, ⟨8, _⟩ => ⟨S256x4096, .f32⟩
  | .local _ .vmem, ⟨9, _⟩ => ⟨S256x1024, .bf16⟩
  | .local _ .vmem, ⟨10, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_14 : BitVec 32 := 0#32
  let v18 : BitVec 1 := Scalar.cmpi .eq arg1 c0_i32_14
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFwdIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1024x4096, .f32⟩
  | .hbm, ⟨5, _⟩ => ⟨S4096x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== KernelLoss.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S16384x4096 : Shape := ⟨2, ![16384, 4096]⟩
abbrev S1x128 : Shape := ⟨2, ![1, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S16384x4096, .f32⟩
  | .hbm, ⟨7, _⟩ => ⟨S16384x1024, .f32⟩
  | .hbm, ⟨8, _⟩ => ⟨S1x1024, .f32⟩
  | .hbm, ⟨9, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .f32⟩
  | .local _ .vmem, ⟨9, _⟩ => ⟨S256x4096, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x128, .f32⟩
  | .local _ .vmem, ⟨14, _⟩ => ⟨S256x1024, .bf16⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_14 : BitVec 32 := 0#32
  let v18 : BitVec 1 := Scalar.cmpi .eq arg1 c0_i32_14
  let v19 : BitVec 32 := Scalar.extui v18
  let c0_i32_15 : BitVec 32 := 0#32
  let v20 : BitVec 1 := Scalar.cmpi .ne v19 c0_i32_15
  v20

def k0_cond3 (i : grid0.Coords) : BitVec 1 :=
  let arg0 : BitVec 32 := BitVec.ofNat 32 (i 0).val
  let c0_i32_20 : BitVec 32 := 0#32
  let v24 : BitVec 1 := Scalar.cmpi .eq arg0 c0_i32_20
  let v25 : BitVec 32 := Scalar.extui v24
  let c0_i32_21 : BitVec 32 := 0#32
  let v26 : BitVec 1 := Scalar.cmpi .ne v25 c0_i32_21
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceLossIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024 : Shape := ⟨1, ![1024]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S1024x4096, .f32⟩
  | .hbm, ⟨7, _⟩ => ⟨S4096x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S16384x1, .f32⟩
  | .hbm, ⟨82, _⟩ => ⟨S16384x1024, .f32⟩
  | .hbm, ⟨83, _⟩ => ⟨S16384x1024, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_16 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== KernelUp.lean ====
abbrev S16384x1024 : Shape := ⟨2, ![16384, 1024]⟩
abbrev S16384x4096 : Shape := ⟨2, ![16384, 4096]⟩
abbrev S4x1024x1024 : Shape := ⟨3, ![4, 1024, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S16384x1024, .f32⟩
  | .hbm, ⟨3, _⟩ => ⟨S16384x4096, .f32⟩
  | .hbm, ⟨4, _⟩ => ⟨S_, .f32⟩
  | .hbm, ⟨5, _⟩ => ⟨S1024x4096, .f32⟩
  | .hbm, ⟨6, _⟩ => ⟨S16384x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDown.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x4096, .f32⟩
  | .hbm, ⟨3, _⟩ => ⟨S16384x1024, .f32⟩
  | .hbm, ⟨4, _⟩ => ⟨S_, .f32⟩
  | .hbm, ⟨5, _⟩ => ⟨S4096x1024, .f32⟩
  | .hbm, ⟨6, _⟩ => ⟨S16384x1024, .f32⟩
  | .hbm, ⟨7, _⟩ => ⟨S1024x4096, .f32⟩
  | .hbm, ⟨8, _⟩ => ⟨S4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S16384x1024 : Shape := ⟨2, ![16384, 1024]⟩
abbrev S1x1024 : Shape := ⟨2, ![1, 1024]⟩
abbrev S3840x1024 : Shape := ⟨2, ![3840, 1024]⟩
abbrev S16384x512 : Shape := ⟨2, ![16384, 512]⟩
abbrev S16384x256 : Shape := ⟨2, ![16384, 256]⟩
abbrev S4096x256 : Shape := ⟨2, ![4096, 256]⟩
abbrev S16384x2048 : Shape := ⟨2, ![16384, 2048]⟩
abbrev S1x512 : Shape := ⟨2, ![1, 512]⟩
abbrev S1x2048 : Shape := ⟨2, ![1, 2048]⟩
abbrev S16384x3840 : Shape := ⟨2, ![16384, 3840]⟩
abbrev S1x3840 : Shape := ⟨2, ![1, 3840]⟩
abbrev S512x1024 : Shape := ⟨2, ![512, 1024]⟩
abbrev S512x512 : Shape := ⟨2, ![512, 512]⟩
abbrev S512x256 : Shape := ⟨2, ![512, 256]⟩
abbrev S128x256 : Shape := ⟨2, ![128, 256]⟩
abbrev S512x2048 : Shape := ⟨2, ![512, 2048]⟩
abbrev S512x3840 : Shape := ⟨2, ![512, 3840]⟩
abbrev S1x256 : Shape := ⟨2, ![1, 256]⟩
abbrev S256 : Shape := ⟨1, ![256]⟩
abbrev S384x256 : Shape := ⟨2, ![384, 256]⟩
abbrev S512 : Shape := ⟨1, ![512]⟩
abbrev S512x1 : Shape := ⟨2, ![512, 1]⟩
abbrev S1024 : Shape := ⟨1, ![1024]⟩

abbrev nBuf : Space → Nat
  | .hbm => 17
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S3840x1024, .bf16⟩
  | .hbm, ⟨4, _⟩ => ⟨S16384x512, .bf16⟩
  | .hbm, ⟨5, _⟩ => ⟨S16384x256, .f32⟩
  | .hbm, ⟨6, _⟩ => ⟨S4096x256, .f32⟩
  | .hbm, ⟨7, _⟩ => ⟨S16384x1024, .bf16⟩
  | .hbm, ⟨8, _⟩ => ⟨S16384x2048, .bf16⟩
  | .hbm, ⟨9, _⟩ => ⟨S1x512, .f32⟩
  | .hbm, ⟨10, _⟩ => ⟨S1x1024, .f32⟩
  | .hbm, ⟨11, _⟩ => ⟨S1x2048, .f32⟩
  | .hbm, ⟨12, _⟩ => ⟨S16384x1024, .f32⟩
  | .hbm, ⟨13, _⟩ => ⟨S16384x3840, .bf16⟩
  | .hbm, ⟨14, _⟩ => ⟨S16384x1024, .bf16⟩
  | .hbm, ⟨15, _⟩ => ⟨S1x1024, .f32⟩
  | .hbm, ⟨16, _⟩ => ⟨S1x3840, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S3840x1024, .bf16⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S128x256, .f32⟩
  | .local _ .vmem, ⟨11, _⟩ => ⟨S128x256, .f32⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S1x512, .f32⟩
  | .local _ .vmem, ⟨17, _⟩ => ⟨S1x1024, .f32⟩
  | .local _ .vmem, ⟨18, _⟩ => ⟨S1x2048, .f32⟩
  | .local _ .vmem, ⟨19, _⟩ => ⟨S512x1024, .f32⟩
  | .local _ .vmem, ⟨20, _⟩ => ⟨S512x1024, .f32⟩
  | .local _ .vmem, ⟨21, _⟩ => ⟨S512x3840, .bf16⟩
  | .local _ .vmem, ⟨22, _⟩ => ⟨S512x3840, .bf16⟩
  | .local _ .vmem, ⟨23, _⟩ => ⟨S512x1024, .bf16⟩
  | .local _ .vmem, ⟨24, _⟩ => ⟨S512x1024, .bf16⟩
  | .local _ .vmem, ⟨25, _⟩ => ⟨S1x1024, .f32⟩
  | .local _ .vmem, ⟨26, _⟩ => ⟨S1x3840, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3840x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3840 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x3840 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceInIdeal.lean ====
abbrev S16384x1024 : Shape := ⟨2, ![16384, 1024]⟩
abbrev S1x1024 : Shape := ⟨2, ![1, 1024]⟩
abbrev S3840x1024 : Shape := ⟨2, ![3840, 1024]⟩
abbrev S16384x512 : Shape := ⟨2, ![16384, 512]⟩
abbrev S16384x256 : Shape := ⟨2, ![16384, 256]⟩
abbrev S4096x256 : Shape := ⟨2, ![4096, 256]⟩
abbrev S16384x2048 : Shape := ⟨2, ![16384, 2048]⟩
abbrev S1x512 : Shape := ⟨2, ![1, 512]⟩
abbrev S1x2048 : Shape := ⟨2, ![1, 2048]⟩
abbrev S32x128x256 : Shape := ⟨3, ![32, 128, 256]⟩
abbrev S31x128x256 : Shape := ⟨3, ![31, 128, 256]⟩
abbrev S_ : Shape := ⟨0, ![]⟩
abbrev S1x128x256 : Shape := ⟨3, ![1, 128, 256]⟩
abbrev S32x512x256 : Shape := ⟨3, ![32, 512, 256]⟩
abbrev S16384x3840 : Shape := ⟨2, ![16384, 3840]⟩
abbrev S16384 : Shape := ⟨1, ![16384]⟩
abbrev S16384x1 : Shape := ⟨2, ![16384, 1]⟩
abbrev S1024x3840 : Shape := ⟨2, ![1024, 3840]⟩
abbrev S1024 : Shape := ⟨1, ![1024]⟩
abbrev S256 : Shape := ⟨1, ![256]⟩
abbrev S1x256 : Shape := ⟨2, ![1, 256]⟩
abbrev S1x3840 : Shape := ⟨2, ![1, 3840]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S3840x1024, .bf16⟩
  | .hbm, ⟨4, _⟩ => ⟨S16384x512, .bf16⟩
  | .hbm, ⟨5, _⟩ => ⟨S16384x256, .f32⟩
  | .hbm, ⟨6, _⟩ => ⟨S4096x256, .f32⟩
  | .hbm, ⟨7, _⟩ => ⟨S16384x1024, .bf16⟩
  | .hbm, ⟨8, _⟩ => ⟨S16384x2048, .bf16⟩
  | .hbm, ⟨9, _⟩ => ⟨S1x512, .f32⟩
  | .hbm, ⟨10, _⟩ => ⟨S1x1024, .f32⟩
  | .hbm, ⟨11, _⟩ => ⟨S1x2048, .f32⟩
  | .hbm, ⟨12, _⟩ => ⟨S3840x1024, .f32⟩
  | .hbm, ⟨13, _⟩ => ⟨S16384x512, .f32⟩
  | .hbm, ⟨14, _⟩ => ⟨S16384x1024, .f32⟩
  | .hbm, ⟨15, _⟩ => ⟨S16384x2048, .f32⟩
  | .hbm, ⟨16, _⟩ => ⟨S32x128x256, .f32⟩
  | .hbm, ⟨17, _⟩ => ⟨S31x128x256, .f32⟩
  | .hbm, ⟨18, _⟩ => ⟨S_, .f32⟩
  | .hbm, ⟨19, _⟩ => ⟨S1x128x256, .f32⟩
  | .hbm, ⟨20, _⟩ => ⟨S32x128x256, .f32⟩
  | .hbm, ⟨21, _⟩ => ⟨S_, .i32⟩
  | .hbm, ⟨22, _⟩ => ⟨S_, .f32⟩
  | .hbm, ⟨23, _⟩ => ⟨S32x512x256, .f32⟩
  | .hbm, ⟨24, _⟩ => ⟨S16384x256, .f32⟩
  | .hbm, ⟨25, _⟩ => ⟨S16384x256, .f32⟩
  | .hbm, ⟨26, _⟩ => ⟨S16384x3840, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S1024x3840, .f32⟩
  | .hbm, ⟨47, _⟩ => ⟨S16384x3840, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S256, .f32⟩
  | .hbm, ⟨74, _⟩ => ⟨S1x256, .f32⟩
  | .hbm, ⟨75, _⟩ => ⟨S1x3840, .f32⟩
  | .hbm, ⟨76, _⟩ => ⟨S16384x1024, .f32⟩
  | .hbm, ⟨77, _⟩ => ⟨S16384x3840, .bf16⟩
  | .hbm, ⟨78, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== KernelWin.lean ====
abbrev S16384x3840 : Shape := ⟨2, ![16384, 3840]⟩
abbrev S16384x1024 : Shape := ⟨2, ![16384, 1024]⟩
abbrev S3840x1024 : Shape := ⟨2, ![3840, 1024]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x3840, .bf16⟩
  | .hbm, ⟨1, _⟩ => ⟨S16384x1024, .bf16⟩
  | .hbm, ⟨2, _⟩ => ⟨S3840x1024, .f32⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .f32⟩
  | .local _ .vmem, ⟨5, _⟩ => ⟨S768x1024, .f32⟩
  | _, _ => ⟨S16384x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWinIdeal.lean ====
abbrev S16384x3840 : Shape := ⟨2, ![16384, 3840]⟩
abbrev S16384x1024 : Shape := ⟨2, ![16384, 1024]⟩
abbrev S_ : Shape := ⟨0, ![]⟩
abbrev S1024x3840 : Shape := ⟨2, ![1024, 3840]⟩
abbrev S3840x1024 : Shape := ⟨2, ![3840, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x3840, .bf16⟩
  | .hbm, ⟨1, _⟩ => ⟨S16384x1024, .bf16⟩
  | .hbm, ⟨2, _⟩ => ⟨S16384x3840, .f32⟩
  | .hbm, ⟨3, _⟩ => ⟨S16384x1024, .f32⟩
  | .hbm, ⟨4, _⟩ => ⟨S_, .f32⟩
  | .hbm, ⟨5, _⟩ => ⟨S1024x3840, .f32⟩
  | .hbm, ⟨6, _⟩ => ⟨S16384x3840, .f32⟩
  | .hbm, ⟨7, _⟩ => ⟨S3840x1024, .f32⟩
  | .hbm, ⟨8, _⟩ => ⟨S1024x3840, .f32⟩
  | .hbm, ⟨9, _⟩ => ⟨S3840x1024, .f32⟩
  | _, _ => ⟨S16384x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelProj.lean ====
abbrev S16384x1024 : Shape := ⟨2, ![16384, 1024]⟩
abbrev S1x1024 : Shape := ⟨2, ![1, 1024]⟩
abbrev S3840x1024 : Shape := ⟨2, ![3840, 1024]⟩
abbrev S1x3840 : Shape := ⟨2, ![1, 3840]⟩
abbrev S16384x768 : Shape := ⟨2, ![16384, 768]⟩
abbrev S16384x3072 : Shape := ⟨2, ![16384, 3072]⟩
abbrev S512x1024 : Shape := ⟨2, ![512, 1024]⟩
abbrev S512x768 : Shape := ⟨2, ![512, 768]⟩
abbrev S512x3072 : Shape := ⟨2, ![512, 3072]⟩
abbrev S512 : Shape := ⟨1, ![512]⟩
abbrev S512x1 : Shape := ⟨2, ![512, 1]⟩
abbrev S768x1024 : Shape := ⟨2, ![768, 1024]⟩
abbrev S1x768 : Shape := ⟨2, ![1, 768]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S3840x1024, .bf16⟩
  | .hbm, ⟨3, _⟩ => ⟨S1x3840, .f32⟩
  | .hbm, ⟨4, _⟩ => ⟨S16384x768, .bf16⟩
  | .hbm, ⟨5, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S1x3840, .f32⟩
  | .local _ .vmem, ⟨5, _⟩ => ⟨S512x768, .bf16⟩
  | .local _ .vmem, ⟨6, _⟩ => ⟨S512x768, .bf16⟩
  | .local _ .vmem, ⟨7, _⟩ => ⟨S512x3072, .f32⟩
  | .local _ .vmem, ⟨8, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjIdeal.lean ====
abbrev S16384x1024 : Shape := ⟨2, ![16384, 1024]⟩
abbrev S1x1024 : Shape := ⟨2, ![1, 1024]⟩
abbrev S3840x1024 : Shape := ⟨2, ![3840, 1024]⟩
abbrev S1x3840 : Shape := ⟨2, ![1, 3840]⟩
abbrev S_ : Shape := ⟨0, ![]⟩
abbrev S16384 : Shape := ⟨1, ![16384]⟩
abbrev S16384x1 : Shape := ⟨2, ![16384, 1]⟩
abbrev S1024x3840 : Shape := ⟨2, ![1024, 3840]⟩
abbrev S16384x3840 : Shape := ⟨2, ![16384, 3840]⟩
abbrev S16384x768 : Shape := ⟨2, ![16384, 768]⟩
abbrev S16384x3072 : Shape := ⟨2, ![16384, 3072]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S3840x1024, .bf16⟩
  | .hbm, ⟨3, _⟩ => ⟨S1x3840, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S3840x1024, .f32⟩
  | .hbm, ⟨20, _⟩ => ⟨S1024x3840, .f32⟩
  | .hbm, ⟨21, _⟩ => ⟨S16384x3840, .f32⟩
  | .hbm, ⟨22, _⟩ => ⟨S16384x3840, .f32⟩
  | .hbm, ⟨23, _⟩ => ⟨S16384x3840, .f32⟩
  | .hbm, ⟨24, _⟩ => ⟨S16384x768, .f32⟩
  | .hbm, ⟨25, _⟩ => ⟨S16384x768, .bf16⟩
  | .hbm, ⟨26, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelOut.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S512x512 : Shape := ⟨2, ![512, 512]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOutIdeal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .f32⟩
  | .hbm, ⟨4, _⟩ => ⟨S512x1024, .bf16⟩
  | .hbm, ⟨5, _⟩ => ⟨S512x1024, .bf16⟩
  | .hbm, ⟨6, _⟩ => ⟨S1x1024, .f32⟩
  | .hbm, ⟨7, _⟩ => ⟨S1024x1024, .bf16⟩
  | .hbm, ⟨8, _⟩ => ⟨S16384x512, .f32⟩
  | .hbm, ⟨9, _⟩ => ⟨S16384x512, .f32⟩
  | .hbm, ⟨10, _⟩ => ⟨S512x1024, .f32⟩
  | .hbm, ⟨11, _⟩ => ⟨S512x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== KernelWout.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWoutIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelWattn.lean ====
abbrev S16384x512 : Shape := ⟨2, ![16384, 512]⟩
abbrev S16384x1024 : Shape := ⟨2, ![16384, 1024]⟩
abbrev S4x512x256 : Shape := ⟨3, ![4, 512, 256]⟩
abbrev S4096x512 : Shape := ⟨2, ![4096, 512]⟩
abbrev S4096x1024 : Shape := ⟨2, ![4096, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x512x256, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S4x512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== ReferenceWattnIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .f32⟩
  | .hbm, ⟨3, _⟩ => ⟨S16384x1024, .f32⟩
  | .hbm, ⟨4, _⟩ => ⟨S_, .f32⟩
  | .hbm, ⟨5, _⟩ => ⟨S512x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWconv.lean ====
abbrev S16384x512 : Shape := ⟨2, ![16384, 512]⟩
abbrev S16384x1024 : Shape := ⟨2, ![16384, 1024]⟩
abbrev S4x512x256 : Shape := ⟨3, ![4, 512, 256]⟩
abbrev S4096x512 : Shape := ⟨2, ![4096, 512]⟩
abbrev S4096x1024 : Shape := ⟨2, ![4096, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S4x512x256, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S4x512x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== ReferenceWconvIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x512, .f32⟩
  | .hbm, ⟨3, _⟩ => ⟨S16384x1024, .f32⟩
  | .hbm, ⟨4, _⟩ => ⟨S_, .f32⟩
  | .hbm, ⟨5, _⟩ => ⟨S512x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S512x4x256, .f32⟩
  | .hbm, ⟨10, _⟩ => ⟨S4x512x256, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelAttn.lean ====
abbrev S16384x768 : Shape := ⟨2, ![16384, 768]⟩
abbrev S8 : Shape := ⟨1, ![8]⟩
abbrev S2x2x4x128x256 : Shape := ⟨5, ![2, 2, 4, 128, 256]⟩
abbrev S_ : Shape := ⟨0, ![]⟩
abbrev S1x2x4x1x1 : Shape := ⟨5, ![1, 2, 4, 1, 1]⟩
abbrev S2x2x512x256 : Shape := ⟨4, ![2, 2, 512, 256]⟩
abbrev S16384x512 : Shape := ⟨2, ![16384, 512]⟩
abbrev S16384x128 : Shape := ⟨2, ![16384, 128]⟩
abbrev S512x512 : Shape := ⟨2, ![512, 512]⟩
abbrev S128x128 : Shape := ⟨2, ![128, 128]⟩
abbrev S512x128 : Shape := ⟨2, ![512, 128]⟩
abbrev S640x128 : Shape := ⟨2, ![640, 128]⟩
abbrev S2x512x128 : Shape := ⟨3, ![2, 512, 128]⟩
abbrev S256x128 : Shape := ⟨2, ![256, 128]⟩
abbrev S1x512x128 : Shape := ⟨3, ![1, 512, 128]⟩
abbrev S1x128x128 : Shape := ⟨3, ![1, 128, 128]⟩
abbrev S512x256 : Shape := ⟨2, ![512, 256]⟩
abbrev S1x1x512x256 : Shape := ⟨4, ![1, 1, 512, 256]⟩
abbrev S1 : Shape := ⟨1, ![1]⟩
abbrev S512x1 : Shape := ⟨2, ![512, 1]⟩
abbrev S512 : Shape := ⟨1, ![512]⟩
abbrev S128x1 : Shape := ⟨2, ![128, 1]⟩

abbrev nBuf : Space → Nat
  | .hbm => 37
  | .vmem => 18
  | .smem => 1
  | _ => 0

abbrev bufTy : (tb : Table) → Fin (tcTables nBuf tb) → BufTy
  | .hbm, ⟨0, _⟩ => ⟨S16384x768, .bf16⟩
  | .hbm, ⟨1, _⟩ => ⟨S8, .f32⟩
  | .hbm, ⟨2, _⟩ => ⟨S8, .f32⟩
  | .hbm, ⟨3, _⟩ => ⟨S2x2x4x128x256, .i32⟩
  | .hbm, ⟨4, _⟩ => ⟨S2x2x4x128x256, .i32⟩
  | .hbm, ⟨5, _⟩ => ⟨S_, .i32⟩
  | .hbm, ⟨6, _⟩ => ⟨S2x2x4x128x256, .i32⟩
  | .hbm, ⟨7, _⟩ => ⟨S2x2x4x128x256, .i32⟩
  | .hbm, ⟨8, _⟩ => ⟨S2x2x4x128x256, .i32⟩
  | .hbm, ⟨9, _⟩ => ⟨S_, .i32⟩
  | .hbm, ⟨10, _⟩ => ⟨S2x2x4x128x256, .i32⟩
  | .hbm, ⟨11, _⟩ => ⟨S2x2x4x128x256, .i1⟩
  | .hbm, ⟨12, _⟩ => ⟨S_, .i32⟩
  | .hbm, ⟨13, _⟩ => ⟨S2x2x4x128x256, .i32⟩
  | .hbm, ⟨14, _⟩ => ⟨S2x2x4x128x256, .i1⟩
  | .hbm, ⟨15, _⟩ => ⟨S2x2x4x128x256, .i1⟩
  | .hbm, ⟨16, _⟩ => ⟨S2x2x4x128x256, .i32⟩
  | .hbm, ⟨17, _⟩ => ⟨S_, .i32⟩
  | .hbm, ⟨18, _⟩ => ⟨S2x2x4x128x256, .i32⟩
  | .hbm, ⟨19, _⟩ => ⟨S2x2x4x128x256, .i1⟩
  | .hbm, ⟨20, _⟩ => ⟨S_, .i32⟩
  | .hbm, ⟨21, _⟩ => ⟨S2x2x4x128x256, .i32⟩
  | .hbm, ⟨22, _⟩ => ⟨S2x2x4x128x256, .i1⟩
  | .hbm, ⟨23, _⟩ => ⟨S2x2x4x128x256, .i1⟩
  | .hbm, ⟨24, _⟩ => ⟨S2x2x4x128x256, .i1⟩
  | .hbm, ⟨25, _⟩ => ⟨S1x2x4x1x1, .f32⟩
  | .hbm, ⟨26, _⟩ => ⟨S2x2x4x128x256, .f32⟩
  | .hbm, ⟨27, _⟩ => ⟨S2x2x4x128x256, .f32⟩
  | .hbm, ⟨28, _⟩ => ⟨S2x2x4x128x256, .f32⟩
  | .hbm, ⟨29, _⟩ => ⟨S2x2x4x128x256, .f32⟩
  | .hbm, ⟨30, _⟩ => ⟨S_, .f32⟩
  | .hbm, ⟨31, _⟩ => ⟨S_, .f32⟩
  | .hbm, ⟨32, _⟩ => ⟨S2x2x4x128x256, .f32⟩
  | .hbm, ⟨33, _⟩ => ⟨S2x2x4x128x256, .f32⟩
  | .hbm, ⟨34, _⟩ => ⟨S2x2x512x256, .f32⟩
  | .hbm, ⟨35, _⟩ => ⟨S16384x512, .bf16⟩
  | .hbm, ⟨36, _⟩ => ⟨S16384x128, .f32⟩
  | .local _ .vmem, ⟨0, _⟩ => ⟨S2x2x512x256, .f32⟩
  | .local _ .vmem, ⟨1, _⟩ => ⟨S512x512, .bf16⟩
  | .local _ .vmem, ⟨2, _⟩ => ⟨S512x512, .bf16⟩
  | .local _ .vmem, ⟨3, _⟩ => ⟨S128x128, .bf16⟩
  | .local _ .vmem, ⟨4, _⟩ => ⟨S128x128, .bf16⟩
  | .local _ .vmem, ⟨5, _⟩ => ⟨S512x128, .bf16⟩
  | .local _ .vmem, ⟨6, _⟩ => ⟨S512x128, .bf16⟩
  | .local _ .vmem, ⟨7, _⟩ => ⟨S128x128, .bf16⟩
  | .local _ .vmem, ⟨8, _⟩ => ⟨S128x128, .bf16⟩
  | .local _ .vmem, ⟨9, _⟩ => ⟨S512x128, .bf16⟩
  | .local _ .vmem, ⟨10, _⟩ => ⟨S512x128, .bf16⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S640x128, .bf16⟩
  | .local _ .vmem, ⟨16, _⟩ => ⟨S640x128, .bf16⟩
  | .local _ .vmem, ⟨17, _⟩ => ⟨S2x512x128, .bf16⟩
  | .local _ .smem, ⟨0, _⟩ => ⟨S8, .f32⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  v18
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v24 : Index := Scalar.indexCast v19
  let c0_17 : Index := 0#32
  ![v24.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v32 : Index := Scalar.indexCast v19
  let c0_19 : Index := 0#32
  ![v32.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v57 : Index := Scalar.indexCast v19
  let c128_36 : Index := 128#32
  ![v57.toNat, 128]
def k0_off4 (i : grid0.Coords) (k0_t1 : Fin k0_t1_loop.trips) : Fin 4 → Nat :=
  let arg0 : BitVec 32 := BitVec.ofNat 32 (i 0).val
  let c0_i32_15 : BitVec 32 := 0#32
  let v20 : BitVec 1 := Scalar.cmpi .eq arg0 c0_i32_15
  let c0_i32 : BitVec 32 := 0#32
  let c1_i32 : BitVec 32 := 1#32
  let arg13 : BitVec 32 := Scf.iv c0_i32 c1_i32 k0_t1
  let c0_i32_16 : BitVec 32 := 0#32
  let v21 : BitVec 1 := Scalar.cmpi .eq arg13 c0_i32_16
  let v22 : BitVec 1 := Scalar.andi v20 v21
  let v23 : BitVec 32 := Scalar.extui v22
  let v85 : Index := Scalar.indexCast v23
  let c0_55 : Index := 0#32
  let c0_56 : Index := 0#32
  let c0_57 : Index := 0#32
  ![v85.toNat, 0, 0, 0]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v170 : Index := Scalar.indexCast v19
  let c256_72 : Index := 256#32
  ![v170.toNat, 256]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v195 : Index := Scalar.indexCast v19
  let c384_89 : Index := 384#32
  ![v195.toNat, 384]
def k0_off7 (i : grid0.Coords) (k0_t1 : Fin k0_t1_loop.trips) : Fin 4 → Nat :=
  let arg0 : BitVec 32 := BitVec.ofNat 32 (i 0).val
  let c0_i32_15 : BitVec 32 := 0#32
  let v20 : BitVec 1 := Scalar.cmpi .eq arg0 c0_i32_15
  let c0_i32 : BitVec 32 := 0#32
  let c1_i32 : BitVec 32 := 1#32
  let arg13 : BitVec 32 := Scf.iv c0_i32 c1_i32 k0_t1
  let c0_i32_16 : BitVec 32 := 0#32
  let v21 : BitVec 1 := Scalar.cmpi .eq arg13 c0_i32_16
  let v22 : BitVec 1 := Scalar.andi v20 v21
  let v23 : BitVec 32 := Scalar.extui v22
  let v223 : Index := Scalar.indexCast v23
  let c1_110 : Index := 1#32
  let c0_111 : Index := 0#32
  let c0_112 : Index := 0#32
  ![v223.toNat, 1, 0, 0]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v18 : BitVec 32 := Scalar.muli arg13 c128_i32
  let v19 : BitVec 32 := v18
  let v305 : Index := Scalar.indexCast v19
  let c0_126 : Index := 0#32
  ![v305.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAttnIdeal.lean ====
abbrev S16384x768 : Shape := ⟨2, ![16384, 768]⟩
abbrev S8 : Shape := ⟨1, ![8]⟩
abbrev S16384x512 : Shape := ⟨2, ![16384, 512]⟩
abbrev S16384x128 : Shape := ⟨2, ![16384, 128]⟩
abbrev S128x128x2x4x64 : Shape := ⟨5, ![128, 128, 2, 4, 64]⟩
abbrev S16384x2x64 : Shape := ⟨3, ![16384, 2, 64]⟩
abbrev S_ : Shape := ⟨0, ![]⟩
abbrev S16512x2x64 : Shape := ⟨3, ![16512, 2, 64]⟩
abbrev S129x128x2x64 : Shape := ⟨4, ![129, 128, 2, 64]⟩
abbrev S128x128x2x64 : Shape := ⟨4, ![128, 128, 2, 64]⟩
abbrev S128x256x2x64 : Shape := ⟨4, ![128, 256, 2, 64]⟩
abbrev S2x128x256x128x4 : Shape := ⟨5, ![2, 128, 256, 128, 4]⟩
abbrev S2x4x128x128x256 : Shape := ⟨5, ![2, 4, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S2x4 : Shape := ⟨2, ![2, 4]⟩
abbrev S2x4x1x1x1 : Shape := ⟨5, ![2, 4, 1, 1, 1]⟩
abbrev S1x1x1x128x256 : Shape := ⟨5, ![1, 1, 1, 128, 256]⟩
abbrev S2x4x1x128x256 : Shape := ⟨5, ![2, 4, 1, 128, 256]⟩
abbrev S2x4x1x1 : Shape := ⟨4, ![2, 4, 1, 1]⟩
abbrev S2x4x128x128 : Shape := ⟨4, ![2, 4, 128, 128]⟩
abbrev S2x4x128x128x1 : Shape := ⟨5, ![2, 4, 128, 128, 1]⟩
abbrev S128x2x64x4x128 : Shape := ⟨5, ![128, 2, 64, 4, 128]⟩
abbrev S128x128x2x4 : Shape := ⟨4, ![128, 128, 2, 4]⟩
abbrev S16384x8 : Shape := ⟨2, ![16384, 8]⟩

abbrev nBuf : Space → Nat
  | .hbm => 110
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S8, .f32⟩
  | .hbm, ⟨2, _⟩ => ⟨S8, .f32⟩
  | .hbm, ⟨3, _⟩ => ⟨S16384x768, .f32⟩
  | .hbm, ⟨4, _⟩ => ⟨S16384x512, .f32⟩
  | .hbm, ⟨5, _⟩ => ⟨S16384x128, .f32⟩
  | .hbm, ⟨6, _⟩ => ⟨S16384x128, .f32⟩
  | .hbm, ⟨7, _⟩ => ⟨S128x128x2x4x64, .f32⟩
  | .hbm, ⟨8, _⟩ => ⟨S16384x2x64, .f32⟩
  | .hbm, ⟨9, _⟩ => ⟨S_, .i32⟩
  | .hbm, ⟨10, _⟩ => ⟨S_, .f32⟩
  | .hbm, ⟨11, _⟩ => ⟨S16512x2x64, .f32⟩
  | .hbm, ⟨12, _⟩ => ⟨S129x128x2x64, .f32⟩
  | .hbm, ⟨13, _⟩ => ⟨S128x128x2x64, .f32⟩
  | .hbm, ⟨14, _⟩ => ⟨S128x128x2x64, .f32⟩
  | .hbm, ⟨15, _⟩ => ⟨S128x256x2x64, .f32⟩
  | .hbm, ⟨16, _⟩ => ⟨S16384x2x64, .f32⟩
  | .hbm, ⟨17, _⟩ => ⟨S_, .i32⟩
  | .hbm, ⟨18, _⟩ => ⟨S_, .f32⟩
  | .hbm, ⟨19, _⟩ => ⟨S16512x2x64, .f32⟩
  | .hbm, ⟨20, _⟩ => ⟨S129x128x2x64, .f32⟩
  | .hbm, ⟨21, _⟩ => ⟨S128x128x2x64, .f32⟩
  | .hbm, ⟨22, _⟩ => ⟨S128x128x2x64, .f32⟩
  | .hbm, ⟨23, _⟩ => ⟨S128x256x2x64, .f32⟩
  | .hbm, ⟨24, _⟩ => ⟨S2x128x256x128x4, .f32⟩
  | .hbm, ⟨25, _⟩ => ⟨S2x4x128x128x256, .f32⟩
  | .hbm, ⟨26, _⟩ => ⟨S_, .f32⟩
  | .hbm, ⟨27, _⟩ => ⟨S2x4x128x128x256, .f32⟩
  | .hbm, ⟨28, _⟩ => ⟨S2x4x128x128x256, .f32⟩
  | .hbm, ⟨29, _⟩ => ⟨S128, .i32⟩
  | .hbm, ⟨30, _⟩ => ⟨S128x1, .i32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S256, .i32⟩
  | .hbm, ⟨35, _⟩ => ⟨S1x256, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S128, .i32⟩
  | .hbm, ⟨40, _⟩ => ⟨S128x1x1, .i32⟩
  | .hbm, ⟨41, _⟩ => ⟨S_, .i32⟩
  | .hbm, ⟨42, _⟩ => ⟨S128x1x1, .i32⟩
  | .hbm, ⟨43, _⟩ => ⟨S128x1x1, .i32⟩
  | .hbm, ⟨44, _⟩ => ⟨S1x1x256, .i32⟩
  | .hbm, ⟨45, _⟩ => ⟨S128x1x256, .i32⟩
  | .hbm, ⟨46, _⟩ => ⟨S128x1x256, .i32⟩
  | .hbm, ⟨47, _⟩ => ⟨S128x1x256, .i32⟩
  | .hbm, ⟨48, _⟩ => ⟨S_, .i32⟩
  | .hbm, ⟨49, _⟩ => ⟨S128x1x256, .i32⟩
  | .hbm, ⟨50, _⟩ => ⟨S128x1x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S1x128x256, .i1⟩
  | .hbm, ⟨59, _⟩ => ⟨S1x128x256, .i1⟩
  | .hbm, ⟨60, _⟩ => ⟨S_, .i32⟩
  | .hbm, ⟨61, _⟩ => ⟨S128x1x256, .i32⟩
  | .hbm, ⟨62, _⟩ => ⟨S128x1x256, .i1⟩
  | .hbm, ⟨63, _⟩ => ⟨S128x128x256, .i1⟩
  | .hbm, ⟨64, _⟩ => ⟨S128x128x256, .i1⟩
  | .hbm, ⟨65, _⟩ => ⟨S128x128x256, .i1⟩
  | .hbm, ⟨66, _⟩ => ⟨S2x4, .f32⟩
  | .hbm, ⟨67, _⟩ => ⟨S2x4x1x1x1, .f32⟩
  | .hbm, ⟨68, _⟩ => ⟨S128x256, .f32⟩
  | .hbm, ⟨69, _⟩ => ⟨S1x1x1x128x256, .f32⟩
  | .hbm, ⟨70, _⟩ => ⟨S2x4x1x128x256, .f32⟩
  | .hbm, ⟨71, _⟩ => ⟨S2x4x1x128x256, .f32⟩
  | .hbm, ⟨72, _⟩ => ⟨S2x4x1x128x256, .f32⟩
  | .hbm, ⟨73, _⟩ => ⟨S2x4x128x128x256, .f32⟩
  | .hbm, ⟨74, _⟩ => ⟨S2x4x128x128x256, .f32⟩
  | .hbm, ⟨75, _⟩ => ⟨S_, .f32⟩
  | .hbm, ⟨76, _⟩ => ⟨S_, .f32⟩
  | .hbm, ⟨77, _⟩ => ⟨S2x4x128x128x256, .i1⟩
  | .hbm, ⟨78, _⟩ => ⟨S2x4x128x128x256, .f32⟩
  | .hbm, ⟨79, _⟩ => ⟨S2x4x128x128x256, .f32⟩
  | .hbm, ⟨80, _⟩ => ⟨S2x4, .f32⟩
  | .hbm, ⟨81, _⟩ => ⟨S2x4x1x1, .f32⟩
  | .hbm, ⟨82, _⟩ => ⟨S_, .f32⟩
  | .hbm, ⟨83, _⟩ => ⟨S2x4x128x128, .f32⟩
  | .hbm, ⟨84, _⟩ => ⟨S2x4x128x128, .f32⟩
  | .hbm, ⟨85, _⟩ => ⟨S2x4x128x128, .f32⟩
  | .hbm, ⟨86, _⟩ => ⟨S2x4x128x128x1, .f32⟩
  | .hbm, ⟨87, _⟩ => ⟨S2x4x128x128x256, .f32⟩
  | .hbm, ⟨88, _⟩ => ⟨S2x4x128x128x256, .f32⟩
  | .hbm, ⟨89, _⟩ => ⟨S2x4x128x128x256, .f32⟩
  | .hbm, ⟨90, _⟩ => ⟨S_, .f32⟩
  | .hbm, ⟨91, _⟩ => ⟨S2x4x128x128, .f32⟩
  | .hbm, ⟨92, _⟩ => ⟨S2x4x128x128, .f32⟩
  | .hbm, ⟨93, _⟩ => ⟨S2x4x128x128, .f32⟩
  | .hbm, ⟨94, _⟩ => ⟨S2x4x128x128, .f32⟩
  | .hbm, ⟨95, _⟩ => ⟨S2x4x128x128, .f32⟩
  | .hbm, ⟨96, _⟩ => ⟨S2x4x128x128x1, .f32⟩
  | .hbm, ⟨97, _⟩ => ⟨S2x4x128x128x256, .f32⟩
  | .hbm, ⟨98, _⟩ => ⟨S2x4x128x128x256, .f32⟩
  | .hbm, ⟨99, _⟩ => ⟨S128x2x64x4x128, .f32⟩
  | .hbm, ⟨100, _⟩ => ⟨S128x128x2x4x64, .f32⟩
  | .hbm, ⟨101, _⟩ => ⟨S16384x512, .f32⟩
  | .hbm, ⟨102, _⟩ => ⟨S2x4x128x128, .f32⟩
  | .hbm, ⟨103, _⟩ => ⟨S2x4x128x128, .f32⟩
  | .hbm, ⟨104, _⟩ => ⟨S128x128x2x4, .f32⟩
  | .hbm, ⟨105, _⟩ => ⟨S16384x8, .f32⟩
  | .hbm, ⟨106, _⟩ => ⟨S16384x512, .bf16⟩
  | .hbm, ⟨107, _⟩ => ⟨S_, .i32⟩
  | .hbm, ⟨108, _⟩ => ⟨S_, .f32⟩
  | .hbm, ⟨109, _⟩ => ⟨S16384x128, .f32⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_10 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_c_11 : Ref sig .tc := ⟨.hbm, 107, rfl⟩
abbrev main_call3_v0 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== KernelAdamMlp.lean ====
abbrev S2x1024x1024 : Shape := ⟨3, ![2, 1024, 1024]⟩
abbrev S1x512x1024 : Shape := ⟨3, ![1, 512, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamMlpIdeal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamIn.lean ====
abbrev S2x960x1024 : Shape := ⟨3, ![2, 960, 1024]⟩
abbrev S1x480x1024 : Shape := ⟨3, ![1, 480, 1024]⟩
abbrev S480x1024 : Shape := ⟨2, ![480, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x960x1024, .f32⟩
  | .hbm, ⟨1, _⟩ => ⟨S2x960x1024, .f32⟩
  | .hbm, ⟨2, _⟩ => ⟨S2x960x1024, .f32⟩
  | .hbm, ⟨3, _⟩ => ⟨S2x960x1024, .f32⟩
  | .hbm, ⟨4, _⟩ => ⟨S2x960x1024, .f32⟩
  | .hbm, ⟨5, _⟩ => ⟨S2x960x1024, .f32⟩
  | .hbm, ⟨6, _⟩ => ⟨S2x960x1024, .f32⟩
  | .local _ .vmem, ⟨0, _⟩ => ⟨S1x480x1024, .f32⟩
  | .local _ .vmem, ⟨1, _⟩ => ⟨S1x480x1024, .f32⟩
  | .local _ .vmem, ⟨2, _⟩ => ⟨S1x480x1024, .f32⟩
  | .local _ .vmem, ⟨3, _⟩ => ⟨S1x480x1024, .f32⟩
  | .local _ .vmem, ⟨4, _⟩ => ⟨S1x480x1024, .f32⟩
  | .local _ .vmem, ⟨5, _⟩ => ⟨S1x480x1024, .f32⟩
  | .local _ .vmem, ⟨6, _⟩ => ⟨S1x480x1024, .f32⟩
  | .local _ .vmem, ⟨7, _⟩ => ⟨S1x480x1024, .f32⟩
  | .local _ .vmem, ⟨8, _⟩ => ⟨S1x480x1024, .f32⟩
  | .local _ .vmem, ⟨9, _⟩ => ⟨S1x480x1024, .f32⟩
  | .local _ .vmem, ⟨10, _⟩ => ⟨S1x480x1024, .f32⟩
  | .local _ .vmem, ⟨11, _⟩ => ⟨S1x480x1024, .f32⟩
  | .local _ .vmem, ⟨12, _⟩ => ⟨S1x480x1024, .f32⟩
  | .local _ .vmem, ⟨13, _⟩ => ⟨S1x480x1024, .f32⟩
  | _, _ => ⟨S2x960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x480x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x480x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x480x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x480x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x480x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x480x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamInIdeal.lean ====
abbrev S2x960x1024 : Shape := ⟨3, ![2, 960, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x960x1024, .f32⟩
  | .hbm, ⟨1, _⟩ => ⟨S2x960x1024, .f32⟩
  | .hbm, ⟨2, _⟩ => ⟨S2x960x1024, .f32⟩
  | .hbm, ⟨3, _⟩ => ⟨S2x960x1024, .f32⟩
  | .hbm, ⟨4, _⟩ => ⟨S_, .f32⟩
  | .hbm, ⟨5, _⟩ => ⟨S2x960x1024, .f32⟩
  | .hbm, ⟨6, _⟩ => ⟨S2x960x1024, .f32⟩
  | .hbm, ⟨7, _⟩ => ⟨S_, .f32⟩
  | .hbm, ⟨8, _⟩ => ⟨S2x960x1024, .f32⟩
  | .hbm, ⟨9, _⟩ => ⟨S2x960x1024, .f32⟩
  | .hbm, ⟨10, _⟩ => ⟨S2x960x1024, .f32⟩
  | .hbm, ⟨11, _⟩ => ⟨S_, .f32⟩
  | .hbm, ⟨12, _⟩ => ⟨S2x960x1024, .f32⟩
  | .hbm, ⟨13, _⟩ => ⟨S2x960x1024, .f32⟩
  | .hbm, ⟨14, _⟩ => ⟨S2x960x1024, .f32⟩
  | .hbm, ⟨15, _⟩ => ⟨S_, .f32⟩
  | .hbm, ⟨16, _⟩ => ⟨S2x960x1024, .f32⟩
  | .hbm, ⟨17, _⟩ => ⟨S2x960x1024, .f32⟩
  | .hbm, ⟨18, _⟩ => ⟨S2x960x1024, .f32⟩
  | .hbm, ⟨19, _⟩ => ⟨S_, .f32⟩
  | .hbm, ⟨20, _⟩ => ⟨S2x960x1024, .f32⟩
  | .hbm, ⟨21, _⟩ => ⟨S2x960x1024, .f32⟩
  | .hbm, ⟨22, _⟩ => ⟨S_, .f32⟩
  | .hbm, ⟨23, _⟩ => ⟨S2x960x1024, .f32⟩
  | .hbm, ⟨24, _⟩ => ⟨S2x960x1024, .f32⟩
  | .hbm, ⟨25, _⟩ => ⟨S2x960x1024, .f32⟩
  | .hbm, ⟨26, _⟩ => ⟨S_, .f32⟩
  | .hbm, ⟨27, _⟩ => ⟨S2x960x1024, .f32⟩
  | .hbm, ⟨28, _⟩ => ⟨S2x960x1024, .f32⟩
  | .hbm, ⟨29, _⟩ => ⟨S2x960x1024, .f32⟩
  | .hbm, ⟨30, _⟩ => ⟨S_, .f32⟩
  | .hbm, ⟨31, _⟩ => ⟨S2x960x1024, .f32⟩
  | .hbm, ⟨32, _⟩ => ⟨S2x960x1024, .f32⟩
  | .hbm, ⟨33, _⟩ => ⟨S2x960x1024, .f32⟩
  | .hbm, ⟨34, _⟩ => ⟨S_, .f32⟩
  | .hbm, ⟨35, _⟩ => ⟨S2x960x1024, .f32⟩
  | .hbm, ⟨36, _⟩ => ⟨S2x960x1024, .f32⟩
  | _, _ => ⟨S2x960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamOutIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamProj.lean ====
abbrev S2x512x256 : Shape := ⟨3, ![2, 512, 256]⟩
abbrev S1x512x256 : Shape := ⟨3, ![1, 512, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdamProjIdeal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Merge.Point.lean ====
/- The gradient of the gated merge, element by element: every array the reference names, as a function of the
   arguments, and the kernel's intermediate block at a grid point as a block of rows of that array. -/
module

public import proofs.«01_k».proof.Proof.Gen.KernelIdeal.Value
public import proofs.«01_k».proof.Proof.Gen.ReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

/-! ## The reference's arrays -/

/-- An array of ones. -/
def ones : FVec Ideal Cert.ReferenceIdeal.S16384x1024 .f32 :=
  broadcastInDim Cert.ReferenceIdeal.S16384x1024 ![] Cert.ReferenceIdeal.Gen.bcast_S_S16384x1024
    (constant Cert.ReferenceIdeal.S_ .f32 0x3F800000#32)

/-- The attention branch's gate. -/
def gateA (a3 : FVec Ideal Cert.ReferenceIdeal.S16384x3072 .f32) : FVec Ideal Cert.ReferenceIdeal.S16384x1024 .f32 :=
  Host.divf ones (addf ones (Host.exp (Host.negf (extractStridedSlice Cert.ReferenceIdeal.S16384x1024 ![0, 1024] a3
    Cert.ReferenceIdeal.Gen.slices_S16384x3072_S16384x1024_0_1024))))

/-- The convolution branch's gate. -/
def gateC (a3 : FVec Ideal Cert.ReferenceIdeal.S16384x3072 .f32) : FVec Ideal Cert.ReferenceIdeal.S16384x1024 .f32 :=
  Host.divf ones (addf ones (Host.exp (Host.negf (extractStridedSlice Cert.ReferenceIdeal.S16384x1024 ![0, 2048] a3
    Cert.ReferenceIdeal.Gen.slices_S16384x3072_S16384x1024_0_2048))))

/-- The attention branch. -/
def branchA (a1 : FVec Ideal Cert.ReferenceIdeal.S16384x512 .bf16) (a4 : FVec Ideal Cert.ReferenceIdeal.S512x1024 .bf16) :
    FVec Ideal Cert.ReferenceIdeal.S16384x1024 .f32 :=
  Host.dotGeneral Cert.ReferenceIdeal.dot_S16384x512_S512x1024_S16384x1024_1_0_0_1_n_n none
    (extf .f32 a1 Cert.ReferenceIdeal.Gen.bitsLt_bf16_f32) (extf .f32 a4 Cert.ReferenceIdeal.Gen.bitsLt_bf16_f32)

/-- The convolution branch. -/
def branchC (a2 : FVec Ideal Cert.ReferenceIdeal.S16384x512 .bf16) (a5 : FVec Ideal Cert.ReferenceIdeal.S512x1024 .bf16)
    (a6 : FVec Ideal Cert.ReferenceIdeal.S1x1024 .f32) : FVec Ideal Cert.ReferenceIdeal.S16384x1024 .f32 :=
  addf (Host.dotGeneral Cert.ReferenceIdeal.dot_S16384x512_S512x1024_S16384x1024_1_0_0_1_n_n none
    (extf .f32 a2 Cert.ReferenceIdeal.Gen.bitsLt_bf16_f32) (extf .f32 a5 Cert.ReferenceIdeal.Gen.bitsLt_bf16_f32))
    (broadcastInDim Cert.ReferenceIdeal.S16384x1024 ![0, 1] Cert.ReferenceIdeal.Gen.bcast_S1x1024_S16384x1024_0_1 a6)

/-- The gradient of the merged rows. -/
def dmerged (a0 : FVec Ideal Cert.ReferenceIdeal.S16384x1024 .f32) (a7 : FVec Ideal Cert.ReferenceIdeal.S1024x1024 .bf16) :
    FVec Ideal Cert.ReferenceIdeal.S16384x1024 .f32 :=
  Host.dotGeneral Cert.ReferenceIdeal.dot_S16384x1024_S1024x1024_S16384x1024_1_1_0_0_n_n none a0
    (extf .f32 a7 Cert.ReferenceIdeal.Gen.bitsLt_bf16_f32)

/-- The gradient of the attention branch. -/
def dbranchA (a0 : FVec Ideal Cert.ReferenceIdeal.S16384x1024 .f32) (a3 : FVec Ideal Cert.ReferenceIdeal.S16384x3072 .f32)
    (a7 : FVec Ideal Cert.ReferenceIdeal.S1024x1024 .bf16) : FVec Ideal Cert.ReferenceIdeal.S16384x1024 .f32 :=
  mulf (gateA a3) (dmerged a0 a7)

/-- The gradient of the convolution branch. -/
def dbranchC (a0 : FVec Ideal Cert.ReferenceIdeal.S16384x1024 .f32) (a3 : FVec Ideal Cert.ReferenceIdeal.S16384x3072 .f32)
    (a7 : FVec Ideal Cert.ReferenceIdeal.S1024x1024 .bf16) : FVec Ideal Cert.ReferenceIdeal.S16384x1024 .f32 :=
  mulf (gateC a3) (dmerged a0 a7)

/-- The gradient of the attention branch's gate, before the sigmoid. -/
def dgateA (a0 : FVec Ideal Cert.ReferenceIdeal.S16384x1024 .f32) (a1 : FVec Ideal Cert.ReferenceIdeal.S16384x512 .bf16)
    (a3 : FVec Ideal Cert.ReferenceIdeal.S16384x3072 .f32) (a4 : FVec Ideal Cert.ReferenceIdeal.S512x1024 .bf16)
    (a7 : FVec Ideal Cert.ReferenceIdeal.S1024x1024 .bf16) : FVec Ideal Cert.ReferenceIdeal.S16384x1024 .f32 :=
  mulf (mulf (dmerged a0 a7) (branchA a1 a4)) (mulf (gateA a3) (subf ones (gateA a3)))

/-- The gradient of the convolution branch's gate, before the sigmoid. -/
def dgateC (a0 : FVec Ideal Cert.ReferenceIdeal.S16384x1024 .f32) (a2 : FVec Ideal Cert.ReferenceIdeal.S16384x512 .bf16)
    (a3 : FVec Ideal Cert.ReferenceIdeal.S16384x3072 .f32) (a5 : FVec Ideal Cert.ReferenceIdeal.S512x1024 .bf16)
    (a6 : FVec Ideal Cert.ReferenceIdeal.S1x1024 .f32)
    (a7 : FVec Ideal Cert.ReferenceIdeal.S1024x1024 .bf16) : FVec Ideal Cert.ReferenceIdeal.S16384x1024 .f32 :=
  mulf (mulf (dmerged a0 a7) (branchC a2 a5 a6)) (mulf (gateC a3) (subf ones (gateC a3)))

/-- Both gates' gradients, side by side. -/
def dgates (a0 : FVec Ideal Cert.ReferenceIdeal.S16384x1024 .f32) (a1 a2 : FVec Ideal Cert.ReferenceIdeal.S16384x512 .bf16)
    (a3 : FVec Ideal Cert.ReferenceIdeal.S16384x3072 .f32) (a4 a5 : FVec Ideal Cert.ReferenceIdeal.S512x1024 .bf16)
    (a6 : FVec Ideal Cert.ReferenceIdeal.S1x1024 .f32)
    (a7 : FVec Ideal Cert.ReferenceIdeal.S1024x1024 .bf16) : FVec Ideal Cert.ReferenceIdeal.S16384x2048 .f32 :=
  concatenate Cert.ReferenceIdeal.S16384x2048 1 [⟨Cert.ReferenceIdeal.S16384x1024, dgateA a0 a1 a3 a4 a7⟩,
    ⟨Cert.ReferenceIdeal.S16384x1024, dgateC a0 a2 a3 a5 a6 a7⟩]
    Cert.ReferenceIdeal.Gen.concatenates_S16384x1024_S16384x1024_S16384x2048_d1

/-! ## The blocks -/

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 1]
    ∧ win0_4.index t = ![t.val, 2]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0] :=
  (by decide +kernel : ∀ t : Fin grid0.N, _)

theorem gateA_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay10 (F := Ideal) (iblk m c 3 t) i
      = gateA (m ((c : Thread nD τ).loc main_arg3)) j := by
  pointwise [k0_pay10, gateA, ones]
  rw [zero_sub]
  blk_point [iblk, V, idx_val t]

theorem gateC_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay11 (F := Ideal) (iblk m c 4 t) i
      = gateC (m ((c : Thread nD τ).loc main_arg3)) j := by
  pointwise [k0_pay11, gateC, ones]
  rw [zero_sub]
  blk_point [iblk, V, idx_val t]

theorem branchA_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay8 (F := Ideal) (iblk m c 1 t) (iblk m c 5 t) i
      = branchA (m ((c : Thread nD τ).loc main_arg1)) (m ((c : Thread nD τ).loc main_arg4)) j := by
  pointwise [k0_pay8, branchA]
  blk_point [iblk, V, idx_val t]

theorem branchC_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay9 (F := Ideal) (iblk m c 2 t) (iblk m c 6 t) (iblk m c 7 t) i
      = branchC (m ((c : Thread nD τ).loc main_arg2)) (m ((c : Thread nD τ).loc main_arg5)) (m ((c : Thread nD τ).loc main_arg6)) j := by
  pointwise [k0_pay9, branchC]
  blk_point [iblk, V, idx_val t]

theorem dmerged_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay13 (F := Ideal) (iblk m c 0 t) (iblk m c 8 t) i
      = dmerged (m ((c : Thread nD τ).loc main_arg0)) (m ((c : Thread nD τ).loc main_arg7)) j := by
  pointwise [k0_pay13, dmerged]
  blk_point [iblk, V, idx_val t]

theorem dbranchA_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay14 (k0_pay10 (F := Ideal) (iblk m c 3 t)) (iblk m c 0 t) (iblk m c 8 t) i
      = dbranchA (m ((c : Thread nD τ).loc main_arg0)) (m ((c : Thread nD τ).loc main_arg3)) (m ((c : Thread nD τ).loc main_arg7)) j := by
  pointwise [k0_pay14, dbranchA]
  rw [dmerged_at m c t i j h0 h1, gateA_at m c t i j h0 h1, mul_comm]

theorem dbranchC_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay15 (k0_pay11 (F := Ideal) (iblk m c 4 t)) (iblk m c 0 t) (iblk m c 8 t) i
      = dbranchC (m ((c : Thread nD τ).loc main_arg0)) (m ((c : Thread nD τ).loc main_arg3)) (m ((c : Thread nD τ).loc main_arg7)) j := by
  pointwise [k0_pay15, dbranchC]
  rw [dmerged_at m c t i j h0 h1, gateC_at m c t i j h0 h1, mul_comm]

theorem dgateA_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay16 (k0_pay8 (F := Ideal) (iblk m c 1 t) (iblk m c 5 t)) (k0_pay10 (F := Ideal) (iblk m c 3 t)) (iblk m c 0 t) (iblk m c 8 t) i
      = dgateA (m ((c : Thread nD τ).loc main_arg0)) (m ((c : Thread nD τ).loc main_arg1)) (m ((c : Thread nD τ).loc main_arg3)) (m ((c : Thread nD τ).loc main_arg4)) (m ((c : Thread nD τ).loc main_arg7)) j := by
  pointwise [k0_pay16, dgateA, ones]
  rw [dmerged_at m c t i j h0 h1, gateA_at m c t i j h0 h1, branchA_at m c t i j h0 h1, mul_assoc]

theorem dgateC_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay17 (k0_pay9 (F := Ideal) (iblk m c 2 t) (iblk m c 6 t) (iblk m c 7 t)) (k0_pay11 (F := Ideal) (iblk m c 4 t)) (iblk m c 0 t) (iblk m c 8 t) i
      = dgateC (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) j := by
  pointwise [k0_pay17, dgateC, ones]
  rw [dmerged_at m c t i j h0 h1, gateC_at m c t i j h0 h1, branchC_at m c t i j h0 h1, mul_assoc]

end Cert.Merge

end
-- ==== Proof.Merge.Final.lean ====
/- The gradient of the gated merge: every result array after the run is the reference's. -/
module

public import proofs.«01_k».proof.Proof.Merge.Point
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Merge

open Cert.KernelIdeal Cert.KernelIdeal.Gen

/-! ## The reference's results -/

/-- The merged rows. -/
def resMerged (a1 : FVec Ideal Cert.ReferenceIdeal.S16384x512 .bf16)
    (a2 : FVec Ideal Cert.ReferenceIdeal.S16384x512 .bf16)
    (a3 : FVec Ideal Cert.ReferenceIdeal.S16384x3072 .f32)
    (a4 : FVec Ideal Cert.ReferenceIdeal.S512x1024 .bf16)
    (a5 : FVec Ideal Cert.ReferenceIdeal.S512x1024 .bf16)
    (a6 : FVec Ideal Cert.ReferenceIdeal.S1x1024 .f32) :
    FVec Ideal Cert.ReferenceIdeal.S16384x1024 .bf16 :=
  truncf .bf16 (addf (mulf (gateA a3) (branchA a1 a4)) (mulf (gateC a3) (branchC a2 a5 a6))) Cert.ReferenceIdeal.Gen.bitsLt_bf16_f32

/-- The attention branch's gradient. -/
def resDbranchA (a0 : FVec Ideal Cert.ReferenceIdeal.S16384x1024 .f32)
    (a3 : FVec Ideal Cert.ReferenceIdeal.S16384x3072 .f32)
    (a7 : FVec Ideal Cert.ReferenceIdeal.S1024x1024 .bf16) :
    FVec Ideal Cert.ReferenceIdeal.S16384x1024 .bf16 :=
  truncf .bf16 (dbranchA a0 a3 a7) Cert.ReferenceIdeal.Gen.bitsLt_bf16_f32

/-- The convolution branch's gradient. -/
def resDbranchC (a0 : FVec Ideal Cert.ReferenceIdeal.S16384x1024 .f32)
    (a3 : FVec Ideal Cert.ReferenceIdeal.S16384x3072 .f32)
    (a7 : FVec Ideal Cert.ReferenceIdeal.S1024x1024 .bf16) :
    FVec Ideal Cert.ReferenceIdeal.S16384x1024 .bf16 :=
  truncf .bf16 (dbranchC a0 a3 a7) Cert.ReferenceIdeal.Gen.bitsLt_bf16_f32

/-- The gradient of the attention's output. -/
def resDattn (a0 : FVec Ideal Cert.ReferenceIdeal.S16384x1024 .f32)
    (a3 : FVec Ideal Cert.ReferenceIdeal.S16384x3072 .f32)
    (a4 : FVec Ideal Cert.ReferenceIdeal.S512x1024 .bf16)
    (a7 : FVec Ideal Cert.ReferenceIdeal.S1024x1024 .bf16) :
    FVec Ideal Cert.ReferenceIdeal.S16384x512 .bf16 :=
  truncf .bf16 (Host.dotGeneral Cert.ReferenceIdeal.dot_S16384x1024_S512x1024_S16384x512_1_1_0_0_n_n none (dbranchA a0 a3 a7) (extf .f32 a4 Cert.ReferenceIdeal.Gen.bitsLt_bf16_f32)) Cert.ReferenceIdeal.Gen.bitsLt_bf16_f32

/-- The gradient of the convolution's output. -/
def resDu (a0 : FVec Ideal Cert.ReferenceIdeal.S16384x1024 .f32)
    (a3 : FVec Ideal Cert.ReferenceIdeal.S16384x3072 .f32)
    (a5 : FVec Ideal Cert.ReferenceIdeal.S512x1024 .bf16)
    (a7 : FVec Ideal Cert.ReferenceIdeal.S1024x1024 .bf16) :
    FVec Ideal Cert.ReferenceIdeal.S16384x512 .f32 :=
  Host.dotGeneral Cert.ReferenceIdeal.dot_S16384x1024_S512x1024_S16384x512_1_1_0_0_n_n none (dbranchC a0 a3 a7) (extf .f32 a5 Cert.ReferenceIdeal.Gen.bitsLt_bf16_f32)

/-- Both gates' gradients. -/
def resDgates (a0 : FVec Ideal Cert.ReferenceIdeal.S16384x1024 .f32)
    (a1 : FVec Ideal Cert.ReferenceIdeal.S16384x512 .bf16)
    (a2 : FVec Ideal Cert.ReferenceIdeal.S16384x512 .bf16)
    (a3 : FVec Ideal Cert.ReferenceIdeal.S16384x3072 .f32)
    (a4 : FVec Ideal Cert.ReferenceIdeal.S512x1024 .bf16)
    (a5 : FVec Ideal Cert.ReferenceIdeal.S512x1024 .bf16)
    (a6 : FVec Ideal Cert.ReferenceIdeal.S1x1024 .f32)
    (a7 : FVec Ideal Cert.ReferenceIdeal.S1024x1024 .bf16) :
    FVec Ideal Cert.ReferenceIdeal.S16384x2048 .bf16 :=
  truncf .bf16 (dgates a0 a1 a2 a3 a4 a5 a6 a7) Cert.ReferenceIdeal.Gen.bitsLt_bf16_f32

/-- The gates' gradients, summed over the rows. -/
def resDgatesSum (a0 : FVec Ideal Cert.ReferenceIdeal.S16384x1024 .f32)
    (a1 : FVec Ideal Cert.ReferenceIdeal.S16384x512 .bf16)
    (a2 : FVec Ideal Cert.ReferenceIdeal.S16384x512 .bf16)
    (a3 : FVec Ideal Cert.ReferenceIdeal.S16384x3072 .f32)
    (a4 : FVec Ideal Cert.ReferenceIdeal.S512x1024 .bf16)
    (a5 : FVec Ideal Cert.ReferenceIdeal.S512x1024 .bf16)
    (a6 : FVec Ideal Cert.ReferenceIdeal.S1x1024 .f32)
    (a7 : FVec Ideal Cert.ReferenceIdeal.S1024x1024 .bf16) :
    FVec Ideal Cert.ReferenceIdeal.S1x2048 .f32 :=
  broadcastInDim Cert.ReferenceIdeal.S1x2048 ![1] Cert.ReferenceIdeal.Gen.bcast_S2048_S1x2048_1 (Host.reduceAdd (dgates a0 a1 a2 a3 a4 a5 a6 a7)
    (constant Cert.ReferenceIdeal.S_ .f32 0x00000000#32) Cert.ReferenceIdeal.Gen.reducesTo_S16384x2048_S2048_d0 Cert.ReferenceIdeal.Gen.h_S_)

/-- The gradient of the convolution branch's bias. -/
def resDbias (a0 : FVec Ideal Cert.ReferenceIdeal.S16384x1024 .f32)
    (a3 : FVec Ideal Cert.ReferenceIdeal.S16384x3072 .f32)
    (a7 : FVec Ideal Cert.ReferenceIdeal.S1024x1024 .bf16) :
    FVec Ideal Cert.ReferenceIdeal.S1x1024 .f32 :=
  shapeCast _ (Host.reduceAdd (dbranchC a0 a3 a7) (constant Cert.ReferenceIdeal.S_ .f32 0x00000000#32)
    Cert.ReferenceIdeal.Gen.reducesTo_S16384x1024_S1024_d0 Cert.ReferenceIdeal.Gen.h_S_) Cert.ReferenceIdeal.Gen.shapeCasts_S1024_S1x1024

/-! ## At an index -/

variable (m : (ℓ : Loc nD τ sig) → Buf (Elt Ideal) ℓ)

theorem merged_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay12 (F := Ideal) (iblk m c 1 t) (iblk m c 5 t) (iblk m c 2 t) (iblk m c 6 t) (iblk m c 7 t) (iblk m c 3 t) (iblk m c 4 t) i
      = resMerged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  pointwise [k0_pay12, resMerged]
  rw [gateA_at m c t i j h0 h1, gateC_at m c t i j h0 h1, branchA_at m c t i j h0 h1, branchC_at m c t i j h0 h1]

theorem resDbranchA_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay2 (k0_pay14 (k0_pay10 (F := Ideal) (iblk m c 3 t)) (iblk m c 0 t) (iblk m c 8 t)) i
      = resDbranchA (m ((c : Thread nD τ).loc main_arg0)) (m ((c : Thread nD τ).loc main_arg3)) (m ((c : Thread nD τ).loc main_arg7)) j := by
  pointwise [k0_pay2, resDbranchA]
  exact dbranchA_at m c t i j h0 h1

theorem resDbranchC_at (c : Dev nD) (t : Fin cfg0.N) (i : S512x1024.Idx) (j : Cert.ReferenceIdeal.S16384x1024.Idx)
    (h0 : (j 0 : ℕ) = t.val * 512 + i 0) (h1 : (j 1 : ℕ) = i 1) :
    k0_pay3 (k0_pay15 (k0_pay11 (F := Ideal) (iblk m c 4 t)) (iblk m c 0 t) (iblk m c 8 t)) i
      = resDbranchC (m ((c : Thread nD τ).loc main_arg0)) (m ((c : Thread nD τ).loc main_arg3)) (m ((c : Thread nD τ).loc main_arg7)) j := by
  pointwise [k0_pay3, resDbranchC]
  exact dbranchC_at m c t i j h0 h1

theorem resDattn_at (c : Dev nD) (t : Fin cfg0.N) (i : S512x512.Idx) (j : Cert.ReferenceIdeal.S16384x512.Idx)
    (h0 : (j 0 : ℕ) = t.val * 512 + i 0) (h1 : (j 1 : ℕ) = i 1) :
    k0_pay4 (k0_pay14 (k0_pay10 (F := Ideal) (iblk m c 3 t)) (iblk m c 0 t) (iblk m c 8 t)) (iblk m c 5 t) i
      = resDattn (m ((c : Thread nD τ).loc main_arg0)) (m ((c : Thread nD τ).loc main_arg3)) (m ((c : Thread nD τ).loc main_arg4)) (m ((c : Thread nD τ).loc main_arg7)) j := by
  pointwise [k0_pay4, k0_pay2, resDattn]
  refine Finset.sum_congr rfl fun k _ => ?_
  rw [dbranchA_at m c t (ix2 (i 0) k) (ix2 (j 0) k) h0 rfl]
  blk_point [iblk, V, idx_val t]

theorem resDu_at (c : Dev nD) (t : Fin cfg0.N) (i : S512x512.Idx) (j : Cert.ReferenceIdeal.S16384x512.Idx)
    (h0 : (j 0 : ℕ) = t.val * 512 + i 0) (h1 : (j 1 : ℕ) = i 1) :
    k0_pay5 (k0_pay15 (k0_pay11 (F := Ideal) (iblk m c 4 t)) (iblk m c 0 t) (iblk m c 8 t)) (iblk m c 6 t) i
      = resDu (m ((c : Thread nD τ).loc main_arg0)) (m ((c : Thread nD τ).loc main_arg3)) (m ((c : Thread nD τ).loc main_arg5)) (m ((c : Thread nD τ).loc main_arg7)) j := by
  pointwise [k0_pay5, k0_pay3, resDu]
  refine Finset.sum_congr rfl fun k _ => ?_
  rw [dbranchC_at m c t (ix2 (i 0) k) (ix2 (j 0) k) h0 rfl]
  blk_point [iblk, V, idx_val t]

theorem dgates_left (a0 : FVec Ideal Cert.ReferenceIdeal.S16384x1024 .f32) (a1 a2 : FVec Ideal Cert.ReferenceIdeal.S16384x512 .bf16)
    (a3 : FVec Ideal Cert.ReferenceIdeal.S16384x3072 .f32) (a4 a5 : FVec Ideal Cert.ReferenceIdeal.S512x1024 .bf16)
    (a6 : FVec Ideal Cert.ReferenceIdeal.S1x1024 .f32) (a7 : FVec Ideal Cert.ReferenceIdeal.S1024x1024 .bf16)
    (k : Cert.ReferenceIdeal.S16384x2048.Idx) (j : Cert.ReferenceIdeal.S16384x1024.Idx) (h0 : (k 0 : ℕ) = j 0) (h1 : (k 1 : ℕ) = j 1) :
    dgates a0 a1 a2 a3 a4 a5 a6 a7 k = dgateA a0 a1 a3 a4 a7 j := by
  have hj : (j 1 : ℕ) < 1024 := (j 1).isLt
  pointwise [dgates]
  split
  · rename_i h
    congr 1; funext a; fin_cases a <;> apply Fin.ext <;> simp_all
  · rename_i h
    exact absurd h (by omega)

theorem dgates_right (a0 : FVec Ideal Cert.ReferenceIdeal.S16384x1024 .f32) (a1 a2 : FVec Ideal Cert.ReferenceIdeal.S16384x512 .bf16)
    (a3 : FVec Ideal Cert.ReferenceIdeal.S16384x3072 .f32) (a4 a5 : FVec Ideal Cert.ReferenceIdeal.S512x1024 .bf16)
    (a6 : FVec Ideal Cert.ReferenceIdeal.S1x1024 .f32) (a7 : FVec Ideal Cert.ReferenceIdeal.S1024x1024 .bf16)
    (k : Cert.ReferenceIdeal.S16384x2048.Idx) (j : Cert.ReferenceIdeal.S16384x1024.Idx) (h0 : (k 0 : ℕ) = j 0) (h1 : (k 1 : ℕ) = 1024 + j 1) :
    dgates a0 a1 a2 a3 a4 a5 a6 a7 k = dgateC a0 a2 a3 a5 a6 a7 j := by
  have hj : (j 1 : ℕ) < 1024 := (j 1).isLt
  pointwise [dgates]
  split
  · rename_i h
    exact absurd h (by omega)
  · rename_i h
    congr 1; funext a; fin_cases a <;> apply Fin.ext <;> simp_all

theorem accC_at (c : Dev nD) (t : Fin cfg0.N) (acc : FVec Ideal S1x1024 .f32) (x : S1x1024.Idx) :
    k0_pay1 (k0_pay15 (k0_pay11 (F := Ideal) (iblk m c 4 t)) (iblk m c 0 t) (iblk m c 8 t)) acc x
      = acc x + ∑ r : Fin 512, dbranchC (m ((c : Thread nD τ).loc main_arg0)) (m ((c : Thread nD τ).loc main_arg3)) (m ((c : Thread nD τ).loc main_arg7))
          (ix2 ⟨t.val * 512 + r.val, by have := lt_of_lt_of_eq t.isLt N_0; omega⟩ (x 1)) := by
  pointwise [k0_pay1]
  congr 1
  refine Finset.sum_congr rfl fun r _ => ?_
  exact dbranchC_at m c t _ _ rfl rfl

theorem accGA_at (c : Dev nD) (t : Fin cfg0.N) (acc : FVec Ideal S1x1024 .f32) (x : S1x1024.Idx) :
    k0_pay20 (k0_pay8 (F := Ideal) (iblk m c 1 t) (iblk m c 5 t)) (k0_pay10 (F := Ideal) (iblk m c 3 t)) (iblk m c 0 t) (iblk m c 8 t) acc x
      = acc x + ∑ r : Fin 512, dgateA (m ((c : Thread nD τ).loc main_arg0)) (m ((c : Thread nD τ).loc main_arg1)) (m ((c : Thread nD τ).loc main_arg3)) (m ((c : Thread nD τ).loc main_arg4)) (m ((c : Thread nD τ).loc main_arg7))
          (ix2 ⟨t.val * 512 + r.val, by have := lt_of_lt_of_eq t.isLt N_0; omega⟩ (x 1)) := by
  pointwise [k0_pay20]
  congr 1
  refine Finset.sum_congr rfl fun r _ => ?_
  exact dgateA_at m c t _ _ rfl rfl

theorem accGC_at (c : Dev nD) (t : Fin cfg0.N) (acc : FVec Ideal S1x1024 .f32) (x : S1x1024.Idx) :
    k0_pay21 (k0_pay9 (F := Ideal) (iblk m c 2 t) (iblk m c 6 t) (iblk m c 7 t)) (k0_pay11 (F := Ideal) (iblk m c 4 t)) (iblk m c 0 t) (iblk m c 8 t) acc x
      = acc x + ∑ r : Fin 512, dgateC (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7))
          (ix2 ⟨t.val * 512 + r.val, by have := lt_of_lt_of_eq t.isLt N_0; omega⟩ (x 1)) := by
  pointwise [k0_pay21]
  congr 1
  refine Finset.sum_congr rfl fun r _ => ?_
  exact dgateC_at m c t _ _ rfl rfl

theorem zeroC_at (x) : k0_pay6 (F := Ideal) x = 0 := by pointwise [k0_pay6]

theorem zeroG_at (x) : k0_pay7 (F := Ideal) x = 0 := by pointwise [k0_pay7]

/-! ## After the run -/

theorem final9 (c : Dev nD) : (dats m 0 c).arrAt 9 (cfgs 0).N
    = resMerged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have e : (outsAt0 m c t.val t.isLt).1 = k0_pay12 (iblk m c 1 t) (iblk m c 5 t) (iblk m c 2 t) (iblk m c 6 t) (iblk m c 7 t) (iblk m c 3 t) (iblk m c 4 t) := by
    by_cases h : t.val % 32 = 0
    · rw [outsAt0_A m c t h]; dsimp only; frame_out
    · rw [outsAt0_B m c t h]; dsimp only; frame_out
  rw [e]
  exact merged_at m c t y _ (by blk_simp [idx_val t]) (by blk_simp [idx_val t])

theorem final10 (c : Dev nD) : (dats m 0 c).arrAt 10 (cfgs 0).N
    = resDbranchA (m ((c : Thread nD τ).loc main_arg0)) (m ((c : Thread nD τ).loc main_arg3)) (m ((c : Thread nD τ).loc main_arg7)) := by
  refine (dats m 0 c).arrAt_eq_of_covers 10 _ (by decide +kernel) fun t hf y => ?_
  blk_simp
  rw [after0_10]
  have e : (outsAt0 m c t.val t.isLt).2.1 = k0_pay2 (k0_pay14 (k0_pay10 (F := Ideal) (iblk m c 3 t)) (iblk m c 0 t) (iblk m c 8 t)) := by
    by_cases h : t.val % 32 = 0
    · rw [outsAt0_A m c t h]; dsimp only; frame_out
    · rw [outsAt0_B m c t h]; dsimp only; frame_out
  rw [e]
  exact resDbranchA_at m c t y _ (by blk_simp [idx_val t]) (by blk_simp [idx_val t])

theorem final11 (c : Dev nD) : (dats m 0 c).arrAt 11 (cfgs 0).N
    = resDbranchC (m ((c : Thread nD τ).loc main_arg0)) (m ((c : Thread nD τ).loc main_arg3)) (m ((c : Thread nD τ).loc main_arg7)) := by
  refine (dats m 0 c).arrAt_eq_of_covers 11 _ (by decide +kernel) fun t hf y => ?_
  blk_simp
  rw [after0_11]
  have e : (outsAt0 m c t.val t.isLt).2.2.1 = k0_pay3 (k0_pay15 (k0_pay11 (F := Ideal) (iblk m c 4 t)) (iblk m c 0 t) (iblk m c 8 t)) := by
    by_cases h : t.val % 32 = 0
    · rw [outsAt0_A m c t h]; dsimp only; frame_out
    · rw [outsAt0_B m c t h]; dsimp only; frame_out
  rw [e]
  exact resDbranchC_at m c t y _ (by blk_simp [idx_val t]) (by blk_simp [idx_val t])

theorem final12 (c : Dev nD) : (dats m 0 c).arrAt 12 (cfgs 0).N
    = resDattn (m ((c : Thread nD τ).loc main_arg0)) (m ((c : Thread nD τ).loc main_arg3)) (m ((c : Thread nD τ).loc main_arg4)) (m ((c : Thread nD τ).loc main_arg7)) := by
  refine (dats m 0 c).arrAt_eq_of_covers 12 _ (by decide +kernel) fun t hf y => ?_
  blk_simp
  rw [after0_12]
  have e : (outsAt0 m c t.val t.isLt).2.2.2.1 = k0_pay4 (k0_pay14 (k0_pay10 (F := Ideal) (iblk m c 3 t)) (iblk m c 0 t) (iblk m c 8 t)) (iblk m c 5 t) := by
    by_cases h : t.val % 32 = 0
    · rw [outsAt0_A m c t h]; dsimp only; frame_out
    · rw [outsAt0_B m c t h]; dsimp only; frame_out
  rw [e]
  exact resDattn_at m c t y _ (by blk_simp [idx_val t]) (by blk_simp [idx_val t])

theorem final13 (c : Dev nD) : (dats m 0 c).arrAt 13 (cfgs 0).N
    = resDu (m ((c : Thread nD τ).loc main_arg0)) (m ((c : Thread nD τ).loc main_arg3)) (m ((c : Thread nD τ).loc main_arg5)) (m ((c : Thread nD τ).loc main_arg7)) := by
  refine (dats m 0 c).arrAt_eq_of_covers 13 _ (by decide +kernel) fun t hf y => ?_
  blk_simp
  rw [after0_13]
  have e : (outsAt0 m c t.val t.isLt).2.2.2.2.1 = k0_pay5 (k0_pay15 (k0_pay11 (F := Ideal) (iblk m c 4 t)) (iblk m c 0 t) (iblk m c 8 t)) (iblk m c 6 t) := by
    by_cases h : t.val % 32 = 0
    · rw [outsAt0_A m c t h]; dsimp only; frame_out
    · rw [outsAt0_B m c t h]; dsimp only; frame_out
  rw [e]
  exact resDu_at m c t y _ (by blk_simp [idx_val t]) (by blk_simp [idx_val t])

theorem dgates_A (c : Dev nD) (t : Fin cfg0.N) (h : t.val % 32 = 0) (i : S512x2048.Idx) (j : Cert.ReferenceIdeal.S16384x2048.Idx)
    (h0 : (j 0 : ℕ) = t.val * 512 + i 0) (h1 : (j 1 : ℕ) = i 1) :
    (outsAt0 m c t.val t.isLt).2.2.2.2.2.1 i = resDgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  rw [outsAt0_A m c t h]; dsimp only; frame_out
  canon_tiles x hx
  case piece0 =>
    pointwise [k0_pay19, resDgates]
    rw [dgateC_at m c t x (ix2 (j 0) ⟨x 1, x1_lt⟩) (by show (j 0 : ℕ) = _; omega) rfl]
    exact (dgates_right _ _ _ _ _ _ _ _ _ _ rfl (by show (j 1 : ℕ) = 1024 + (x 1 : ℕ); omega)).symm
  case piece1 =>
    pointwise [k0_pay18, resDgates]
    rw [dgateA_at m c t x (ix2 (j 0) ⟨x 1, x1_lt⟩) (by show (j 0 : ℕ) = _; omega) rfl]
    exact (dgates_left _ _ _ _ _ _ _ _ _ _ rfl (by show (j 1 : ℕ) = (x 1 : ℕ); omega)).symm

theorem dgates_B (c : Dev nD) (t : Fin cfg0.N) (h : ¬ t.val % 32 = 0) (i : S512x2048.Idx) (j : Cert.ReferenceIdeal.S16384x2048.Idx)
    (h0 : (j 0 : ℕ) = t.val * 512 + i 0) (h1 : (j 1 : ℕ) = i 1) :
    (outsAt0 m c t.val t.isLt).2.2.2.2.2.1 i = resDgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  rw [outsAt0_B m c t h]; dsimp only; frame_out
  canon_tiles x hx
  case piece0 =>
    pointwise [k0_pay19, resDgates]
    rw [dgateC_at m c t x (ix2 (j 0) ⟨x 1, x1_lt⟩) (by show (j 0 : ℕ) = _; omega) rfl]
    exact (dgates_right _ _ _ _ _ _ _ _ _ _ rfl (by show (j 1 : ℕ) = 1024 + (x 1 : ℕ); omega)).symm
  case piece1 =>
    pointwise [k0_pay18, resDgates]
    rw [dgateA_at m c t x (ix2 (j 0) ⟨x 1, x1_lt⟩) (by show (j 0 : ℕ) = _; omega) rfl]
    exact (dgates_left _ _ _ _ _ _ _ _ _ _ rfl (by show (j 1 : ℕ) = (x 1 : ℕ); omega)).symm

theorem final14 (c : Dev nD) : (dats m 0 c).arrAt 14 (cfgs 0).N
    = resDgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 14 _ (by decide +kernel) fun t hf y => ?_
  blk_simp
  rw [after0_14]
  by_cases h : t.val % 32 = 0
  · exact dgates_A m c t h y _ (by blk_simp [idx_val t]) (by blk_simp [idx_val t])
  · exact dgates_B m c t h y _ (by blk_simp [idx_val t]) (by blk_simp [idx_val t])

/-- What one grid point adds to the row sums of the gates' gradients. -/
def sumG (c : Dev nD) (t : Fin cfg0.N) : FVec Ideal S1x2048 .f32 := fun j =>
  ∑ r : Fin 512, dgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      (ix2 ⟨t.val * 512 + r.val, by have := lt_of_lt_of_eq t.isLt N_0; omega⟩ (j 1))

theorem sumG_B (c : Dev nD) (t : Fin cfg0.N) (h : ¬ t.val % 32 = 0) (j : S1x2048.Idx) :
    (outsAt0 m c t.val t.isLt).2.2.2.2.2.2.1 j
      = (outsAt0 m c (t.val - 1) (Nat.lt_of_le_of_lt (Nat.sub_le _ _) t.isLt)).2.2.2.2.2.2.1 j + sumG m c t j := by
  rw [outsAt0_B m c t h]; dsimp only; frame_out
  generalize (outsAt0 m c (t.val - 1) (Nat.lt_of_le_of_lt (Nat.sub_le _ _) t.isLt)).2.2.2.2.2.2.1 = prev
  unfold sumG
  canon_tiles x hx
  case piece0 =>
    rw [accGC_at]
    refine congrArg₂ (· + ·) ?_ (Finset.sum_congr rfl fun r _ => (dgates_right _ _ _ _ _ _ _ _ _ _ rfl hx1).symm)
    exact View.ld_unit_apply_of _ _ _ _ _ j (fun a => by fin_cases a; exacts [hx0.trans (Nat.zero_add _).symm, hx1])
  case piece1 =>
    rw [accGA_at]
    refine congrArg₂ (· + ·) ?_ (Finset.sum_congr rfl fun r _ => (dgates_left _ _ _ _ _ _ _ _ _ _ rfl hx1).symm)
    exact View.ld_unit_apply_of _ _ _ _ _ j (fun a => by fin_cases a; exacts [hx0.trans (Nat.zero_add _).symm, hx1.trans (Nat.zero_add _).symm])

theorem emb_right (x : (Rect.unit (s := S1x2048) ![0, 1024] ![1, 1024] inb_S1x2048_S1x1024_0_1024).shape.Idx) :
    (((Rect.unit (s := S1x2048) ![0, 1024] ![1, 1024] inb_S1x2048_S1x1024_0_1024).emb x) 1 : ℕ) = 1024 + x 1 :=
  Rect.idx_unit_val (s := S1x2048) ![0, 1024] ![1, 1024] inb_S1x2048_S1x1024_0_1024 x 1

theorem emb_left (x : (Rect.unit (s := S1x2048) ![0, 0] ![1, 1024] inb_S1x2048_S1x1024_0_0).shape.Idx) :
    (((Rect.unit (s := S1x2048) ![0, 0] ![1, 1024] inb_S1x2048_S1x1024_0_0).emb x) 1 : ℕ) = x 1 :=
  (Rect.idx_unit_val (s := S1x2048) ![0, 0] ![1, 1024] inb_S1x2048_S1x1024_0_0 x 1).trans (Nat.zero_add _)

theorem sumG_A (c : Dev nD) (t : Fin cfg0.N) (h : t.val % 32 = 0) (j : S1x2048.Idx) :
    (outsAt0 m c t.val t.isLt).2.2.2.2.2.2.1 j = 0 + sumG m c t j := by
  rw [outsAt0_A m c t h]; dsimp only; frame_out
  simp (disch := decide) only [↓ View.readCov_skip, ↓ View.readCov_fill]
  refine View.canon_append_of_piecesOf (Val := Elt Ideal) (e := .f32) (fun j : S1x2048.Idx => (0 + sumG m c t j : EReal)) [_] [_, _]
    ⟨fun x => ?_, fun x => ?_, trivial⟩ j ?_
  · refine (accGC_at m c t _ x).trans ?_
    refine congrArg₂ (· + ·) (zeroG_at _) (Finset.sum_congr rfl fun r _ => (dgates_right _ _ _ _ _ _ _ _ _ _ rfl ?_).symm)
    exact emb_right x
  · refine (accGA_at m c t _ x).trans ?_
    refine congrArg₂ (· + ·) (zeroG_at _) (Finset.sum_congr rfl fun r _ => (dgates_left _ _ _ _ _ _ _ _ _ _ rfl ?_).symm)
    exact emb_left x
  · have hj0 : (j 0 : ℕ) < 1 := (j 0).isLt
    have hj1 : (j 1 : ℕ) < 2048 := (j 1).isLt
    by_cases hj : (j 1 : ℕ) < 1024
    · refine ⟨_, List.mem_cons_of_mem _ List.mem_cons_self, (Rect.mem_set_unit (inb := inb_S1x2048_S1x1024_0_0)).mpr fun a => ?_⟩
      match a with
      | 0 => exact ⟨Nat.zero_le _, by show (j 0 : ℕ) < 0 + 1; omega⟩
      | 1 => exact ⟨Nat.zero_le _, by show (j 1 : ℕ) < 0 + 1024; omega⟩
    · refine ⟨_, List.mem_cons_self, (Rect.mem_set_unit (inb := inb_S1x2048_S1x1024_0_1024)).mpr fun a => ?_⟩
      match a with
      | 0 => exact ⟨Nat.zero_le _, by show (j 0 : ℕ) < 0 + 1; omega⟩
      | 1 => exact ⟨by show 1024 ≤ (j 1 : ℕ); omega, by show (j 1 : ℕ) < 1024 + 1024; omega⟩

theorem final16 (c : Dev nD) : (dats m 0 c).arrAt 16 (cfgs 0).N
    = resDbias (m ((c : Thread nD τ).loc main_arg0)) (m ((c : Thread nD τ).loc main_arg3)) (m ((c : Thread nD τ).loc main_arg7)) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.2) 32 (fun _ => 0)
    (fun p j => ∑ r : Fin 512, dbranchC (m ((c : Thread nD τ).loc main_arg0)) (m ((c : Thread nD τ).loc main_arg3)) (m ((c : Thread nD τ).loc main_arg7)) (ix2 ⟨p.val * 512 + r.val, by have := lt_of_lt_of_eq p.isLt N_0; omega⟩ (j 1)))
    (fun t h j => by rw [outsAt0_A m c t h]; dsimp only; frame_out; rw [accC_at, zeroC_at])
    (fun t h j => by rw [outsAt0_B m c t h]; dsimp only; frame_out; rw [accC_at])
    t ((flush0_16 t).mp hf) _, zero_add]
  pointwise [resDbias]
  refine Fin.sum_mul_add_congr fun s k hl => ?_
  blk_ext [idx_val t]

theorem final15 (c : Dev nD) : (dats m 0 c).arrAt 15 (cfgs 0).N
    = resDgatesSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.1) 32 (fun _ => 0)
    (fun p j => sumG m c p j)
    (fun t h j => sumG_A m c t h j)
    (fun t h j => sumG_B m c t h j)
    t ((flush0_15 t).mp hf) _, zero_add]
  unfold sumG
  pointwise [resDgatesSum]
  refine Fin.sum_mul_add_congr fun s k hl => ?_
  blk_ext [idx_val t]

end Cert.Merge

end
-- ==== Proof.Merge.Claim.lean ====
/- The gradient of the gated merge: the claims about its programs. -/
module

public import proofs.«01_k».proof.Defs
public import proofs.«01_k».proof.Proof.Merge.Final
public import proofs.«01_k».proof.Proof.Gen.Kernel.Frame
public import proofs.«01_k».proof.Proof.Gen.ReferenceIdeal.Run

@[expose] public section

set_option maxRecDepth 16384

noncomputable section

open Idealize.ShloMosaic Idealize.ShloMosaic.TcCoe Idealize.SL.Sem

namespace Cert.Merge

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => resMerged (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => resDbranchA (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)),
    fun c => resDbranchC (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)),
    fun c => resDattn (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    fun c => resDu (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)),
    fun c => resDgates (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => resDgatesSum (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => resDbias (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Value.run_blocks (F := Ideal) m ρ)
    obtain ⟨h0, h1, h2, h3, h4, h5, h6, h7, ha⟩ := h c
    exact ⟨h0.trans (final9 m c), h1.trans (final10 m c), h2.trans (final11 m c), h3.trans (final12 m c),
      h4.trans (final13 m c), h5.trans (final14 m c), h6.trans (final15 m c), h7.trans (final16 m c), ha⟩
  · refine (θ_run Cert.ReferenceIdeal.defs _ _).mono (fun r h c => ?_) (Cert.ReferenceIdeal.Value.run (F := Ideal) m' ρ')
    obtain ⟨h0, h1, h2, h3, h4, h5, h6, h7, ha⟩ := h c
    obtain ⟨e0, e1, e2, e3, e4, e5, e6, e7⟩ := hagree c
    rw [e0, e3, e7] at h1 h2
    rw [e1, e2, e3, e4, e5, e6] at h0
    rw [e0, e3, e4, e7] at h3
    rw [e0, e3, e5, e7] at h4
    rw [e0, e1, e2, e3, e4, e5, e6, e7] at h5 h6
    rw [e0, e3, e7] at h7
    exact ⟨h0, h1, h2, h3, h4, h5, h6, h7, ha⟩

end Cert.Merge

end
-- ==== Proof.Norm.lean ====
/- The gradient of a root-mean-square norm over the extended reals: the factored form that a kernel computes is the
   sum that differentiating the norm writes, for every row, infinite ones too. -/
module

public import Idealize.ShloMosaic.PureOps.Ideal.Laws
public import Idealize.ShloMosaic.Lib.IdealHost

@[expose] public section

noncomputable section

open Idealize.ShloMosaic

namespace Cert.Norm

/-! ## The constants -/

/-- The row length. -/
theorem len_val : Ideal.ofBits .f32 0x44800000#32 = ((1024 : ℝ) : EReal) := by
  simp [Ideal.ofBits, Ideal.ieee, -EReal.coe_mul]; norm_num

/-- Minus one half. -/
theorem mhalf_val : Ideal.ofBits .f32 0xBF000000#32 = ((-(1 / 2) : ℝ) : EReal) := by
  simp [Ideal.ofBits, Ideal.ieee, -EReal.coe_mul, -EReal.coe_neg]; norm_num

/-- Two. -/
theorem two_val : Ideal.ofBits .f32 0x40000000#32 = ((2 : ℝ) : EReal) := by
  simp [Ideal.ofBits, Ideal.ieee, -EReal.coe_mul]; norm_num

/-- The norm's epsilon is a positive real. -/
theorem eps_val : ∃ e : ℝ, 0 < e ∧ Ideal.ofBits .f32 0x358637BD#32 = (e : EReal) := by
  refine ⟨(2 ^ 23 + 407485 : ℕ) * (2 : ℝ) ^ (107 - 127 - 23 : ℤ), by positivity, ?_⟩
  simp [Ideal.ofBits, Ideal.ieee, -EReal.coe_mul]

/-! ## Sums and products -/

/-- A product with a real that is not negative goes into a sum. -/
theorem sum_mul_real {ι : Type*} (s : Finset ι) (f : ι → EReal) {ρ : ℝ} (h : 0 ≤ ρ) :
    (∑ k ∈ s, f k) * (ρ : EReal) = ∑ k ∈ s, f k * (ρ : EReal) := by
  classical
  induction s using Finset.induction_on with
  | empty => simp
  | insert a s ha ih =>
    rw [Finset.sum_insert ha, Finset.sum_insert ha,
      EReal.right_distrib_of_nonneg_of_ne_top (by exact_mod_cast h) (EReal.coe_ne_top ρ), ih]

theorem mul_add_real (a b : EReal) {ρ : ℝ} (h : 0 ≤ ρ) : (ρ : EReal) * (a + b) = ρ * a + ρ * b :=
  EReal.left_distrib_of_nonneg_of_ne_top (by exact_mod_cast h) (EReal.coe_ne_top ρ) a b

theorem mul_sub_real (a b : EReal) {ρ : ℝ} (h : 0 ≤ ρ) : (ρ : EReal) * (a - b) = ρ * a - ρ * b := by
  rw [sub_eq_add_neg, mul_add_real a (-b) h, sub_eq_add_neg, mul_neg]

/-- Two halves. -/
theorem half_add_half (y : EReal) : ((-(1 / 2) : ℝ) : EReal) * y + ((-(1 / 2) : ℝ) : EReal) * y = -y := by
  induction y with
  | bot => rw [EReal.coe_mul_bot_of_neg (by norm_num)]; simp
  | top => rw [EReal.coe_mul_top_of_neg (by norm_num)]; simp
  | coe y => rw [← EReal.coe_mul, ← EReal.coe_add, ← EReal.coe_neg]; congr 1; ring

/-- A square is not negative. -/
theorem mul_self_nonneg (x : EReal) : 0 ≤ x * x := by
  induction x with
  | bot => simp
  | top => simp
  | coe x => rw [← EReal.coe_mul]; exact_mod_cast _root_.mul_self_nonneg x

/-! ## The root -/

/-- The reciprocal root of a positive number is a real that is not negative, and its quotient by the number is its cube. -/
theorem rsqrt_real {s : EReal} (h : 0 < s) :
    ∃ ρ : ℝ, 0 ≤ ρ ∧ Ideal.rsqrt s = (ρ : EReal) ∧ Ideal.div (ρ : EReal) s = (ρ : EReal) * (ρ * ρ) := by
  induction s with
  | bot => exact absurd h (by simp)
  | top => exact ⟨0, le_refl _, by simp, by simp [Ideal.div]⟩
  | coe s =>
    have hs : 0 < s := by exact_mod_cast h
    refine ⟨(Real.sqrt s)⁻¹, by positivity, ?_, ?_⟩
    · rw [Ideal.rsqrt_coe, if_neg (by linarith), if_neg (by linarith)]
    · rw [Ideal.div_coe (by linarith), ← EReal.coe_mul, ← EReal.coe_mul, ← EReal.coe_mul]
      congr 2
      rw [← mul_inv, Real.mul_self_sqrt hs.le, one_div]

/-- A row's mean square plus epsilon is positive. -/
theorem meansq_pos {ι : Type*} (s : Finset ι) (x : ι → EReal) :
    0 < Ideal.div (∑ k ∈ s, x k * x k) (Ideal.ofBits .f32 0x44800000#32) + Ideal.ofBits .f32 0x358637BD#32 := by
  obtain ⟨e, he, hv⟩ := eps_val
  rw [hv, len_val, Ideal.div_coe (by norm_num)]
  have h0 : (0 : EReal) ≤ ∑ k ∈ s, x k * x k := Finset.sum_nonneg fun k _ => mul_self_nonneg (x k)
  have h1 : (0 : EReal) ≤ (∑ k ∈ s, x k * x k) * ((1 / 1024 : ℝ) : EReal) :=
    mul_nonneg h0 (by exact_mod_cast (by norm_num : (0 : ℝ) ≤ 1 / 1024))
  exact lt_of_lt_of_le (by exact_mod_cast he : (0 : EReal) < (e : EReal)) (le_add_of_nonneg_left h1)

/-! ## The gradient -/

/-- The gradient of a row of a root-mean-square norm: `s` is the row's mean square plus epsilon, `d` the gradient of the
    normalised row, `y` and `a` the row's element and its gradient. -/
theorem grad {ι : Type*} (q : Finset ι) (x d : ι → EReal) (y a s : EReal) (hs : 0 < s) :
    Ideal.rsqrt s * (a - y * Ideal.rsqrt s * Ideal.div (∑ k ∈ q, d k * (x k * Ideal.rsqrt s)) (Ideal.ofBits .f32 0x44800000#32))
      = a * Ideal.rsqrt s
        + y * Ideal.div ((∑ k ∈ q, x k * d k) * (Ideal.ofBits .f32 0xBF000000#32 * Ideal.div (Ideal.rsqrt s) s)) (Ideal.ofBits .f32 0x44800000#32)
        + Ideal.div ((∑ k ∈ q, x k * d k) * (Ideal.ofBits .f32 0xBF000000#32 * Ideal.div (Ideal.rsqrt s) s)) (Ideal.ofBits .f32 0x44800000#32) * y := by
  obtain ⟨ρ, h0, h1, h2⟩ := rsqrt_real hs
  rw [h1, h2, len_val, mhalf_val, Ideal.div_coe (by norm_num), Ideal.div_coe (by norm_num)]
  have e : ∑ k ∈ q, d k * (x k * (ρ : EReal)) = (∑ k ∈ q, x k * d k) * (ρ : EReal) := by
    rw [sum_mul_real q _ h0]
    exact Finset.sum_congr rfl fun k _ => by rw [← mul_assoc, mul_comm (d k)]
  rw [e, mul_sub_real _ _ h0, sub_eq_add_neg, mul_comm (ρ : EReal) a, add_assoc]
  congr 1
  rw [← half_add_half]
  congr 1 <;> ac_rfl

end Cert.Norm

end
-- ==== Proof.Mlp.Point.lean ====
/- The gradient of the MLP, element by element: every array the reference names, as a function of the arguments, and
   the kernel's intermediate block at a grid point as a block of rows of that array. -/
module

public import proofs.«01_k».proof.Proof.Gen.KernelMlpIdeal.Value
public import proofs.«01_k».proof.Proof.Gen.ReferenceMlpIdeal
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mlp

open Cert.KernelMlpIdeal Cert.KernelMlpIdeal.Gen

/-! ## The reference's arrays -/

/-- The rows' mean squares plus epsilon. -/
def meansq (a1 : FVec Ideal Cert.ReferenceMlpIdeal.S16384x1024 .f32) : FVec Ideal Cert.ReferenceMlpIdeal.S16384x1 .f32 :=
  addf (Host.divf (broadcastInDim Cert.ReferenceMlpIdeal.S16384x1 ![0] Cert.ReferenceMlpIdeal.Gen.bcast_S16384_S16384x1_0 (Host.reduceAdd (mulf a1 a1)
      (constant Cert.ReferenceMlpIdeal.S_ .f32 0x00000000#32) Cert.ReferenceMlpIdeal.Gen.reducesTo_S16384x1024_S16384_d1 Cert.ReferenceMlpIdeal.Gen.h_S_))
    (broadcastInDim Cert.ReferenceMlpIdeal.S16384x1 ![] Cert.ReferenceMlpIdeal.Gen.bcast_S_S16384x1 (constant Cert.ReferenceMlpIdeal.S_ .f32 0x44800000#32)))
    (broadcastInDim Cert.ReferenceMlpIdeal.S16384x1 ![] Cert.ReferenceMlpIdeal.Gen.bcast_S_S16384x1 (constant Cert.ReferenceMlpIdeal.S_ .f32 0x358637BD#32))

/-- The normalised rows, before the norm's scale. -/
def xhat (a1 : FVec Ideal Cert.ReferenceMlpIdeal.S16384x1024 .f32) : FVec Ideal Cert.ReferenceMlpIdeal.S16384x1024 .f32 :=
  mulf a1 (broadcastInDim Cert.ReferenceMlpIdeal.S16384x1024 ![0, 1] Cert.ReferenceMlpIdeal.Gen.bcast_S16384x1_S16384x1024_0_1 (Host.rsqrt (meansq a1)))

/-- The normalised rows. -/
def hidden (a1 : FVec Ideal Cert.ReferenceMlpIdeal.S16384x1024 .f32) (a2 : FVec Ideal Cert.ReferenceMlpIdeal.S1x1024 .f32) :
    FVec Ideal Cert.ReferenceMlpIdeal.S16384x1024 .f32 :=
  mulf (xhat a1) (broadcastInDim Cert.ReferenceMlpIdeal.S16384x1024 ![0, 1] Cert.ReferenceMlpIdeal.Gen.bcast_S1x1024_S16384x1024_0_1 a2)

/-- The first product, before the squared ReLU. -/
def pre (a1 : FVec Ideal Cert.ReferenceMlpIdeal.S16384x1024 .f32) (a2 : FVec Ideal Cert.ReferenceMlpIdeal.S1x1024 .f32)
    (a3 : FVec Ideal Cert.ReferenceMlpIdeal.S1024x4096 .bf16) : FVec Ideal Cert.ReferenceMlpIdeal.S16384x4096 .f32 :=
  Host.dotGeneral Cert.ReferenceMlpIdeal.dot_S16384x1024_S1024x4096_S16384x4096_1_0_0_1_n_n none (hidden a1 a2)
    (extf .f32 a3 Cert.ReferenceMlpIdeal.Gen.bitsLt_bf16_f32)

/-- An array of zeros. -/
def zeros : FVec Ideal Cert.ReferenceMlpIdeal.S16384x4096 .f32 :=
  broadcastInDim Cert.ReferenceMlpIdeal.S16384x4096 ![] Cert.ReferenceMlpIdeal.Gen.bcast_S_S16384x4096 (constant Cert.ReferenceMlpIdeal.S_ .f32 0x00000000#32)

/-- The ReLU. -/
def relu (a1 : FVec Ideal Cert.ReferenceMlpIdeal.S16384x1024 .f32) (a2 : FVec Ideal Cert.ReferenceMlpIdeal.S1x1024 .f32)
    (a3 : FVec Ideal Cert.ReferenceMlpIdeal.S1024x4096 .bf16) : FVec Ideal Cert.ReferenceMlpIdeal.S16384x4096 .f32 :=
  maximumf (pre a1 a2 a3) zeros

/-- The gradient of the first product. -/
def dpre (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x4096 .f32 :=
  select (cmpf .ogt (pre a1 a2 a3) zeros)
    (mulf (Host.dotGeneral Cert.ReferenceMlpIdeal.dot_S16384x1024_S4096x1024_S16384x4096_1_1_0_0_n_n none a0 (extf .f32 a4 Cert.ReferenceMlpIdeal.Gen.bitsLt_bf16_f32))
      (mulf (broadcastInDim Cert.ReferenceMlpIdeal.S16384x4096 ![] Cert.ReferenceMlpIdeal.Gen.bcast_S_S16384x4096 (constant Cert.ReferenceMlpIdeal.S_ .f32 0x40000000#32)) (relu a1 a2 a3)))
    zeros

/-- The gradient of the normalised rows. -/
def dhidden (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x1024 .f32 :=
  Host.dotGeneral Cert.ReferenceMlpIdeal.dot_S16384x4096_S1024x4096_S16384x1024_1_1_0_0_n_n none (dpre a0 a1 a2 a3 a4) (extf .f32 a3 Cert.ReferenceMlpIdeal.Gen.bitsLt_bf16_f32)

/-- … before the norm's scale. -/
def dxhat (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x1024 .f32 :=
  mulf (dhidden a0 a1 a2 a3 a4) (broadcastInDim Cert.ReferenceMlpIdeal.S16384x1024 ![0, 1] Cert.ReferenceMlpIdeal.Gen.bcast_S1x1024_S16384x1024_0_1 a2)

/-! ## The blocks -/

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0]
    ∧ win0_6.index t = ![t.val, 0]
    ∧ win0_7.index t = ![0, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

theorem meansq_at (c : Dev nD) (t : Fin cfg0.N) (i : S256x1.Idx) (j : Cert.ReferenceMlpIdeal.S16384x1.Idx)
    (h0 : (j 0 : ℕ) = t.val * 256 + i 0) :
    k0_pay3 (F := Ideal) (iblk m c 1 t) i
      = Ideal.rsqrt (meansq (m ((c : Thread nD τ).loc main_arg1)) j) := by
  pointwise [k0_pay3, meansq]
  blk_point [iblk, V, idx_val t]

theorem xhat_at (c : Dev nD) (t : Fin cfg0.N) (i : S256x1024.Idx) (j : Cert.ReferenceMlpIdeal.S16384x1024.Idx)
    (h0 : (j 0 : ℕ) = t.val * 256 + i 0) (h1 : (j 1 : ℕ) = i 1) :
    k0_pay4 (F := Ideal) (iblk m c 1 t) i = xhat (m ((c : Thread nD τ).loc main_arg1)) j := by
  pointwise [k0_pay4, xhat]
  rw [meansq_at m c t (ix2 (i 0) 0) (ix2 (j 0) 0) h0]
  blk_point [iblk, V, idx_val t]

theorem pre_at (c : Dev nD) (t : Fin cfg0.N) (i : S256x4096.Idx) (j : Cert.ReferenceMlpIdeal.S16384x4096.Idx)
    (h0 : (j 0 : ℕ) = t.val * 256 + i 0) (h1 : (j 1 : ℕ) = i 1) :
    iblk m c 3 t i = pre (m ((c : Thread nD τ).loc main_arg1)) (m ((c : Thread nD τ).loc main_arg2)) (m ((c : Thread nD τ).loc main_arg3)) j := by
  blk_simp [iblk, idx_val t]
  entry_read
  have e0 : (((View.whole main_v13).slice (win0_3.rect t)).emb i 0 : Fin _) = j 0 := Fin.ext (by blk_simp [idx_val t]; omega)
  have e1 : (((View.whole main_v13).slice (win0_3.rect t)).emb i 1 : Fin _) = j 1 := Fin.ext (by blk_simp [idx_val t]; omega)
  pointwise [pre, hidden, xhat, meansq]
  rw [e0, e1]

theorem relu_at (c : Dev nD) (t : Fin cfg0.N) (i : S256x4096.Idx) (j : Cert.ReferenceMlpIdeal.S16384x4096.Idx)
    (h0 : (j 0 : ℕ) = t.val * 256 + i 0) (h1 : (j 1 : ℕ) = i 1) :
    k0_pay11 (F := Ideal) (iblk m c 3 t) i = relu (m ((c : Thread nD τ).loc main_arg1)) (m ((c : Thread nD τ).loc main_arg2)) (m ((c : Thread nD τ).loc main_arg3)) j := by
  pointwise [k0_pay11, relu, zeros]
  rw [pre_at m c t _ j h0 h1]

theorem dpre_at (c : Dev nD) (t : Fin cfg0.N) (i : S256x4096.Idx) (j : Cert.ReferenceMlpIdeal.S16384x4096.Idx)
    (h0 : (j 0 : ℕ) = t.val * 256 + i 0) (h1 : (j 1 : ℕ) = i 1) :
    k0_pay13 (F := Ideal) (iblk m c 3 t) (k0_pay9 (iblk m c 0 t)) (iblk m c 5 t) i
      = dpre (m ((c : Thread nD τ).loc main_arg0)) (m ((c : Thread nD τ).loc main_arg1)) (m ((c : Thread nD τ).loc main_arg2)) (m ((c : Thread nD τ).loc main_arg3)) (m ((c : Thread nD τ).loc main_arg4)) j := by
  pointwise [k0_pay13, k0_pay9, dpre]
  rw [relu_at m c t i j h0 h1]
  have e0 : ∀ k : Fin 1024, iblk m c 0 t (ix2 (i 0) k) = m ((c : Thread nD τ).loc main_arg0) (ix2 (j 0) k) := fun k => by
    blk_point [iblk, V, idx_val t]
  have e5 : ∀ k : Fin 1024, iblk m c 5 t (ix2 (i 1) k) = m ((c : Thread nD τ).loc main_arg4) (ix2 (j 1) k) := fun k => by
    blk_point [iblk, V, idx_val t]
  simp only [e0, e5]
  pointwise [relu, zeros]
  split_ifs with h
  · rfl
  · rw [max_eq_right (not_lt.mp h), mul_zero, mul_zero]

theorem dhidden_at (c : Dev nD) (t : Fin cfg0.N) (i : S256x1024.Idx) (j : Cert.ReferenceMlpIdeal.S16384x1024.Idx)
    (h0 : (j 0 : ℕ) = t.val * 256 + i 0) (h1 : (j 1 : ℕ) = i 1) :
    k0_pay1 (k0_pay14 (F := Ideal) (iblk m c 3 t) (k0_pay9 (iblk m c 0 t)) (iblk m c 5 t) (k0_pay10 (F := Ideal)) (iblk m c 4 t)) i
      = dhidden (m ((c : Thread nD τ).loc main_arg0)) (m ((c : Thread nD τ).loc main_arg1)) (m ((c : Thread nD τ).loc main_arg2)) (m ((c : Thread nD τ).loc main_arg3)) (m ((c : Thread nD τ).loc main_arg4)) j := by
  pointwise [k0_pay1, k0_pay14, k0_pay10, dhidden]
  refine Finset.sum_congr rfl fun k _ => ?_
  rw [dpre_at m c t (ix2 (i 0) k) (ix2 (j 0) k) h0 rfl]
  blk_point [iblk, V, idx_val t]

/-- The gradient that reaches the rows through the mean square, as one factor per row. -/
def through (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x1024 .f32 :=
  broadcastInDim Cert.ReferenceMlpIdeal.S16384x1024 ![0] Cert.ReferenceMlpIdeal.Gen.bcast_S16384_S16384x1024_0 (Host.reduceAdd
    (Host.divf (mulf (shapeCast _ (Host.reduceAdd (mulf a1 (dxhat a0 a1 a2 a3 a4)) (constant Cert.ReferenceMlpIdeal.S_ .f32 0x00000000#32)
          Cert.ReferenceMlpIdeal.Gen.reducesTo_S16384x1024_S16384_d1 Cert.ReferenceMlpIdeal.Gen.h_S_) Cert.ReferenceMlpIdeal.Gen.shapeCasts_S16384_S16384x1)
        (mulf (broadcastInDim Cert.ReferenceMlpIdeal.S16384x1 ![] Cert.ReferenceMlpIdeal.Gen.bcast_S_S16384x1 (constant Cert.ReferenceMlpIdeal.S_ .f32 0xBF000000#32))
          (Host.divf (Host.rsqrt (meansq a1)) (meansq a1))))
      (broadcastInDim Cert.ReferenceMlpIdeal.S16384x1 ![] Cert.ReferenceMlpIdeal.Gen.bcast_S_S16384x1 (constant Cert.ReferenceMlpIdeal.S_ .f32 0x44800000#32)))
    (constant Cert.ReferenceMlpIdeal.S_ .f32 0x00000000#32) Cert.ReferenceMlpIdeal.Gen.reducesTo_S16384x1_S16384_d1 Cert.ReferenceMlpIdeal.Gen.h_S_)

/-- The gradient of the step's input rows. -/
def resDx (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x1024 .f32 :=
  addf a0 (addf (addf (mulf (dxhat a0 a1 a2 a3 a4) (broadcastInDim Cert.ReferenceMlpIdeal.S16384x1024 ![0, 1]
      Cert.ReferenceMlpIdeal.Gen.bcast_S16384x1_S16384x1024_0_1 (Host.rsqrt (meansq a1))))
    (mulf a1 (through a0 a1 a2 a3 a4))) (mulf (through a0 a1 a2 a3 a4) a1))

theorem dx_at (c : Dev nD) (t : Fin cfg0.N) (i : S256x1024.Idx) (j : Cert.ReferenceMlpIdeal.S16384x1024.Idx)
    (h0 : (j 0 : ℕ) = t.val * 256 + i 0) (h1 : (j 1 : ℕ) = i 1) :
    k0_pay5 (F := Ideal) (iblk m c 1 t) (iblk m c 2 t)
        (k0_pay1 (k0_pay14 (F := Ideal) (iblk m c 3 t) (k0_pay9 (iblk m c 0 t)) (iblk m c 5 t) (k0_pay10 (F := Ideal)) (iblk m c 4 t))) (iblk m c 0 t) i
      = resDx (m ((c : Thread nD τ).loc main_arg0)) (m ((c : Thread nD τ).loc main_arg1)) (m ((c : Thread nD τ).loc main_arg2)) (m ((c : Thread nD τ).loc main_arg3)) (m ((c : Thread nD τ).loc main_arg4)) j := by
  have ed : ∀ k : Fin 1024, k0_pay1 (k0_pay14 (F := Ideal) (iblk m c 3 t) (k0_pay9 (iblk m c 0 t)) (iblk m c 5 t) (k0_pay10 (F := Ideal)) (iblk m c 4 t)) (ix2 (i 0) k)
      = dhidden (m ((c : Thread nD τ).loc main_arg0)) (m ((c : Thread nD τ).loc main_arg1)) (m ((c : Thread nD τ).loc main_arg2)) (m ((c : Thread nD τ).loc main_arg3)) (m ((c : Thread nD τ).loc main_arg4)) (ix2 (j 0) k) :=
    fun k => dhidden_at m c t _ _ h0 rfl
  have ex : ∀ k : Fin 1024, iblk m c 1 t (ix2 (i 0) k) = m ((c : Thread nD τ).loc main_arg1) (ix2 (j 0) k) := fun k => by
    blk_point [iblk, V, idx_val t]
  have eg : ∀ k : Fin 1024, iblk m c 2 t (ix2 0 k) = m ((c : Thread nD τ).loc main_arg2) (ix2 0 k) := fun k => by
    blk_point [iblk, V, idx_val t]
  pointwise [k0_pay5, k0_pay4, resDx, through, dxhat]
  have e0 : iblk m c 0 t i = m ((c : Thread nD τ).loc main_arg0) j := by blk_point [iblk, V, idx_val t]
  have e1 : iblk m c 1 t i = m ((c : Thread nD τ).loc main_arg1) j := by blk_point [iblk, V, idx_val t]
  have e2 : iblk m c 2 t (ix2 0 (i 1)) = m ((c : Thread nD τ).loc main_arg2) (ix2 0 (j 1)) := by blk_point [iblk, V, idx_val t]
  simp only [ed, ex, eg, e0, e1, e2, dhidden_at m c t i j h0 h1, meansq_at m c t (ix2 (i 0) 0) (ix2 (j 0) 0) h0, Fin.sum_univ_one]
  congr 1
  exact Cert.Norm.grad Finset.univ _ (fun k => dhidden _ _ _ _ _ (ix2 (j 0) k) * m ((c : Thread nD τ).loc main_arg2) (ix2 0 k)) _ _ _ (by
    pointwise [meansq]
    exact Cert.Norm.meansq_pos _ _)

/-- One row's part of the gradient of the norm's scale. -/
def dgRow (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x1024 .f32 :=
  mulf (xhat a1) (dhidden a0 a1 a2 a3 a4)

/-- The gradient of the norm's scale. -/
def resDg (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S1x1024 .f32 :=
  shapeCast _ (Host.reduceAdd (dgRow a0 a1 a2 a3 a4) (constant Cert.ReferenceMlpIdeal.S_ .f32 0x00000000#32)
    Cert.ReferenceMlpIdeal.Gen.reducesTo_S16384x1024_S1024_d0 Cert.ReferenceMlpIdeal.Gen.h_S_) Cert.ReferenceMlpIdeal.Gen.shapeCasts_S1024_S1x1024

theorem dg_at (c : Dev nD) (t : Fin cfg0.N) (v : Vec Ideal S1x1024 .f32) (i : S1x1024.Idx) :
    k0_pay6 (F := Ideal) (iblk m c 1 t)
        (k0_pay1 (k0_pay14 (F := Ideal) (iblk m c 3 t) (k0_pay9 (iblk m c 0 t)) (iblk m c 5 t) (k0_pay10 (F := Ideal)) (iblk m c 4 t))) v i
      = v i + ∑ r : Fin 256, dgRow (m ((c : Thread nD τ).loc main_arg0)) (m ((c : Thread nD τ).loc main_arg1)) (m ((c : Thread nD τ).loc main_arg2)) (m ((c : Thread nD τ).loc main_arg3)) (m ((c : Thread nD τ).loc main_arg4))
          (ix2 ⟨t.val * 256 + r.val, by have := lt_of_lt_of_eq t.isLt N_0; omega⟩ (i 1)) := by
  pointwise [k0_pay6, dgRow]
  refine congrArg (v i + ·) (Finset.sum_congr rfl fun r _ => ?_)
  rw [xhat_at m c t (ix2 r (i 1)) (ix2 ⟨t.val * 256 + r.val, by have := lt_of_lt_of_eq t.isLt N_0; omega⟩ (i 1)) rfl rfl,
    dhidden_at m c t (ix2 r (i 1)) (ix2 ⟨t.val * 256 + r.val, by have := lt_of_lt_of_eq t.isLt N_0; omega⟩ (i 1)) rfl rfl]
  rw [mul_comm]

theorem zero_at (i : S1x1024.Idx) : k0_pay8 (F := Ideal) i = 0 := by pointwise [k0_pay8]

/-- The normalised rows, rounded. -/
def resHidden (a1 : FVec Ideal Cert.ReferenceMlpIdeal.S16384x1024 .f32) (a2 : FVec Ideal Cert.ReferenceMlpIdeal.S1x1024 .f32) :
    FVec Ideal Cert.ReferenceMlpIdeal.S16384x1024 .bf16 :=
  truncf .bf16 (hidden a1 a2) Cert.ReferenceMlpIdeal.Gen.bitsLt_bf16_f32

/-- The squared ReLU, rounded. -/
def resAct (a1 : FVec Ideal Cert.ReferenceMlpIdeal.S16384x1024 .f32) (a2 : FVec Ideal Cert.ReferenceMlpIdeal.S1x1024 .f32)
    (a3 : FVec Ideal Cert.ReferenceMlpIdeal.S1024x4096 .bf16) : FVec Ideal Cert.ReferenceMlpIdeal.S16384x4096 .bf16 :=
  truncf .bf16 (mulf (relu a1 a2 a3) (relu a1 a2 a3)) Cert.ReferenceMlpIdeal.Gen.bitsLt_bf16_f32

/-- The gradient of the first product, rounded. -/
def resDpre (a0 a1 : FVec Ideal Cert.ReferenceMlpIdeal.S16384x1024 .f32) (a2 : FVec Ideal Cert.ReferenceMlpIdeal.S1x1024 .f32)
    (a3 : FVec Ideal Cert.ReferenceMlpIdeal.S1024x4096 .bf16) (a4 : FVec Ideal Cert.ReferenceMlpIdeal.S4096x1024 .bf16) :
    FVec Ideal Cert.ReferenceMlpIdeal.S16384x4096 .bf16 :=
  truncf .bf16 (dpre a0 a1 a2 a3 a4) Cert.ReferenceMlpIdeal.Gen.bitsLt_bf16_f32

/-- The step's gradient, rounded. -/
def resDy (a0 : FVec Ideal Cert.ReferenceMlpIdeal.S16384x1024 .f32) : FVec Ideal Cert.ReferenceMlpIdeal.S16384x1024 .bf16 :=
  truncf .bf16 a0 Cert.ReferenceMlpIdeal.Gen.bitsLt_bf16_f32

theorem hidden_at (c : Dev nD) (t : Fin cfg0.N) (i : S256x1024.Idx) (j : Cert.ReferenceMlpIdeal.S16384x1024.Idx)
    (h0 : (j 0 : ℕ) = t.val * 256 + i 0) (h1 : (j 1 : ℕ) = i 1) :
    k0_pay2 (F := Ideal) (iblk m c 1 t) (iblk m c 2 t) (k0_pay7 (F := Ideal) (iblk m c 1 t)) i
      = resHidden (m ((c : Thread nD τ).loc main_arg1)) (m ((c : Thread nD τ).loc main_arg2)) j := by
  pointwise [k0_pay2, k0_pay7, resHidden, hidden, xhat, meansq]
  blk_point [iblk, V, idx_val t]

theorem act_at (c : Dev nD) (t : Fin cfg0.N) (i : S256x4096.Idx) (j : Cert.ReferenceMlpIdeal.S16384x4096.Idx)
    (h0 : (j 0 : ℕ) = t.val * 256 + i 0) (h1 : (j 1 : ℕ) = i 1) :
    k0_pay12 (F := Ideal) (iblk m c 3 t) i
      = resAct (m ((c : Thread nD τ).loc main_arg1)) (m ((c : Thread nD τ).loc main_arg2)) (m ((c : Thread nD τ).loc main_arg3)) j := by
  pointwise [k0_pay12, resAct]
  rw [relu_at m c t i j h0 h1]

theorem resDpre_at (c : Dev nD) (t : Fin cfg0.N) (i : S256x4096.Idx) (j : Cert.ReferenceMlpIdeal.S16384x4096.Idx)
    (h0 : (j 0 : ℕ) = t.val * 256 + i 0) (h1 : (j 1 : ℕ) = i 1) :
    k0_pay13 (F := Ideal) (iblk m c 3 t) (k0_pay9 (iblk m c 0 t)) (iblk m c 5 t) i
      = resDpre (m ((c : Thread nD τ).loc main_arg0)) (m ((c : Thread nD τ).loc main_arg1)) (m ((c : Thread nD τ).loc main_arg2)) (m ((c : Thread nD τ).loc main_arg3)) (m ((c : Thread nD τ).loc main_arg4)) j := by
  rw [dpre_at m c t i j h0 h1]
  pointwise [resDpre]

theorem dy_at (c : Dev nD) (t : Fin cfg0.N) (i : S256x1024.Idx) (j : Cert.ReferenceMlpIdeal.S16384x1024.Idx)
    (h0 : (j 0 : ℕ) = t.val * 256 + i 0) (h1 : (j 1 : ℕ) = i 1) :
    k0_pay9 (F := Ideal) (iblk m c 0 t) i = resDy (m ((c : Thread nD τ).loc main_arg0)) j := by
  pointwise [k0_pay9, resDy]
  blk_point [iblk, V, idx_val t]

end Cert.Mlp

end
-- ==== Proof.Mlp.Final.lean ====
/- The gradient of the MLP: every result array after the run is the reference's. -/
module

public import proofs.«01_k».proof.Proof.Mlp.Point
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mlp

open Cert.KernelMlpIdeal Cert.KernelMlpIdeal.Gen

variable (m : (ℓ : Loc nD τ sig) → Buf (Elt Ideal) ℓ)

theorem final6 (c : Dev nD) : (dats m 0 c).arrAt 6 (cfgs 0).N
    = resDx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have e : (outsAt0 m c t.val t.isLt).1 = k0_pay5 (F := Ideal) (iblk m c 1 t) (iblk m c 2 t) (k0_pay1 (k0_pay14 (F := Ideal) (iblk m c 3 t) (k0_pay9 (iblk m c 0 t)) (iblk m c 5 t) (k0_pay10 (F := Ideal)) (iblk m c 4 t))) (iblk m c 0 t) := by
    by_cases h : t.val % 64 = 0
    · rw [outsAt0_A m c t h]; dsimp only; frame_out
    · rw [outsAt0_B m c t h]; dsimp only; frame_out
  rw [e]
  exact dx_at m c t y _ (by blk_simp [idx_val t]) (by blk_simp [idx_val t])

theorem final8 (c : Dev nD) : (dats m 0 c).arrAt 8 (cfgs 0).N
    = resHidden (m ((c : Thread nD τ).loc main_arg1)) (m ((c : Thread nD τ).loc main_arg2)) := by
  refine (dats m 0 c).arrAt_eq_of_covers 8 _ (by decide +kernel) fun t hf y => ?_
  blk_simp
  rw [after0_8]
  have e : (outsAt0 m c t.val t.isLt).2.2.1 = k0_pay2 (F := Ideal) (iblk m c 1 t) (iblk m c 2 t) (k0_pay7 (F := Ideal) (iblk m c 1 t)) := by
    by_cases h : t.val % 64 = 0
    · rw [outsAt0_A m c t h]; dsimp only; frame_out
    · rw [outsAt0_B m c t h]; dsimp only; frame_out
  rw [e]
  exact hidden_at m c t y _ (by blk_simp [idx_val t]) (by blk_simp [idx_val t])

theorem final9 (c : Dev nD) : (dats m 0 c).arrAt 9 (cfgs 0).N
    = resAct (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  have e : (outsAt0 m c t.val t.isLt).2.2.2.1 = k0_pay12 (F := Ideal) (iblk m c 3 t) := by
    by_cases h : t.val % 64 = 0
    · rw [outsAt0_A m c t h]; dsimp only; frame_out
    · rw [outsAt0_B m c t h]; dsimp only; frame_out
  rw [e]
  exact act_at m c t y _ (by blk_simp [idx_val t]) (by blk_simp [idx_val t])

theorem final10 (c : Dev nD) : (dats m 0 c).arrAt 10 (cfgs 0).N
    = resDpre (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after0_10]
  have e : (outsAt0 m c t.val t.isLt).2.2.2.2.1 = k0_pay13 (F := Ideal) (iblk m c 3 t) (k0_pay9 (iblk m c 0 t)) (iblk m c 5 t) := by
    by_cases h : t.val % 64 = 0
    · rw [outsAt0_A m c t h]; dsimp only; frame_out
    · rw [outsAt0_B m c t h]; dsimp only; frame_out
  rw [e]
  exact resDpre_at m c t y _ (by blk_simp [idx_val t]) (by blk_simp [idx_val t])

theorem final11 (c : Dev nD) : (dats m 0 c).arrAt 11 (cfgs 0).N
    = resDy (m ((c : Thread nD τ).loc main_arg0)) := by
  refine (dats m 0 c).arrAt_eq_of_covers 11 _ (by decide +kernel) fun t hf y => ?_
  blk_simp
  rw [after0_11]
  have e : (outsAt0 m c t.val t.isLt).2.2.2.2.2 = k0_pay9 (F := Ideal) (iblk m c 0 t) := by
    by_cases h : t.val % 64 = 0
    · rw [outsAt0_A m c t h]; dsimp only; frame_out
    · rw [outsAt0_B m c t h]; dsimp only; frame_out
  rw [e]
  exact dy_at m c t y _ (by blk_simp [idx_val t]) (by blk_simp [idx_val t])

theorem final7 (c : Dev nD) : (dats m 0 c).arrAt 7 (cfgs 0).N
    = resDg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.1) 64 (fun _ => 0)
    (fun p j => ∑ r : Fin 256, dgRow (m ((c : Thread nD τ).loc main_arg0)) (m ((c : Thread nD τ).loc main_arg1)) (m ((c : Thread nD τ).loc main_arg2)) (m ((c : Thread nD τ).loc main_arg3)) (m ((c : Thread nD τ).loc main_arg4)) (ix2 ⟨p.val * 256 + r.val, by have := lt_of_lt_of_eq p.isLt N_0; omega⟩ (j 1)))
    (fun t h j => by rw [outsAt0_A m c t h]; dsimp only; frame_out; rw [dg_at, zero_at])
    (fun t h j => by rw [outsAt0_B m c t h]; dsimp only; frame_out; rw [dg_at])
    t ((flush0_7 t).mp hf) _, zero_add]
  pointwise [resDg]
  refine Fin.sum_mul_add_congr fun s k hl => ?_
  blk_ext [idx_val t]

end Cert.Mlp

end
-- ==== Proof.Mlp.Claim.lean ====
/- The gradient of the MLP: the claims about its programs. -/
module

public import proofs.«01_k».proof.Defs
public import proofs.«01_k».proof.Proof.Mlp.Final
public import proofs.«01_k».proof.Proof.Gen.KernelMlp.Frame
public import proofs.«01_k».proof.Proof.Gen.ReferenceMlpIdeal.Run

@[expose] public section

set_option maxRecDepth 16384

noncomputable section

open Idealize.ShloMosaic Idealize.ShloMosaic.TcCoe Idealize.SL.Sem

namespace Cert.Mlp

theorem frame_kernel : Cert.quiescent_KernelMlp := fun m ρ _ => Cert.KernelMlp.Gen.frame m ρ

theorem frame_ideal : Cert.quiescent_KernelMlpIdeal := fun m ρ _ => Cert.KernelMlpIdeal.Gen.frame m ρ

theorem frame_reference : Cert.quiescent_ReferenceMlpIdeal := fun m ρ _ =>
  (θ_run Cert.ReferenceMlpIdeal.defs _ _).mono (fun r h => ⟨fun c => (h c).2.2.2.2.2.2,
      Idealize.ShloMosaic.sem_eq_zero_of_no_sems (by decide) r.2⟩)
    (Cert.ReferenceMlpIdeal.Value.run (F := Ideal) m ρ)

theorem preserves : Cert.preserves_KernelMlp_KernelMlpIdeal := trivial

theorem algebraic : Cert.algebraic_KernelMlpIdeal_ReferenceMlpIdeal := by
  intro m ρ m' ρ' _ hagree
  refine ⟨fun c => resDx (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)),
    fun c => resDg (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)),
    fun c => resHidden (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)),
    fun c => resAct (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)),
    fun c => resDpre (m ((c.tc : Thread Cert.KernelMlpIdeal.nD Cert.KernelMlpIdeal.τ).loc Cert.KernelMlpIdeal.main_arg0)) (m ((c.tc : Thread Cert.KernelMlpIdeal.nD Cert.KernelMlpIdeal.τ).loc Cert.KernelMlpIdeal.main_arg1)) (m ((c.tc : Thread Cert.KernelMlpIdeal.nD Cert.KernelMlpIdeal.τ).loc Cert.KernelMlpIdeal.main_arg2)) (m ((c.tc : Thread Cert.KernelMlpIdeal.nD Cert.KernelMlpIdeal.τ).loc Cert.KernelMlpIdeal.main_arg3)) (m ((c.tc : Thread Cert.KernelMlpIdeal.nD Cert.KernelMlpIdeal.τ).loc Cert.KernelMlpIdeal.main_arg4)),
    fun c => resDy (m ((c.tc : Thread Cert.KernelMlpIdeal.nD Cert.KernelMlpIdeal.τ).loc Cert.KernelMlpIdeal.main_arg0)), ?_, ?_⟩
  · refine (θ_run Cert.KernelMlpIdeal.defs _ _).mono (fun r h c => ?_) (Cert.KernelMlpIdeal.Value.run_blocks (F := Ideal) m ρ)
    obtain ⟨h0, h1, h2, h3, h4, h5, ha⟩ := h c
    exact ⟨h0.trans (final6 m c), h1.trans (final7 m c), h2.trans (final8 m c), h3.trans (final9 m c), h4.trans (final10 m c), h5.trans (final11 m c), ha⟩
  · refine (θ_run Cert.ReferenceMlpIdeal.defs _ _).mono (fun r h c => ?_) (Cert.ReferenceMlpIdeal.Value.run (F := Ideal) m' ρ')
    obtain ⟨h0, h1, h2, h3, h4, h5, ha⟩ := h c
    obtain ⟨e0, e1, e2, e3, e4⟩ := hagree c
    refine ⟨?_, ?_, ?_, ?_, ?_, ?_, ha⟩
    · beta_reduce; rw [← e0, ← e1, ← e2, ← e3, ← e4]; exact h0
    · beta_reduce; rw [← e0, ← e1, ← e2, ← e3, ← e4]; exact h1
    · beta_reduce; rw [← e1, ← e2]; exact h2
    · beta_reduce; rw [← e1, ← e2, ← e3]; exact h3
    · beta_reduce; rw [← e0, ← e1, ← e2, ← e3, ← e4]; exact h4
    · beta_reduce; rw [← e0]; exact h5

end Cert.Mlp

end
-- ==== Proof.Fwd.Final.lean ====
/- The MLP's forward pass: the two arrays the kernel writes are the reference's. -/
module

public import proofs.«01_k».proof.Proof.Gen.KernelFwdIdeal.Value
public import proofs.«01_k».proof.Proof.Gen.ReferenceFwdIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Fwd

open Cert.KernelFwdIdeal Cert.KernelFwdIdeal.Gen

/-! ## The reference's arrays -/

/-- The rows' mean squares plus epsilon. -/
def meansq (x : FVec Ideal Cert.ReferenceFwdIdeal.S16384x1024 .f32) : FVec Ideal Cert.ReferenceFwdIdeal.S16384x1 .f32 :=
  addf (Host.divf (broadcastInDim Cert.ReferenceFwdIdeal.S16384x1 ![0] Cert.ReferenceFwdIdeal.Gen.bcast_S16384_S16384x1_0 (Host.reduceAdd (mulf x x)
      (constant Cert.ReferenceFwdIdeal.S_ .f32 0x00000000#32) Cert.ReferenceFwdIdeal.Gen.reducesTo_S16384x1024_S16384_d1 Cert.ReferenceFwdIdeal.Gen.h_S_))
    (broadcastInDim Cert.ReferenceFwdIdeal.S16384x1 ![] Cert.ReferenceFwdIdeal.Gen.bcast_S_S16384x1 (constant Cert.ReferenceFwdIdeal.S_ .f32 0x44800000#32)))
    (broadcastInDim Cert.ReferenceFwdIdeal.S16384x1 ![] Cert.ReferenceFwdIdeal.Gen.bcast_S_S16384x1 (constant Cert.ReferenceFwdIdeal.S_ .f32 0x358637BD#32))

/-- The normalised rows, before the norm's scale. -/
def xhat (x : FVec Ideal Cert.ReferenceFwdIdeal.S16384x1024 .f32) : FVec Ideal Cert.ReferenceFwdIdeal.S16384x1024 .f32 :=
  mulf x (broadcastInDim Cert.ReferenceFwdIdeal.S16384x1024 ![0, 1] Cert.ReferenceFwdIdeal.Gen.bcast_S16384x1_S16384x1024_0_1 (Host.rsqrt (meansq x)))

/-- The normalised rows. -/
def hidden (x : FVec Ideal Cert.ReferenceFwdIdeal.S16384x1024 .f32) (g : FVec Ideal Cert.ReferenceFwdIdeal.S1x1024 .f32) : FVec Ideal Cert.ReferenceFwdIdeal.S16384x1024 .f32 :=
  mulf (xhat x) (broadcastInDim Cert.ReferenceFwdIdeal.S16384x1024 ![0, 1] Cert.ReferenceFwdIdeal.Gen.bcast_S1x1024_S16384x1024_0_1 g)

/-- The first product. -/
def resPre (x : FVec Ideal Cert.ReferenceFwdIdeal.S16384x1024 .f32) (g : FVec Ideal Cert.ReferenceFwdIdeal.S1x1024 .f32) (w : FVec Ideal Cert.ReferenceFwdIdeal.S1024x4096 .bf16) :
    FVec Ideal Cert.ReferenceFwdIdeal.S16384x4096 .f32 :=
  Host.dotGeneral Cert.ReferenceFwdIdeal.dot_S16384x1024_S1024x4096_S16384x4096_1_0_0_1_n_n none (hidden x g) (extf .f32 w Cert.ReferenceFwdIdeal.Gen.bitsLt_bf16_f32)

/-- Its ReLU. -/
def relu (x : FVec Ideal Cert.ReferenceFwdIdeal.S16384x1024 .f32) (g : FVec Ideal Cert.ReferenceFwdIdeal.S1x1024 .f32) (w : FVec Ideal Cert.ReferenceFwdIdeal.S1024x4096 .bf16) :
    FVec Ideal Cert.ReferenceFwdIdeal.S16384x4096 .f32 :=
  maximumf (resPre x g w) (broadcastInDim Cert.ReferenceFwdIdeal.S16384x4096 ![] Cert.ReferenceFwdIdeal.Gen.bcast_S_S16384x4096 (constant Cert.ReferenceFwdIdeal.S_ .f32 0x00000000#32))

/-- The rows after the block: the second product of the squared ReLU, added to the rows. -/
def resY (x : FVec Ideal Cert.ReferenceFwdIdeal.S16384x1024 .f32) (g : FVec Ideal Cert.ReferenceFwdIdeal.S1x1024 .f32) (w : FVec Ideal Cert.ReferenceFwdIdeal.S1024x4096 .bf16)
    (v : FVec Ideal Cert.ReferenceFwdIdeal.S4096x1024 .bf16) : FVec Ideal Cert.ReferenceFwdIdeal.S16384x1024 .f32 :=
  addf x (Host.dotGeneral Cert.ReferenceFwdIdeal.dot_S16384x4096_S4096x1024_S16384x1024_1_0_0_1_n_n none (mulf (relu x g w) (relu x g w))
    (extf .f32 v Cert.ReferenceFwdIdeal.Gen.bitsLt_bf16_f32))

/-! ## The blocks -/

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0] :=
  (by decide +kernel : ∀ t : Fin grid0.N, _)

theorem hidden_at (c : Dev nD) (t : Fin cfg0.N) (i : S256x1024.Idx) (j : Cert.ReferenceFwdIdeal.S16384x1024.Idx)
    (h0 : (j 0 : ℕ) = t.val * 256 + i 0) (h1 : (j 1 : ℕ) = i 1) :
    k0_pay1 (F := Ideal) (iblk m c 0 t) (iblk m c 1 t) i = hidden (m ((c : Thread nD τ).loc main_arg0)) (m ((c : Thread nD τ).loc main_arg1)) j := by
  pointwise [k0_pay1, hidden, xhat, meansq]
  blk_point [iblk, V, idx_val t]

theorem pre_at (c : Dev nD) (t : Fin cfg0.N) (i : S256x4096.Idx) (j : Cert.ReferenceFwdIdeal.S16384x4096.Idx)
    (h0 : (j 0 : ℕ) = t.val * 256 + i 0) (h1 : (j 1 : ℕ) = i 1) :
    k0_pay3 (F := Ideal) (k0_pay1 (iblk m c 0 t) (iblk m c 1 t)) (iblk m c 2 t) i
      = resPre (m ((c : Thread nD τ).loc main_arg0)) (m ((c : Thread nD τ).loc main_arg1)) (m ((c : Thread nD τ).loc main_arg2)) j := by
  pointwise [k0_pay3, resPre]
  refine Finset.sum_congr rfl fun k _ => ?_
  rw [hidden_at m c t (ix2 (i 0) k) (ix2 (j 0) k) h0 rfl]
  blk_point [iblk, V, idx_val t]

theorem y_at (c : Dev nD) (t : Fin cfg0.N) (i : S256x1024.Idx) (j : Cert.ReferenceFwdIdeal.S16384x1024.Idx)
    (h0 : (j 0 : ℕ) = t.val * 256 + i 0) (h1 : (j 1 : ℕ) = i 1) :
    k0_pay5 (F := Ideal) (iblk m c 0 t) (k0_pay4 (F := Ideal) (k0_pay1 (iblk m c 0 t) (iblk m c 1 t)) (iblk m c 2 t) (k0_pay2 (F := Ideal)) (iblk m c 3 t)) i
      = resY (m ((c : Thread nD τ).loc main_arg0)) (m ((c : Thread nD τ).loc main_arg1)) (m ((c : Thread nD τ).loc main_arg2)) (m ((c : Thread nD τ).loc main_arg3)) j := by
  pointwise [k0_pay5, k0_pay4, k0_pay2, resY, relu]
  have e0 : iblk m c 0 t i = (m ((c : Thread nD τ).loc main_arg0)) j := by blk_point [iblk, V, idx_val t]
  rw [e0]
  refine congrArg (HAdd.hAdd _) (Finset.sum_congr rfl fun k _ => ?_)
  rw [pre_at m c t (ix2 (i 0) k) (ix2 (j 0) k) h0 rfl]
  have e3 : iblk m c 3 t (ix2 k (i 1)) = (m ((c : Thread nD τ).loc main_arg3)) (ix2 k (j 1)) := by blk_point [iblk, V, idx_val t]
  rw [e3]

/-! ## The arrays after the run -/

theorem final4 (c : Dev nD) : (dats m 0 c).arrAt 4 (cfgs 0).N
    = resY (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : (outsAt0 m c t).1 = k0_pay5 (F := Ideal) (iblk m c 0 t) (k0_pay4 (F := Ideal) (k0_pay1 (iblk m c 0 t) (iblk m c 1 t)) (iblk m c 2 t) (k0_pay2 (F := Ideal)) (iblk m c 3 t)) := by
    simp only [outsAt0]; frame_out
  rw [e]
  exact y_at m c t y _ (by blk_simp [idx_val t]) (by blk_simp [idx_val t])

theorem final5 (c : Dev nD) : (dats m 0 c).arrAt 5 (cfgs 0).N
    = resPre (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  have e : (outsAt0 m c t).2 = k0_pay3 (F := Ideal) (k0_pay1 (iblk m c 0 t) (iblk m c 1 t)) (iblk m c 2 t) := by
    simp only [outsAt0]; frame_out
  rw [e]
  exact pre_at m c t y _ (by blk_simp [idx_val t]) (by blk_simp [idx_val t])

end Cert.Fwd

end
-- ==== Proof.Fwd.Claim.lean ====
/- The MLP's forward pass: the claims about its programs. -/
module

public import proofs.«01_k».proof.Defs
public import proofs.«01_k».proof.Proof.Fwd.Final
public import proofs.«01_k».proof.Proof.Gen.KernelFwd.Frame
public import proofs.«01_k».proof.Proof.Gen.ReferenceFwdIdeal.Run

@[expose] public section

set_option maxRecDepth 16384

noncomputable section

open Idealize.ShloMosaic Idealize.ShloMosaic.TcCoe Idealize.SL.Sem

namespace Cert.Fwd

theorem frame_kernel : Cert.quiescent_KernelFwd := fun m ρ _ => Cert.KernelFwd.Gen.frame m ρ

theorem frame_ideal : Cert.quiescent_KernelFwdIdeal := fun m ρ _ => Cert.KernelFwdIdeal.Gen.frame m ρ

theorem frame_reference : Cert.quiescent_ReferenceFwdIdeal := fun m ρ _ =>
  (θ_run Cert.ReferenceFwdIdeal.defs _ _).mono (fun r h => ⟨fun c => (h c).2.2,
      Idealize.ShloMosaic.sem_eq_zero_of_no_sems (by decide) r.2⟩)
    (Cert.ReferenceFwdIdeal.Value.run (F := Ideal) m ρ)

theorem preserves : Cert.preserves_KernelFwd_KernelFwdIdeal := trivial

theorem algebraic : Cert.algebraic_KernelFwdIdeal_ReferenceFwdIdeal := by
  intro m ρ m' ρ' _ hagree
  refine ⟨fun c => resY (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)),
    fun c => resPre (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)), ?_, ?_⟩
  · refine (θ_run Cert.KernelFwdIdeal.defs _ _).mono (fun r h c => ?_) (Cert.KernelFwdIdeal.Value.run_blocks (F := Ideal) m ρ)
    obtain ⟨h0, h1, ha⟩ := h c
    exact ⟨h0.trans (final4 m c), h1.trans (final5 m c), ha⟩
  · refine (θ_run Cert.ReferenceFwdIdeal.defs _ _).mono (fun r h c => ?_) (Cert.ReferenceFwdIdeal.Value.run (F := Ideal) m' ρ')
    obtain ⟨h0, h1, ha⟩ := h c
    obtain ⟨e0, e1, e2, e3⟩ := hagree c
    refine ⟨?_, ?_, ha⟩
    · beta_reduce; rw [← e0, ← e1, ← e2, ← e3]; exact h0
    · beta_reduce; rw [← e0, ← e1, ← e2]; exact h1

end Cert.Fwd

end
-- ==== Proof.Loss.Point.lean ====
/- The last MLP's forward pass, the loss and its gradient, element by element: every array the reference names, as a
   function of the arguments, and the kernel's intermediate block at a grid point as a block of rows of that array. -/
module

public import proofs.«01_k».proof.Proof.Gen.KernelLossIdeal.Value
public import proofs.«01_k».proof.Proof.Gen.ReferenceLossIdeal
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Loss

open Cert.KernelLossIdeal Cert.KernelLossIdeal.Gen

/-! ## The reference's arrays -/

/-- The rows' mean squares plus epsilon. -/
def meansq (x : FVec Ideal Cert.ReferenceLossIdeal.S16384x1024 .f32) : FVec Ideal Cert.ReferenceLossIdeal.S16384x1 .f32 :=
  addf (Host.divf (broadcastInDim Cert.ReferenceLossIdeal.S16384x1 ![0] Cert.ReferenceLossIdeal.Gen.bcast_S16384_S16384x1_0 (Host.reduceAdd (mulf x x)
      (constant Cert.ReferenceLossIdeal.S_ .f32 0x00000000#32) Cert.ReferenceLossIdeal.Gen.reducesTo_S16384x1024_S16384_d1 Cert.ReferenceLossIdeal.Gen.h_S_))
    (broadcastInDim Cert.ReferenceLossIdeal.S16384x1 ![] Cert.ReferenceLossIdeal.Gen.bcast_S_S16384x1 (constant Cert.ReferenceLossIdeal.S_ .f32 0x44800000#32)))
    (broadcastInDim Cert.ReferenceLossIdeal.S16384x1 ![] Cert.ReferenceLossIdeal.Gen.bcast_S_S16384x1 (constant Cert.ReferenceLossIdeal.S_ .f32 0x358637BD#32))

/-- The normalised rows, before the norm's scale. -/
def xhat (x : FVec Ideal Cert.ReferenceLossIdeal.S16384x1024 .f32) : FVec Ideal Cert.ReferenceLossIdeal.S16384x1024 .f32 :=
  mulf x (broadcastInDim Cert.ReferenceLossIdeal.S16384x1024 ![0, 1] Cert.ReferenceLossIdeal.Gen.bcast_S16384x1_S16384x1024_0_1 (Host.rsqrt (meansq x)))

/-- The normalised rows. -/
def hidden (x : FVec Ideal Cert.ReferenceLossIdeal.S16384x1024 .f32) (g : FVec Ideal Cert.ReferenceLossIdeal.S1x1024 .f32) : FVec Ideal Cert.ReferenceLossIdeal.S16384x1024 .f32 :=
  mulf (xhat x) (broadcastInDim Cert.ReferenceLossIdeal.S16384x1024 ![0, 1] Cert.ReferenceLossIdeal.Gen.bcast_S1x1024_S16384x1024_0_1 g)

/-- The first product. -/
def resPre (x : FVec Ideal Cert.ReferenceLossIdeal.S16384x1024 .f32) (g : FVec Ideal Cert.ReferenceLossIdeal.S1x1024 .f32) (w : FVec Ideal Cert.ReferenceLossIdeal.S1024x4096 .bf16) :
    FVec Ideal Cert.ReferenceLossIdeal.S16384x4096 .f32 :=
  Host.dotGeneral Cert.ReferenceLossIdeal.dot_S16384x1024_S1024x4096_S16384x4096_1_0_0_1_n_n none (hidden x g) (extf .f32 w Cert.ReferenceLossIdeal.Gen.bitsLt_bf16_f32)

/-- Its ReLU. -/
def relu (x : FVec Ideal Cert.ReferenceLossIdeal.S16384x1024 .f32) (g : FVec Ideal Cert.ReferenceLossIdeal.S1x1024 .f32) (w : FVec Ideal Cert.ReferenceLossIdeal.S1024x4096 .bf16) :
    FVec Ideal Cert.ReferenceLossIdeal.S16384x4096 .f32 :=
  maximumf (resPre x g w) (broadcastInDim Cert.ReferenceLossIdeal.S16384x4096 ![] Cert.ReferenceLossIdeal.Gen.bcast_S_S16384x4096 (constant Cert.ReferenceLossIdeal.S_ .f32 0x00000000#32))

/-- The rows after the block: the second product of the squared ReLU, added to the rows. -/
def resY (x : FVec Ideal Cert.ReferenceLossIdeal.S16384x1024 .f32) (g : FVec Ideal Cert.ReferenceLossIdeal.S1x1024 .f32) (w : FVec Ideal Cert.ReferenceLossIdeal.S1024x4096 .bf16)
    (v : FVec Ideal Cert.ReferenceLossIdeal.S4096x1024 .bf16) : FVec Ideal Cert.ReferenceLossIdeal.S16384x1024 .f32 :=
  addf x (Host.dotGeneral Cert.ReferenceLossIdeal.dot_S16384x4096_S4096x1024_S16384x1024_1_0_0_1_n_n none (mulf (relu x g w) (relu x g w))
    (extf .f32 v Cert.ReferenceLossIdeal.Gen.bitsLt_bf16_f32))

/-- The error: the final norm of the rows, less the target. -/
def err (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384x1024 .f32 :=
  subf (hidden y gf) tgt

/-- The loss's gradient at the final norm's rows. -/
def derr (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384x1024 .f32 :=
  mulf (broadcastInDim Cert.ReferenceLossIdeal.S16384x1024 ![0] Cert.ReferenceLossIdeal.Gen.bcast_S16384_S16384x1024_0
      (Host.divf (broadcastInDim Cert.ReferenceLossIdeal.S16384 ![] Cert.ReferenceLossIdeal.Gen.bcast_S_S16384 (mulf (constant Cert.ReferenceLossIdeal.S_ .f32 0x3F000000#32) (constant Cert.ReferenceLossIdeal.S_ .f32 0x3F800000#32)))
        (broadcastInDim Cert.ReferenceLossIdeal.S16384 ![] Cert.ReferenceLossIdeal.Gen.bcast_S_S16384 (constant Cert.ReferenceLossIdeal.S_ .f32 0x44800000#32))))
    (mulf (broadcastInDim Cert.ReferenceLossIdeal.S16384x1024 ![] Cert.ReferenceLossIdeal.Gen.bcast_S_S16384x1024 (constant Cert.ReferenceLossIdeal.S_ .f32 0x40000000#32)) (err y gf tgt))

/-- … before the final norm's scale. -/
def dyhat (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384x1024 .f32 :=
  mulf (derr y gf tgt) (broadcastInDim Cert.ReferenceLossIdeal.S16384x1024 ![0, 1] Cert.ReferenceLossIdeal.Gen.bcast_S1x1024_S16384x1024_0_1 gf)

/-- The gradient that reaches the rows through the mean square, as one factor per row. -/
def through (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384x1024 .f32 :=
  broadcastInDim Cert.ReferenceLossIdeal.S16384x1024 ![0] Cert.ReferenceLossIdeal.Gen.bcast_S16384_S16384x1024_0 (Host.reduceAdd
    (Host.divf (mulf (shapeCast _ (Host.reduceAdd (mulf y (dyhat y gf tgt)) (constant Cert.ReferenceLossIdeal.S_ .f32 0x00000000#32)
          Cert.ReferenceLossIdeal.Gen.reducesTo_S16384x1024_S16384_d1 Cert.ReferenceLossIdeal.Gen.h_S_) Cert.ReferenceLossIdeal.Gen.shapeCasts_S16384_S16384x1)
        (mulf (broadcastInDim Cert.ReferenceLossIdeal.S16384x1 ![] Cert.ReferenceLossIdeal.Gen.bcast_S_S16384x1 (constant Cert.ReferenceLossIdeal.S_ .f32 0xBF000000#32)) (Host.divf (Host.rsqrt (meansq y)) (meansq y))))
      (broadcastInDim Cert.ReferenceLossIdeal.S16384x1 ![] Cert.ReferenceLossIdeal.Gen.bcast_S_S16384x1 (constant Cert.ReferenceLossIdeal.S_ .f32 0x44800000#32)))
    (constant Cert.ReferenceLossIdeal.S_ .f32 0x00000000#32) Cert.ReferenceLossIdeal.Gen.reducesTo_S16384x1_S16384_d1 Cert.ReferenceLossIdeal.Gen.h_S_)

/-- The gradient of the rows. -/
def resDy (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384x1024 .f32 :=
  addf (addf (mulf (dyhat y gf tgt) (broadcastInDim Cert.ReferenceLossIdeal.S16384x1024 ![0, 1] Cert.ReferenceLossIdeal.Gen.bcast_S16384x1_S16384x1024_0_1 (Host.rsqrt (meansq y))))
    (mulf y (through y gf tgt))) (mulf (through y gf tgt) y)

/-- One row's part of the gradient of the final norm's scale. -/
def dgRow (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384x1024 .f32 :=
  mulf (xhat y) (derr y gf tgt)

/-- The gradient of the final norm's scale. -/
def resDg (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S1x1024 .f32 :=
  shapeCast _ (Host.reduceAdd (dgRow y gf tgt) (constant Cert.ReferenceLossIdeal.S_ .f32 0x00000000#32) Cert.ReferenceLossIdeal.Gen.reducesTo_S16384x1024_S1024_d0 Cert.ReferenceLossIdeal.Gen.h_S_) Cert.ReferenceLossIdeal.Gen.shapeCasts_S1024_S1x1024

/-- The rows' mean squared errors. -/
def lossRow (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S16384 .f32 :=
  Host.divf (Host.reduceAdd (mulf (err y gf tgt) (err y gf tgt)) (constant Cert.ReferenceLossIdeal.S_ .f32 0x00000000#32) Cert.ReferenceLossIdeal.Gen.reducesTo_S16384x1024_S16384_d1 Cert.ReferenceLossIdeal.Gen.h_S_)
    (broadcastInDim Cert.ReferenceLossIdeal.S16384 ![] Cert.ReferenceLossIdeal.Gen.bcast_S_S16384 (constant Cert.ReferenceLossIdeal.S_ .f32 0x44800000#32))

/-- The device's part of the loss, in every lane. -/
def resLoss (y : FVec Ideal Cert.ReferenceLossIdeal.S16384x1024 .f32) (gf : FVec Ideal Cert.ReferenceLossIdeal.S1x1024 .f32) (tgt : FVec Ideal Cert.ReferenceLossIdeal.S16384x1024 .f32) : FVec Ideal Cert.ReferenceLossIdeal.S1x128 .f32 :=
  broadcastInDim Cert.ReferenceLossIdeal.S1x128 ![] Cert.ReferenceLossIdeal.Gen.bcast_S_S1x128 (mulf (constant Cert.ReferenceLossIdeal.S_ .f32 0x3F000000#32)
    (Host.reduceAdd (lossRow y gf tgt) (constant Cert.ReferenceLossIdeal.S_ .f32 0x00000000#32) Cert.ReferenceLossIdeal.Gen.reducesTo_S16384_S_d0 Cert.ReferenceLossIdeal.Gen.h_S_))

/-! ## The constants -/

/-- One half. -/
theorem half_val : Ideal.ofBits .f32 0x3F000000#32 = ((1 / 2 : ℝ) : EReal) := by
  simp [Ideal.ofBits, Ideal.ieee, -EReal.coe_mul]; norm_num

/-- The reciprocal of the row length. -/
theorem recip_val : Ideal.ofBits .f32 0x3A800000#32 = ((1 / 1024 : ℝ) : EReal) := by
  simp [Ideal.ofBits, Ideal.ieee, -EReal.coe_mul]; norm_num

/-- The derivative of half a square, divided by the row length: the factors two and one half cancel. -/
theorem derr_const (e : EReal) : e * Ideal.ofBits .f32 0x3A800000#32
    = Ideal.div (Ideal.ofBits .f32 0x3F000000#32) (Ideal.ofBits .f32 0x44800000#32)
      * (Ideal.ofBits .f32 0x40000000#32 * e) := by
  rw [half_val, recip_val, Cert.Norm.two_val, Cert.Norm.len_val, Ideal.div_coe (by norm_num), ← mul_assoc, ← EReal.coe_mul,
    ← EReal.coe_mul, mul_comm]
  congr 2
  norm_num

/-! ## The blocks -/

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

theorem hidden_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay1 (F := Ideal) (iblk m c 0 t) (iblk m c 1 t) i = hidden (m ((c : Thread nD τ).loc main_arg0)) (m ((c : Thread nD τ).loc main_arg1)) j := by
  pointwise [k0_pay1, hidden, xhat, meansq]
  blk_point [iblk, V, idx_val t]

theorem pre_at (c : Dev nD) (t : Fin cfg0.N) (i : S256x4096.Idx) (j : Cert.ReferenceLossIdeal.S16384x4096.Idx)
    (h0 : (j 0 : ℕ) = t.val * 256 + i 0) (h1 : (j 1 : ℕ) = i 1) :
    k0_pay3 (F := Ideal) (k0_pay1 (iblk m c 0 t) (iblk m c 1 t)) (iblk m c 2 t) i
      = resPre (m ((c : Thread nD τ).loc main_arg0)) (m ((c : Thread nD τ).loc main_arg1)) (m ((c : Thread nD τ).loc main_arg2)) j := by
  pointwise [k0_pay3, resPre]
  refine Finset.sum_congr rfl fun k _ => ?_
  rw [hidden_at m c t (ix2 (i 0) k) (ix2 (j 0) k) h0 rfl]
  blk_point [iblk, V, idx_val t]

theorem y_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay8 (F := Ideal) (iblk m c 0 t) (k0_pay4 (F := Ideal) (k0_pay1 (iblk m c 0 t) (iblk m c 1 t)) (iblk m c 2 t) (k0_pay2 (F := Ideal)) (iblk m c 3 t)) i
      = resY (m ((c : Thread nD τ).loc main_arg0)) (m ((c : Thread nD τ).loc main_arg1)) (m ((c : Thread nD τ).loc main_arg2)) (m ((c : Thread nD τ).loc main_arg3)) j := by
  pointwise [k0_pay8, k0_pay4, k0_pay2, resY, relu]
  have e0 : iblk m c 0 t i = (m ((c : Thread nD τ).loc main_arg0)) j := by blk_point [iblk, V, idx_val t]
  rw [e0]
  refine congrArg (HAdd.hAdd _) (Finset.sum_congr rfl fun k _ => ?_)
  rw [pre_at m c t (ix2 (i 0) k) (ix2 (j 0) k) h0 rfl]
  have e3 : iblk m c 3 t (ix2 k (i 1)) = (m ((c : Thread nD τ).loc main_arg3)) (ix2 k (j 1)) := by blk_point [iblk, V, idx_val t]
  rw [e3]

theorem meansq_at (c : Dev nD) (t : Fin cfg0.N) (i : S256x1.Idx) (j : Cert.ReferenceLossIdeal.S16384x1.Idx)
    (h0 : (j 0 : ℕ) = t.val * 256 + i 0) :
    k0_pay13 (F := Ideal) (iblk m c 0 t) (k0_pay4 (F := Ideal) (k0_pay1 (iblk m c 0 t) (iblk m c 1 t)) (iblk m c 2 t) (k0_pay2 (F := Ideal)) (iblk m c 3 t)) i = Ideal.rsqrt (meansq (resY (m ((c : Thread nD τ).loc main_arg0)) (m ((c : Thread nD τ).loc main_arg1)) (m ((c : Thread nD τ).loc main_arg2)) (m ((c : Thread nD τ).loc main_arg3))) j) := by
  have ey : ∀ k : Fin 1024, k0_pay8 (F := Ideal) (iblk m c 0 t) (k0_pay4 (F := Ideal) (k0_pay1 (iblk m c 0 t) (iblk m c 1 t)) (iblk m c 2 t) (k0_pay2 (F := Ideal)) (iblk m c 3 t)) (ix2 (i 0) k) = resY (m ((c : Thread nD τ).loc main_arg0)) (m ((c : Thread nD τ).loc main_arg1)) (m ((c : Thread nD τ).loc main_arg2)) (m ((c : Thread nD τ).loc main_arg3)) (ix2 (j 0) k) :=
    fun k => y_at m c t _ _ h0 rfl
  pointwise [k0_pay13, meansq]
  simp only [ey]

theorem xhat_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay14 (F := Ideal) (iblk m c 0 t) (k0_pay4 (F := Ideal) (k0_pay1 (iblk m c 0 t) (iblk m c 1 t)) (iblk m c 2 t) (k0_pay2 (F := Ideal)) (iblk m c 3 t)) i = xhat (resY (m ((c : Thread nD τ).loc main_arg0)) (m ((c : Thread nD τ).loc main_arg1)) (m ((c : Thread nD τ).loc main_arg2)) (m ((c : Thread nD τ).loc main_arg3))) j := by
  pointwise [k0_pay14, xhat]
  rw [meansq_at m c t (ix2 (i 0) 0) (ix2 (j 0) 0) h0, y_at m c t i j h0 h1]

theorem err_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay11 (F := Ideal) (iblk m c 0 t) (k0_pay4 (F := Ideal) (k0_pay1 (iblk m c 0 t) (iblk m c 1 t)) (iblk m c 2 t) (k0_pay2 (F := Ideal)) (iblk m c 3 t)) (iblk m c 4 t) (iblk m c 5 t) i = err (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) j := by
  have ey : ∀ k : Fin 1024, k0_pay8 (F := Ideal) (iblk m c 0 t) (k0_pay4 (F := Ideal) (k0_pay1 (iblk m c 0 t) (iblk m c 1 t)) (iblk m c 2 t) (k0_pay2 (F := Ideal)) (iblk m c 3 t)) (ix2 (i 0) k) = resY (m ((c : Thread nD τ).loc main_arg0)) (m ((c : Thread nD τ).loc main_arg1)) (m ((c : Thread nD τ).loc main_arg2)) (m ((c : Thread nD τ).loc main_arg3)) (ix2 (j 0) k) :=
    fun k => y_at m c t _ _ h0 rfl
  have e4 : iblk m c 4 t (ix2 0 (i 1)) = (m ((c : Thread nD τ).loc main_arg4)) (ix2 0 (j 1)) := by blk_point [iblk, V, idx_val t]
  have e5 : iblk m c 5 t i = (m ((c : Thread nD τ).loc main_arg5)) j := by blk_point [iblk, V, idx_val t]
  pointwise [k0_pay11, err, hidden, xhat, meansq]
  simp only [ey, y_at m c t i j h0 h1, e4, e5]

theorem derr_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay12 (F := Ideal) (iblk m c 0 t) (k0_pay4 (F := Ideal) (k0_pay1 (iblk m c 0 t) (iblk m c 1 t)) (iblk m c 2 t) (k0_pay2 (F := Ideal)) (iblk m c 3 t)) (iblk m c 4 t) (iblk m c 5 t) i = derr (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) j := by
  pointwise [k0_pay12, derr]
  rw [err_at m c t i j h0 h1]
  exact derr_const _

theorem dyhat_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay15 (F := Ideal) (iblk m c 0 t) (k0_pay4 (F := Ideal) (k0_pay1 (iblk m c 0 t) (iblk m c 1 t)) (iblk m c 2 t) (k0_pay2 (F := Ideal)) (iblk m c 3 t)) (iblk m c 4 t) (iblk m c 5 t) i = dyhat (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) j := by
  have e4 : iblk m c 4 t (ix2 0 (i 1)) = (m ((c : Thread nD τ).loc main_arg4)) (ix2 0 (j 1)) := by blk_point [iblk, V, idx_val t]
  pointwise [k0_pay15, dyhat]
  rw [derr_at m c t i j h0 h1, e4]

theorem dy_at (c : Dev nD) (t : Fin cfg0.N) (i : S256x1024.Idx) (j : Cert.ReferenceLossIdeal.S16384x1024.Idx)
    (h0 : (j 0 : ℕ) = t.val * 256 + i 0) (h1 : (j 1 : ℕ) = i 1) :
    k0_pay5 (F := Ideal) (k0_pay13 (iblk m c 0 t) (k0_pay4 (F := Ideal) (k0_pay1 (iblk m c 0 t) (iblk m c 1 t)) (iblk m c 2 t) (k0_pay2 (F := Ideal)) (iblk m c 3 t))) (k0_pay14 (iblk m c 0 t) (k0_pay4 (F := Ideal) (k0_pay1 (iblk m c 0 t) (iblk m c 1 t)) (iblk m c 2 t) (k0_pay2 (F := Ideal)) (iblk m c 3 t))) (k0_pay15 (iblk m c 0 t) (k0_pay4 (F := Ideal) (k0_pay1 (iblk m c 0 t) (iblk m c 1 t)) (iblk m c 2 t) (k0_pay2 (F := Ideal)) (iblk m c 3 t)) (iblk m c 4 t) (iblk m c 5 t)) (k0_pay16 (iblk m c 0 t) (k0_pay4 (F := Ideal) (k0_pay1 (iblk m c 0 t) (iblk m c 1 t)) (iblk m c 2 t) (k0_pay2 (F := Ideal)) (iblk m c 3 t)) (iblk m c 4 t) (iblk m c 5 t)) i
      = resDy (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) j := by
  have ex : ∀ k : Fin 1024, k0_pay14 (F := Ideal) (iblk m c 0 t) (k0_pay4 (F := Ideal) (k0_pay1 (iblk m c 0 t) (iblk m c 1 t)) (iblk m c 2 t) (k0_pay2 (F := Ideal)) (iblk m c 3 t)) (ix2 (i 0) k) = xhat (resY (m ((c : Thread nD τ).loc main_arg0)) (m ((c : Thread nD τ).loc main_arg1)) (m ((c : Thread nD τ).loc main_arg2)) (m ((c : Thread nD τ).loc main_arg3))) (ix2 (j 0) k) :=
    fun k => xhat_at m c t _ _ h0 rfl
  have ed : ∀ k : Fin 1024, k0_pay15 (F := Ideal) (iblk m c 0 t) (k0_pay4 (F := Ideal) (k0_pay1 (iblk m c 0 t) (iblk m c 1 t)) (iblk m c 2 t) (k0_pay2 (F := Ideal)) (iblk m c 3 t)) (iblk m c 4 t) (iblk m c 5 t) (ix2 (i 0) k) = dyhat (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (ix2 (j 0) k) :=
    fun k => dyhat_at m c t _ _ h0 rfl
  pointwise [k0_pay5, k0_pay16, resDy, through]
  simp only [ex, ed, xhat_at m c t i j h0 h1, dyhat_at m c t i j h0 h1, meansq_at m c t (ix2 (i 0) 0) (ix2 (j 0) 0) h0, Fin.sum_univ_one]
  pointwise [xhat]
  exact Cert.Norm.grad Finset.univ (fun k => resY _ _ _ _ (ix2 (j 0) k)) (fun k => dyhat (resY _ _ _ _) _ _ (ix2 (j 0) k)) _ _ _ (by
    pointwise [meansq]
    exact Cert.Norm.meansq_pos _ _)

theorem dg_at (c : Dev nD) (t : Fin cfg0.N) (v : Vec Ideal S1x1024 .f32) (i : S1x1024.Idx) :
    k0_pay6 (F := Ideal) (k0_pay12 (iblk m c 0 t) (k0_pay4 (F := Ideal) (k0_pay1 (iblk m c 0 t) (iblk m c 1 t)) (iblk m c 2 t) (k0_pay2 (F := Ideal)) (iblk m c 3 t)) (iblk m c 4 t) (iblk m c 5 t)) (k0_pay14 (iblk m c 0 t) (k0_pay4 (F := Ideal) (k0_pay1 (iblk m c 0 t) (iblk m c 1 t)) (iblk m c 2 t) (k0_pay2 (F := Ideal)) (iblk m c 3 t))) v i
      = v i + ∑ r : Fin 256, dgRow (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (ix2 ⟨t.val * 256 + r.val, by have := lt_of_lt_of_eq t.isLt N_0; omega⟩ (i 1)) := by
  pointwise [k0_pay6, dgRow]
  refine congrArg (v i + ·) (Finset.sum_congr rfl fun r _ => ?_)
  rw [xhat_at m c t (ix2 r (i 1)) (ix2 ⟨t.val * 256 + r.val, by have := lt_of_lt_of_eq t.isLt N_0; omega⟩ (i 1)) rfl rfl,
    derr_at m c t (ix2 r (i 1)) (ix2 ⟨t.val * 256 + r.val, by have := lt_of_lt_of_eq t.isLt N_0; omega⟩ (i 1)) rfl rfl]
  rw [mul_comm]

theorem dg_zero_at (i : S1x1024.Idx) : k0_pay9 (F := Ideal) i = 0 := by pointwise [k0_pay9]

theorem loss_at (c : Dev nD) (t : Fin cfg0.N) (v : Vec Ideal S1x128 .f32) (i : S1x128.Idx) :
    k0_pay7 (F := Ideal) (k0_pay11 (iblk m c 0 t) (k0_pay4 (F := Ideal) (k0_pay1 (iblk m c 0 t) (iblk m c 1 t)) (iblk m c 2 t) (k0_pay2 (F := Ideal)) (iblk m c 3 t)) (iblk m c 4 t) (iblk m c 5 t)) v i
      = v i + ∑ r : Fin 256, Ideal.ofBits .f32 0x3F000000#32 * lossRow (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
          (ix1 ⟨t.val * 256 + r.val, by have := lt_of_lt_of_eq t.isLt N_0; omega⟩) := by
  pointwise [k0_pay7, lossRow]
  refine congrArg (v i + ·) (Finset.sum_congr rfl fun r _ => ?_)
  have ee : ∀ k : Fin 1024, k0_pay11 (F := Ideal) (iblk m c 0 t) (k0_pay4 (F := Ideal) (k0_pay1 (iblk m c 0 t) (iblk m c 1 t)) (iblk m c 2 t) (k0_pay2 (F := Ideal)) (iblk m c 3 t)) (iblk m c 4 t) (iblk m c 5 t) (ix2 r k)
      = err (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (ix2 ⟨t.val * 256 + r.val, by have := lt_of_lt_of_eq t.isLt N_0; omega⟩ k) :=
    fun k => err_at m c t _ _ rfl rfl
  simp only [ee]

theorem loss_zero_at (i : S1x128.Idx) : k0_pay10 (F := Ideal) i = 0 := by pointwise [k0_pay10]

end Cert.Loss

end
-- ==== Proof.Loss.Final.lean ====
/- The last MLP's forward pass, the loss and its gradient: every result array after the run is the reference's. -/
module

public import proofs.«01_k».proof.Proof.Loss.Point
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Loss

open Cert.KernelLossIdeal Cert.KernelLossIdeal.Gen

variable (m : (ℓ : Loc nD τ sig) → Buf (Elt Ideal) ℓ)

theorem final6 (c : Dev nD) : (dats m 0 c).arrAt 6 (cfgs 0).N
    = resPre (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have e : (outsAt0 m c t.val t.isLt).1 = k0_pay3 (F := Ideal) (k0_pay1 (iblk m c 0 t) (iblk m c 1 t)) (iblk m c 2 t) := by
    by_cases h : t.val % 64 = 0
    · rw [outsAt0_A m c t h]; dsimp only; frame_out
    · rw [outsAt0_B m c t h]; dsimp only; frame_out
  rw [e]
  exact pre_at m c t y _ (by blk_simp [idx_val t]) (by blk_simp [idx_val t])

theorem final7 (c : Dev nD) : (dats m 0 c).arrAt 7 (cfgs 0).N
    = resDy (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  refine (dats m 0 c).arrAt_eq_of_covers 7 _ (by decide +kernel) fun t hf y => ?_
  blk_simp
  rw [after0_7]
  have e : (outsAt0 m c t.val t.isLt).2.1 = k0_pay5 (F := Ideal) (k0_pay13 (iblk m c 0 t) (k0_pay4 (F := Ideal) (k0_pay1 (iblk m c 0 t) (iblk m c 1 t)) (iblk m c 2 t) (k0_pay2 (F := Ideal)) (iblk m c 3 t))) (k0_pay14 (iblk m c 0 t) (k0_pay4 (F := Ideal) (k0_pay1 (iblk m c 0 t) (iblk m c 1 t)) (iblk m c 2 t) (k0_pay2 (F := Ideal)) (iblk m c 3 t))) (k0_pay15 (iblk m c 0 t) (k0_pay4 (F := Ideal) (k0_pay1 (iblk m c 0 t) (iblk m c 1 t)) (iblk m c 2 t) (k0_pay2 (F := Ideal)) (iblk m c 3 t)) (iblk m c 4 t) (iblk m c 5 t)) (k0_pay16 (iblk m c 0 t) (k0_pay4 (F := Ideal) (k0_pay1 (iblk m c 0 t) (iblk m c 1 t)) (iblk m c 2 t) (k0_pay2 (F := Ideal)) (iblk m c 3 t)) (iblk m c 4 t) (iblk m c 5 t)) := by
    by_cases h : t.val % 64 = 0
    · rw [outsAt0_A m c t h]; dsimp only; frame_out
    · rw [outsAt0_B m c t h]; dsimp only; frame_out
  rw [e]
  exact dy_at m c t y _ (by blk_simp [idx_val t]) (by blk_simp [idx_val t])

theorem final8 (c : Dev nD) : (dats m 0 c).arrAt 8 (cfgs 0).N
    = resDg (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 64 (fun _ => 0)
    (fun p j => ∑ r : Fin 256, dgRow (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (ix2 ⟨p.val * 256 + r.val, by have := lt_of_lt_of_eq p.isLt N_0; omega⟩ (j 1)))
    (fun t h j => by rw [outsAt0_A m c t h]; dsimp only; frame_out; rw [dg_at, dg_zero_at])
    (fun t h j => by rw [outsAt0_B m c t h]; dsimp only; frame_out; rw [dg_at])
    t ((flush0_8 t).mp hf) _, zero_add]
  pointwise [resDg]
  refine Fin.sum_mul_add_congr fun s k hl => ?_
  blk_ext [idx_val t]

theorem final9 (c : Dev nD) : (dats m 0 c).arrAt 9 (cfgs 0).N
    = resLoss (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2) 64 (fun _ => 0)
    (fun p _ => ∑ r : Fin 256, Ideal.ofBits .f32 0x3F000000#32 * lossRow (resY (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))
        (ix1 ⟨p.val * 256 + r.val, by have := lt_of_lt_of_eq p.isLt N_0; omega⟩))
    (fun t h j => by rw [outsAt0_A m c t h]; dsimp only; frame_out; rw [loss_at, loss_zero_at])
    (fun t h j => by rw [outsAt0_B m c t h]; dsimp only; frame_out; rw [loss_at])
    t ((flush0_9 t).mp hf) _, zero_add]
  pointwise [resLoss]
  rw [half_val, mul_comm _ (Finset.sum _ _), Cert.Norm.sum_mul_real _ _ (by norm_num)]
  refine Fin.sum_mul_add_congr fun s k hl => ?_
  rw [mul_comm]
  refine congrArg₂ HMul.hMul (congrArg (lossRow _ _ _) (congrArg ix1 (Fin.ext ?_))) rfl
  have ht : t.val < 64 := lt_of_lt_of_eq t.isLt N_0
  show (64 * (t.val / 64) + s.val) * 256 + k.val = s.val * 256 + k.val
  omega

end Cert.Loss

end
-- ==== Proof.Loss.Claim.lean ====
/- The last MLP's forward pass, the loss and its gradient: the claims about its programs. -/
module

public import proofs.«01_k».proof.Defs
public import proofs.«01_k».proof.Proof.Loss.Final
public import proofs.«01_k».proof.Proof.Gen.KernelLoss.Frame
public import proofs.«01_k».proof.Proof.Gen.ReferenceLossIdeal.Run

@[expose] public section

set_option maxRecDepth 16384

noncomputable section

open Idealize.ShloMosaic Idealize.ShloMosaic.TcCoe Idealize.SL.Sem

namespace Cert.Loss

theorem frame_kernel : Cert.quiescent_KernelLoss := fun m ρ _ => Cert.KernelLoss.Gen.frame m ρ

theorem frame_ideal : Cert.quiescent_KernelLossIdeal := fun m ρ _ => Cert.KernelLossIdeal.Gen.frame m ρ

theorem frame_reference : Cert.quiescent_ReferenceLossIdeal := fun m ρ _ =>
  (θ_run Cert.ReferenceLossIdeal.defs _ _).mono (fun r h => ⟨fun c => (h c).2.2.2.2,
      Idealize.ShloMosaic.sem_eq_zero_of_no_sems (by decide) r.2⟩)
    (Cert.ReferenceLossIdeal.Value.run (F := Ideal) m ρ)

theorem preserves : Cert.preserves_KernelLoss_KernelLossIdeal := trivial

theorem algebraic : Cert.algebraic_KernelLossIdeal_ReferenceLossIdeal := by
  intro m ρ m' ρ' _ hagree
  refine ⟨fun c => resPre (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)),
    fun c => resDy (resY (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3))) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)),
    fun c => resDg (resY (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3))) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)),
    fun c => resLoss (resY (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3))) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)), ?_, ?_⟩
  · refine (θ_run Cert.KernelLossIdeal.defs _ _).mono (fun r h c => ?_) (Cert.KernelLossIdeal.Value.run_blocks (F := Ideal) m ρ)
    obtain ⟨h0, h1, h2, h3, ha⟩ := h c
    exact ⟨h0.trans (final6 m c), h1.trans (final7 m c), h2.trans (final8 m c), h3.trans (final9 m c), ha⟩
  · refine (θ_run Cert.ReferenceLossIdeal.defs _ _).mono (fun r h c => ?_) (Cert.ReferenceLossIdeal.Value.run (F := Ideal) m' ρ')
    obtain ⟨h0, h1, h2, h3, ha⟩ := h c
    obtain ⟨e0, e1, e2, e3, e4, e5⟩ := hagree c
    refine ⟨?_, ?_, ?_, ?_, ha⟩
    · beta_reduce; rw [← e0, ← e1, ← e2]; exact h0
    · beta_reduce; rw [← e0, ← e1, ← e2, ← e3, ← e4, ← e5]; exact h1
    · beta_reduce; rw [← e0, ← e1, ← e2, ← e3, ← e4, ← e5]; exact h2
    · beta_reduce; rw [← e0, ← e1, ← e2, ← e3, ← e4, ← e5]; exact h3

end Cert.Loss

end
-- ==== Proof.Up.Final.lean ====
/- The gradient of the MLP's first weight: the result array after the run is the reference's. -/
module

public import proofs.«01_k».proof.Proof.Gen.KernelUpIdeal.Value
public import proofs.«01_k».proof.Proof.Gen.ReferenceUpIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Up

open Cert.KernelUpIdeal Cert.KernelUpIdeal.Gen

variable (m : (ℓ : Loc nD τ sig) → Buf (Elt Ideal) ℓ)

/-- The weight's gradient, as the reference computes it. -/
def res (a0 : FVec Ideal Cert.ReferenceUpIdeal.S16384x1024 .bf16) (a1 : FVec Ideal Cert.ReferenceUpIdeal.S16384x4096 .bf16) : FVec Ideal Cert.ReferenceUpIdeal.S4x1024x1024 .f32 :=
  transpose Cert.ReferenceUpIdeal.S4x1024x1024 [1, 0, 2] (shapeCast _ (transpose Cert.ReferenceUpIdeal.S1024x4096 [1, 0] (Host.dotGeneral Cert.ReferenceUpIdeal.dot_S16384x4096_S16384x1024_S4096x1024_0_0_1_1_n_n none (extf .f32 a1 Cert.ReferenceUpIdeal.Gen.bitsLt_bf16_f32) (extf .f32 a0 Cert.ReferenceUpIdeal.Gen.bitsLt_bf16_f32)) Cert.ReferenceUpIdeal.Gen.transposes_S4096x1024_S1024x4096_1_0) Cert.ReferenceUpIdeal.Gen.shapeCasts_S1024x4096_S1024x4x1024) Cert.ReferenceUpIdeal.Gen.transposes_S1024x4x1024_S4x1024x1024_1_0_2

/-- Every window's block index at every grid point. -/
theorem idx_val : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- What one grid point adds to an element of its output block: the products over its 4096 rows. -/
def part (a0 : FVec Ideal Cert.ReferenceUpIdeal.S16384x1024 .bf16) (a1 : FVec Ideal Cert.ReferenceUpIdeal.S16384x4096 .bf16) (p : Fin cfg0.N) (j : S1x1024x1024.Idx) : EReal :=
  ∑ r : Fin 4096, a0 (ix2 ⟨p.val % 4 * 4096 + r.val, by omega⟩ ⟨j 1, (j 1).isLt⟩)
    * a1 (ix2 ⟨p.val % 4 * 4096 + r.val, by omega⟩ ⟨p.val / 4 * 1024 + (j 2 : ℕ), by have := lt_of_lt_of_eq p.isLt N_0; have := (j 2).isLt; change (j 2 : ℕ) < 1024 at this; omega⟩)

theorem acc_at (c : Dev nD) (t : Fin cfg0.N) (v : Vec Ideal S1x1024x1024 .f32) (i : S1x1024x1024.Idx) :
    k0_pay2 (F := Ideal) (iblk m c 0 t) (iblk m c 1 t) v i = v i + part (m ((c : Thread nD τ).loc main_arg0)) (m ((c : Thread nD τ).loc main_arg1)) t i := by
  pointwise [k0_pay2, part]
  refine congrArg₂ (· + ·) ?_ (Finset.sum_congr rfl fun r _ => ?_)
  all_goals blk_point [iblk, V, idx_val t]

theorem zero_at (i : S1x1024x1024.Idx) : k0_pay1 (F := Ideal) i = 0 := by pointwise [k0_pay1]

theorem final2 (c : Dev nD) : (dats m 0 c).arrAt 2 (cfgs 0).N = res (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => part (m ((c : Thread nD τ).loc main_arg0)) (m ((c : Thread nD τ).loc main_arg1)) p j)
    (fun t h j => by rw [outsAt0_A m c t h]; frame_out; rw [acc_at, zero_at])
    (fun t h j => by rw [outsAt0_B m c t h]; frame_out; rw [acc_at])
    t ((flush0_2 t).mp hf) _, zero_add]
  unfold part
  pointwise [res]
  refine Fin.sum_mul_add_congr fun s k hl => ?_
  rw [mul_comm]
  congr 1 <;> blk_ext [idx_val t]

end Cert.Up

end
-- ==== Proof.Up.Claim.lean ====
/- The gradient of the MLP's first weight: the claims about its programs. -/
module

public import proofs.«01_k».proof.Defs
public import proofs.«01_k».proof.Proof.Up.Final
public import proofs.«01_k».proof.Proof.Gen.KernelUp.Frame
public import proofs.«01_k».proof.Proof.Gen.ReferenceUpIdeal.Run

@[expose] public section

set_option maxRecDepth 16384

noncomputable section

open Idealize.ShloMosaic Idealize.ShloMosaic.TcCoe Idealize.SL.Sem

namespace Cert.Up

theorem frame_kernel : Cert.quiescent_KernelUp := fun m ρ _ => Cert.KernelUp.Gen.frame m ρ

theorem frame_ideal : Cert.quiescent_KernelUpIdeal := fun m ρ _ => Cert.KernelUpIdeal.Gen.frame m ρ

theorem frame_reference : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run (F := Ideal) m ρ)

theorem preserves : Cert.preserves_KernelUp_KernelUpIdeal := trivial

theorem algebraic : Cert.algebraic_KernelUpIdeal_ReferenceUpIdeal := by
  intro m ρ m' ρ' _ hagree
  refine ⟨fun c => res (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)), ?_, ?_⟩
  · refine (θ_run Cert.KernelUpIdeal.defs _ _).mono (fun r h c => ?_) (Cert.KernelUpIdeal.Value.run_blocks (F := Ideal) m ρ)
    obtain ⟨h0, ha⟩ := h c
    exact ⟨h0.trans (final2 m c), ha⟩
  · refine (θ_run Cert.ReferenceUpIdeal.defs _ _).mono (fun r h c => ?_) (Cert.ReferenceUpIdeal.Value.run (F := Ideal) m' ρ')
    obtain ⟨h0, ha⟩ := h c
    obtain ⟨e0, e1⟩ := hagree c
    refine ⟨?_, ha⟩
    · beta_reduce; rw [← e0, ← e1]; exact h0

end Cert.Up

end
-- ==== Proof.Down.Final.lean ====
/- The gradient of the MLP's second weight: the result array after the run is the reference's. -/
module

public import proofs.«01_k».proof.Proof.Gen.KernelDownIdeal.Value
public import proofs.«01_k».proof.Proof.Gen.ReferenceDownIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Down

open Cert.KernelDownIdeal Cert.KernelDownIdeal.Gen

variable (m : (ℓ : Loc nD τ sig) → Buf (Elt Ideal) ℓ)

/-- The weight's gradient, as the reference computes it. -/
def res (a0 : FVec Ideal Cert.ReferenceDownIdeal.S16384x4096 .bf16) (a1 : FVec Ideal Cert.ReferenceDownIdeal.S16384x1024 .bf16) : FVec Ideal Cert.ReferenceDownIdeal.S4096x1024 .f32 :=
  transpose Cert.ReferenceDownIdeal.S4096x1024 [1, 0] (Host.dotGeneral Cert.ReferenceDownIdeal.dot_S16384x1024_S16384x4096_S1024x4096_0_0_1_1_n_n none (extf .f32 a1 Cert.ReferenceDownIdeal.Gen.bitsLt_bf16_f32) (extf .f32 a0 Cert.ReferenceDownIdeal.Gen.bitsLt_bf16_f32)) Cert.ReferenceDownIdeal.Gen.transposes_S1024x4096_S4096x1024_1_0

/-- Every window's block index at every grid point. -/
theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- What one grid point adds to an element of its output block: the products over its 4096 rows. -/
def part (a0 : FVec Ideal Cert.ReferenceDownIdeal.S16384x4096 .bf16) (a1 : FVec Ideal Cert.ReferenceDownIdeal.S16384x1024 .bf16) (p : Fin cfg0.N) (j : S1024x1024.Idx) : EReal :=
  ∑ r : Fin 4096, a0 (ix2 ⟨p.val % 4 * 4096 + r.val, by omega⟩ ⟨p.val / 4 * 1024 + (j 0 : ℕ), by have := lt_of_lt_of_eq p.isLt N_0; have := (j 0).isLt; change (j 0 : ℕ) < 1024 at this; omega⟩)
    * a1 (ix2 ⟨p.val % 4 * 4096 + r.val, by omega⟩ ⟨j 1, (j 1).isLt⟩)

theorem acc_at (c : Dev nD) (t : Fin cfg0.N) (v : Vec Ideal S1024x1024 .f32) (i : S1024x1024.Idx) :
    k0_pay2 (F := Ideal) (iblk m c 0 t) (iblk m c 1 t) v i = v i + part (m ((c : Thread nD τ).loc main_arg0)) (m ((c : Thread nD τ).loc main_arg1)) t i := by
  pointwise [k0_pay2, part]
  refine congrArg₂ (· + ·) ?_ (Finset.sum_congr rfl fun r _ => ?_)
  all_goals blk_point [iblk, V, idx_val t]

theorem zero_at (i : S1024x1024.Idx) : k0_pay1 (F := Ideal) i = 0 := by pointwise [k0_pay1]

theorem final2 (c : Dev nD) : (dats m 0 c).arrAt 2 (cfgs 0).N = res (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => part (m ((c : Thread nD τ).loc main_arg0)) (m ((c : Thread nD τ).loc main_arg1)) p j)
    (fun t h j => by rw [outsAt0_A m c t h]; frame_out; rw [acc_at, zero_at])
    (fun t h j => by rw [outsAt0_B m c t h]; frame_out; rw [acc_at])
    t ((flush0_2 t).mp hf) _, zero_add]
  unfold part
  pointwise [res]
  refine Fin.sum_mul_add_congr fun s k hl => ?_
  rw [mul_comm]
  congr 1 <;> blk_ext [idx_val t]

end Cert.Down

end
-- ==== Proof.Down.Claim.lean ====
/- The gradient of the MLP's second weight: the claims about its programs. -/
module

public import proofs.«01_k».proof.Defs
public import proofs.«01_k».proof.Proof.Down.Final
public import proofs.«01_k».proof.Proof.Gen.KernelDown.Frame
public import proofs.«01_k».proof.Proof.Gen.ReferenceDownIdeal.Run

@[expose] public section

set_option maxRecDepth 16384

noncomputable section

open Idealize.ShloMosaic Idealize.ShloMosaic.TcCoe Idealize.SL.Sem

namespace Cert.Down

theorem frame_kernel : Cert.quiescent_KernelDown := fun m ρ _ => Cert.KernelDown.Gen.frame m ρ

theorem frame_ideal : Cert.quiescent_KernelDownIdeal := fun m ρ _ => Cert.KernelDownIdeal.Gen.frame m ρ

theorem frame_reference : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

theorem preserves : Cert.preserves_KernelDown_KernelDownIdeal := trivial

theorem algebraic : Cert.algebraic_KernelDownIdeal_ReferenceDownIdeal := by
  intro m ρ m' ρ' _ hagree
  refine ⟨fun c => res (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)), ?_, ?_⟩
  · refine (θ_run Cert.KernelDownIdeal.defs _ _).mono (fun r h c => ?_) (Cert.KernelDownIdeal.Value.run_blocks (F := Ideal) m ρ)
    obtain ⟨h0, ha⟩ := h c
    exact ⟨h0.trans (final2 m c), ha⟩
  · refine (θ_run Cert.ReferenceDownIdeal.defs _ _).mono (fun r h c => ?_) (Cert.ReferenceDownIdeal.Value.run (F := Ideal) m' ρ')
    obtain ⟨h0, ha⟩ := h c
    obtain ⟨e0, e1⟩ := hagree c
    refine ⟨?_, ha⟩
    · beta_reduce; rw [← e0, ← e1]; exact h0

end Cert.Down

end
-- ==== Proof.In.Point.lean ====
/- The gradient of the input projection, element by element: the reference's arrays as functions of the arguments,
   and the kernel's blocks as blocks of rows of those arrays. -/
module

public import proofs.«01_k».proof.Proof.Gen.KernelInIdeal.Value
public import proofs.«01_k».proof.Proof.Gen.ReferenceInIdeal
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.In

open Cert.KernelInIdeal Cert.KernelInIdeal.Gen

/-! ## The reference's arrays -/

/-- The rows' mean squares plus epsilon. -/
def meansq (x : FVec Ideal Cert.ReferenceInIdeal.S16384x1024 .f32) : FVec Ideal Cert.ReferenceInIdeal.S16384x1 .f32 :=
  addf (Host.divf (broadcastInDim Cert.ReferenceInIdeal.S16384x1 ![0] Cert.ReferenceInIdeal.Gen.bcast_S16384_S16384x1_0 (Host.reduceAdd (mulf x x)
      (constant Cert.ReferenceInIdeal.S_ .f32 0x00000000#32) Cert.ReferenceInIdeal.Gen.reducesTo_S16384x1024_S16384_d1 Cert.ReferenceInIdeal.Gen.h_S_))
    (broadcastInDim Cert.ReferenceInIdeal.S16384x1 ![] Cert.ReferenceInIdeal.Gen.bcast_S_S16384x1 (constant Cert.ReferenceInIdeal.S_ .f32 0x44800000#32)))
    (broadcastInDim Cert.ReferenceInIdeal.S16384x1 ![] Cert.ReferenceInIdeal.Gen.bcast_S_S16384x1 (constant Cert.ReferenceInIdeal.S_ .f32 0x358637BD#32))

/-- The normalised rows, before the norm's scale. -/
def xhat (x : FVec Ideal Cert.ReferenceInIdeal.S16384x1024 .f32) : FVec Ideal Cert.ReferenceInIdeal.S16384x1024 .f32 :=
  mulf x (broadcastInDim Cert.ReferenceInIdeal.S16384x1024 ![0, 1] Cert.ReferenceInIdeal.Gen.bcast_S16384x1_S16384x1024_0_1 (Host.rsqrt (meansq x)))

/-- The normalised rows. -/
def hidden (x : FVec Ideal Cert.ReferenceInIdeal.S16384x1024 .f32) (g : FVec Ideal Cert.ReferenceInIdeal.S1x1024 .f32) : FVec Ideal Cert.ReferenceInIdeal.S16384x1024 .f32 :=
  mulf (xhat x) (broadcastInDim Cert.ReferenceInIdeal.S16384x1024 ![0, 1] Cert.ReferenceInIdeal.Gen.bcast_S1x1024_S16384x1024_0_1 g)

/-- The keys' and values' gradients that the next block of rows sends back, laid under the last quarter of each block. -/
def fromNext (a6 : FVec Ideal Cert.ReferenceInIdeal.S4096x256 .f32) : FVec Ideal Cert.ReferenceInIdeal.S16384x256 .f32 :=
  shapeCast _ (pad Cert.ReferenceInIdeal.S32x512x256 ![0, 384, 0] ![0, 0, 0] ![0, 0, 0] (concatenate Cert.ReferenceInIdeal.S32x128x256 0
    [⟨Cert.ReferenceInIdeal.S31x128x256, extractStridedSlice Cert.ReferenceInIdeal.S31x128x256 ![1, 0, 0] (shapeCast _ a6 Cert.ReferenceInIdeal.Gen.shapeCasts_S4096x256_S32x128x256)
        Cert.ReferenceInIdeal.Gen.slices_S32x128x256_S31x128x256_1_0_0⟩,
      ⟨Cert.ReferenceInIdeal.S1x128x256, broadcastInDim Cert.ReferenceInIdeal.S1x128x256 ![] Cert.ReferenceInIdeal.Gen.bcast_S_S1x128x256 (constant Cert.ReferenceInIdeal.S_ .f32 0x00000000#32)⟩]
    Cert.ReferenceInIdeal.Gen.concatenates_S31x128x256_S1x128x256_S32x128x256_d0) (sitofp .f32 (constantI Cert.ReferenceInIdeal.S_ 32 0#32))
    Cert.ReferenceInIdeal.Gen.pads_S32x128x256_S32x512x256_000_38400_000 Cert.ReferenceInIdeal.Gen.h_S_) Cert.ReferenceInIdeal.Gen.shapeCasts_S32x512x256_S16384x256

/-- The whole gradient of the keys and values. -/
def dkvSum (a5 : FVec Ideal Cert.ReferenceInIdeal.S16384x256 .f32) (a6 : FVec Ideal Cert.ReferenceInIdeal.S4096x256 .f32) : FVec Ideal Cert.ReferenceInIdeal.S16384x256 .f32 := addf a5 (fromNext a6)

/-- The gradient of the projection, its parts side by side. -/
def dproj (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x3840 .f32 :=
  concatenate Cert.ReferenceInIdeal.S16384x3840 1 [⟨Cert.ReferenceInIdeal.S16384x512, extf .f32 a4 Cert.ReferenceInIdeal.Gen.bitsLt_bf16_f32⟩, ⟨Cert.ReferenceInIdeal.S16384x256, dkvSum a5 a6⟩,
    ⟨Cert.ReferenceInIdeal.S16384x1024, extf .f32 a7 Cert.ReferenceInIdeal.Gen.bitsLt_bf16_f32⟩, ⟨Cert.ReferenceInIdeal.S16384x2048, extf .f32 a8 Cert.ReferenceInIdeal.Gen.bitsLt_bf16_f32⟩]
    Cert.ReferenceInIdeal.Gen.concatenates_S16384x512_S16384x256_S16384x1024_S16384x2048_S16384x3840_d1

/-- The gradient of the normalised rows. -/
def dhidden (a3 : FVec Ideal Cert.ReferenceInIdeal.S3840x1024 .bf16) (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x1024 .f32 :=
  Host.dotGeneral Cert.ReferenceInIdeal.dot_S16384x3840_S1024x3840_S16384x1024_1_1_0_0_n_n none (dproj a4 a5 a6 a7 a8)
    (transpose Cert.ReferenceInIdeal.S1024x3840 [1, 0] (extf .f32 a3 Cert.ReferenceInIdeal.Gen.bitsLt_bf16_f32) Cert.ReferenceInIdeal.Gen.transposes_S3840x1024_S1024x3840_1_0)

/-- … before the norm's scale. -/
def dxhat (a2 : FVec Ideal Cert.ReferenceInIdeal.S1x1024 .f32) (a3 : FVec Ideal Cert.ReferenceInIdeal.S3840x1024 .bf16) (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x1024 .f32 :=
  mulf (dhidden a3 a4 a5 a6 a7 a8) (broadcastInDim Cert.ReferenceInIdeal.S16384x1024 ![0, 1] Cert.ReferenceInIdeal.Gen.bcast_S1x1024_S16384x1024_0_1 a2)

/-- The gradient that reaches the rows through the mean square, as one factor per row. -/
def through (a1 : FVec Ideal Cert.ReferenceInIdeal.S16384x1024 .f32) (a2 : FVec Ideal Cert.ReferenceInIdeal.S1x1024 .f32) (a3 : FVec Ideal Cert.ReferenceInIdeal.S3840x1024 .bf16) (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x1024 .f32 :=
  broadcastInDim Cert.ReferenceInIdeal.S16384x1024 ![0] Cert.ReferenceInIdeal.Gen.bcast_S16384_S16384x1024_0 (Host.reduceAdd
    (Host.divf (mulf (shapeCast _ (Host.reduceAdd (mulf a1 (dxhat a2 a3 a4 a5 a6 a7 a8)) (constant Cert.ReferenceInIdeal.S_ .f32 0x00000000#32)
          Cert.ReferenceInIdeal.Gen.reducesTo_S16384x1024_S16384_d1 Cert.ReferenceInIdeal.Gen.h_S_) Cert.ReferenceInIdeal.Gen.shapeCasts_S16384_S16384x1)
        (mulf (broadcastInDim Cert.ReferenceInIdeal.S16384x1 ![] Cert.ReferenceInIdeal.Gen.bcast_S_S16384x1 (constant Cert.ReferenceInIdeal.S_ .f32 0xBF000000#32))
          (Host.divf (Host.rsqrt (meansq a1)) (meansq a1))))
      (broadcastInDim Cert.ReferenceInIdeal.S16384x1 ![] Cert.ReferenceInIdeal.Gen.bcast_S_S16384x1 (constant Cert.ReferenceInIdeal.S_ .f32 0x44800000#32)))
    (constant Cert.ReferenceInIdeal.S_ .f32 0x00000000#32) Cert.ReferenceInIdeal.Gen.reducesTo_S16384x1_S16384_d1 Cert.ReferenceInIdeal.Gen.h_S_)

/-- The gradient of the step's input rows. -/
def resDx (a0 : FVec Ideal Cert.ReferenceInIdeal.S16384x1024 .f32) (a1 : FVec Ideal Cert.ReferenceInIdeal.S16384x1024 .f32) (a2 : FVec Ideal Cert.ReferenceInIdeal.S1x1024 .f32) (a3 : FVec Ideal Cert.ReferenceInIdeal.S3840x1024 .bf16) (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x1024 .f32 :=
  addf a0 (addf (addf (mulf (dxhat a2 a3 a4 a5 a6 a7 a8) (broadcastInDim Cert.ReferenceInIdeal.S16384x1024 ![0, 1]
      Cert.ReferenceInIdeal.Gen.bcast_S16384x1_S16384x1024_0_1 (Host.rsqrt (meansq a1))))
    (mulf a1 (through a1 a2 a3 a4 a5 a6 a7 a8))) (mulf (through a1 a2 a3 a4 a5 a6 a7 a8) a1))

/-- One row's part of the gradient of the norm's scale. -/
def dgRow (a1 : FVec Ideal Cert.ReferenceInIdeal.S16384x1024 .f32) (a3 : FVec Ideal Cert.ReferenceInIdeal.S3840x1024 .bf16) (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x1024 .f32 := mulf (xhat a1) (dhidden a3 a4 a5 a6 a7 a8)

/-- The gradient of the norm's scale. -/
def resDg (a1 : FVec Ideal Cert.ReferenceInIdeal.S16384x1024 .f32) (a3 : FVec Ideal Cert.ReferenceInIdeal.S3840x1024 .bf16) (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S1x1024 .f32 :=
  shapeCast _ (Host.reduceAdd (dgRow a1 a3 a4 a5 a6 a7 a8) (constant Cert.ReferenceInIdeal.S_ .f32 0x00000000#32)
    Cert.ReferenceInIdeal.Gen.reducesTo_S16384x1024_S1024_d0 Cert.ReferenceInIdeal.Gen.h_S_) Cert.ReferenceInIdeal.Gen.shapeCasts_S1024_S1x1024

/-- The gradient of the projection, as the weight gradient's product reads it. -/
def resDproj (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) : FVec Ideal Cert.ReferenceInIdeal.S16384x3840 .bf16 := truncf .bf16 (dproj a4 a5 a6 a7 a8) Cert.ReferenceInIdeal.Gen.bitsLt_bf16_f32

/-- The normalised rows, as the weight gradient's product reads them. -/
def resHidden (a1 : FVec Ideal Cert.ReferenceInIdeal.S16384x1024 .f32) (a2 : FVec Ideal Cert.ReferenceInIdeal.S1x1024 .f32) : FVec Ideal Cert.ReferenceInIdeal.S16384x1024 .bf16 := truncf .bf16 (hidden a1 a2) Cert.ReferenceInIdeal.Gen.bitsLt_bf16_f32

/-- The gradient of the projection's bias. -/
def resDb (a5 : FVec Ideal Cert.ReferenceInIdeal.S16384x256 .f32) (a6 : FVec Ideal Cert.ReferenceInIdeal.S4096x256 .f32) (a9 : FVec Ideal Cert.ReferenceInIdeal.S1x512 .f32) (a10 : FVec Ideal Cert.ReferenceInIdeal.S1x1024 .f32)
    (a11 : FVec Ideal Cert.ReferenceInIdeal.S1x2048 .f32) : FVec Ideal Cert.ReferenceInIdeal.S1x3840 .f32 :=
  concatenate Cert.ReferenceInIdeal.S1x3840 1 [⟨Cert.ReferenceInIdeal.S1x512, a9⟩, ⟨Cert.ReferenceInIdeal.S1x256, broadcastInDim Cert.ReferenceInIdeal.S1x256 ![1] Cert.ReferenceInIdeal.Gen.bcast_S256_S1x256_1
      (Host.reduceAdd (dkvSum a5 a6) (constant Cert.ReferenceInIdeal.S_ .f32 0x00000000#32) Cert.ReferenceInIdeal.Gen.reducesTo_S16384x256_S256_d0 Cert.ReferenceInIdeal.Gen.h_S_)⟩,
    ⟨Cert.ReferenceInIdeal.S1x1024, a10⟩, ⟨Cert.ReferenceInIdeal.S1x2048, a11⟩] Cert.ReferenceInIdeal.Gen.concatenates_S1x512_S1x256_S1x1024_S1x2048_S1x3840_d1

/-! ## The reference's arrays at an index -/

theorem sitofp_zero : (FloatOps.sitofp .f32 (0#32) : Ideal .f32) = 0 := by
  show (((0#32 : BitVec 32).toInt : ℝ) : EReal) = 0
  simp

/-- The first three quarters of a block of rows take nothing from the next block. -/
theorem fromNext_low (a6 : FVec Ideal Cert.ReferenceInIdeal.S4096x256 .f32) (j : Cert.ReferenceInIdeal.S16384x256.Idx) (h : (j 0 : ℕ) % 512 < 384) : fromNext a6 j = 0 := by
  pointwise [fromNext]
  rw [dif_neg (by omega)]
  exact sitofp_zero

/-- The last quarter takes the next block's rows; -/
theorem fromNext_high (a6 : FVec Ideal Cert.ReferenceInIdeal.S4096x256 .f32) (j : Cert.ReferenceInIdeal.S16384x256.Idx) (k : Cert.ReferenceInIdeal.S4096x256.Idx) (h : 384 ≤ (j 0 : ℕ) % 512)
    (hb : (j 0 : ℕ) / 512 < 31) (h0 : (k 0 : ℕ) = (1 + (j 0 : ℕ) / 512) * 128 + ((j 0 : ℕ) % 512 - 384)) (h1 : (k 1 : ℕ) = j 1) :
    fromNext a6 j = a6 k := by
  pointwise [fromNext]
  rw [dif_pos ⟨by omega, h, by omega⟩, dif_pos hb]
  exact congrArg a6 ((congrArg₂ ix2 (Fin.ext h0.symm) (Fin.ext h1.symm)).trans (eq_ix2 k).symm)

/-- … and the last block has no next. -/
theorem fromNext_last (a6 : FVec Ideal Cert.ReferenceInIdeal.S4096x256 .f32) (j : Cert.ReferenceInIdeal.S16384x256.Idx) (h : 384 ≤ (j 0 : ℕ) % 512) (hb : ¬ (j 0 : ℕ) / 512 < 31) :
    fromNext a6 j = 0 := by
  have hj : (j 0 : ℕ) < 16384 := (j 0).isLt
  pointwise [fromNext]
  rw [dif_pos ⟨by omega, h, by omega⟩, dif_neg hb]

theorem dproj_q (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) (k : Cert.ReferenceInIdeal.S16384x3840.Idx) (j : Cert.ReferenceInIdeal.S16384x512.Idx) (h0 : (k 0 : ℕ) = j 0) (h1 : (k 1 : ℕ) = 0 + j 1) :
    dproj a4 a5 a6 a7 a8 k = a4 j := by
  have hj : (j 1 : ℕ) < 512 := (j 1).isLt
  pointwise [dproj]
  rw [dif_pos (by omega)]
  exact congrArg (a4) ((congrArg₂ ix2 (Fin.ext h0) (Fin.ext (by first | (show (k 1 : ℕ) = _; omega) | (show (k 1 : ℕ) - _ = _; omega) | (show (k 1 : ℕ) - _ - _ = _; omega) | (show (k 1 : ℕ) - _ - _ - _ = _; omega)))).trans (eq_ix2 j).symm)

theorem dproj_kv (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) (k : Cert.ReferenceInIdeal.S16384x3840.Idx) (j : Cert.ReferenceInIdeal.S16384x256.Idx) (h0 : (k 0 : ℕ) = j 0) (h1 : (k 1 : ℕ) = 512 + j 1) :
    dproj a4 a5 a6 a7 a8 k = dkvSum a5 a6 j := by
  have hj : (j 1 : ℕ) < 256 := (j 1).isLt
  pointwise [dproj]
  rw [dif_neg (by omega), dif_pos (by omega)]
  exact congrArg (dkvSum a5 a6) ((congrArg₂ ix2 (Fin.ext h0) (Fin.ext (by first | (show (k 1 : ℕ) = _; omega) | (show (k 1 : ℕ) - _ = _; omega) | (show (k 1 : ℕ) - _ - _ = _; omega) | (show (k 1 : ℕ) - _ - _ - _ = _; omega)))).trans (eq_ix2 j).symm)

theorem dproj_glu (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) (k : Cert.ReferenceInIdeal.S16384x3840.Idx) (j : Cert.ReferenceInIdeal.S16384x1024.Idx) (h0 : (k 0 : ℕ) = j 0) (h1 : (k 1 : ℕ) = 768 + j 1) :
    dproj a4 a5 a6 a7 a8 k = a7 j := by
  have hj : (j 1 : ℕ) < 1024 := (j 1).isLt
  pointwise [dproj]
  rw [dif_neg (by omega), dif_neg (by omega), dif_pos (by omega)]
  exact congrArg (a7) ((congrArg₂ ix2 (Fin.ext h0) (Fin.ext (by first | (show (k 1 : ℕ) = _; omega) | (show (k 1 : ℕ) - _ = _; omega) | (show (k 1 : ℕ) - _ - _ = _; omega) | (show (k 1 : ℕ) - _ - _ - _ = _; omega)))).trans (eq_ix2 j).symm)

theorem dproj_gate (a4 : FVec Ideal Cert.ReferenceInIdeal.S16384x512 .bf16) (a5 : FVec Ideal Cert.ReferenceInIdeal.S16384x256 .f32) (a6 : FVec Ideal Cert.ReferenceInIdeal.S4096x256 .f32) (a7 : FVec Ideal Cert.ReferenceInIdeal.S16384x1024 .bf16) (a8 : FVec Ideal Cert.ReferenceInIdeal.S16384x2048 .bf16) (k : Cert.ReferenceInIdeal.S16384x3840.Idx) (j : Cert.ReferenceInIdeal.S16384x2048.Idx) (h0 : (k 0 : ℕ) = j 0) (h1 : (k 1 : ℕ) = 1792 + j 1) :
    dproj a4 a5 a6 a7 a8 k = a8 j := by
  have hj : (j 1 : ℕ) < 2048 := (j 1).isLt
  pointwise [dproj]
  rw [dif_neg (by omega), dif_neg (by omega), dif_neg (by omega)]
  exact congrArg (a8) ((congrArg₂ ix2 (Fin.ext h0) (Fin.ext (by first | (show (k 1 : ℕ) = _; omega) | (show (k 1 : ℕ) - _ = _; omega) | (show (k 1 : ℕ) - _ - _ = _; omega) | (show (k 1 : ℕ) - _ - _ - _ = _; omega)))).trans (eq_ix2 j).symm)

/-! ## The blocks -/

variable (m : (ℓ : Loc nD τ sig) → Buf (Elt Ideal) ℓ)

/-- Every window's block index at every grid point, but the next block's. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_7.index t = ![t.val, 0]
    ∧ win0_8.index t = ![t.val, 0]
    ∧ win0_9.index t = ![0, 0]
    ∧ win0_10.index t = ![0, 0]
    ∧ win0_11.index t = ![0, 0]
    ∧ win0_12.index t = ![t.val, 0]
    ∧ win0_13.index t = ![t.val, 0]
    ∧ win0_14.index t = ![t.val, 0]
    ∧ win0_15.index t = ![0, 0]
    ∧ win0_16.index t = ![0, 0] :=
  (by decide +kernel : ∀ t : Fin grid0.N, _)

/-- The window of the next block's rows stays at the last one. -/
theorem idx_next : ∀ t : Fin cfg0.N, win0_6.index t = ![min (t.val + 1) 31, 0] :=
  (by decide +kernel : ∀ t : Fin grid0.N, _)

theorem coord_val : ∀ t : Fin cfg0.N, ((grid0.coords t) 0).val = t.val :=
  (by decide +kernel : ∀ t : Fin grid0.N, _)

theorem meansq_at (c : Dev nD) (t : Fin cfg0.N) (i : S512x1.Idx) (j : Cert.ReferenceInIdeal.S16384x1.Idx)
    (h0 : (j 0 : ℕ) = t.val * 512 + i 0) :
    k0_pay10 (F := Ideal) (iblk m c 1 t) i = Ideal.rsqrt (meansq (m ((c : Thread nD τ).loc main_arg1)) j) := by
  pointwise [k0_pay10, meansq]
  blk_point [iblk, V, idx_val t]

theorem xhat_at (c : Dev nD) (t : Fin cfg0.N) (i : S512x1024.Idx) (j : Cert.ReferenceInIdeal.S16384x1024.Idx)
    (h0 : (j 0 : ℕ) = t.val * 512 + i 0) (h1 : (j 1 : ℕ) = i 1) :
    k0_pay11 (F := Ideal) (iblk m c 1 t) i = xhat (m ((c : Thread nD τ).loc main_arg1)) j := by
  pointwise [k0_pay11, xhat]
  rw [meansq_at m c t (ix2 (i 0) 0) (ix2 (j 0) 0) h0]
  blk_point [iblk, V, idx_val t]

theorem hidden_at (c : Dev nD) (t : Fin cfg0.N) (i : S512x1024.Idx) (j : Cert.ReferenceInIdeal.S16384x1024.Idx)
    (h0 : (j 0 : ℕ) = t.val * 512 + i 0) (h1 : (j 1 : ℕ) = i 1) :
    k0_pay2 (F := Ideal) (iblk m c 1 t) (iblk m c 2 t) i = resHidden (m ((c : Thread nD τ).loc main_arg1)) (m ((c : Thread nD τ).loc main_arg2)) j := by
  pointwise [k0_pay2, resHidden, hidden, xhat, meansq]
  blk_point [iblk, V, idx_val t]

/-- The rows the next block sends back: those of the next grid point's window, and none at the last. -/
theorem next_at (c : Dev nD) (t : Fin cfg0.N) (i : S128x256.Idx) (j : Cert.ReferenceInIdeal.S16384x256.Idx)
    (h0 : (j 0 : ℕ) = t.val * 512 + 384 + i 0) (h1 : (j 1 : ℕ) = i 1) :
    k0_pay5 (F := Ideal) (grid0.coords t) (iblk m c 6 t) i = fromNext (m ((c : Thread nD τ).loc main_arg6)) j := by
  have ht : t.val < 32 := lt_of_lt_of_eq t.isLt N_0
  have hi : (i 0 : ℕ) < 128 := (i 0).isLt
  by_cases hb : t.val < 31
  · have e : Scalar.cmpi .eq (BitVec.ofNat 32 ((grid0.coords t) 0).val) 31#32 = 0#1 := by
      rw [coord_val t]; revert hb; clear h0; generalize t.val = n; intro hb; interval_cases n <;> rfl
    rw [fromNext_high _ j (ix2 ⟨(t.val + 1) * 128 + (i 0 : ℕ), by omega⟩ (i 1)) (by omega) (by omega)
      (by show (t.val + 1) * 128 + (i 0 : ℕ) = _; omega) h1.symm]
    pointwise [k0_pay5]
    rw [e]
    blk_point [iblk, V, idx_next t]
  · have e : Scalar.cmpi .eq (BitVec.ofNat 32 ((grid0.coords t) 0).val) 31#32 = 1#1 := by
      rw [coord_val t, show t.val = 31 by omega]; rfl
    rw [fromNext_last _ j (by omega) (by omega)]
    pointwise [k0_pay5]
    rw [e]
    rfl

/-- The block of the projection's gradient that a grid point writes and reads back. -/
def blkProj (c : Dev nD) (t : Fin cfg0.N) : Vec Ideal S512x3840 .bf16 :=
  View.canon
      [⟨Rect.unit ![0, 1792] ![512, 2048] inb_S512x3840_S512x2048_0_1792, iblk m c 8 t⟩,
        ⟨Rect.unit ![0, 768] ![512, 1024] inb_S512x3840_S512x1024_0_768, iblk m c 7 t⟩,
        ⟨Rect.unit ![0, 0] ![512, 512] inb_S512x3840_S512x512_0_0, iblk m c 4 t⟩,
        ⟨Rect.unit ![384, 512] ![128, 256] inb_S512x3840_S128x256_384_512,
          k0_pay8 (grid0.coords t) (iblk m c 6 t) (iblk m c 5 t)⟩,
        ⟨Rect.unit ![0, 512] ![384, 256] inb_S512x3840_S384x256_0_512, k0_pay7 (iblk m c 5 t)⟩]

theorem proj_at (c : Dev nD) (t : Fin cfg0.N) (i : S512x3840.Idx) (j : Cert.ReferenceInIdeal.S16384x3840.Idx)
    (h0 : (j 0 : ℕ) = t.val * 512 + i 0) (h1 : (j 1 : ℕ) = i 1) : blkProj m c t i = dproj (m ((c : Thread nD τ).loc main_arg4)) (m ((c : Thread nD τ).loc main_arg5)) (m ((c : Thread nD τ).loc main_arg6)) (m ((c : Thread nD τ).loc main_arg7)) (m ((c : Thread nD τ).loc main_arg8)) j := by
  unfold blkProj
  have hj0 : (i 0 : ℕ) < 512 := (i 0).isLt
  have hj1 : (i 1 : ℕ) < 3840 := (i 1).isLt
  canon_tiles x hx using (by
    by_cases c0 : 1792 ≤ (i 1 : ℕ)
    · refine ⟨_, List.mem_cons_self, (Rect.mem_set_unit (inb := inb_S512x3840_S512x2048_0_1792)).mpr fun a => ?_⟩
      match a with
      | 0 => exact ⟨Nat.zero_le _, by show (i 0 : ℕ) < 0 + 512; omega⟩
      | 1 => exact ⟨c0, by show (i 1 : ℕ) < 1792 + 2048; omega⟩
    by_cases c1 : 768 ≤ (i 1 : ℕ)
    · refine ⟨_, List.mem_cons_of_mem _ List.mem_cons_self, (Rect.mem_set_unit (inb := inb_S512x3840_S512x1024_0_768)).mpr fun a => ?_⟩
      match a with
      | 0 => exact ⟨Nat.zero_le _, by show (i 0 : ℕ) < 0 + 512; omega⟩
      | 1 => exact ⟨c1, by show (i 1 : ℕ) < 768 + 1024; omega⟩
    by_cases c2 : (i 1 : ℕ) < 512
    · refine ⟨_, List.mem_cons_of_mem _ (List.mem_cons_of_mem _ List.mem_cons_self), (Rect.mem_set_unit (inb := inb_S512x3840_S512x512_0_0)).mpr fun a => ?_⟩
      match a with
      | 0 => exact ⟨Nat.zero_le _, by show (i 0 : ℕ) < 0 + 512; omega⟩
      | 1 => exact ⟨Nat.zero_le _, by show (i 1 : ℕ) < 0 + 512; omega⟩
    by_cases c3 : 384 ≤ (i 0 : ℕ)
    · refine ⟨_, List.mem_cons_of_mem _ (List.mem_cons_of_mem _ (List.mem_cons_of_mem _ List.mem_cons_self)), (Rect.mem_set_unit (inb := inb_S512x3840_S128x256_384_512)).mpr fun a => ?_⟩
      match a with
      | 0 => exact ⟨c3, by show (i 0 : ℕ) < 384 + 128; omega⟩
      | 1 => exact ⟨by show 512 ≤ (i 1 : ℕ); omega, by show (i 1 : ℕ) < 512 + 256; omega⟩
    · refine ⟨_, List.mem_cons_of_mem _ (List.mem_cons_of_mem _ (List.mem_cons_of_mem _ (List.mem_cons_of_mem _ List.mem_cons_self))), (Rect.mem_set_unit (inb := inb_S512x3840_S384x256_0_512)).mpr fun a => ?_⟩
      match a with
      | 0 => exact ⟨Nat.zero_le _, by show (i 0 : ℕ) < 0 + 384; omega⟩
      | 1 => exact ⟨by show 512 ≤ (i 1 : ℕ); omega, by show (i 1 : ℕ) < 512 + 256; omega⟩)
  case piece0 =>
    rw [dproj_gate _ _ _ _ _ j (ix2 (j 0) ⟨x 1, x1_lt⟩) rfl (by show (j 1 : ℕ) = 1792 + (x 1 : ℕ); omega)]
    blk_point [iblk, V, idx_val t]
  case piece1 =>
    rw [dproj_glu _ _ _ _ _ j (ix2 (j 0) ⟨x 1, x1_lt⟩) rfl (by show (j 1 : ℕ) = 768 + (x 1 : ℕ); omega)]
    blk_point [iblk, V, idx_val t]
  case piece2 =>
    rw [dproj_q _ _ _ _ _ j (ix2 (j 0) ⟨x 1, x1_lt⟩) rfl (by show (j 1 : ℕ) = 0 + (x 1 : ℕ); omega)]
    blk_point [iblk, V, idx_val t]
  case piece3 =>
    rw [dproj_kv _ _ _ _ _ j (ix2 (j 0) ⟨x 1, x1_lt⟩) rfl (by show (j 1 : ℕ) = 512 + (x 1 : ℕ); omega)]
    pointwise [k0_pay8, dkvSum]
    rw [next_at m c t x (ix2 (j 0) ⟨x 1, x1_lt⟩) (by show (j 0 : ℕ) = _; omega) rfl]
    refine congrArg₂ (HAdd.hAdd) ?_ rfl
    blk_point [iblk, V, idx_val t]
  case piece4 =>
    rw [dproj_kv _ _ _ _ _ j (ix2 (j 0) ⟨x 1, x1_lt⟩) rfl (by show (j 1 : ℕ) = 512 + (x 1 : ℕ); omega)]
    pointwise [k0_pay7, dkvSum]
    refine Eq.trans ?_ ((congrArg (HAdd.hAdd _) (fromNext_low (m ((c : Thread nD τ).loc main_arg6)) (ix2 (j 0) ⟨x 1, x1_lt⟩) (by show (j 0 : ℕ) % 512 < 384; omega))).trans (add_zero _)).symm
    blk_point [iblk, V, idx_val t]

theorem dhidden_at (c : Dev nD) (t : Fin cfg0.N) (i : S512x1024.Idx) (j : Cert.ReferenceInIdeal.S16384x1024.Idx)
    (h0 : (j 0 : ℕ) = t.val * 512 + i 0) (h1 : (j 1 : ℕ) = i 1) :
    k0_pay9 (F := Ideal) (blkProj m c t) (iblk m c 3 t) i = dhidden (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  pointwise [k0_pay9, dhidden]
  refine Finset.sum_congr rfl fun k _ => ?_
  rw [proj_at m c t (ix2 (i 0) k) (ix2 (j 0) k) h0 rfl]
  blk_point [iblk, V, idx_val t]

theorem dx_at (c : Dev nD) (t : Fin cfg0.N) (i : S512x1024.Idx) (j : Cert.ReferenceInIdeal.S16384x1024.Idx)
    (h0 : (j 0 : ℕ) = t.val * 512 + i 0) (h1 : (j 1 : ℕ) = i 1) :
    k0_pay13 (F := Ideal) (blkProj m c t) (iblk m c 3 t) (iblk m c 1 t) (iblk m c 2 t) (iblk m c 0 t) i
      = resDx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j := by
  have ed : ∀ k : Fin 1024, k0_pay9 (F := Ideal) (blkProj m c t) (iblk m c 3 t) (ix2 (i 0) k) = dhidden (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (j 0) k) :=
    fun k => dhidden_at m c t _ _ h0 rfl
  have ex : ∀ k : Fin 1024, iblk m c 1 t (ix2 (i 0) k) = (m ((c : Thread nD τ).loc main_arg1)) (ix2 (j 0) k) := fun k => by
    blk_point [iblk, V, idx_val t]
  have eg : ∀ k : Fin 1024, iblk m c 2 t (ix2 0 k) = (m ((c : Thread nD τ).loc main_arg2)) (ix2 0 k) := fun k => by
    blk_point [iblk, V, idx_val t]
  pointwise [k0_pay13, k0_pay11, resDx, through, dxhat]
  have e0 : iblk m c 0 t i = (m ((c : Thread nD τ).loc main_arg0)) j := by blk_point [iblk, V, idx_val t]
  have e1 : iblk m c 1 t i = (m ((c : Thread nD τ).loc main_arg1)) j := by blk_point [iblk, V, idx_val t]
  have e2 : iblk m c 2 t (ix2 0 (i 1)) = (m ((c : Thread nD τ).loc main_arg2)) (ix2 0 (j 1)) := by blk_point [iblk, V, idx_val t]
  simp only [ed, ex, eg, e0, e1, e2, dhidden_at m c t i j h0 h1, meansq_at m c t (ix2 (i 0) 0) (ix2 (j 0) 0) h0, Fin.sum_univ_one]
  congr 1
  exact Cert.Norm.grad Finset.univ _ (fun k => dhidden _ _ _ _ _ _ (ix2 (j 0) k) * (m ((c : Thread nD τ).loc main_arg2)) (ix2 0 k)) _ _ _ (by
    pointwise [meansq]
    exact Cert.Norm.meansq_pos _ _)

theorem dg_at (c : Dev nD) (t : Fin cfg0.N) (v : Vec Ideal S1x1024 .f32) (i : S1x1024.Idx) :
    k0_pay1 (k0_pay12 (F := Ideal) (blkProj m c t) (iblk m c 3 t) (iblk m c 1 t)) v i
      = v i + ∑ r : Fin 512, dgRow (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (ix2 ⟨t.val * 512 + r.val, by have := lt_of_lt_of_eq t.isLt N_0; omega⟩ (i 1)) := by
  pointwise [k0_pay1, k0_pay12, dgRow]
  refine congrArg (HAdd.hAdd _) (Finset.sum_congr rfl fun r _ => ?_)
  rw [xhat_at m c t (ix2 r (i 1)) (ix2 ⟨t.val * 512 + r.val, by have := lt_of_lt_of_eq t.isLt N_0; omega⟩ (i 1)) rfl rfl,
    dhidden_at m c t (ix2 r (i 1)) (ix2 ⟨t.val * 512 + r.val, by have := lt_of_lt_of_eq t.isLt N_0; omega⟩ (i 1)) rfl rfl]
  rw [mul_comm]

theorem zeroG_at (x) : k0_pay3 (F := Ideal) x = 0 := by pointwise [k0_pay3]

theorem zeroB_at (x) : k0_pay4 (F := Ideal) x = 0 := by pointwise [k0_pay4]

theorem db_at (c : Dev nD) (t : Fin cfg0.N) (v : Vec Ideal S1x256 .f32) (i : S1x256.Idx) :
    k0_pay6 (F := Ideal) (grid0.coords t) (iblk m c 6 t) (iblk m c 5 t) v i
      = v i + ∑ r : Fin 512, dkvSum (m ((c : Thread nD τ).loc main_arg5)) (m ((c : Thread nD τ).loc main_arg6)) (ix2 ⟨t.val * 512 + r.val, by have := lt_of_lt_of_eq t.isLt N_0; omega⟩ (i 1)) := by
  have ht : t.val < 32 := lt_of_lt_of_eq t.isLt N_0
  pointwise [k0_pay6, dkvSum]
  refine congrArg (HAdd.hAdd _) ?_
  rw [Finset.sum_add_distrib]
  refine congrArg₂ (HAdd.hAdd) (Finset.sum_congr rfl fun r _ => ?_) ?_
  · blk_point [iblk, V, idx_val t]
  · rw [Fin.sum_univ_add (a := 384) (b := 128) (fun r : Fin (384 + 128) => fromNext (m ((c : Thread nD τ).loc main_arg6)) (ix2 ⟨t.val * 512 + r.val, by omega⟩ (i 1))),
      Finset.sum_eq_zero (fun r _ => fromNext_low _ _ (by show (t.val * 512 + r.val) % 512 < 384; omega)), zero_add]
    refine Finset.sum_congr rfl fun r _ => ?_
    exact next_at m c t (ix2 r (i 1)) _ (by show t.val * 512 + (384 + r.val) = t.val * 512 + 384 + r.val; omega) rfl

end Cert.In

end
-- ==== Proof.In.Final.lean ====
/- The gradient of the input projection: every result array after the run is the reference's. -/
module

public import proofs.«01_k».proof.Proof.In.Point
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.In

open Cert.KernelInIdeal Cert.KernelInIdeal.Gen

variable (m : (ℓ : Loc nD τ sig) → Buf (Elt Ideal) ℓ)

/-- The block a grid point reads back is the block it wrote. -/
theorem readBack (c : Dev nD) (t : Fin cfg0.N) : (ms0_13 t).view.readCov
      [⟨Rect.unit ![0, 1792] ![512, 2048] inb_S512x3840_S512x2048_0_1792, iblk m c 8 t⟩,
        ⟨Rect.unit ![0, 768] ![512, 1024] inb_S512x3840_S512x1024_0_768, iblk m c 7 t⟩,
        ⟨Rect.unit ![0, 0] ![512, 512] inb_S512x3840_S512x512_0_0, iblk m c 4 t⟩,
        ⟨Rect.unit ![384, 512] ![128, 256] inb_S512x3840_S128x256_384_512,
          k0_pay8 (grid0.coords t) (iblk m c 6 t) (iblk m c 5 t)⟩,
        ⟨Rect.unit ![0, 512] ![384, 256] inb_S512x3840_S384x256_0_512, k0_pay7 (iblk m c 5 t)⟩]
      (Rect.unit ![0, 0] ![512, 3840] inb_S512x3840_S512x3840_0_0).toLoadRect = blkProj m c t := by
  rw [View.readCov_eq_canon']
  refine funext fun j => congrArg (blkProj m c t) (funext fun a => Fin.ext ?_)
  refine (Rect.idx_unit_val (s := S512x3840) ![0, 0] ![512, 3840] inb_S512x3840_S512x3840_0_0 j a).trans ?_
  match a with
  | 0 => exact Nat.zero_add _
  | 1 => exact Nat.zero_add _

theorem final12 (c : Dev nD) : (dats m 0 c).arrAt 12 (cfgs 0).N = resDx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  have e : (outsAt0 m c t.val t.isLt).1 = k0_pay13 (F := Ideal) (blkProj m c t) (iblk m c 3 t) (iblk m c 1 t) (iblk m c 2 t) (iblk m c 0 t) := by
    by_cases h : t.val % 32 = 0
    · rw [outsAt0_A m c t h]; dsimp only; frame_out; rw [readBack]; rfl
    · rw [outsAt0_B m c t h]; dsimp only; frame_out; rw [readBack]; rfl
  rw [e]
  exact dx_at m c t y _ (by blk_simp [idx_val t]) (by blk_simp [idx_val t])

theorem final13 (c : Dev nD) : (dats m 0 c).arrAt 13 (cfgs 0).N = resDproj (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13]
  have e : (outsAt0 m c t.val t.isLt).2.1 = blkProj m c t := by
    by_cases h : t.val % 32 = 0
    · rw [outsAt0_A m c t h]; dsimp only; frame_out
    · rw [outsAt0_B m c t h]; dsimp only; frame_out
  rw [e]
  exact proj_at m c t y _ (by blk_simp [idx_val t]) (by blk_simp [idx_val t])

theorem final14 (c : Dev nD) : (dats m 0 c).arrAt 14 (cfgs 0).N
    = resHidden (m ((c : Thread nD τ).loc main_arg1)) (m ((c : Thread nD τ).loc main_arg2)) := by
  refine (dats m 0 c).arrAt_eq_of_covers 14 _ (by decide +kernel) fun t hf y => ?_
  blk_simp
  rw [after0_14]
  have e : (outsAt0 m c t.val t.isLt).2.2.1 = k0_pay2 (F := Ideal) (iblk m c 1 t) (iblk m c 2 t) := by
    by_cases h : t.val % 32 = 0
    · rw [outsAt0_A m c t h]; dsimp only; frame_out
    · rw [outsAt0_B m c t h]; dsimp only; frame_out
  rw [e]
  exact hidden_at m c t y _ (by blk_simp [idx_val t]) (by blk_simp [idx_val t])

theorem final15 (c : Dev nD) : (dats m 0 c).arrAt 15 (cfgs 0).N = resDg (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 15 _ (by decide +kernel) fun t hf y => ?_
  blk_simp
  rw [after0_15, Pipeline.eq_sum_fin_of_reset_step_apply_of_flush (fun n h => (outsAt0 m c n h).2.2.2.1) 32 (fun _ => 0)
    (fun p j => ∑ r : Fin 512, dgRow (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨p.val * 512 + r.val, by have := lt_of_lt_of_eq p.isLt N_0; omega⟩ (j 1)))
    (fun t h j => by rw [outsAt0_A m c t h]; dsimp only; frame_out; rw [readBack, dg_at, zeroG_at])
    (fun t h j => by rw [outsAt0_B m c t h]; dsimp only; frame_out; rw [readBack, dg_at])
    t ((flush0_15 t).mp hf) _, zero_add]
  pointwise [resDg]
  refine Fin.sum_mul_add_congr fun s k hl => ?_
  blk_ext [idx_val t]

/-! ## The gradient of the bias -/

theorem resDb_q (a5 : FVec Ideal Cert.ReferenceInIdeal.S16384x256 .f32) (a6 : FVec Ideal Cert.ReferenceInIdeal.S4096x256 .f32) (a9 : FVec Ideal Cert.ReferenceInIdeal.S1x512 .f32) (a10 : FVec Ideal Cert.ReferenceInIdeal.S1x1024 .f32)
    (a11 : FVec Ideal Cert.ReferenceInIdeal.S1x2048 .f32) (k : Cert.ReferenceInIdeal.S1x3840.Idx) (j : Cert.ReferenceInIdeal.S1x512.Idx) (h1 : (k 1 : ℕ) = 0 + j 1) :
    resDb a5 a6 a9 a10 a11 k = a9 j := by
  have hj : (j 1 : ℕ) < 512 := (j 1).isLt
  have h0 : (k 0 : ℕ) = j 0 := by
    have u : (k 0 : ℕ) < 1 := (k 0).isLt
    have v : (j 0 : ℕ) < 1 := (j 0).isLt
    omega
  pointwise [resDb]
  rw [dif_pos (by omega)]
  exact congrArg a9 ((congrArg₂ ix2 (Fin.ext (by first | exact h0 | (have v : (j 0 : ℕ) < 1 := (j 0).isLt; show 0 = (j 0 : ℕ); omega))) (Fin.ext (by first | (show (k 1 : ℕ) = _; omega) | (show (k 1 : ℕ) - _ - _ = _; omega) | (show (k 1 : ℕ) - _ - _ - _ = _; omega)))).trans (eq_ix2 j).symm)

theorem resDb_glu (a5 : FVec Ideal Cert.ReferenceInIdeal.S16384x256 .f32) (a6 : FVec Ideal Cert.ReferenceInIdeal.S4096x256 .f32) (a9 : FVec Ideal Cert.ReferenceInIdeal.S1x512 .f32) (a10 : FVec Ideal Cert.ReferenceInIdeal.S1x1024 .f32)
    (a11 : FVec Ideal Cert.ReferenceInIdeal.S1x2048 .f32) (k : Cert.ReferenceInIdeal.S1x3840.Idx) (j : Cert.ReferenceInIdeal.S1x1024.Idx) (h1 : (k 1 : ℕ) = 768 + j 1) :
    resDb a5 a6 a9 a10 a11 k = a10 j := by
  have hj : (j 1 : ℕ) < 1024 := (j 1).isLt
  have h0 : (k 0 : ℕ) = j 0 := by
    have u : (k 0 : ℕ) < 1 := (k 0).isLt
    have v : (j 0 : ℕ) < 1 := (j 0).isLt
    omega
  pointwise [resDb]
  rw [dif_neg (by omega), dif_neg (by omega), dif_pos (by omega)]
  exact congrArg a10 ((congrArg₂ ix2 (Fin.ext (by first | exact h0 | (have v : (j 0 : ℕ) < 1 := (j 0).isLt; show 0 = (j 0 : ℕ); omega))) (Fin.ext (by first | (show (k 1 : ℕ) = _; omega) | (show (k 1 : ℕ) - _ - _ = _; omega) | (show (k 1 : ℕ) - _ - _ - _ = _; omega)))).trans (eq_ix2 j).symm)

theorem resDb_gate (a5 : FVec Ideal Cert.ReferenceInIdeal.S16384x256 .f32) (a6 : FVec Ideal Cert.ReferenceInIdeal.S4096x256 .f32) (a9 : FVec Ideal Cert.ReferenceInIdeal.S1x512 .f32) (a10 : FVec Ideal Cert.ReferenceInIdeal.S1x1024 .f32)
    (a11 : FVec Ideal Cert.ReferenceInIdeal.S1x2048 .f32) (k : Cert.ReferenceInIdeal.S1x3840.Idx) (j : Cert.ReferenceInIdeal.S1x2048.Idx) (h1 : (k 1 : ℕ) = 1792 + j 1) :
    resDb a5 a6 a9 a10 a11 k = a11 j := by
  have hj : (j 1 : ℕ) < 2048 := (j 1).isLt
  have h0 : (k 0 : ℕ) = j 0 := by
    have u : (k 0 : ℕ) < 1 := (k 0).isLt
    have v : (j 0 : ℕ) < 1 := (j 0).isLt
    omega
  pointwise [resDb]
  rw [dif_neg (by omega), dif_neg (by omega), dif_neg (by omega)]
  exact congrArg a11 ((congrArg₂ ix2 (Fin.ext (by first | exact h0 | (have v : (j 0 : ℕ) < 1 := (j 0).isLt; show 0 = (j 0 : ℕ); omega))) (Fin.ext (by first | (show (k 1 : ℕ) = _; omega) | (show (k 1 : ℕ) - _ - _ = _; omega) | (show (k 1 : ℕ) - _ - _ - _ = _; omega)))).trans (eq_ix2 j).symm)

theorem resDb_kv (a5 : FVec Ideal Cert.ReferenceInIdeal.S16384x256 .f32) (a6 : FVec Ideal Cert.ReferenceInIdeal.S4096x256 .f32) (a9 : FVec Ideal Cert.ReferenceInIdeal.S1x512 .f32) (a10 : FVec Ideal Cert.ReferenceInIdeal.S1x1024 .f32)
    (a11 : FVec Ideal Cert.ReferenceInIdeal.S1x2048 .f32) (k : Cert.ReferenceInIdeal.S1x3840.Idx) (l : Fin 256) (h1 : (k 1 : ℕ) = 512 + l) :
    resDb a5 a6 a9 a10 a11 k = ∑ r : Fin 16384, dkvSum a5 a6 (ix2 r l) := by
  pointwise [resDb]
  rw [dif_neg (by omega), dif_pos (by omega)]
  refine Finset.sum_congr rfl fun r _ => congrArg (dkvSum a5 a6) (congrArg (ix2 r) (Fin.ext ?_))
  show (k 1 : ℕ) - 512 = _
  omega

/-- The columns a grid point adds to: those of the keys and values. -/
def kvCol (l : Fin 256) : S1x3840.Idx := ix2 0 ⟨512 + l.val, by omega⟩

theorem db_A (c : Dev nD) (t : Fin cfg0.N) (h : t.val % 32 = 0) (l : Fin 256) :
    (outsAt0 m c t.val t.isLt).2.2.2.2 (kvCol l) = 0 + ∑ r : Fin 512, dkvSum (m ((c : Thread nD τ).loc main_arg5)) (m ((c : Thread nD τ).loc main_arg6))
      (ix2 ⟨t.val * 512 + r.val, by have := lt_of_lt_of_eq t.isLt N_0; omega⟩ l) := by
  rw [outsAt0_A m c t h]; dsimp only; frame_out
  have e : kvCol l = (Rect.unit (s := S1x3840) ![0, 512] ![1, 256] inb_S1x3840_S1x256_0_512).emb (ix2 0 l) :=
    funext fun a => Fin.ext ((Rect.idx_unit_val (s := S1x3840) ![0, 512] ![1, 256] inb_S1x3840_S1x256_0_512 (ix2 0 l) a).trans
      (by match a with
          | 0 => rfl
          | 1 => rfl)).symm
  rw [e, View.canon_cons_emb, db_at]
  refine congrArg₂ (HAdd.hAdd) ?_ rfl
  simp (disch := decide) only [↓ View.readCov_skip]
  rw [View.readCov_cons_toLoadRect]
  exact zeroB_at _

theorem db_B (c : Dev nD) (t : Fin cfg0.N) (h : ¬ t.val % 32 = 0) (l : Fin 256) :
    (outsAt0 m c t.val t.isLt).2.2.2.2 (kvCol l)
      = (outsAt0 m c (t.val - 1) (Nat.lt_of_le_of_lt (Nat.sub_le _ _) t.isLt)).2.2.2.2 (kvCol l) + ∑ r : Fin 512, dkvSum (m ((c : Thread nD τ).loc main_arg5)) (m ((c : Thread nD τ).loc main_arg6))
      (ix2 ⟨t.val * 512 + r.val, by have := lt_of_lt_of_eq t.isLt N_0; omega⟩ l) := by
  rw [outsAt0_B m c t h]; dsimp only; frame_out
  generalize (outsAt0 m c (t.val - 1) (Nat.lt_of_le_of_lt (Nat.sub_le _ _) t.isLt)).2.2.2.2 = prev
  have e : kvCol l = (Rect.unit (s := S1x3840) ![0, 512] ![1, 256] inb_S1x3840_S1x256_0_512).emb (ix2 0 l) :=
    funext fun a => Fin.ext ((Rect.idx_unit_val (s := S1x3840) ![0, 512] ![1, 256] inb_S1x3840_S1x256_0_512 (ix2 0 l) a).trans
      (by match a with
          | 0 => rfl
          | 1 => rfl)).symm
  rw [e, View.read_writes_cons_emb, db_at]
  rfl

/-- The other columns hold the arguments' sums from the first grid point on. -/
theorem db_first (c : Dev nD) (t : Fin cfg0.N) (h : t.val % 32 = 0) (j : S1x3840.Idx) (hj : (j 1 : ℕ) < 512 ∨ 768 ≤ (j 1 : ℕ)) :
    (outsAt0 m c t.val t.isLt).2.2.2.2 j = resDb (m ((c : Thread nD τ).loc main_arg5)) (m ((c : Thread nD τ).loc main_arg6)) (m ((c : Thread nD τ).loc main_arg9)) (m ((c : Thread nD τ).loc main_arg10)) (m ((c : Thread nD τ).loc main_arg11)) j := by
  have hj1 : (j 1 : ℕ) < 3840 := (j 1).isLt
  have hj0 : (j 0 : ℕ) < 1 := (j 0).isLt
  rw [outsAt0_A m c t h]; dsimp only; frame_out
  rw [View.canon_cons_of_not_mem _ _ (fun hm => by
    have := (Rect.mem_set_unit (inb := inb_S1x3840_S1x256_0_512)).mp hm 1
    have h1 : 512 ≤ (j 1 : ℕ) := this.1
    have h2 : (j 1 : ℕ) < 512 + 256 := this.2
    omega)]
  canon_tiles x hx using (by
    by_cases c0 : 1792 ≤ (j 1 : ℕ)
    · refine ⟨_, List.mem_cons_self, (Rect.mem_set_unit (inb := inb_S1x3840_S1x2048_0_1792)).mpr fun a => ?_⟩
      match a with
      | 0 => exact ⟨Nat.zero_le _, by show (j 0 : ℕ) < 0 + 1; omega⟩
      | 1 => exact ⟨c0, by show (j 1 : ℕ) < 1792 + 2048; omega⟩
    by_cases c1 : 768 ≤ (j 1 : ℕ)
    · refine ⟨_, List.mem_cons_of_mem _ List.mem_cons_self, (Rect.mem_set_unit (inb := inb_S1x3840_S1x1024_0_768)).mpr fun a => ?_⟩
      match a with
      | 0 => exact ⟨Nat.zero_le _, by show (j 0 : ℕ) < 0 + 1; omega⟩
      | 1 => exact ⟨c1, by show (j 1 : ℕ) < 768 + 1024; omega⟩
    · refine ⟨_, List.mem_cons_of_mem _ (List.mem_cons_of_mem _ List.mem_cons_self), (Rect.mem_set_unit (inb := inb_S1x3840_S1x512_0_0)).mpr fun a => ?_⟩
      match a with
      | 0 => exact ⟨Nat.zero_le _, by show (j 0 : ℕ) < 0 + 1; omega⟩
      | 1 => exact ⟨Nat.zero_le _, by show (j 1 : ℕ) < 0 + 512; omega⟩)
  case piece0 =>
    rw [resDb_gate _ _ _ _ _ j (ix2 (x 0) ⟨x 1, x1_lt⟩) (by show (j 1 : ℕ) = 1792 + (x 1 : ℕ); omega)]
    blk_point [iblk, V, idx_val t]
  case piece1 =>
    rw [resDb_glu _ _ _ _ _ j (ix2 (x 0) ⟨x 1, x1_lt⟩) (by show (j 1 : ℕ) = 768 + (x 1 : ℕ); omega)]
    blk_point [iblk, V, idx_val t]
  case piece2 =>
    rw [resDb_q _ _ _ _ _ j (ix2 (x 0) ⟨x 1, x1_lt⟩) (by show (j 1 : ℕ) = 0 + (x 1 : ℕ); omega)]
    blk_point [iblk, V, idx_val t]
  case piece3 => exact absurd hx1 (by omega)

theorem db_keep (c : Dev nD) (t : Fin cfg0.N) (h : ¬ t.val % 32 = 0) (j : S1x3840.Idx) (hj : (j 1 : ℕ) < 512 ∨ 768 ≤ (j 1 : ℕ)) :
    (outsAt0 m c t.val t.isLt).2.2.2.2 j = (outsAt0 m c (t.val - 1) (Nat.lt_of_le_of_lt (Nat.sub_le _ _) t.isLt)).2.2.2.2 j := by
  rw [outsAt0_B m c t h]; dsimp only; frame_out
  generalize (outsAt0 m c (t.val - 1) (Nat.lt_of_le_of_lt (Nat.sub_le _ _) t.isLt)).2.2.2.2 = prev
  have hn : j ∉ (Rect.unit (s := S1x3840) ![0, 512] ![1, 256] inb_S1x3840_S1x256_0_512).set := fun hm => by
    have := (Rect.mem_set_unit (inb := inb_S1x3840_S1x256_0_512)).mp hm 1
    have h1 : 512 ≤ (j 1 : ℕ) := this.1
    have h2 : (j 1 : ℕ) < 512 + 256 := this.2
    omega
  refine (View.read_writes_apply_of_forall_not_mem _ _ _ _ (fun p hp => ?_)).trans (congrFun (Memref.IsWhole.read_unread _ prev) j)
  rw [List.mem_singleton.mp hp]
  exact hn

theorem db_rest (c : Dev nD) (j : S1x3840.Idx) (hj : (j 1 : ℕ) < 512 ∨ 768 ≤ (j 1 : ℕ)) :
    ∀ (n : ℕ) (h : n < cfg0.N), (outsAt0 m c n h).2.2.2.2 j = resDb (m ((c : Thread nD τ).loc main_arg5)) (m ((c : Thread nD τ).loc main_arg6)) (m ((c : Thread nD τ).loc main_arg9)) (m ((c : Thread nD τ).loc main_arg10)) (m ((c : Thread nD τ).loc main_arg11)) j
  | 0, h => db_first m c ⟨0, h⟩ rfl j hj
  | n + 1, h => by
    have hN : n + 1 < 32 := lt_of_lt_of_eq h N_0
    exact (db_keep m c ⟨n + 1, h⟩ (by show ¬ (n + 1) % 32 = 0; omega) j hj).trans
      (db_rest c j hj n (Nat.lt_of_succ_lt h))

theorem final16 (c : Dev nD) : (dats m 0 c).arrAt 16 (cfgs 0).N = resDb (m ((c : Thread nD τ).loc main_arg5)) (m ((c : Thread nD τ).loc main_arg6)) (m ((c : Thread nD τ).loc main_arg9)) (m ((c : Thread nD τ).loc main_arg10)) (m ((c : Thread nD τ).loc main_arg11)) := by
  refine (dats m 0 c).arrAt_eq_of_covers 16 _ (by decide +kernel) fun t hf y => ?_
  blk_simp
  rw [after0_16]
  have ey : ((View.whole main_v0_4).slice (win0_16.rect t)).emb y = y := by
    funext a; apply Fin.ext; match a with
      | 0 => blk_simp [idx_val t]
      | 1 => blk_simp [idx_val t]
  by_cases hj : (y 1 : ℕ) < 512 ∨ 768 ≤ (y 1 : ℕ)
  · refine (db_rest m c y hj t.val t.isLt).trans ?_
    exact congrArg _ ey.symm
  · have hy : y = kvCol ⟨(y 1 : ℕ) - 512, by omega⟩ := by
      funext a; apply Fin.ext; match a with
        | 0 => (have u : (y 0 : ℕ) < 1 := (y 0).isLt); show (y 0 : ℕ) = 0; omega
        | 1 => show (y 1 : ℕ) = 512 + ((y 1 : ℕ) - 512); omega
    generalize (⟨(y 1 : ℕ) - 512, by omega⟩ : Fin 256) = l at hy
    subst hy
    rw [Pipeline.eq_sum_fin_of_reset_step_apply_of_flush (fun n h (l : Fin 256) => (outsAt0 m c n h).2.2.2.2 (kvCol l)) 32 (fun _ => 0)
      (fun p l => ∑ r : Fin 512, dkvSum (m ((c : Thread nD τ).loc main_arg5)) (m ((c : Thread nD τ).loc main_arg6)) (ix2 ⟨p.val * 512 + r.val, by have := lt_of_lt_of_eq p.isLt N_0; omega⟩ l))
      (fun t h l => db_A m c t h l) (fun t h l => db_B m c t h l) t ((flush0_16 t).mp hf) l, zero_add]
    rw [ey, resDb_kv _ _ _ _ _ _ l rfl]
    have ht : t.val < 32 := lt_of_lt_of_eq t.isLt N_0
    refine Fin.sum_mul_add_congr fun s k hl => ?_
    refine congrArg (dkvSum _ _) (congrArg (fun z => ix2 z l) (Fin.ext ?_))
    show (32 * (t.val / 32) + s.val) * 512 + k.val = s.val * 512 + k.val
    omega

end Cert.In

end
-- ==== Proof.In.Claim.lean ====
/- The gradient of the input projection: the claims about its programs. -/
module

public import proofs.«01_k».proof.Defs
public import proofs.«01_k».proof.Proof.In.Final
public import proofs.«01_k».proof.Proof.Gen.KernelIn.Frame
public import proofs.«01_k».proof.Proof.Gen.ReferenceInIdeal.Run

@[expose] public section

set_option maxRecDepth 16384

noncomputable section

open Idealize.ShloMosaic Idealize.ShloMosaic.TcCoe Idealize.SL.Sem

namespace Cert.In

theorem frame_kernel : Cert.quiescent_KernelIn := fun m ρ _ => Cert.KernelIn.Gen.frame m ρ

theorem frame_ideal : Cert.quiescent_KernelInIdeal := fun m ρ _ => Cert.KernelInIdeal.Gen.frame m ρ

theorem frame_reference : Cert.quiescent_ReferenceInIdeal := fun m ρ _ =>
  (θ_run Cert.ReferenceInIdeal.defs _ _).mono (fun r h => ⟨fun c => (h c).2.2.2.2.2,
      Idealize.ShloMosaic.sem_eq_zero_of_no_sems (by decide) r.2⟩)
    (Cert.ReferenceInIdeal.Value.run (F := Ideal) m ρ)

theorem preserves : Cert.preserves_KernelIn_KernelInIdeal := trivial

theorem algebraic : Cert.algebraic_KernelInIdeal_ReferenceInIdeal := by
  intro m ρ m' ρ' _ hagree
  refine ⟨fun c => resDx (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7)) (m ((c.tc : Thread Cert.KernelInIdeal.nD Cert.KernelInIdeal.τ).loc Cert.KernelInIdeal.main_arg8)),
    fun c => resDproj (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7)) (m ((c.tc : Thread Cert.KernelInIdeal.nD Cert.KernelInIdeal.τ).loc Cert.KernelInIdeal.main_arg8)),
    fun c => resHidden (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)),
    fun c => resDg (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7)) (m ((c.tc : Thread Cert.KernelInIdeal.nD Cert.KernelInIdeal.τ).loc Cert.KernelInIdeal.main_arg8)),
    fun c => resDb (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg9)) (m ((c.tc : Thread Cert.KernelInIdeal.nD Cert.KernelInIdeal.τ).loc Cert.KernelInIdeal.main_arg10)) (m ((c.tc : Thread Cert.KernelInIdeal.nD Cert.KernelInIdeal.τ).loc Cert.KernelInIdeal.main_arg11)), ?_, ?_⟩
  · refine (θ_run Cert.KernelInIdeal.defs _ _).mono (fun r h c => ?_) (Cert.KernelInIdeal.Value.run_blocks (F := Ideal) m ρ)
    obtain ⟨h0, h1, h2, h3, h4, ha⟩ := h c
    exact ⟨h0.trans (final12 m c), h1.trans (final13 m c), h2.trans (final14 m c), h3.trans (final15 m c), h4.trans (final16 m c), ha⟩
  · refine (θ_run Cert.ReferenceInIdeal.defs _ _).mono (fun r h c => ?_) (Cert.ReferenceInIdeal.Value.run (F := Ideal) m' ρ')
    obtain ⟨h0, h1, h2, h3, h4, ha⟩ := h c
    obtain ⟨e0, e1, e2, e3, e4, e5, e6, e7, e8, e9, e10, e11⟩ := hagree c
    refine ⟨?_, ?_, ?_, ?_, ?_, ha⟩
    · beta_reduce; rw [← e0, ← e1, ← e2, ← e3, ← e4, ← e5, ← e6, ← e7, ← e8]; exact h0
    · beta_reduce; rw [← e4, ← e5, ← e6, ← e7, ← e8]; exact h1
    · beta_reduce; rw [← e1, ← e2]; exact h2
    · beta_reduce; rw [← e1, ← e3, ← e4, ← e5, ← e6, ← e7, ← e8]; exact h3
    · beta_reduce; rw [← e5, ← e6, ← e9, ← e10, ← e11]; exact h4

end Cert.In

end
-- ==== Proof.Win.Final.lean ====
/- The gradient of the input projection's weight: the result array after the run is the reference's. -/
module

public import proofs.«01_k».proof.Proof.Gen.KernelWinIdeal.Value
public import proofs.«01_k».proof.Proof.Gen.ReferenceWinIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Win

open Cert.KernelWinIdeal Cert.KernelWinIdeal.Gen

variable (m : (ℓ : Loc nD τ sig) → Buf (Elt Ideal) ℓ)

/-- The weight's gradient, as the reference computes it. -/
def res (a0 : FVec Ideal Cert.ReferenceWinIdeal.S16384x3840 .bf16) (a1 : FVec Ideal Cert.ReferenceWinIdeal.S16384x1024 .bf16) : FVec Ideal Cert.ReferenceWinIdeal.S3840x1024 .f32 :=
  transpose Cert.ReferenceWinIdeal.S3840x1024 [1, 0] (transpose Cert.ReferenceWinIdeal.S1024x3840 [1, 0] (Host.dotGeneral Cert.ReferenceWinIdeal.dot_S16384x3840_S16384x1024_S3840x1024_0_0_1_1_n_n none (extf .f32 a0 Cert.ReferenceWinIdeal.Gen.bitsLt_bf16_f32) (extf .f32 a1 Cert.ReferenceWinIdeal.Gen.bitsLt_bf16_f32)) Cert.ReferenceWinIdeal.Gen.transposes_S3840x1024_S1024x3840_1_0) Cert.ReferenceWinIdeal.Gen.transposes_S1024x3840_S3840x1024_1_0

/-- Every window's block index at every grid point. -/
theorem idx_val : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- What one grid point adds to an element of its output block: the products over its 4096 rows. -/
def part (a0 : FVec Ideal Cert.ReferenceWinIdeal.S16384x3840 .bf16) (a1 : FVec Ideal Cert.ReferenceWinIdeal.S16384x1024 .bf16) (p : Fin cfg0.N) (j : S768x1024.Idx) : EReal :=
  ∑ r : Fin 4096, a0 (ix2 ⟨p.val % 4 * 4096 + r.val, by omega⟩ ⟨p.val / 4 * 768 + (j 0 : ℕ), by have := lt_of_lt_of_eq p.isLt N_0; have := (j 0).isLt; change (j 0 : ℕ) < 768 at this; omega⟩)
    * a1 (ix2 ⟨p.val % 4 * 4096 + r.val, by omega⟩ ⟨j 1, (j 1).isLt⟩)

theorem acc_at (c : Dev nD) (t : Fin cfg0.N) (v : Vec Ideal S768x1024 .f32) (i : S768x1024.Idx) :
    k0_pay2 (F := Ideal) (iblk m c 0 t) (iblk m c 1 t) v i = v i + part (m ((c : Thread nD τ).loc main_arg0)) (m ((c : Thread nD τ).loc main_arg1)) t i := by
  pointwise [k0_pay2, part]
  refine congrArg₂ (· + ·) ?_ (Finset.sum_congr rfl fun r _ => ?_)
  all_goals blk_point [iblk, V, idx_val t]

theorem zero_at (i : S768x1024.Idx) : k0_pay1 (F := Ideal) i = 0 := by pointwise [k0_pay1]

theorem final2 (c : Dev nD) : (dats m 0 c).arrAt 2 (cfgs 0).N = res (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => part (m ((c : Thread nD τ).loc main_arg0)) (m ((c : Thread nD τ).loc main_arg1)) p j)
    (fun t h j => by rw [outsAt0_A m c t h]; frame_out; rw [acc_at, zero_at])
    (fun t h j => by rw [outsAt0_B m c t h]; frame_out; rw [acc_at])
    t ((flush0_2 t).mp hf) _, zero_add]
  unfold part
  pointwise [res]
  refine Fin.sum_mul_add_congr fun s k hl => ?_
  skip
  congr 1 <;> blk_ext [idx_val t]

end Cert.Win

end
-- ==== Proof.Win.Claim.lean ====
/- The gradient of the input projection's weight: the claims about its programs. -/
module

public import proofs.«01_k».proof.Defs
public import proofs.«01_k».proof.Proof.Win.Final
public import proofs.«01_k».proof.Proof.Gen.KernelWin.Frame
public import proofs.«01_k».proof.Proof.Gen.ReferenceWinIdeal.Run

@[expose] public section

set_option maxRecDepth 16384

noncomputable section

open Idealize.ShloMosaic Idealize.ShloMosaic.TcCoe Idealize.SL.Sem

namespace Cert.Win

theorem frame_kernel : Cert.quiescent_KernelWin := fun m ρ _ => Cert.KernelWin.Gen.frame m ρ

theorem frame_ideal : Cert.quiescent_KernelWinIdeal := fun m ρ _ => Cert.KernelWinIdeal.Gen.frame m ρ

theorem frame_reference : Cert.quiescent_ReferenceWinIdeal := fun m ρ _ =>
  (θ_run Cert.ReferenceWinIdeal.defs _ _).mono (fun r h => ⟨fun c => (h c).2,
      Idealize.ShloMosaic.sem_eq_zero_of_no_sems (by decide) r.2⟩)
    (Cert.ReferenceWinIdeal.Value.run (F := Ideal) m ρ)

theorem preserves : Cert.preserves_KernelWin_KernelWinIdeal := trivial

theorem algebraic : Cert.algebraic_KernelWinIdeal_ReferenceWinIdeal := by
  intro m ρ m' ρ' _ hagree
  refine ⟨fun c => res (m ((c.tc : Thread Cert.KernelWinIdeal.nD Cert.KernelWinIdeal.τ).loc Cert.KernelWinIdeal.main_arg0)) (m ((c.tc : Thread Cert.KernelWinIdeal.nD Cert.KernelWinIdeal.τ).loc Cert.KernelWinIdeal.main_arg1)), ?_, ?_⟩
  · refine (θ_run Cert.KernelWinIdeal.defs _ _).mono (fun r h c => ?_) (Cert.KernelWinIdeal.Value.run_blocks (F := Ideal) m ρ)
    obtain ⟨h0, ha⟩ := h c
    exact ⟨h0.trans (final2 m c), ha⟩
  · refine (θ_run Cert.ReferenceWinIdeal.defs _ _).mono (fun r h c => ?_) (Cert.ReferenceWinIdeal.Value.run (F := Ideal) m' ρ')
    obtain ⟨h0, ha⟩ := h c
    obtain ⟨e0, e1⟩ := hagree c
    refine ⟨?_, ha⟩
    · beta_reduce; rw [← e0, ← e1]; exact h0

end Cert.Win

end
-- ==== Proof.Proj.Final.lean ====
/- The norm and the input projection: the two arrays the kernel writes are the reference's. -/
module

public import proofs.«01_k».proof.Proof.Gen.KernelProjIdeal.Value
public import proofs.«01_k».proof.Proof.Gen.ReferenceProjIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proj

open Cert.KernelProjIdeal Cert.KernelProjIdeal.Gen

/-! ## The reference's arrays -/

/-- The rows' mean squares plus epsilon. -/
def meansq (x : FVec Ideal Cert.ReferenceProjIdeal.S16384x1024 .f32) : FVec Ideal Cert.ReferenceProjIdeal.S16384x1 .f32 :=
  addf (Host.divf (broadcastInDim Cert.ReferenceProjIdeal.S16384x1 ![0] Cert.ReferenceProjIdeal.Gen.bcast_S16384_S16384x1_0 (Host.reduceAdd (mulf x x)
      (constant Cert.ReferenceProjIdeal.S_ .f32 0x00000000#32) Cert.ReferenceProjIdeal.Gen.reducesTo_S16384x1024_S16384_d1 Cert.ReferenceProjIdeal.Gen.h_S_))
    (broadcastInDim Cert.ReferenceProjIdeal.S16384x1 ![] Cert.ReferenceProjIdeal.Gen.bcast_S_S16384x1 (constant Cert.ReferenceProjIdeal.S_ .f32 0x44800000#32)))
    (broadcastInDim Cert.ReferenceProjIdeal.S16384x1 ![] Cert.ReferenceProjIdeal.Gen.bcast_S_S16384x1 (constant Cert.ReferenceProjIdeal.S_ .f32 0x358637BD#32))

/-- The normalised rows, before the norm's scale. -/
def xhat (x : FVec Ideal Cert.ReferenceProjIdeal.S16384x1024 .f32) : FVec Ideal Cert.ReferenceProjIdeal.S16384x1024 .f32 :=
  mulf x (broadcastInDim Cert.ReferenceProjIdeal.S16384x1024 ![0, 1] Cert.ReferenceProjIdeal.Gen.bcast_S16384x1_S16384x1024_0_1 (Host.rsqrt (meansq x)))

/-- The normalised rows. -/
def hidden (x : FVec Ideal Cert.ReferenceProjIdeal.S16384x1024 .f32) (g : FVec Ideal Cert.ReferenceProjIdeal.S1x1024 .f32) : FVec Ideal Cert.ReferenceProjIdeal.S16384x1024 .f32 :=
  mulf (xhat x) (broadcastInDim Cert.ReferenceProjIdeal.S16384x1024 ![0, 1] Cert.ReferenceProjIdeal.Gen.bcast_S1x1024_S16384x1024_0_1 g)

/-- The projection of the normalised rows, with its bias. -/
def proj (x : FVec Ideal Cert.ReferenceProjIdeal.S16384x1024 .f32) (g : FVec Ideal Cert.ReferenceProjIdeal.S1x1024 .f32) (w : FVec Ideal Cert.ReferenceProjIdeal.S3840x1024 .bf16)
    (b : FVec Ideal Cert.ReferenceProjIdeal.S1x3840 .f32) : FVec Ideal Cert.ReferenceProjIdeal.S16384x3840 .f32 :=
  addf (Host.dotGeneral Cert.ReferenceProjIdeal.dot_S16384x1024_S1024x3840_S16384x3840_1_0_0_1_n_n none (hidden x g)
      (transpose Cert.ReferenceProjIdeal.S1024x3840 [1, 0] (extf .f32 w Cert.ReferenceProjIdeal.Gen.bitsLt_bf16_f32) Cert.ReferenceProjIdeal.Gen.transposes_S3840x1024_S1024x3840_1_0))
    (broadcastInDim Cert.ReferenceProjIdeal.S16384x3840 ![0, 1] Cert.ReferenceProjIdeal.Gen.bcast_S1x3840_S16384x3840_0_1 b)

/-- Its columns for the attention, rounded. -/
def resQkv (x : FVec Ideal Cert.ReferenceProjIdeal.S16384x1024 .f32) (g : FVec Ideal Cert.ReferenceProjIdeal.S1x1024 .f32) (w : FVec Ideal Cert.ReferenceProjIdeal.S3840x1024 .bf16)
    (b : FVec Ideal Cert.ReferenceProjIdeal.S1x3840 .f32) : FVec Ideal Cert.ReferenceProjIdeal.S16384x768 .bf16 :=
  truncf .bf16 (extractStridedSlice Cert.ReferenceProjIdeal.S16384x768 ![0, 0] (proj x g w b) Cert.ReferenceProjIdeal.Gen.slices_S16384x3840_S16384x768_0_0) Cert.ReferenceProjIdeal.Gen.bitsLt_bf16_f32

/-- Its other columns. -/
def resRest (x : FVec Ideal Cert.ReferenceProjIdeal.S16384x1024 .f32) (g : FVec Ideal Cert.ReferenceProjIdeal.S1x1024 .f32) (w : FVec Ideal Cert.ReferenceProjIdeal.S3840x1024 .bf16)
    (b : FVec Ideal Cert.ReferenceProjIdeal.S1x3840 .f32) : FVec Ideal Cert.ReferenceProjIdeal.S16384x3072 .f32 :=
  extractStridedSlice Cert.ReferenceProjIdeal.S16384x3072 ![0, 768] (proj x g w b) Cert.ReferenceProjIdeal.Gen.slices_S16384x3840_S16384x3072_0_768

/-! ## The blocks -/

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0] :=
  (by decide +kernel : ∀ t : Fin grid0.N, _)

theorem hidden_at (c : Dev nD) (t : Fin cfg0.N) (i : S512x1024.Idx) (j : Cert.ReferenceProjIdeal.S16384x1024.Idx)
    (h0 : (j 0 : ℕ) = t.val * 512 + i 0) (h1 : (j 1 : ℕ) = i 1) :
    k0_pay3 (F := Ideal) (iblk m c 0 t) (iblk m c 1 t) i = hidden (m ((c : Thread nD τ).loc main_arg0)) (m ((c : Thread nD τ).loc main_arg1)) j := by
  pointwise [k0_pay3, hidden, xhat, meansq]
  blk_point [iblk, V, idx_val t]

theorem qkv_at (c : Dev nD) (t : Fin cfg0.N) (i : S512x768.Idx) (j : Cert.ReferenceProjIdeal.S16384x768.Idx)
    (h0 : (j 0 : ℕ) = t.val * 512 + i 0) (h1 : (j 1 : ℕ) = i 1) :
    k0_pay4 (F := Ideal) (iblk m c 0 t) (iblk m c 1 t) (View.ld (iblk m c 2 t) r0_2) (View.ld (iblk m c 3 t) r0_3) i
      = resQkv (m ((c : Thread nD τ).loc main_arg0)) (m ((c : Thread nD τ).loc main_arg1)) (m ((c : Thread nD τ).loc main_arg2)) (m ((c : Thread nD τ).loc main_arg3)) j := by
  pointwise [k0_pay4, resQkv, proj]
  refine congrArg₂ (HAdd.hAdd) (Finset.sum_congr rfl fun k _ => ?_) ?_
  · rw [hidden_at m c t (ix2 (i 0) k) (ix2 (j 0) k) h0 rfl]
    blk_point [iblk, V, idx_val t]
  · blk_point [iblk, V, idx_val t]

theorem restA_at (c : Dev nD) (t : Fin cfg0.N) (i : S512x1024.Idx) (j : Cert.ReferenceProjIdeal.S16384x3072.Idx)
    (h0 : (j 0 : ℕ) = t.val * 512 + i 0) (h1 : (j 1 : ℕ) = i 1) :
    k0_pay5 (F := Ideal) (iblk m c 0 t) (iblk m c 1 t) (View.ld (iblk m c 2 t) r0_5) (View.ld (iblk m c 3 t) r0_6) i
      = resRest (m ((c : Thread nD τ).loc main_arg0)) (m ((c : Thread nD τ).loc main_arg1)) (m ((c : Thread nD τ).loc main_arg2)) (m ((c : Thread nD τ).loc main_arg3)) j := by
  pointwise [k0_pay5, resRest, proj]
  refine congrArg₂ (HAdd.hAdd) (Finset.sum_congr rfl fun k _ => ?_) ?_
  · rw [hidden_at m c t (ix2 (i 0) k) (ix2 (j 0) k) h0 rfl]
    blk_point [iblk, V, idx_val t]
  · blk_point [iblk, V, idx_val t]

theorem restB_at (c : Dev nD) (t : Fin cfg0.N) (i : S512x1024.Idx) (j : Cert.ReferenceProjIdeal.S16384x3072.Idx)
    (h0 : (j 0 : ℕ) = t.val * 512 + i 0) (h1 : (j 1 : ℕ) = 1024 + i 1) :
    k0_pay1 (F := Ideal) (k0_pay6 (iblk m c 0 t) (iblk m c 1 t) (View.ld (iblk m c 2 t) r0_8)) (View.ld (iblk m c 3 t) r0_9) i
      = resRest (m ((c : Thread nD τ).loc main_arg0)) (m ((c : Thread nD τ).loc main_arg1)) (m ((c : Thread nD τ).loc main_arg2)) (m ((c : Thread nD τ).loc main_arg3)) j := by
  pointwise [k0_pay1, k0_pay6, resRest, proj]
  refine congrArg₂ (HAdd.hAdd) (Finset.sum_congr rfl fun k _ => ?_) ?_
  · rw [hidden_at m c t (ix2 (i 0) k) (ix2 (j 0) k) h0 rfl]
    blk_point [iblk, V, idx_val t]
  · blk_point [iblk, V, idx_val t]

theorem restC_at (c : Dev nD) (t : Fin cfg0.N) (i : S512x1024.Idx) (j : Cert.ReferenceProjIdeal.S16384x3072.Idx)
    (h0 : (j 0 : ℕ) = t.val * 512 + i 0) (h1 : (j 1 : ℕ) = 2048 + i 1) :
    k0_pay2 (F := Ideal) (k0_pay3 (iblk m c 0 t) (iblk m c 1 t)) (View.ld (iblk m c 2 t) r0_11) (View.ld (iblk m c 3 t) r0_12) i
      = resRest (m ((c : Thread nD τ).loc main_arg0)) (m ((c : Thread nD τ).loc main_arg1)) (m ((c : Thread nD τ).loc main_arg2)) (m ((c : Thread nD τ).loc main_arg3)) j := by
  pointwise [k0_pay2, resRest, proj]
  refine congrArg₂ (HAdd.hAdd) (Finset.sum_congr rfl fun k _ => ?_) ?_
  · rw [hidden_at m c t (ix2 (i 0) k) (ix2 (j 0) k) h0 rfl]
    blk_point [iblk, V, idx_val t]
  · blk_point [iblk, V, idx_val t]

theorem rest_at (c : Dev nD) (t : Fin cfg0.N) (i : S512x3072.Idx) (j : Cert.ReferenceProjIdeal.S16384x3072.Idx)
    (h0 : (j 0 : ℕ) = t.val * 512 + i 0) (h1 : (j 1 : ℕ) = i 1) :
    out0_5 (F := Ideal) (iblk m c 0 t) (iblk m c 1 t) (iblk m c 2 t) (iblk m c 3 t) i
      = resRest (m ((c : Thread nD τ).loc main_arg0)) (m ((c : Thread nD τ).loc main_arg1)) (m ((c : Thread nD τ).loc main_arg2)) (m ((c : Thread nD τ).loc main_arg3)) j := by
  unfold out0_5; frame_out
  canon_tiles x hx
  case piece0 =>
    exact restC_at m c t x j (by omega) (by omega)
  case piece1 =>
    exact restB_at m c t x j (by omega) (by omega)
  case piece2 =>
    exact restA_at m c t x j (by omega) (by omega)

/-! ## The arrays after the run -/

theorem final4 (c : Dev nD) : (dats m 0 c).arrAt 4 (cfgs 0).N = resQkv (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact qkv_at m c t y _ (by blk_simp [idx_val t]) (by blk_simp [idx_val t])

theorem final5 (c : Dev nD) : (dats m 0 c).arrAt 5 (cfgs 0).N = resRest (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact rest_at m c t y _ (by blk_simp [idx_val t]) (by blk_simp [idx_val t])

end Cert.Proj

end
-- ==== Proof.Proj.Claim.lean ====
/- The norm and the input projection: the claims about its programs. -/
module

public import proofs.«01_k».proof.Defs
public import proofs.«01_k».proof.Proof.Proj.Final
public import proofs.«01_k».proof.Proof.Gen.KernelProj.Frame
public import proofs.«01_k».proof.Proof.Gen.ReferenceProjIdeal.Run

@[expose] public section

set_option maxRecDepth 16384

noncomputable section

open Idealize.ShloMosaic Idealize.ShloMosaic.TcCoe Idealize.SL.Sem

namespace Cert.Proj

theorem frame_kernel : Cert.quiescent_KernelProj := fun m ρ _ => Cert.KernelProj.Gen.frame m ρ

theorem frame_ideal : Cert.quiescent_KernelProjIdeal := fun m ρ _ => Cert.KernelProjIdeal.Gen.frame m ρ

theorem frame_reference : Cert.quiescent_ReferenceProjIdeal := fun m ρ _ =>
  (θ_run Cert.ReferenceProjIdeal.defs _ _).mono (fun r h => ⟨fun c => (h c).2.2,
      Idealize.ShloMosaic.sem_eq_zero_of_no_sems (by decide) r.2⟩)
    (Cert.ReferenceProjIdeal.Value.run (F := Ideal) m ρ)

theorem preserves : Cert.preserves_KernelProj_KernelProjIdeal := trivial

theorem algebraic : Cert.algebraic_KernelProjIdeal_ReferenceProjIdeal := by
  intro m ρ m' ρ' _ hagree
  refine ⟨fun c => resQkv (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)),
    fun c => resRest (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)), ?_, ?_⟩
  · refine (θ_run Cert.KernelProjIdeal.defs _ _).mono (fun r h c => ?_) (Cert.KernelProjIdeal.Value.run_blocks (F := Ideal) m ρ)
    obtain ⟨h0, h1, ha⟩ := h c
    exact ⟨h0.trans (final4 m c), h1.trans (final5 m c), ha⟩
  · refine (θ_run Cert.ReferenceProjIdeal.defs _ _).mono (fun r h c => ?_) (Cert.ReferenceProjIdeal.Value.run (F := Ideal) m' ρ')
    obtain ⟨h0, h1, ha⟩ := h c
    obtain ⟨e0, e1, e2, e3⟩ := hagree c
    refine ⟨?_, ?_, ha⟩
    · beta_reduce; rw [← e0, ← e1, ← e2, ← e3]; exact h0
    · beta_reduce; rw [← e0, ← e1, ← e2, ← e3]; exact h1

end Cert.Proj

end
-- ==== Proof.Out.Final.lean ====
/- The gated merge of the two branches and its projection: the array the kernel writes is the reference's. -/
module

public import proofs.«01_k».proof.Proof.Gen.KernelOutIdeal.Value
public import proofs.«01_k».proof.Proof.Gen.ReferenceOutIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out

open Cert.KernelOutIdeal Cert.KernelOutIdeal.Gen

/-! ## The reference's arrays -/

/-- The attention branch's gate: the logistic function of its columns. -/
def gateA (r : FVec Ideal Cert.ReferenceOutIdeal.S16384x3072 .f32) : FVec Ideal Cert.ReferenceOutIdeal.S16384x1024 .f32 :=
  Host.divf (broadcastInDim Cert.ReferenceOutIdeal.S16384x1024 ![] Cert.ReferenceOutIdeal.Gen.bcast_S_S16384x1024 (constant Cert.ReferenceOutIdeal.S_ .f32 0x3F800000#32)) (addf (broadcastInDim Cert.ReferenceOutIdeal.S16384x1024 ![] Cert.ReferenceOutIdeal.Gen.bcast_S_S16384x1024 (constant Cert.ReferenceOutIdeal.S_ .f32 0x3F800000#32))
    (Host.exp (Host.negf (extractStridedSlice Cert.ReferenceOutIdeal.S16384x1024 ![0, 1024] r Cert.ReferenceOutIdeal.Gen.slices_S16384x3072_S16384x1024_0_1024))))

/-- The convolution branch's gate. -/
def gateC (r : FVec Ideal Cert.ReferenceOutIdeal.S16384x3072 .f32) : FVec Ideal Cert.ReferenceOutIdeal.S16384x1024 .f32 :=
  Host.divf (broadcastInDim Cert.ReferenceOutIdeal.S16384x1024 ![] Cert.ReferenceOutIdeal.Gen.bcast_S_S16384x1024 (constant Cert.ReferenceOutIdeal.S_ .f32 0x3F800000#32)) (addf (broadcastInDim Cert.ReferenceOutIdeal.S16384x1024 ![] Cert.ReferenceOutIdeal.Gen.bcast_S_S16384x1024 (constant Cert.ReferenceOutIdeal.S_ .f32 0x3F800000#32))
    (Host.exp (Host.negf (extractStridedSlice Cert.ReferenceOutIdeal.S16384x1024 ![0, 2048] r Cert.ReferenceOutIdeal.Gen.slices_S16384x3072_S16384x1024_0_2048))))

/-- A branch's projection. -/
def proj (a : FVec Ideal Cert.ReferenceOutIdeal.S16384x512 .bf16) (w : FVec Ideal Cert.ReferenceOutIdeal.S512x1024 .bf16) : FVec Ideal Cert.ReferenceOutIdeal.S16384x1024 .f32 :=
  Host.dotGeneral Cert.ReferenceOutIdeal.dot_S16384x512_S512x1024_S16384x1024_1_0_0_1_n_n none (extf .f32 a Cert.ReferenceOutIdeal.Gen.bitsLt_bf16_f32) (extf .f32 w Cert.ReferenceOutIdeal.Gen.bitsLt_bf16_f32)

/-- The gated sum of the branches. -/
def merged (a b : FVec Ideal Cert.ReferenceOutIdeal.S16384x512 .bf16) (r : FVec Ideal Cert.ReferenceOutIdeal.S16384x3072 .f32)
    (wa wb : FVec Ideal Cert.ReferenceOutIdeal.S512x1024 .bf16) (bias : FVec Ideal Cert.ReferenceOutIdeal.S1x1024 .f32) : FVec Ideal Cert.ReferenceOutIdeal.S16384x1024 .f32 :=
  addf (mulf (gateA r) (proj a wa))
    (mulf (gateC r) (addf (proj b wb) (broadcastInDim Cert.ReferenceOutIdeal.S16384x1024 ![0, 1] Cert.ReferenceOutIdeal.Gen.bcast_S1x1024_S16384x1024_0_1 bias)))

/-- The rows after the mixing block. -/
def resOut (x : FVec Ideal Cert.ReferenceOutIdeal.S16384x1024 .f32) (a b : FVec Ideal Cert.ReferenceOutIdeal.S16384x512 .bf16) (r : FVec Ideal Cert.ReferenceOutIdeal.S16384x3072 .f32)
    (wa wb : FVec Ideal Cert.ReferenceOutIdeal.S512x1024 .bf16) (bias : FVec Ideal Cert.ReferenceOutIdeal.S1x1024 .f32) (w : FVec Ideal Cert.ReferenceOutIdeal.S1024x1024 .bf16) : FVec Ideal Cert.ReferenceOutIdeal.S16384x1024 .f32 :=
  addf x (Host.dotGeneral Cert.ReferenceOutIdeal.dot_S16384x1024_S1024x1024_S16384x1024_1_0_0_1_n_n none (merged a b r wa wb bias) (extf .f32 w Cert.ReferenceOutIdeal.Gen.bitsLt_bf16_f32))

/-! ## The blocks -/

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 1]
    ∧ win0_4.index t = ![t.val, 2]
    ∧ win0_5.index t = ![0, 0]
    ∧ win0_6.index t = ![0, 0]
    ∧ win0_7.index t = ![0, 0]
    ∧ win0_8.index t = ![0, 0]
    ∧ win0_9.index t = ![t.val, 0] :=
  (by decide +kernel : ∀ t : Fin grid0.N, _)

theorem out_at (c : Dev nD) (t : Fin cfg0.N) (i : S512x1024.Idx) (j : Cert.ReferenceOutIdeal.S16384x1024.Idx)
    (h0 : (j 0 : ℕ) = t.val * 512 + i 0) (h1 : (j 1 : ℕ) = i 1) :
    k0_pay1 (F := Ideal) (iblk m c 0 t) (k0_pay2 (iblk m c 1 t) (iblk m c 5 t) (iblk m c 2 t) (iblk m c 6 t) (iblk m c 7 t) (iblk m c 3 t) (iblk m c 4 t) (iblk m c 8 t)) i = resOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  have e1 : ∀ k : Fin 512, iblk m c 1 t (ix2 (i 0) k) = (m ((c : Thread nD τ).loc main_arg1)) (ix2 (j 0) k) := fun k => by blk_point [iblk, V, idx_val t]
  have e2 : ∀ k : Fin 512, iblk m c 2 t (ix2 (i 0) k) = (m ((c : Thread nD τ).loc main_arg2)) (ix2 (j 0) k) := fun k => by blk_point [iblk, V, idx_val t]
  have e3 : ∀ k : Fin 1024, iblk m c 3 t (ix2 (i 0) k) = (m ((c : Thread nD τ).loc main_arg3)) (ix2 (j 0) ⟨1024 + k, by omega⟩) := fun k => by blk_point [iblk, V, idx_val t]
  have e4 : ∀ k : Fin 1024, iblk m c 4 t (ix2 (i 0) k) = (m ((c : Thread nD τ).loc main_arg3)) (ix2 (j 0) ⟨2048 + k, by omega⟩) := fun k => by blk_point [iblk, V, idx_val t]
  have e5 : ∀ (l : Fin 512) (k : Fin 1024), iblk m c 5 t (ix2 l k) = (m ((c : Thread nD τ).loc main_arg4)) (ix2 l k) := fun l k => by blk_point [iblk, V, idx_val t]
  have e6 : ∀ (l : Fin 512) (k : Fin 1024), iblk m c 6 t (ix2 l k) = (m ((c : Thread nD τ).loc main_arg5)) (ix2 l k) := fun l k => by blk_point [iblk, V, idx_val t]
  have e7 : ∀ k : Fin 1024, iblk m c 7 t (ix2 0 k) = (m ((c : Thread nD τ).loc main_arg6)) (ix2 0 k) := fun k => by blk_point [iblk, V, idx_val t]
  have e8 : ∀ k : Fin 1024, iblk m c 8 t (ix2 k (i 1)) = (m ((c : Thread nD τ).loc main_arg7)) (ix2 k (j 1)) := fun k => by blk_point [iblk, V, idx_val t]
  have e0 : iblk m c 0 t i = (m ((c : Thread nD τ).loc main_arg0)) j := by blk_point [iblk, V, idx_val t]
  pointwise [k0_pay1, k0_pay2, resOut, merged, gateA, gateC, proj]
  simp only [e0, e1, e2, e3, e4, e5, e6, e7, e8, zero_sub]

/-! ## The array after the run -/

theorem final9 (c : Dev nD) : (dats m 0 c).arrAt 9 (cfgs 0).N = resOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  frame_out
  exact out_at m c t y _ (by blk_simp [idx_val t]) (by blk_simp [idx_val t])

end Cert.Out

end
-- ==== Proof.Out.Claim.lean ====
/- The gated merge and its projection: the claims about its programs. -/
module

public import proofs.«01_k».proof.Defs
public import proofs.«01_k».proof.Proof.Out.Final
public import proofs.«01_k».proof.Proof.Gen.KernelOut.Frame
public import proofs.«01_k».proof.Proof.Gen.ReferenceOutIdeal.Run

@[expose] public section

set_option maxRecDepth 16384

noncomputable section

open Idealize.ShloMosaic Idealize.ShloMosaic.TcCoe Idealize.SL.Sem

namespace Cert.Out

theorem frame_kernel : Cert.quiescent_KernelOut := fun m ρ _ => Cert.KernelOut.Gen.frame m ρ

theorem frame_ideal : Cert.quiescent_KernelOutIdeal := fun m ρ _ => Cert.KernelOutIdeal.Gen.frame m ρ

theorem frame_reference : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

theorem preserves : Cert.preserves_KernelOut_KernelOutIdeal := trivial

theorem algebraic : Cert.algebraic_KernelOutIdeal_ReferenceOutIdeal := by
  intro m ρ m' ρ' _ hagree
  refine ⟨fun c => resOut (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6)) (m ((c.tc : Thread Cert.KernelOutIdeal.nD Cert.KernelOutIdeal.τ).loc Cert.KernelOutIdeal.main_arg7)), ?_, ?_⟩
  · refine (θ_run Cert.KernelOutIdeal.defs _ _).mono (fun r h c => ?_) (Cert.KernelOutIdeal.Value.run_blocks (F := Ideal) m ρ)
    obtain ⟨h0, ha⟩ := h c
    exact ⟨h0.trans (final9 m c), ha⟩
  · refine (θ_run Cert.ReferenceOutIdeal.defs _ _).mono (fun r h c => ?_) (Cert.ReferenceOutIdeal.Value.run (F := Ideal) m' ρ')
    obtain ⟨h0, ha⟩ := h c
    obtain ⟨e0, e1, e2, e3, e4, e5, e6, e7⟩ := hagree c
    refine ⟨?_, ha⟩
    · beta_reduce; rw [← e0, ← e1, ← e2, ← e3, ← e4, ← e5, ← e6, ← e7]; exact h0

end Cert.Out

end
-- ==== Proof.Wout.Final.lean ====
/- The gradient of the output projection's weight: the result array after the run is the reference's. -/
module

public import proofs.«01_k».proof.Proof.Gen.KernelWoutIdeal.Value
public import proofs.«01_k».proof.Proof.Gen.ReferenceWoutIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Wout

open Cert.KernelWoutIdeal Cert.KernelWoutIdeal.Gen

variable (m : (ℓ : Loc nD τ sig) → Buf (Elt Ideal) ℓ)

/-- The weight's gradient, as the reference computes it. -/
def res (a0 : FVec Ideal Cert.ReferenceWoutIdeal.S16384x1024 .bf16) (a1 : FVec Ideal Cert.ReferenceWoutIdeal.S16384x1024 .f32) : FVec Ideal Cert.ReferenceWoutIdeal.S1024x1024 .f32 :=
  transpose Cert.ReferenceWoutIdeal.S1024x1024 [1, 0] (Host.dotGeneral Cert.ReferenceWoutIdeal.dot_S16384x1024_S16384x1024_S1024x1024_0_0_1_1_n_n none a1 (extf .f32 a0 Cert.ReferenceWoutIdeal.Gen.bitsLt_bf16_f32)) Cert.ReferenceWoutIdeal.Gen.transposes_S1024x1024_S1024x1024_1_0

/-- Every window's block index at every grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- What one grid point adds to an element of its output block: the products over its 2048 rows. -/
def part (a0 : FVec Ideal Cert.ReferenceWoutIdeal.S16384x1024 .bf16) (a1 : FVec Ideal Cert.ReferenceWoutIdeal.S16384x1024 .f32) (p : Fin cfg0.N) (j : S1024x1024.Idx) : EReal :=
  ∑ r : Fin 2048, a0 (ix2 ⟨p.val * 2048 + r.val, by have := lt_of_lt_of_eq p.isLt N_0; omega⟩ (j 0))
    * a1 (ix2 ⟨p.val * 2048 + r.val, by have := lt_of_lt_of_eq p.isLt N_0; omega⟩ (j 1))

theorem acc_at (c : Dev nD) (t : Fin cfg0.N) (v : Vec Ideal S1024x1024 .f32) (i : S1024x1024.Idx) :
    k0_pay2 (F := Ideal) (iblk m c 0 t) (iblk m c 1 t) v i = v i + part (m ((c : Thread nD τ).loc main_arg0)) (m ((c : Thread nD τ).loc main_arg1)) t i := by
  pointwise [k0_pay2, part]
  refine congrArg₂ (· + ·) ?_ (Finset.sum_congr rfl fun r _ => ?_)
  all_goals blk_point [iblk, V, idx_val t]

theorem zero_at (i : S1024x1024.Idx) : k0_pay1 (F := Ideal) i = 0 := by pointwise [k0_pay1]

theorem final2 (c : Dev nD) : (dats m 0 c).arrAt 2 (cfgs 0).N = res (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (fun p j => part (m ((c : Thread nD τ).loc main_arg0)) (m ((c : Thread nD τ).loc main_arg1)) p j)
    (fun t h j => by rw [outsAt0_A m c t h]; frame_out; rw [acc_at, zero_at])
    (fun t h j => by rw [outsAt0_B m c t h]; frame_out; rw [acc_at])
    t ((flush0_2 t).mp hf) _, zero_add]
  unfold part
  pointwise [res]
  refine Fin.sum_mul_add_congr fun s k hl => ?_
  rw [mul_comm]
  congr 1 <;> blk_ext [idx_val t]

end Cert.Wout

end
-- ==== Proof.Wout.Claim.lean ====
/- The gradient of the output projection's weight: the claims about its programs. -/
module

public import proofs.«01_k».proof.Defs
public import proofs.«01_k».proof.Proof.Wout.Final
public import proofs.«01_k».proof.Proof.Gen.KernelWout.Frame
public import proofs.«01_k».proof.Proof.Gen.ReferenceWoutIdeal.Run

@[expose] public section

set_option maxRecDepth 16384

noncomputable section

open Idealize.ShloMosaic Idealize.ShloMosaic.TcCoe Idealize.SL.Sem

namespace Cert.Wout

theorem frame_kernel : Cert.quiescent_KernelWout := fun m ρ _ => Cert.KernelWout.Gen.frame m ρ

theorem frame_ideal : Cert.quiescent_KernelWoutIdeal := fun m ρ _ => Cert.KernelWoutIdeal.Gen.frame m ρ

theorem frame_reference : Cert.quiescent_ReferenceWoutIdeal := fun m ρ _ =>
  (θ_run Cert.ReferenceWoutIdeal.defs _ _).mono (fun r h => ⟨fun c => (h c).2,
      Idealize.ShloMosaic.sem_eq_zero_of_no_sems (by decide) r.2⟩)
    (Cert.ReferenceWoutIdeal.Value.run (F := Ideal) m ρ)

theorem preserves : Cert.preserves_KernelWout_KernelWoutIdeal := trivial

theorem algebraic : Cert.algebraic_KernelWoutIdeal_ReferenceWoutIdeal := by
  intro m ρ m' ρ' _ hagree
  refine ⟨fun c => res (m ((c.tc : Thread Cert.KernelWoutIdeal.nD Cert.KernelWoutIdeal.τ).loc Cert.KernelWoutIdeal.main_arg0)) (m ((c.tc : Thread Cert.KernelWoutIdeal.nD Cert.KernelWoutIdeal.τ).loc Cert.KernelWoutIdeal.main_arg1)), ?_, ?_⟩
  · refine (θ_run Cert.KernelWoutIdeal.defs _ _).mono (fun r h c => ?_) (Cert.KernelWoutIdeal.Value.run_blocks (F := Ideal) m ρ)
    obtain ⟨h0, ha⟩ := h c
    exact ⟨h0.trans (final2 m c), ha⟩
  · refine (θ_run Cert.ReferenceWoutIdeal.defs _ _).mono (fun r h c => ?_) (Cert.ReferenceWoutIdeal.Value.run (F := Ideal) m' ρ')
    obtain ⟨h0, ha⟩ := h c
    obtain ⟨e0, e1⟩ := hagree c
    refine ⟨?_, ha⟩
    · beta_reduce; rw [← e0, ← e1]; exact h0

end Cert.Wout

end
-- ==== Proof.Wattn.Final.lean ====
/- The gradient of the attention branch's projection weight: the result array after the run is the reference's. -/
module

public import proofs.«01_k».proof.Proof.Gen.KernelWattnIdeal.Value
public import proofs.«01_k».proof.Proof.Gen.ReferenceWattnIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Wattn

open Cert.KernelWattnIdeal Cert.KernelWattnIdeal.Gen

variable (m : (ℓ : Loc nD τ sig) → Buf (Elt Ideal) ℓ)

/-- The weight's gradient, its columns cut in one piece for each device, as the reference computes it. -/
def res (a0 : FVec Ideal Cert.ReferenceWattnIdeal.S16384x512 .bf16) (a1 : FVec Ideal Cert.ReferenceWattnIdeal.S16384x1024 .bf16) : FVec Ideal Cert.ReferenceWattnIdeal.S4x512x256 .f32 :=
  transpose Cert.ReferenceWattnIdeal.S4x512x256 [1, 0, 2] (shapeCast _ (transpose Cert.ReferenceWattnIdeal.S512x1024 [1, 0] (Host.dotGeneral Cert.ReferenceWattnIdeal.dot_S16384x1024_S16384x512_S1024x512_0_0_1_1_n_n none (extf .f32 a1 Cert.ReferenceWattnIdeal.Gen.bitsLt_bf16_f32) (extf .f32 a0 Cert.ReferenceWattnIdeal.Gen.bitsLt_bf16_f32)) Cert.ReferenceWattnIdeal.Gen.transposes_S1024x512_S512x1024_1_0) Cert.ReferenceWattnIdeal.Gen.shapeCasts_S512x1024_S512x4x256) Cert.ReferenceWattnIdeal.Gen.transposes_S512x4x256_S4x512x256_1_0_2

/-- Every window's block index at every grid point. -/
theorem idx_val : ∀ t : Fin cfg0.N, win0_0.index t = ![t.val, 0]
    ∧ win0_1.index t = ![t.val, 0]
    ∧ win0_2.index t = ![0, 0, 0] :=
  (by decide +kernel : ∀ t : Fin grid0.N, _)

/-- What one grid point adds to an element of the result: the products over its 4096 rows. -/
def part (a0 : FVec Ideal Cert.ReferenceWattnIdeal.S16384x512 .bf16) (a1 : FVec Ideal Cert.ReferenceWattnIdeal.S16384x1024 .bf16) (p : Fin cfg0.N) (j : S4x512x256.Idx) : EReal :=
  ∑ r : Fin 4096, a0 (ix2 ⟨p.val * 4096 + r.val, by have := lt_of_lt_of_eq p.isLt N_0; omega⟩ (j 1))
    * a1 (ix2 ⟨p.val * 4096 + r.val, by have := lt_of_lt_of_eq p.isLt N_0; omega⟩
      ⟨(j 0 : ℕ) * 256 + (j 2 : ℕ), by have h0 : (j 0 : ℕ) < 4 := (j 0).isLt; have h2 : (j 2 : ℕ) < 256 := (j 2).isLt; omega⟩)

theorem acc0_at (c : Dev nD) (t : Fin cfg0.N) (v : Vec Ideal S1x512x256 .f32) (i : S1x512x256.Idx) (j : S4x512x256.Idx)
    (h0 : (j 0 : ℕ) = 0 + (i 0 : ℕ)) (h1 : (j 1 : ℕ) = (i 1 : ℕ)) (h2 : (j 2 : ℕ) = (i 2 : ℕ)) :
    k0_pay4 (F := Ideal) (iblk m c 0 t) (iblk m c 1 t) v i = v i + part (m ((c : Thread nD τ).loc main_arg0)) (m ((c : Thread nD τ).loc main_arg1)) t j := by
  have hi : (i 0 : ℕ) < 1 := (i 0).isLt
  pointwise [k0_pay4, k0_pay3, part]
  refine congrArg₂ (· + ·) ?_ (Finset.sum_congr rfl fun r _ => ?_)
  all_goals blk_point [iblk, V, idx_val t]

theorem acc1_at (c : Dev nD) (t : Fin cfg0.N) (v : Vec Ideal S1x512x256 .f32) (i : S1x512x256.Idx) (j : S4x512x256.Idx)
    (h0 : (j 0 : ℕ) = 1 + (i 0 : ℕ)) (h1 : (j 1 : ℕ) = (i 1 : ℕ)) (h2 : (j 2 : ℕ) = (i 2 : ℕ)) :
    k0_pay5 (F := Ideal) (iblk m c 0 t) (iblk m c 1 t) v i = v i + part (m ((c : Thread nD τ).loc main_arg0)) (m ((c : Thread nD τ).loc main_arg1)) t j := by
  have hi : (i 0 : ℕ) < 1 := (i 0).isLt
  pointwise [k0_pay5, k0_pay3, part]
  refine congrArg₂ (· + ·) ?_ (Finset.sum_congr rfl fun r _ => ?_)
  all_goals blk_point [iblk, V, idx_val t]

theorem acc2_at (c : Dev nD) (t : Fin cfg0.N) (v : Vec Ideal S1x512x256 .f32) (i : S1x512x256.Idx) (j : S4x512x256.Idx)
    (h0 : (j 0 : ℕ) = 2 + (i 0 : ℕ)) (h1 : (j 1 : ℕ) = (i 1 : ℕ)) (h2 : (j 2 : ℕ) = (i 2 : ℕ)) :
    k0_pay6 (F := Ideal) (iblk m c 0 t) (iblk m c 1 t) v i = v i + part (m ((c : Thread nD τ).loc main_arg0)) (m ((c : Thread nD τ).loc main_arg1)) t j := by
  have hi : (i 0 : ℕ) < 1 := (i 0).isLt
  pointwise [k0_pay6, k0_pay3, part]
  refine congrArg₂ (· + ·) ?_ (Finset.sum_congr rfl fun r _ => ?_)
  all_goals blk_point [iblk, V, idx_val t]

theorem acc3_at (c : Dev nD) (t : Fin cfg0.N) (v : Vec Ideal S1x512x256 .f32) (i : S1x512x256.Idx) (j : S4x512x256.Idx)
    (h0 : (j 0 : ℕ) = 3 + (i 0 : ℕ)) (h1 : (j 1 : ℕ) = (i 1 : ℕ)) (h2 : (j 2 : ℕ) = (i 2 : ℕ)) :
    k0_pay1 (F := Ideal) (k0_pay3 (iblk m c 0 t) (iblk m c 1 t)) v i = v i + part (m ((c : Thread nD τ).loc main_arg0)) (m ((c : Thread nD τ).loc main_arg1)) t j := by
  have hi : (i 0 : ℕ) < 1 := (i 0).isLt
  pointwise [k0_pay1, k0_pay3, part]
  refine congrArg₂ (· + ·) ?_ (Finset.sum_congr rfl fun r _ => ?_)
  all_goals blk_point [iblk, V, idx_val t]

theorem zero_at (i : S4x512x256.Idx) : k0_pay2 (F := Ideal) i = 0 := by pointwise [k0_pay2]

theorem step_A (c : Dev nD) (t : Fin cfg0.N) (h : t.val % 4 = 0) (j : S4x512x256.Idx) :
    outsAt0 m c t.val t.isLt j = 0 + part (m ((c : Thread nD τ).loc main_arg0)) (m ((c : Thread nD τ).loc main_arg1)) t j := by
  rw [outsAt0_A m c t h]; frame_out
  simp (disch := decide) only [↓ View.readCov_skip, ↓ View.readCov_fill]
  refine View.canon_append_of_piecesOf (Val := Elt Ideal) (e := .f32) (fun j : S4x512x256.Idx => (0 + part (m ((c : Thread nD τ).loc main_arg0)) (m ((c : Thread nD τ).loc main_arg1)) t j : EReal)) [_] [_, _, _, _]
    ⟨fun x => ?_, fun x => ?_, fun x => ?_, fun x => ?_, trivial⟩ j ?_
  · refine (acc3_at m c t _ x _ (Rect.idx_unit_val (s := S4x512x256) ![3, 0, 0] ![1, 512, 256] inb_S4x512x256_S1x512x256_3_0_0 x 0) ((Rect.idx_unit_val (s := S4x512x256) ![3, 0, 0] ![1, 512, 256] inb_S4x512x256_S1x512x256_3_0_0 x 1).trans (Nat.zero_add _))
      ((Rect.idx_unit_val (s := S4x512x256) ![3, 0, 0] ![1, 512, 256] inb_S4x512x256_S1x512x256_3_0_0 x 2).trans (Nat.zero_add _))).trans ?_
    exact congrArg (· + _) (zero_at _)
  · refine (acc2_at m c t _ x _ (Rect.idx_unit_val (s := S4x512x256) ![2, 0, 0] ![1, 512, 256] inb_S4x512x256_S1x512x256_2_0_0 x 0) ((Rect.idx_unit_val (s := S4x512x256) ![2, 0, 0] ![1, 512, 256] inb_S4x512x256_S1x512x256_2_0_0 x 1).trans (Nat.zero_add _))
      ((Rect.idx_unit_val (s := S4x512x256) ![2, 0, 0] ![1, 512, 256] inb_S4x512x256_S1x512x256_2_0_0 x 2).trans (Nat.zero_add _))).trans ?_
    exact congrArg (· + _) (zero_at _)
  · refine (acc1_at m c t _ x _ (Rect.idx_unit_val (s := S4x512x256) ![1, 0, 0] ![1, 512, 256] inb_S4x512x256_S1x512x256_1_0_0 x 0) ((Rect.idx_unit_val (s := S4x512x256) ![1, 0, 0] ![1, 512, 256] inb_S4x512x256_S1x512x256_1_0_0 x 1).trans (Nat.zero_add _))
      ((Rect.idx_unit_val (s := S4x512x256) ![1, 0, 0] ![1, 512, 256] inb_S4x512x256_S1x512x256_1_0_0 x 2).trans (Nat.zero_add _))).trans ?_
    exact congrArg (· + _) (zero_at _)
  · refine (acc0_at m c t _ x _ (Rect.idx_unit_val (s := S4x512x256) ![0, 0, 0] ![1, 512, 256] inb_S4x512x256_S1x512x256_0_0_0 x 0) ((Rect.idx_unit_val (s := S4x512x256) ![0, 0, 0] ![1, 512, 256] inb_S4x512x256_S1x512x256_0_0_0 x 1).trans (Nat.zero_add _))
      ((Rect.idx_unit_val (s := S4x512x256) ![0, 0, 0] ![1, 512, 256] inb_S4x512x256_S1x512x256_0_0_0 x 2).trans (Nat.zero_add _))).trans ?_
    exact congrArg (· + _) (zero_at _)
  · have hj1 : (j 1 : ℕ) < 512 := (j 1).isLt
    have hj2 : (j 2 : ℕ) < 256 := (j 2).isLt
    have hj0 : (j 0 : ℕ) < 4 := (j 0).isLt
    have cases : (j 0 : ℕ) = 3 ∨ (j 0 : ℕ) = 2 ∨ (j 0 : ℕ) = 1 ∨ (j 0 : ℕ) = 0 := by omega
    rcases cases with e | e | e | e
    · refine ⟨_, List.mem_cons_self, (Rect.mem_set_unit (inb := inb_S4x512x256_S1x512x256_3_0_0)).mpr fun a => ?_⟩
      match a with
      | 0 => exact ⟨by show 3 ≤ (j 0 : ℕ); omega, by show (j 0 : ℕ) < 3 + 1; omega⟩
      | 1 => exact ⟨Nat.zero_le _, by show (j 1 : ℕ) < 0 + 512; omega⟩
      | 2 => exact ⟨Nat.zero_le _, by show (j 2 : ℕ) < 0 + 256; omega⟩
    · refine ⟨_, List.mem_cons_of_mem _ List.mem_cons_self, (Rect.mem_set_unit (inb := inb_S4x512x256_S1x512x256_2_0_0)).mpr fun a => ?_⟩
      match a with
      | 0 => exact ⟨by show 2 ≤ (j 0 : ℕ); omega, by show (j 0 : ℕ) < 2 + 1; omega⟩
      | 1 => exact ⟨Nat.zero_le _, by show (j 1 : ℕ) < 0 + 512; omega⟩
      | 2 => exact ⟨Nat.zero_le _, by show (j 2 : ℕ) < 0 + 256; omega⟩
    · refine ⟨_, List.mem_cons_of_mem _ (List.mem_cons_of_mem _ List.mem_cons_self), (Rect.mem_set_unit (inb := inb_S4x512x256_S1x512x256_1_0_0)).mpr fun a => ?_⟩
      match a with
      | 0 => exact ⟨by show 1 ≤ (j 0 : ℕ); omega, by show (j 0 : ℕ) < 1 + 1; omega⟩
      | 1 => exact ⟨Nat.zero_le _, by show (j 1 : ℕ) < 0 + 512; omega⟩
      | 2 => exact ⟨Nat.zero_le _, by show (j 2 : ℕ) < 0 + 256; omega⟩
    · refine ⟨_, List.mem_cons_of_mem _ (List.mem_cons_of_mem _ (List.mem_cons_of_mem _ List.mem_cons_self)), (Rect.mem_set_unit (inb := inb_S4x512x256_S1x512x256_0_0_0)).mpr fun a => ?_⟩
      match a with
      | 0 => exact ⟨by show 0 ≤ (j 0 : ℕ); omega, by show (j 0 : ℕ) < 0 + 1; omega⟩
      | 1 => exact ⟨Nat.zero_le _, by show (j 1 : ℕ) < 0 + 512; omega⟩
      | 2 => exact ⟨Nat.zero_le _, by show (j 2 : ℕ) < 0 + 256; omega⟩

theorem step_B (c : Dev nD) (t : Fin cfg0.N) (h : ¬ t.val % 4 = 0) (j : S4x512x256.Idx) :
    outsAt0 m c t.val t.isLt j = outsAt0 m c (t.val - 1) (Nat.lt_of_le_of_lt (Nat.sub_le _ _) t.isLt) j + part (m ((c : Thread nD τ).loc main_arg0)) (m ((c : Thread nD τ).loc main_arg1)) t j := by
  rw [outsAt0_B m c t h]; frame_out
  generalize outsAt0 m c (t.val - 1) (Nat.lt_of_le_of_lt (Nat.sub_le _ _) t.isLt) = prev
  canon_tiles x hx
  case piece0 =>
    rw [acc3_at m c t _ x j hx0 hx1 hx2]
    exact congrArg (· + _) (View.ld_unit_apply_of _ _ _ _ _ j (fun a => by
      fin_cases a; exacts [hx0, hx1.trans (Nat.zero_add _).symm, hx2.trans (Nat.zero_add _).symm]))
  case piece1 =>
    rw [acc2_at m c t _ x j hx0 hx1 hx2]
    exact congrArg (· + _) (View.ld_unit_apply_of _ _ _ _ _ j (fun a => by
      fin_cases a; exacts [hx0, hx1.trans (Nat.zero_add _).symm, hx2.trans (Nat.zero_add _).symm]))
  case piece2 =>
    rw [acc1_at m c t _ x j hx0 hx1 hx2]
    exact congrArg (· + _) (View.ld_unit_apply_of _ _ _ _ _ j (fun a => by
      fin_cases a; exacts [hx0, hx1.trans (Nat.zero_add _).symm, hx2.trans (Nat.zero_add _).symm]))
  case piece3 =>
    rw [acc0_at m c t _ x j (hx0.trans (Nat.zero_add _).symm) hx1 hx2]
    exact congrArg (· + _) (View.ld_unit_apply_of _ _ _ _ _ j (fun a => by
      fin_cases a; exacts [hx0.trans (Nat.zero_add _).symm, hx1.trans (Nat.zero_add _).symm, hx2.trans (Nat.zero_add _).symm]))

theorem final2 (c : Dev nD) : (dats m 0 c).arrAt 2 (cfgs 0).N = res (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => part (m ((c : Thread nD τ).loc main_arg0)) (m ((c : Thread nD τ).loc main_arg1)) p j)
    (fun t h j => step_A m c t h j) (fun t h j => step_B m c t h j)
    t ((flush0_2 t).mp hf) _, zero_add]
  unfold part
  pointwise [res]
  refine Fin.sum_mul_add_congr fun s k hl => ?_
  rw [mul_comm]
  congr 1 <;> blk_ext [idx_val t]

end Cert.Wattn

end
-- ==== Proof.Wattn.Claim.lean ====
/- The gradient of the attention branch's projection weight: the claims about its programs. -/
module

public import proofs.«01_k».proof.Defs
public import proofs.«01_k».proof.Proof.Wattn.Final
public import proofs.«01_k».proof.Proof.Gen.KernelWattn.Frame
public import proofs.«01_k».proof.Proof.Gen.ReferenceWattnIdeal.Run

@[expose] public section

set_option maxRecDepth 16384

noncomputable section

open Idealize.ShloMosaic Idealize.ShloMosaic.TcCoe Idealize.SL.Sem

namespace Cert.Wattn

theorem frame_kernel : Cert.quiescent_KernelWattn := fun m ρ _ => Cert.KernelWattn.Gen.frame m ρ

theorem frame_ideal : Cert.quiescent_KernelWattnIdeal := fun m ρ _ => Cert.KernelWattnIdeal.Gen.frame m ρ

theorem frame_reference : Cert.quiescent_ReferenceWattnIdeal := fun m ρ _ =>
  (θ_run Cert.ReferenceWattnIdeal.defs _ _).mono (fun r h => ⟨fun c => (h c).2,
      Idealize.ShloMosaic.sem_eq_zero_of_no_sems (by decide) r.2⟩)
    (Cert.ReferenceWattnIdeal.Value.run (F := Ideal) m ρ)

theorem preserves : Cert.preserves_KernelWattn_KernelWattnIdeal := trivial

theorem algebraic : Cert.algebraic_KernelWattnIdeal_ReferenceWattnIdeal := by
  intro m ρ m' ρ' _ hagree
  refine ⟨fun c => res (m ((c.tc : Thread Cert.KernelWattnIdeal.nD Cert.KernelWattnIdeal.τ).loc Cert.KernelWattnIdeal.main_arg0)) (m ((c.tc : Thread Cert.KernelWattnIdeal.nD Cert.KernelWattnIdeal.τ).loc Cert.KernelWattnIdeal.main_arg1)), ?_, ?_⟩
  · refine (θ_run Cert.KernelWattnIdeal.defs _ _).mono (fun r h c => ?_) (Cert.KernelWattnIdeal.Value.run_blocks (F := Ideal) m ρ)
    obtain ⟨h0, ha⟩ := h c
    exact ⟨h0.trans (final2 m c), ha⟩
  · refine (θ_run Cert.ReferenceWattnIdeal.defs _ _).mono (fun r h c => ?_) (Cert.ReferenceWattnIdeal.Value.run (F := Ideal) m' ρ')
    obtain ⟨h0, ha⟩ := h c
    obtain ⟨e0, e1⟩ := hagree c
    refine ⟨?_, ha⟩
    · beta_reduce; rw [← e0, ← e1]; exact h0

end Cert.Wattn

end
-- ==== Proof.Wconv.Final.lean ====
/- The gradient of the convolution branch's projection weight: the result array after the run is the reference's. -/
module

public import proofs.«01_k».proof.Proof.Gen.KernelWconvIdeal.Value
public import proofs.«01_k».proof.Proof.Gen.ReferenceWconvIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Wconv

open Cert.KernelWconvIdeal Cert.KernelWconvIdeal.Gen

variable (m : (ℓ : Loc nD τ sig) → Buf (Elt Ideal) ℓ)

/-- The weight's gradient, its columns cut in one piece for each device, as the reference computes it. -/
def res (a0 : FVec Ideal Cert.ReferenceWconvIdeal.S16384x512 .bf16) (a1 : FVec Ideal Cert.ReferenceWconvIdeal.S16384x1024 .bf16) : FVec Ideal Cert.ReferenceWconvIdeal.S4x512x256 .f32 :=
  transpose Cert.ReferenceWconvIdeal.S4x512x256 [1, 0, 2] (shapeCast _ (transpose Cert.ReferenceWconvIdeal.S512x1024 [1, 0] (Host.dotGeneral Cert.ReferenceWconvIdeal.dot_S16384x1024_S16384x512_S1024x512_0_0_1_1_n_n none (extf .f32 a1 Cert.ReferenceWconvIdeal.Gen.bitsLt_bf16_f32) (extf .f32 a0 Cert.ReferenceWconvIdeal.Gen.bitsLt_bf16_f32)) Cert.ReferenceWconvIdeal.Gen.transposes_S1024x512_S512x1024_1_0) Cert.ReferenceWconvIdeal.Gen.shapeCasts_S512x1024_S512x4x256) Cert.ReferenceWconvIdeal.Gen.transposes_S512x4x256_S4x512x256_1_0_2

/-- Every window's block index at every grid point. -/
theorem idx_val : ∀ t : Fin cfg0.N, win0_0.index t = ![t.val, 0]
    ∧ win0_1.index t = ![t.val, 0]
    ∧ win0_2.index t = ![0, 0, 0] :=
  (by decide +kernel : ∀ t : Fin grid0.N, _)

/-- What one grid point adds to an element of the result: the products over its 4096 rows. -/
def part (a0 : FVec Ideal Cert.ReferenceWconvIdeal.S16384x512 .bf16) (a1 : FVec Ideal Cert.ReferenceWconvIdeal.S16384x1024 .bf16) (p : Fin cfg0.N) (j : S4x512x256.Idx) : EReal :=
  ∑ r : Fin 4096, a0 (ix2 ⟨p.val * 4096 + r.val, by have := lt_of_lt_of_eq p.isLt N_0; omega⟩ (j 1))
    * a1 (ix2 ⟨p.val * 4096 + r.val, by have := lt_of_lt_of_eq p.isLt N_0; omega⟩
      ⟨(j 0 : ℕ) * 256 + (j 2 : ℕ), by have h0 : (j 0 : ℕ) < 4 := (j 0).isLt; have h2 : (j 2 : ℕ) < 256 := (j 2).isLt; omega⟩)

theorem acc0_at (c : Dev nD) (t : Fin cfg0.N) (v : Vec Ideal S1x512x256 .f32) (i : S1x512x256.Idx) (j : S4x512x256.Idx)
    (h0 : (j 0 : ℕ) = 0 + (i 0 : ℕ)) (h1 : (j 1 : ℕ) = (i 1 : ℕ)) (h2 : (j 2 : ℕ) = (i 2 : ℕ)) :
    k0_pay4 (F := Ideal) (iblk m c 0 t) (iblk m c 1 t) v i = v i + part (m ((c : Thread nD τ).loc main_arg0)) (m ((c : Thread nD τ).loc main_arg1)) t j := by
  have hi : (i 0 : ℕ) < 1 := (i 0).isLt
  pointwise [k0_pay4, k0_pay3, part]
  refine congrArg₂ (· + ·) ?_ (Finset.sum_congr rfl fun r _ => ?_)
  all_goals blk_point [iblk, V, idx_val t]

theorem acc1_at (c : Dev nD) (t : Fin cfg0.N) (v : Vec Ideal S1x512x256 .f32) (i : S1x512x256.Idx) (j : S4x512x256.Idx)
    (h0 : (j 0 : ℕ) = 1 + (i 0 : ℕ)) (h1 : (j 1 : ℕ) = (i 1 : ℕ)) (h2 : (j 2 : ℕ) = (i 2 : ℕ)) :
    k0_pay5 (F := Ideal) (iblk m c 0 t) (iblk m c 1 t) v i = v i + part (m ((c : Thread nD τ).loc main_arg0)) (m ((c : Thread nD τ).loc main_arg1)) t j := by
  have hi : (i 0 : ℕ) < 1 := (i 0).isLt
  pointwise [k0_pay5, k0_pay3, part]
  refine congrArg₂ (· + ·) ?_ (Finset.sum_congr rfl fun r _ => ?_)
  all_goals blk_point [iblk, V, idx_val t]

theorem acc2_at (c : Dev nD) (t : Fin cfg0.N) (v : Vec Ideal S1x512x256 .f32) (i : S1x512x256.Idx) (j : S4x512x256.Idx)
    (h0 : (j 0 : ℕ) = 2 + (i 0 : ℕ)) (h1 : (j 1 : ℕ) = (i 1 : ℕ)) (h2 : (j 2 : ℕ) = (i 2 : ℕ)) :
    k0_pay6 (F := Ideal) (iblk m c 0 t) (iblk m c 1 t) v i = v i + part (m ((c : Thread nD τ).loc main_arg0)) (m ((c : Thread nD τ).loc main_arg1)) t j := by
  have hi : (i 0 : ℕ) < 1 := (i 0).isLt
  pointwise [k0_pay6, k0_pay3, part]
  refine congrArg₂ (· + ·) ?_ (Finset.sum_congr rfl fun r _ => ?_)
  all_goals blk_point [iblk, V, idx_val t]

theorem acc3_at (c : Dev nD) (t : Fin cfg0.N) (v : Vec Ideal S1x512x256 .f32) (i : S1x512x256.Idx) (j : S4x512x256.Idx)
    (h0 : (j 0 : ℕ) = 3 + (i 0 : ℕ)) (h1 : (j 1 : ℕ) = (i 1 : ℕ)) (h2 : (j 2 : ℕ) = (i 2 : ℕ)) :
    k0_pay1 (F := Ideal) (k0_pay3 (iblk m c 0 t) (iblk m c 1 t)) v i = v i + part (m ((c : Thread nD τ).loc main_arg0)) (m ((c : Thread nD τ).loc main_arg1)) t j := by
  have hi : (i 0 : ℕ) < 1 := (i 0).isLt
  pointwise [k0_pay1, k0_pay3, part]
  refine congrArg₂ (· + ·) ?_ (Finset.sum_congr rfl fun r _ => ?_)
  all_goals blk_point [iblk, V, idx_val t]

theorem zero_at (i : S4x512x256.Idx) : k0_pay2 (F := Ideal) i = 0 := by pointwise [k0_pay2]

theorem step_A (c : Dev nD) (t : Fin cfg0.N) (h : t.val % 4 = 0) (j : S4x512x256.Idx) :
    outsAt0 m c t.val t.isLt j = 0 + part (m ((c : Thread nD τ).loc main_arg0)) (m ((c : Thread nD τ).loc main_arg1)) t j := by
  rw [outsAt0_A m c t h]; frame_out
  simp (disch := decide) only [↓ View.readCov_skip, ↓ View.readCov_fill]
  refine View.canon_append_of_piecesOf (Val := Elt Ideal) (e := .f32) (fun j : S4x512x256.Idx => (0 + part (m ((c : Thread nD τ).loc main_arg0)) (m ((c : Thread nD τ).loc main_arg1)) t j : EReal)) [_] [_, _, _, _]
    ⟨fun x => ?_, fun x => ?_, fun x => ?_, fun x => ?_, trivial⟩ j ?_
  · refine (acc3_at m c t _ x _ (Rect.idx_unit_val (s := S4x512x256) ![3, 0, 0] ![1, 512, 256] inb_S4x512x256_S1x512x256_3_0_0 x 0) ((Rect.idx_unit_val (s := S4x512x256) ![3, 0, 0] ![1, 512, 256] inb_S4x512x256_S1x512x256_3_0_0 x 1).trans (Nat.zero_add _))
      ((Rect.idx_unit_val (s := S4x512x256) ![3, 0, 0] ![1, 512, 256] inb_S4x512x256_S1x512x256_3_0_0 x 2).trans (Nat.zero_add _))).trans ?_
    exact congrArg (· + _) (zero_at _)
  · refine (acc2_at m c t _ x _ (Rect.idx_unit_val (s := S4x512x256) ![2, 0, 0] ![1, 512, 256] inb_S4x512x256_S1x512x256_2_0_0 x 0) ((Rect.idx_unit_val (s := S4x512x256) ![2, 0, 0] ![1, 512, 256] inb_S4x512x256_S1x512x256_2_0_0 x 1).trans (Nat.zero_add _))
      ((Rect.idx_unit_val (s := S4x512x256) ![2, 0, 0] ![1, 512, 256] inb_S4x512x256_S1x512x256_2_0_0 x 2).trans (Nat.zero_add _))).trans ?_
    exact congrArg (· + _) (zero_at _)
  · refine (acc1_at m c t _ x _ (Rect.idx_unit_val (s := S4x512x256) ![1, 0, 0] ![1, 512, 256] inb_S4x512x256_S1x512x256_1_0_0 x 0) ((Rect.idx_unit_val (s := S4x512x256) ![1, 0, 0] ![1, 512, 256] inb_S4x512x256_S1x512x256_1_0_0 x 1).trans (Nat.zero_add _))
      ((Rect.idx_unit_val (s := S4x512x256) ![1, 0, 0] ![1, 512, 256] inb_S4x512x256_S1x512x256_1_0_0 x 2).trans (Nat.zero_add _))).trans ?_
    exact congrArg (· + _) (zero_at _)
  · refine (acc0_at m c t _ x _ (Rect.idx_unit_val (s := S4x512x256) ![0, 0, 0] ![1, 512, 256] inb_S4x512x256_S1x512x256_0_0_0 x 0) ((Rect.idx_unit_val (s := S4x512x256) ![0, 0, 0] ![1, 512, 256] inb_S4x512x256_S1x512x256_0_0_0 x 1).trans (Nat.zero_add _))
      ((Rect.idx_unit_val (s := S4x512x256) ![0, 0, 0] ![1, 512, 256] inb_S4x512x256_S1x512x256_0_0_0 x 2).trans (Nat.zero_add _))).trans ?_
    exact congrArg (· + _) (zero_at _)
  · have hj1 : (j 1 : ℕ) < 512 := (j 1).isLt
    have hj2 : (j 2 : ℕ) < 256 := (j 2).isLt
    have hj0 : (j 0 : ℕ) < 4 := (j 0).isLt
    have cases : (j 0 : ℕ) = 3 ∨ (j 0 : ℕ) = 2 ∨ (j 0 : ℕ) = 1 ∨ (j 0 : ℕ) = 0 := by omega
    rcases cases with e | e | e | e
    · refine ⟨_, List.mem_cons_self, (Rect.mem_set_unit (inb := inb_S4x512x256_S1x512x256_3_0_0)).mpr fun a => ?_⟩
      match a with
      | 0 => exact ⟨by show 3 ≤ (j 0 : ℕ); omega, by show (j 0 : ℕ) < 3 + 1; omega⟩
      | 1 => exact ⟨Nat.zero_le _, by show (j 1 : ℕ) < 0 + 512; omega⟩
      | 2 => exact ⟨Nat.zero_le _, by show (j 2 : ℕ) < 0 + 256; omega⟩
    · refine ⟨_, List.mem_cons_of_mem _ List.mem_cons_self, (Rect.mem_set_unit (inb := inb_S4x512x256_S1x512x256_2_0_0)).mpr fun a => ?_⟩
      match a with
      | 0 => exact ⟨by show 2 ≤ (j 0 : ℕ); omega, by show (j 0 : ℕ) < 2 + 1; omega⟩
      | 1 => exact ⟨Nat.zero_le _, by show (j 1 : ℕ) < 0 + 512; omega⟩
      | 2 => exact ⟨Nat.zero_le _, by show (j 2 : ℕ) < 0 + 256; omega⟩
    · refine ⟨_, List.mem_cons_of_mem _ (List.mem_cons_of_mem _ List.mem_cons_self), (Rect.mem_set_unit (inb := inb_S4x512x256_S1x512x256_1_0_0)).mpr fun a => ?_⟩
      match a with
      | 0 => exact ⟨by show 1 ≤ (j 0 : ℕ); omega, by show (j 0 : ℕ) < 1 + 1; omega⟩
      | 1 => exact ⟨Nat.zero_le _, by show (j 1 : ℕ) < 0 + 512; omega⟩
      | 2 => exact ⟨Nat.zero_le _, by show (j 2 : ℕ) < 0 + 256; omega⟩
    · refine ⟨_, List.mem_cons_of_mem _ (List.mem_cons_of_mem _ (List.mem_cons_of_mem _ List.mem_cons_self)), (Rect.mem_set_unit (inb := inb_S4x512x256_S1x512x256_0_0_0)).mpr fun a => ?_⟩
      match a with
      | 0 => exact ⟨by show 0 ≤ (j 0 : ℕ); omega, by show (j 0 : ℕ) < 0 + 1; omega⟩
      | 1 => exact ⟨Nat.zero_le _, by show (j 1 : ℕ) < 0 + 512; omega⟩
      | 2 => exact ⟨Nat.zero_le _, by show (j 2 : ℕ) < 0 + 256; omega⟩

theorem step_B (c : Dev nD) (t : Fin cfg0.N) (h : ¬ t.val % 4 = 0) (j : S4x512x256.Idx) :
    outsAt0 m c t.val t.isLt j = outsAt0 m c (t.val - 1) (Nat.lt_of_le_of_lt (Nat.sub_le _ _) t.isLt) j + part (m ((c : Thread nD τ).loc main_arg0)) (m ((c : Thread nD τ).loc main_arg1)) t j := by
  rw [outsAt0_B m c t h]; frame_out
  generalize outsAt0 m c (t.val - 1) (Nat.lt_of_le_of_lt (Nat.sub_le _ _) t.isLt) = prev
  canon_tiles x hx
  case piece0 =>
    rw [acc3_at m c t _ x j hx0 hx1 hx2]
    exact congrArg (· + _) (View.ld_unit_apply_of _ _ _ _ _ j (fun a => by
      fin_cases a; exacts [hx0, hx1.trans (Nat.zero_add _).symm, hx2.trans (Nat.zero_add _).symm]))
  case piece1 =>
    rw [acc2_at m c t _ x j hx0 hx1 hx2]
    exact congrArg (· + _) (View.ld_unit_apply_of _ _ _ _ _ j (fun a => by
      fin_cases a; exacts [hx0, hx1.trans (Nat.zero_add _).symm, hx2.trans (Nat.zero_add _).symm]))
  case piece2 =>
    rw [acc1_at m c t _ x j hx0 hx1 hx2]
    exact congrArg (· + _) (View.ld_unit_apply_of _ _ _ _ _ j (fun a => by
      fin_cases a; exacts [hx0, hx1.trans (Nat.zero_add _).symm, hx2.trans (Nat.zero_add _).symm]))
  case piece3 =>
    rw [acc0_at m c t _ x j (hx0.trans (Nat.zero_add _).symm) hx1 hx2]
    exact congrArg (· + _) (View.ld_unit_apply_of _ _ _ _ _ j (fun a => by
      fin_cases a; exacts [hx0.trans (Nat.zero_add _).symm, hx1.trans (Nat.zero_add _).symm, hx2.trans (Nat.zero_add _).symm]))

theorem final2 (c : Dev nD) : (dats m 0 c).arrAt 2 (cfgs 0).N = res (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => part (m ((c : Thread nD τ).loc main_arg0)) (m ((c : Thread nD τ).loc main_arg1)) p j)
    (fun t h j => step_A m c t h j) (fun t h j => step_B m c t h j)
    t ((flush0_2 t).mp hf) _, zero_add]
  unfold part
  pointwise [res]
  refine Fin.sum_mul_add_congr fun s k hl => ?_
  rw [mul_comm]
  congr 1 <;> blk_ext [idx_val t]

end Cert.Wconv

end
-- ==== Proof.Wconv.Claim.lean ====
/- The gradient of the convolution branch's projection weight: the claims about its programs. -/
module

public import proofs.«01_k».proof.Defs
public import proofs.«01_k».proof.Proof.Wconv.Final
public import proofs.«01_k».proof.Proof.Gen.KernelWconv.Frame
public import proofs.«01_k».proof.Proof.Gen.ReferenceWconvIdeal.Run

@[expose] public section

set_option maxRecDepth 16384

noncomputable section

open Idealize.ShloMosaic Idealize.ShloMosaic.TcCoe Idealize.SL.Sem

namespace Cert.Wconv

theorem frame_kernel : Cert.quiescent_KernelWconv := fun m ρ _ => Cert.KernelWconv.Gen.frame m ρ

theorem frame_ideal : Cert.quiescent_KernelWconvIdeal := fun m ρ _ => Cert.KernelWconvIdeal.Gen.frame m ρ

theorem frame_reference : Cert.quiescent_ReferenceWconvIdeal := fun m ρ _ =>
  (θ_run Cert.ReferenceWconvIdeal.defs _ _).mono (fun r h => ⟨fun c => (h c).2,
      Idealize.ShloMosaic.sem_eq_zero_of_no_sems (by decide) r.2⟩)
    (Cert.ReferenceWconvIdeal.Value.run (F := Ideal) m ρ)

theorem preserves : Cert.preserves_KernelWconv_KernelWconvIdeal := trivial

theorem algebraic : Cert.algebraic_KernelWconvIdeal_ReferenceWconvIdeal := by
  intro m ρ m' ρ' _ hagree
  refine ⟨fun c => res (m ((c.tc : Thread Cert.KernelWconvIdeal.nD Cert.KernelWconvIdeal.τ).loc Cert.KernelWconvIdeal.main_arg0)) (m ((c.tc : Thread Cert.KernelWconvIdeal.nD Cert.KernelWconvIdeal.τ).loc Cert.KernelWconvIdeal.main_arg1)), ?_, ?_⟩
  · refine (θ_run Cert.KernelWconvIdeal.defs _ _).mono (fun r h c => ?_) (Cert.KernelWconvIdeal.Value.run_blocks (F := Ideal) m ρ)
    obtain ⟨h0, ha⟩ := h c
    exact ⟨h0.trans (final2 m c), ha⟩
  · refine (θ_run Cert.ReferenceWconvIdeal.defs _ _).mono (fun r h c => ?_) (Cert.ReferenceWconvIdeal.Value.run (F := Ideal) m' ρ')
    obtain ⟨h0, ha⟩ := h c
    obtain ⟨e0, e1⟩ := hagree c
    refine ⟨?_, ha⟩
    · beta_reduce; rw [← e0, ← e1]; exact h0

end Cert.Wconv

end
-- ==== Proof.Attn.Body.lean ====
module

public import proofs.«01_k».proof.Proof.Gen.KernelAttnIdeal.Frame
public import proofs.«01_k».proof.Proof.Gen.KernelAttnIdeal.Skeleton
public import Idealize.ShloMosaic.Lib.Exec
public import Idealize.ShloMosaic.Lib.Claim

@[expose] public section

set_option maxRecDepth 16384

noncomputable section

/-! The forward pass of the window attention (KernelAttnIdeal): the body of one block of 512 rows walks its four blocks of 128
    rows; what one walk stores (`pcO`, `pcL`), the walk as an invariant, the body's triple, and the run of the launch. -/

namespace Cert.KernelAttnIdeal.Attn

open Cert.KernelAttnIdeal Cert.KernelAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one walk stores -/

/-- The stacked queries of the first group: its four heads' stores. -/
def pcQ0 (xq : Vec F S512x512 .bf16) (k : Fin k0_t1_loop.trips) : List (View.Piece (Elt F) S2x512x128 .bf16) :=
  [⟨(Rect.unit (s := S2x512x128) ![0, 384, 0] S1x128x128.size inb_S2x512x128_S1x128x128_0_384_0), k0_pay12 k0_pay7 (View.ld xq (Rect.unit (s := S512x512) (k0_off3 k) S128x128.size (k0_off3_inb k)))⟩,
    ⟨(Rect.unit (s := S2x512x128) ![0, 256, 0] S1x128x128.size inb_S2x512x128_S1x128x128_0_256_0), k0_pay11 k0_pay7 (View.ld xq (Rect.unit (s := S512x512) (k0_off3 k) S128x128.size (k0_off3_inb k)))⟩,
    ⟨(Rect.unit (s := S2x512x128) ![0, 128, 0] S1x128x128.size inb_S2x512x128_S1x128x128_0_128_0), k0_pay10 (k0_pay9 (View.ld xq (Rect.unit (s := S512x512) (k0_off2 k) S128x128.size (k0_off2_inb k))))⟩,
    ⟨(Rect.unit (s := S2x512x128) ![0, 0, 0] S1x128x128.size inb_S2x512x128_S1x128x128_0_0_0), k0_pay8 (View.ld xq (Rect.unit (s := S512x512) (k0_off2 k) S128x128.size (k0_off2_inb k)))⟩]

/-- The stacked queries of both groups: the second group's four stores over the first's. -/
def pcQ1 (xq : Vec F S512x512 .bf16) (k : Fin k0_t1_loop.trips) : List (View.Piece (Elt F) S2x512x128 .bf16) :=
  ⟨(Rect.unit (s := S2x512x128) ![1, 384, 0] S1x128x128.size inb_S2x512x128_S1x128x128_1_384_0), k0_pay30 k0_pay24 (View.ld xq (Rect.unit (s := S512x512) (k0_off6 k) S128x128.size (k0_off6_inb k)))⟩
    :: ⟨(Rect.unit (s := S2x512x128) ![1, 256, 0] S1x128x128.size inb_S2x512x128_S1x128x128_1_256_0), k0_pay29 (k0_pay28 k0_pay24 (View.ld xq (Rect.unit (s := S512x512) (k0_off6 k) S128x128.size (k0_off6_inb k))))⟩
    :: ⟨(Rect.unit (s := S2x512x128) ![1, 128, 0] S1x128x128.size inb_S2x512x128_S1x128x128_1_128_0), k0_pay27 k0_pay24 (View.ld xq (Rect.unit (s := S512x512) (k0_off5 k) S128x128.size (k0_off5_inb k)))⟩
    :: ⟨(Rect.unit (s := S2x512x128) ![1, 0, 0] S1x128x128.size inb_S2x512x128_S1x128x128_1_0_0), k0_pay26 k0_pay24 (k0_pay25 (View.ld xq (Rect.unit (s := S512x512) (k0_off5 k) S128x128.size (k0_off5_inb k)))) (Scalar.ofBits .bf16 0x3E00#16)⟩
    :: pcQ0 xq k

/-- The first group's stacked queries as loaded. -/
def qs0 (xq : Vec F S512x512 .bf16) (k : Fin k0_t1_loop.trips) : Vec F S1x512x128 .bf16 :=
  View.ld (View.canon (pcQ0 xq k)) (Rect.unit (s := S2x512x128) ![0, 0, 0] S1x512x128.size inb_S2x512x128_S1x512x128_0_0_0)

/-- The second group's stacked queries as loaded. -/
def qs1 (xq : Vec F S512x512 .bf16) (k : Fin k0_t1_loop.trips) : Vec F S1x512x128 .bf16 :=
  View.ld (View.canon (pcQ1 xq k)) (Rect.unit (s := S2x512x128) ![1, 0, 0] S1x512x128.size inb_S2x512x128_S1x512x128_1_0_0)

/-- The 256 rows of keys (or values) a block of 128 queries sees. -/
def win (kx : Vec F S640x128 .bf16) (k : Fin k0_t1_loop.trips) : Vec F S256x128 .bf16 :=
  View.ld kx (Rect.unit (s := S640x128) (k0_off1 k) S256x128.size (k0_off1_inb k))

/-- The two groups' rows of the score table. -/
def bias0 (i : grid0.Coords) (x2 : Vec F S2x2x512x256 .f32) (k : Fin k0_t1_loop.trips) : Vec F S1x1x512x256 .f32 :=
  View.ld x2 (Rect.unit (s := S2x2x512x256) (k0_off4 i k) S1x1x512x256.size (k0_off4_inb i k))
def bias1 (i : grid0.Coords) (x2 : Vec F S2x2x512x256 .f32) (k : Fin k0_t1_loop.trips) : Vec F S1x1x512x256 .f32 :=
  View.ld x2 (Rect.unit (s := S2x2x512x256) (k0_off7 i k) S1x1x512x256.size (k0_off7_inb i k))

/-- The sink of head 0. -/
def sk0 (x1 : Vec F S8 .f32) : Elt F .f32 := View.ld x1 (Rect.unit (s := S8) ![0] S1.size inb_S8_S1_0) (Shape.Idx.first (numel1_S1.symm ▸ Nat.one_pos))
/-- The sink of head 1. -/
def sk1 (x1 : Vec F S8 .f32) : Elt F .f32 := View.ld x1 (Rect.unit (s := S8) ![1] S1.size inb_S8_S1_1) (Shape.Idx.first (numel1_S1.symm ▸ Nat.one_pos))
/-- The sink of head 2. -/
def sk2 (x1 : Vec F S8 .f32) : Elt F .f32 := View.ld x1 (Rect.unit (s := S8) ![2] S1.size inb_S8_S1_2) (Shape.Idx.first (numel1_S1.symm ▸ Nat.one_pos))
/-- The sink of head 3. -/
def sk3 (x1 : Vec F S8 .f32) : Elt F .f32 := View.ld x1 (Rect.unit (s := S8) ![3] S1.size inb_S8_S1_3) (Shape.Idx.first (numel1_S1.symm ▸ Nat.one_pos))
/-- The sink of head 4. -/
def sk4 (x1 : Vec F S8 .f32) : Elt F .f32 := View.ld x1 (Rect.unit (s := S8) ![4] S1.size inb_S8_S1_4) (Shape.Idx.first (numel1_S1.symm ▸ Nat.one_pos))
/-- The sink of head 5. -/
def sk5 (x1 : Vec F S8 .f32) : Elt F .f32 := View.ld x1 (Rect.unit (s := S8) ![5] S1.size inb_S8_S1_5) (Shape.Idx.first (numel1_S1.symm ▸ Nat.one_pos))
/-- The sink of head 6. -/
def sk6 (x1 : Vec F S8 .f32) : Elt F .f32 := View.ld x1 (Rect.unit (s := S8) ![6] S1.size inb_S8_S1_6) (Shape.Idx.first (numel1_S1.symm ▸ Nat.one_pos))
/-- The sink of head 7. -/
def sk7 (x1 : Vec F S8 .f32) : Elt F .f32 := View.ld x1 (Rect.unit (s := S8) ![7] S1.size inb_S8_S1_7) (Shape.Idx.first (numel1_S1.symm ▸ Nat.one_pos))

/-- The zero the score products start at. -/
def z256 : FVec F S512x256 .f32 := constant S512x256 .f32 0x00000000#32
/-- Each row's number, and each lane's. -/
def rowNo : IVec S512x1 32 := iota .tc S512x1 32 [0] iota_S512x1_d0_w32
def laneNo : IVec S128x128 32 := iota .tc S128x128 32 [1] iota_S128x128_d1_w32

/-- The second group's scores. -/
def sc1 (i : grid0.Coords) (x1 : Vec F S8 .f32) (x2 : Vec F S2x2x512x256 .f32) (xq : Vec F S512x512 .bf16) (kx vx : Vec F S640x128 .bf16) (k : Fin k0_t1_loop.trips) : FVec F S512x256 .f32 :=
  k0_pay31 (win kx k) (qs1 xq k) (bias1 i x2 k)

/-- The four stores of one walk into the outputs' block. -/
def pcO (i : grid0.Coords) (x1 : Vec F S8 .f32) (x2 : Vec F S2x2x512x256 .f32) (xq : Vec F S512x512 .bf16) (kx vx : Vec F S640x128 .bf16) (k : Fin k0_t1_loop.trips) : List (View.Piece (Elt F) S512x512 .bf16) :=
  [⟨(Rect.unit (s := S512x512) (k0_off6 k) S128x128.size (k0_off6_inb k)), k0_pay40 (win vx k) (sc1 i x1 x2 xq kx vx k) (sk4 x1) rowNo (k0_pay32 (sk5 x1) (sk6 x1) (sk7 x1)) k0_pay33⟩,
    ⟨(Rect.unit (s := S512x512) (k0_off5 k) S128x128.size (k0_off5_inb k)), k0_pay39 (win vx k) (sc1 i x1 x2 xq kx vx k) (sk4 x1) rowNo (k0_pay32 (sk5 x1) (sk6 x1) (sk7 x1)) k0_pay33⟩,
    ⟨(Rect.unit (s := S512x512) (k0_off3 k) S128x128.size (k0_off3_inb k)), k0_pay22 (k0_pay19 (win kx k) (win vx k) (k0_pay13 (qs0 xq k)) z256 (bias0 i x2 k) (sk0 x1) (sk1 x1) (sk2 x1) (sk3 x1)) laneNo⟩,
    ⟨(Rect.unit (s := S512x512) (k0_off2 k) S128x128.size (k0_off2_inb k)), k0_pay21 (k0_pay20 (win kx k) (win vx k) (k0_pay13 (qs0 xq k)) z256 (bias0 i x2 k) (sk0 x1) (sk1 x1) (sk2 x1) (sk3 x1))⟩]

/-- The lanes of the first group's log-sum-exps. -/
def lse0 (i : grid0.Coords) (x1 : Vec F S8 .f32) (x2 : Vec F S2x2x512x256 .f32) (xq : Vec F S512x512 .bf16) (kx vx : Vec F S640x128 .bf16) (v16 : IVec S128x128 32) (k : Fin k0_t1_loop.trips) : FVec F S128x128 .f32 :=
  k0_pay23 v16 k0_pay6 (k0_pay16 (win kx k) (k0_pay13 (qs0 xq k)) z256 (bias0 i x2 k) (sk0 x1) (sk1 x1) (sk2 x1) (sk3 x1))
    (k0_pay18 (win kx k) (k0_pay13 (qs0 xq k)) z256 (bias0 i x2 k) (sk0 x1) (sk1 x1) (sk2 x1) (sk3 x1))

/-- One walk's store into the log-sum-exps' block. -/
def pcL (i : grid0.Coords) (x1 : Vec F S8 .f32) (x2 : Vec F S2x2x512x256 .f32) (xq : Vec F S512x512 .bf16) (kx vx : Vec F S640x128 .bf16) (v16 : IVec S128x128 32) (k : Fin k0_t1_loop.trips) : List (View.Piece (Elt F) S512x128 .f32) :=
  [⟨(Rect.unit (s := S512x128) (k0_off8 k) S128x128.size (k0_off8_inb k)), k0_pay5 (k0_pay41 (sc1 i x1 x2 xq kx vx k) (sk4 x1) rowNo (k0_pay32 (sk5 x1) (sk6 x1) (sk7 x1)) k0_pay33)
      (k0_pay42 v16 (lse0 i x1 x2 xq kx vx v16 k) (sc1 i x1 x2 xq kx vx k) (sk4 x1) rowNo (k0_pay32 (sk5 x1) (sk6 x1) (sk7 x1)) k0_pay33) (k0_pay43 v16)⟩]

/-- The stores of the walks before `n`, last first. -/
def upto {α : Type*} (L : Fin k0_t1_loop.trips → List α) : ℕ → List α
  | 0 => []
  | n + 1 => if h : n < k0_t1_loop.trips then L ⟨n, h⟩ ++ upto L n else upto L n

theorem upto_succ {α : Type*} (L : Fin k0_t1_loop.trips → List α) (k : Fin k0_t1_loop.trips) :
    upto L (k.val + 1) = L k ++ upto L k.val := by
  rw [upto.eq_2]; exact dif_pos k.isLt

/-! ## The walk -/

set_option maxHeartbeats 1000000 in
set_option sl_exec.squeezeSlice true in
/-- One walk: the outputs' block gets `pcO`, the log-sum-exps' block `pcL`, the stacked queries' scratch something. -/
theorem walk (𝒱 : Variants) (c : Dev nD) (bd : Option 𝒱.V) (E : Set ℕ) (i : grid0.Coords) (arg1 : Memref sig .tc .smem S8 .f32) (harg1 : arg1.IsWhole) (arg2 : Memref sig .tc .vmem S2x2x512x256 .f32) (harg2 : arg2.IsWhole) (arg3 : Memref sig .tc .vmem S512x512 .bf16) (harg3 : arg3.IsWhole) (arg4 : Memref sig .tc .vmem S128x128 .bf16) (harg4 : arg4.IsWhole) (arg5 : Memref sig .tc .vmem S512x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S640x128 .bf16) (harg10 : arg10.IsWhole) (arg11 : Memref sig .tc .vmem S640x128 .bf16) (harg11 : arg11.IsWhole) (arg12 : Memref sig .tc .vmem S2x512x128 .bf16) (harg12 : arg12.IsWhole) (v16 : IVec S128x128 32)
    (X1 : BufTy.Contents (Elt F) arg1.view.ty) (X2 : BufTy.Contents (Elt F) arg2.view.ty) (X3 : BufTy.Contents (Elt F) arg3.view.ty) (X10 : BufTy.Contents (Elt F) arg10.view.ty) (X11 : BufTy.Contents (Elt F) arg11.view.ty) (k : Fin k0_t1_loop.trips) (f8 : BufTy.Contents (Elt F) arg8.view.ty) (f9 : BufTy.Contents (Elt F) arg9.view.ty) (f12 : BufTy.Contents (Elt F) arg12.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11) ∗ (arg8.view.loc (c : Thread nD τ) ↦[arg8.view.set]{fullShare} f8) ∗ (arg9.view.loc (c : Thread nD τ) ↦[arg9.view.set]{fullShare} f9) ∗ (arg12.view.loc (c : Thread nD τ) ↦[arg12.view.set]{fullShare} f12)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 (BitVec.ofNat 32 (i 0).val) v16 k PUnit.unit)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11) ∗ (∃ f, (arg8.view.loc (c : Thread nD τ) ↦[arg8.view.set]{fullShare} f) ∗ ⌜f = arg8.view.writes (Elt F) f8 (pcO i (arg1.view.read (Elt F) X1) (arg2.view.read (Elt F) X2) (arg3.view.read (Elt F) X3) (arg10.view.read (Elt F) X10) (arg11.view.read (Elt F) X11) k)⌝) ∗ (∃ f, (arg9.view.loc (c : Thread nD τ) ↦[arg9.view.set]{fullShare} f) ∗ ⌜f = arg9.view.writes (Elt F) f9 (pcL i (arg1.view.read (Elt F) X1) (arg2.view.read (Elt F) X2) (arg3.view.read (Elt F) X3) (arg10.view.read (Elt F) X10) (arg11.view.read (Elt F) X11) v16 k)⌝) ∗ (∃ f, (arg12.view.loc (c : Thread nD τ) ↦[arg12.view.set]{fullShare} f)))) := by
  have hk : k.val < 4 := Nat.lt_of_lt_of_le k.isLt k0_t1_abs.2.1
  unfold k0_t1_body
  iintro ⟨HR1, HR2, HR3, HR10, HR11, H8, H9, H12⟩
  sl_exec
  sl_step
  have e0 : walk.sl.v82 arg3 arg12 X3 k = qs0 (arg3.view.read (Elt F) X3) k := View.readCov_eq_canon' _ _ _
  have e1 : walk.sl.v220 arg3 arg12 X3 k = qs1 (arg3.view.read (Elt F) X3) k := View.readCov_eq_canon' _ _ _
  have r19 : walk.sl.r_19 i arg2 arg3 arg10 arg12 X2 X3 X10 k = sc1 i (arg1.view.read (Elt F) X1) (arg2.view.read (Elt F) X2) (arg3.view.read (Elt F) X3) (arg10.view.read (Elt F) X10) (arg11.view.read (Elt F) X11) k := by
    unfold walk.sl.r_19; rw [e1]; rfl
  isplitl [HR1]; · iexact HR1
  isplitl [HR2]; · iexact HR2
  isplitl [HR3]; · iexact HR3
  isplitl [HR10]; · iexact HR10
  isplitl [HR11]; · iexact HR11
  isplitl [H8]
  · iexists _; isplitl [H8]; · iexact H8
    ipureintro
    refine congrArg (arg8.view.writes (Elt F) f8) ?_
    unfold walk.sl.r_10 walk.sl.r_11 walk.sl.r_3; rw [e0, r19]; rfl
  isplitl [H9]
  · iexists _; isplitl [H9]; · iexact H9
    ipureintro
    refine congrArg (arg9.view.writes (Elt F) f9) ?_
    unfold walk.sl.r_21 walk.sl.r_22 walk.sl.r_12 walk.sl.r_8 walk.sl.r_9 walk.sl.r_3; rw [e0, r19]; rfl
  iexists _; iexact H12

set_option warn.classDefReducibility false in
/-- The walks by their invariant: before walk `n` the outputs' blocks hold the stores of the walks before it. -/
@[sl_loop] def walks (𝒱 : Variants) (c : Dev nD) (bd : Option 𝒱.V) (E : Set ℕ) (i : grid0.Coords) (arg1 : Memref sig .tc .smem S8 .f32) (harg1 : arg1.IsWhole) (arg2 : Memref sig .tc .vmem S2x2x512x256 .f32) (harg2 : arg2.IsWhole) (arg3 : Memref sig .tc .vmem S512x512 .bf16) (harg3 : arg3.IsWhole) (arg4 : Memref sig .tc .vmem S128x128 .bf16) (harg4 : arg4.IsWhole) (arg5 : Memref sig .tc .vmem S512x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S640x128 .bf16) (harg10 : arg10.IsWhole) (arg11 : Memref sig .tc .vmem S640x128 .bf16) (harg11 : arg11.IsWhole) (arg12 : Memref sig .tc .vmem S2x512x128 .bf16) (harg12 : arg12.IsWhole) (v16 : IVec S128x128 32)
    (X1 : BufTy.Contents (Elt F) arg1.view.ty) (X2 : BufTy.Contents (Elt F) arg2.view.ty) (X3 : BufTy.Contents (Elt F) arg3.view.ty) (X10 : BufTy.Contents (Elt F) arg10.view.ty) (X11 : BufTy.Contents (Elt F) arg11.view.ty) (G8 : BufTy.Contents (Elt F) arg8.view.ty) (G9 : BufTy.Contents (Elt F) arg9.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 (BitVec.ofNat 32 (i 0).val) v16) where
  inv n _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11) ∗ (∃ f, (arg8.view.loc (c : Thread nD τ) ↦[arg8.view.set]{fullShare} f) ∗ ⌜f = arg8.view.writes (Elt F) G8 (upto (pcO i (arg1.view.read (Elt F) X1) (arg2.view.read (Elt F) X2) (arg3.view.read (Elt F) X3) (arg10.view.read (Elt F) X10) (arg11.view.read (Elt F) X11)) n)⌝) ∗ (∃ f, (arg9.view.loc (c : Thread nD τ) ↦[arg9.view.set]{fullShare} f) ∗ ⌜f = arg9.view.writes (Elt F) G9 (upto (pcL i (arg1.view.read (Elt F) X1) (arg2.view.read (Elt F) X2) (arg3.view.read (Elt F) X3) (arg10.view.read (Elt F) X10) (arg11.view.read (Elt F) X11) v16) n)⌝) ∗ (∃ f, (arg12.view.loc (c : Thread nD τ) ↦[arg12.view.set]{fullShare} f)))
  step k acc := by
    iintro ⟨HR1, HR2, HR3, HR10, HR11, ⟨%f8, H8, %h8⟩, ⟨%f9, H9, %h9⟩, ⟨%f12, H12⟩⟩
    iapply (wp_wand_r Idealize.ShloMosaic.frame (wpE (defs₀ (F := F)) 𝒱 (c : Thread nD τ) bd) E)
    isplitl [HR1 HR2 HR3 HR10 HR11 H8 H9 H12]
    · iapply (walk 𝒱 c bd E i arg1 harg1 arg2 harg2 arg3 harg3 arg4 harg4 arg5 harg5 arg6 harg6 arg7 harg7 arg8 harg8 arg9 harg9 arg10 harg10 arg11 harg11 arg12 harg12 v16 X1 X2 X3 X10 X11 k f8 f9 f12)
      isplitl [HR1]; · iexact HR1
      isplitl [HR2]; · iexact HR2
      isplitl [HR3]; · iexact HR3
      isplitl [HR10]; · iexact HR10
      isplitl [HR11]; · iexact HR11
      isplitl [H8]; · iexact H8
      isplitl [H9]; · iexact H9
      iexact H12
    · iintro %_ ⟨HR1, HR2, HR3, HR10, HR11, ⟨%g8, H8, %e8⟩, ⟨%g9, H9, %e9⟩, H12⟩
      isplitl [HR1]; · iexact HR1
      isplitl [HR2]; · iexact HR2
      isplitl [HR3]; · iexact HR3
      isplitl [HR10]; · iexact HR10
      isplitl [HR11]; · iexact HR11
      rw [upto_succ, upto_succ]
      isplitl [H8]
      · iexists _; isplitl [H8]; · iexact H8
        ipureintro; rw [e8, h8, ← View.writes_append]
      isplitl [H9]
      · iexists _; isplitl [H9]; · iexact H9
        ipureintro; rw [e9, h9, ← View.writes_append]
      iexact H12

/-! ## What the body leaves -/

/-- The keys (or values) a block of 512 rows sees: the 128 rows before it, then its own. -/
def ext (xp : Vec F S128x128 .bf16) (xc : Vec F S512x128 .bf16) : Vec F S640x128 .bf16 :=
  View.canon [⟨(Rect.unit (s := S640x128) ![128, 0] S512x128.size inb_S640x128_S512x128_128_0), k0_pay2 (View.ld xc (Rect.unit (s := S512x128) ![0, 0] S512x128.size inb_S512x128_S512x128_0_0))⟩,
    ⟨(Rect.unit (s := S640x128) ![0, 0] S128x128.size inb_S640x128_S128x128_0_0), k0_pay1 (View.ld xp (Rect.unit (s := S128x128) ![0, 0] S128x128.size inb_S128x128_S128x128_0_0))⟩]

theorem cover_ext (p : Vec F S512x128 .bf16) (q : Vec F S128x128 .bf16) (y : S640x128.Idx) :
    ∃ pc ∈ ([⟨(Rect.unit (s := S640x128) ![128, 0] S512x128.size inb_S640x128_S512x128_128_0), p⟩, ⟨(Rect.unit (s := S640x128) ![0, 0] S128x128.size inb_S640x128_S128x128_0_0), q⟩] : List (View.Piece (Elt F) S640x128 .bf16)), y ∈ pc.1.set := by
  by_cases h : (y 0).val < 128
  · refine ⟨_, List.mem_cons_of_mem _ List.mem_cons_self, ?_⟩
    show y ∈ (Rect.unit (s := S640x128) ![0, 0] S128x128.size inb_S640x128_S128x128_0_0).set
    rw [Rect.mem_set_unit]; intro a
    fin_cases a
    · exact ⟨Nat.zero_le _, lt_of_lt_of_eq h (Nat.zero_add _).symm⟩
    · exact ⟨Nat.zero_le _, lt_of_lt_of_eq (y 1).isLt (Nat.zero_add _).symm⟩
  · refine ⟨_, List.mem_cons_self, ?_⟩
    show y ∈ (Rect.unit (s := S640x128) ![128, 0] S512x128.size inb_S640x128_S512x128_128_0).set
    rw [Rect.mem_set_unit]; intro a
    fin_cases a
    · exact ⟨not_lt.mp h, (y 0).isLt⟩
    · exact ⟨Nat.zero_le _, lt_of_lt_of_eq (y 1).isLt (Nat.zero_add _).symm⟩

/-- The outputs' block after the body. -/
def outO (i : grid0.Coords) (x1 : Vec F S8 .f32) (x2 : Vec F S2x2x512x256 .f32) (xq : Vec F S512x512 .bf16) (kp : Vec F S128x128 .bf16) (kc : Vec F S512x128 .bf16) (vp : Vec F S128x128 .bf16) (vc : Vec F S512x128 .bf16) : Vec F S512x512 .bf16 :=
  View.canon (upto (pcO i x1 x2 xq (ext kp kc) (ext vp vc)) k0_t1_loop.trips)

/-- The log-sum-exps' block after the body. -/
def outL (i : grid0.Coords) (x1 : Vec F S8 .f32) (x2 : Vec F S2x2x512x256 .f32) (xq : Vec F S512x512 .bf16) (kp : Vec F S128x128 .bf16) (kc : Vec F S512x128 .bf16) (vp : Vec F S128x128 .bf16) (vc : Vec F S512x128 .bf16) : Vec F S512x128 .f32 :=
  View.canon (upto (pcL i x1 x2 xq (ext kp kc) (ext vp vc) laneNo) k0_t1_loop.trips)

theorem mem_upto {α : Type*} (L : Fin k0_t1_loop.trips → List α) (k : Fin k0_t1_loop.trips) (a : α) (ha : a ∈ L k) :
    ∀ n, k.val < n → a ∈ upto L n
  | 0, h => absurd h (Nat.not_lt_zero _)
  | n + 1, h => by
    rw [upto.eq_2]
    split
    · rename_i hn
      rcases Nat.lt_succ_iff_lt_or_eq.mp h with h | h
      · exact List.mem_append_right _ (mem_upto L k a ha n h)
      · subst h; exact List.mem_append_left _ ha
    · rename_i hn
      exact mem_upto L k a ha n (lt_of_lt_of_le k.isLt (not_lt.mp hn))

theorem cover_O (i : grid0.Coords) (x1 : Vec F S8 .f32) (x2 : Vec F S2x2x512x256 .f32) (xq : Vec F S512x512 .bf16) (kx vx : Vec F S640x128 .bf16) (y : S512x512.Idx) :
    ∃ pc ∈ upto (pcO i x1 x2 xq kx vx) k0_t1_loop.trips, y ∈ pc.1.set := by
  have h0 : (y 0).val < 512 := (y 0).isLt
  have h1 : (y 1).val < 512 := (y 1).isLt
  have hm : ∀ (off : Fin 2 → Nat) (inb : ∀ a, off a + S128x128.size a ≤ S512x512.size a) (e : ℕ), off = ![128 * ((y 0).val / 128), e] →
      e ≤ (y 1).val → (y 1).val < e + 128 → y ∈ (Rect.unit (s := S512x512) off S128x128.size inb).set := by
    intro off inb e he h2 h3
    rw [Rect.mem_set_unit]
    subst he
    refine Fin.forall_fin_two.mpr ⟨⟨?_, ?_⟩, ⟨h2, h3⟩⟩
    · show 128 * ((y 0).val / 128) ≤ (y 0).val; omega
    · show (y 0).val < 128 * ((y 0).val / 128) + 128; omega
  have hk : (y 0).val / 128 < k0_t1_loop.trips := show (y 0).val / 128 < 4 by omega
  let k : Fin k0_t1_loop.trips := ⟨(y 0).val / 128, hk⟩
  have hup : ∀ pc ∈ pcO i x1 x2 xq kx vx k, pc ∈ upto (pcO i x1 x2 xq kx vx) k0_t1_loop.trips := fun pc h => mem_upto _ k pc h _ k.isLt
  rcases (show (y 1).val < 128 ∨ (128 ≤ (y 1).val ∧ (y 1).val < 256) ∨ (256 ≤ (y 1).val ∧ (y 1).val < 384) ∨ (384 ≤ (y 1).val ∧ (y 1).val < 512) by omega) with h | h | h | h
  · exact ⟨_, hup _ (List.mem_cons_of_mem _ (List.mem_cons_of_mem _ (List.mem_cons_of_mem _ List.mem_cons_self))), hm _ (k0_off2_inb k) 0 (k0_off2_eq k) (Nat.zero_le _) h⟩
  · exact ⟨_, hup _ (List.mem_cons_of_mem _ (List.mem_cons_of_mem _ List.mem_cons_self)), hm _ (k0_off3_inb k) 128 (k0_off3_eq k) h.1 h.2⟩
  · exact ⟨_, hup _ (List.mem_cons_of_mem _ List.mem_cons_self), hm _ (k0_off5_inb k) 256 (k0_off5_eq k) h.1 h.2⟩
  · exact ⟨_, hup _ List.mem_cons_self, hm _ (k0_off6_inb k) 384 (k0_off6_eq k) h.1 h.2⟩

theorem cover_L (i : grid0.Coords) (x1 : Vec F S8 .f32) (x2 : Vec F S2x2x512x256 .f32) (xq : Vec F S512x512 .bf16) (kx vx : Vec F S640x128 .bf16) (y : S512x128.Idx) :
    ∃ pc ∈ upto (pcL i x1 x2 xq kx vx laneNo) k0_t1_loop.trips, y ∈ pc.1.set := by
  have h0 : (y 0).val < 512 := (y 0).isLt
  have h1 : (y 1).val < 128 := (y 1).isLt
  have hk : (y 0).val / 128 < k0_t1_loop.trips := show (y 0).val / 128 < 4 by omega
  let k : Fin k0_t1_loop.trips := ⟨(y 0).val / 128, hk⟩
  refine ⟨_, mem_upto _ k _ List.mem_cons_self _ k.isLt, ?_⟩
  rw [Rect.mem_set_unit, k0_off8_eq k]
  refine Fin.forall_fin_two.mpr ⟨⟨?_, ?_⟩, ⟨Nat.zero_le _, ?_⟩⟩
  · show 128 * ((y 0).val / 128) ≤ (y 0).val; omega
  · show (y 0).val < 128 * ((y 0).val / 128) + 128; omega
  · show (y 1).val < 0 + 128; omega

/-! ## The body's triple -/

set_option maxHeartbeats 1000000 in
theorem sound_kernel (c : Dev nD) (E : Set ℕ) (i : grid0.Coords) (arg1 : Memref sig .tc .smem S8 .f32) (harg1 : arg1.IsWhole) (arg2 : Memref sig .tc .vmem S2x2x512x256 .f32) (harg2 : arg2.IsWhole) (arg3 : Memref sig .tc .vmem S512x512 .bf16) (harg3 : arg3.IsWhole) (arg4 : Memref sig .tc .vmem S128x128 .bf16) (harg4 : arg4.IsWhole) (arg5 : Memref sig .tc .vmem S512x128 .bf16) (harg5 : arg5.IsWhole) (arg6 : Memref sig .tc .vmem S128x128 .bf16) (harg6 : arg6.IsWhole) (arg7 : Memref sig .tc .vmem S512x128 .bf16) (harg7 : arg7.IsWhole) (arg8 : Memref sig .tc .vmem S512x512 .bf16) (harg8 : arg8.IsWhole) (arg9 : Memref sig .tc .vmem S512x128 .f32) (harg9 : arg9.IsWhole) (arg10 : Memref sig .tc .vmem S640x128 .bf16) (harg10 : arg10.IsWhole) (arg11 : Memref sig .tc .vmem S640x128 .bf16) (harg11 : arg11.IsWhole) (arg12 : Memref sig .tc .vmem S2x512x128 .bf16) (harg12 : arg12.IsWhole)
    (x1 : Vec F S8 .f32) (x2 : Vec F S2x2x512x256 .f32) (x3 : Vec F S512x512 .bf16) (x4 : Vec F S128x128 .bf16) (x5 : Vec F S512x128 .bf16) (x6 : Vec F S128x128 .bf16) (x7 : Vec F S512x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outO i x1 x2 x3 x4 x5 x6 x7) ∗ owns (c : Thread nD τ) arg9 fullShare (outL i x1 x2 x3 x4 x5 x6 x7) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attn_fwd i arg1 harg1 arg2 harg2 arg3 harg3 arg4 harg4 arg5 harg5 arg6 harg6 arg7 harg7 arg8 harg8 arg9 harg9 arg10 harg10 arg11 harg11 arg12 harg12) K := by
  simp only [cc0_attn_fwd_eq_skeleton]; unfold cc0_attn_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  have ek : arg10.view.read (Elt F) (arg10.view.writes (Elt F) arg10.view.junk (sound_kernel.sl.H10_2 c arg4 arg5 f4 f5)) = ext (arg4.view.read (Elt F) f4) (arg5.view.read (Elt F) f5) :=
    View.read_writes_eq_canon _ _ _ (cover_ext _ _)
  have ev : arg11.view.read (Elt F) (arg11.view.writes (Elt F) arg11.view.junk (sound_kernel.sl.H11_2 c arg6 arg7 f6 f7)) = ext (arg6.view.read (Elt F) f6) (arg7.view.read (Elt F) f7) :=
    View.read_writes_eq_canon _ _ _ (cover_ext _ _)
  isplitl [H8]
  · iexists _; isplitr
    swap; · iexact H8
    ipureintro
    rw [ek, ev]
    exact View.read_writes_eq_canon _ _ _ (cover_O _ _ _ _ _ _)
  isplitl [H9]
  · iexists _; isplitr
    swap; · iexact H9
    ipureintro
    rw [ek, ev]
    exact View.read_writes_eq_canon _ _ _ (cover_L _ _ _ _ _ _)
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-! ## The pipeline's proof data -/

variable (m : (ℓ : Loc nD τ sig) → Buf (Elt F) ℓ) (ρ : Dev nD → PrngReg)

/-- The arrays as the region finds them; after the body at point `t` each input's buffer at its block, the outputs' at
    `outO` and `outL`; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => outO (grid0.coords t) (iblk m c 0 t) (iblk m c 1 t) (X0_2 m c t) (iblk m c 3 t) (iblk m c 4 t) (iblk m c 5 t) (iblk m c 6 t)
    | ⟨8, _⟩ => outL (grid0.coords t) (iblk m c 0 t) (iblk m c 1 t) (X0_2 m c t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outO (grid0.coords t) (iblk m c 0 t) (iblk m c 1 t) (X0_2 m c t) (iblk m c 3 t) (iblk m c 4 t) (iblk m c 5 t) (iblk m c 6 t) := by dsimp only [dats]
theorem after0_8 (c : Dev nD) (t : Fin cfg0.N) : (dats m 0 c).after 8 t = outL (grid0.coords t) (iblk m c 0 t) (iblk m c 1 t) (X0_2 m c t) (iblk m c 3 t) (iblk m c 4 t) (iblk m c 5 t) (iblk m c 6 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = X0_2 m c t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-! ## The body obligation, at a generic point -/

/-- The class's invariant with the three scratch buffers owned at something. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

set_option maxHeartbeats 1000000 in
/-- The body at any point, the inputs' buffers at their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, PhiA_eq]
  iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ _ _ (iblk m c 0 t) (iblk m c 1 t) (X0_2 m c t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HR]
  · isplitl [HS0 HS1 HS2]
    · isplitl [HS0]; · iexact HS0
      isplitl [HS1]; · iexact HS1
      iexact HS2
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the arrays end at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelAttnIdeal.Attn

end
-- ==== Proof.Attn.Ref.lean ====
/- The attention's reference: its two results as named terms, and what they are at an index. -/
module

public import proofs.«01_k».proof.Proof.Gen.ReferenceAttnIdeal
public import Idealize.ShloMosaic.Lib.Pointwise

@[expose] public section

set_option maxRecDepth 16384

noncomputable section

open Idealize.ShloMosaic Idealize.ShloMosaic.TcCoe

/-! ## One row's softmax with a sink -/

namespace Cert.Attn

/-- The row's maximum, the sink counted. -/
def rmax (s : Fin 256 → EReal) (σ : EReal) : EReal := max (Finset.univ.fold max (Ideal.ofBits .f32 0xFF800000#32) s) σ
/-- The sum of the row's exponentials, the sink counted. -/
def rden (s : Fin 256 → EReal) (σ : EReal) : EReal := (∑ k, Ideal.exp (s k - rmax s σ)) + Ideal.exp (σ - rmax s σ)
/-- The row's weights. -/
def rprb (s : Fin 256 → EReal) (σ : EReal) (k : Fin 256) : EReal := Ideal.div (Ideal.exp (s k - rmax s σ)) (rden s σ)
/-- The row's log-sum-exp. -/
def rlse (s : Fin 256 → EReal) (σ : EReal) : EReal := rmax s σ + Ideal.log (rden s σ)

/-! ### A row with nothing to divide by -/

theorem exp_nonneg (x : EReal) : 0 ≤ Ideal.exp x := by
  induction x using EReal.rec with
  | bot => exact le_refl _
  | top => exact le_top
  | coe r => exact EReal.coe_nonneg.mpr (Real.exp_pos r).le

theorem ninf_eq : Ideal.ofBits .f32 0xFF800000#32 = ⊥ := by
  simp [Ideal.ofBits, Ideal.ieee]

/-- Where the row's sum is zero, every weight is the same. -/
theorem rprb_of_zero (s : Fin 256 → EReal) (σ : EReal) (h : rden s σ = 0) (k : Fin 256) : rprb s σ k = ⊥ := by
  have h1 : ∑ k, Ideal.exp (s k - rmax s σ) = 0 :=
    ((add_eq_zero_iff_of_nonneg (Finset.sum_nonneg fun _ _ => exp_nonneg _) (exp_nonneg _)).mp h).1
  have h2 : Ideal.exp (s k - rmax s σ) = 0 :=
    (Finset.sum_eq_zero_iff_of_nonneg fun _ _ => exp_nonneg _).mp h1 k (Finset.mem_univ k)
  unfold rprb Ideal.div
  rw [if_pos h, h2, if_neg (lt_irrefl _)]

/-- Where it is not, a masked key has no weight. -/
theorem rprb_of_bot (s : Fin 256 → EReal) (σ : EReal) (h : rden s σ ≠ 0) (k : Fin 256) (hk : s k = ⊥) : rprb s σ k = 0 := by
  unfold rprb Ideal.div
  rw [if_neg h, hk, EReal.bot_sub, Ideal.exp_bot, zero_mul]

/-- A value which is an infinity or zero. -/
def Ext (x : EReal) : Prop := x = ⊥ ∨ x = 0 ∨ x = ⊤

theorem Ext.add {x y : EReal} (hx : Ext x) (hy : Ext y) : Ext (x + y) := by
  rcases hx with rfl | rfl | rfl <;> rcases hy with rfl | rfl | rfl <;> simp [Ext]

theorem Ext.double {x : EReal} (hx : Ext x) : x + x = x := by
  rcases hx with rfl | rfl | rfl <;> simp

theorem ext_mul_bot (x : EReal) : Ext (x * ⊥) := by
  rcases lt_trichotomy x 0 with h | h | h
  · right; right; exact EReal.mul_bot_of_neg h
  · right; left; rw [h, zero_mul]
  · left; exact EReal.mul_bot_of_pos h

theorem ext_sum {ι : Type} (S : Finset ι) (f : ι → EReal) (hf : ∀ i, Ext (f i)) : Ext (∑ i ∈ S, f i) :=
  Finset.sum_induction f Ext (fun _ _ => Ext.add) (Or.inr (Or.inl rfl)) fun i _ => hf i

/-! ### The keys of a block -/

/-- The row of the array where a block finds its `s`-th key; the first block, which has no block before it, finds its own. -/
def keyRow (n : Fin 128) (s : Fin 256) : Fin 16384 :=
  ⟨if n.val * 128 + s.val < 128 then s.val else n.val * 128 + s.val - 128, by have := n.isLt; have := s.isLt; split <;> omega⟩

/-- How far the key lies before the query. -/
def dst (r : Fin 128) (s : Fin 256) : BitVec 32 := IntOp.subi (IntOp.addi (BitVec.ofNat 32 r.val) 128#32) (BitVec.ofNat 32 s.val)

/-- Whether the key is within the window. -/
def near (r : Fin 128) (s : Fin 256) : BitVec 1 :=
  IntOp.andi (IntOp.cmpi CmpIPredicate.sge (dst r s) 0#32) (IntOp.cmpi CmpIPredicate.slt (dst r s) 128#32)

/-- Whether there is such a key. -/
def some' (n : Fin 128) (s : Fin 256) : BitVec 1 := if 128 ≤ n.val * 128 + s.val then 1#1 else 0#1

/-- The score of a query, given its product with the key. -/
def masked (n r : Fin 128) (s : Fin 256) (w q : EReal) : EReal :=
  Scalar.select (IntOp.andi (near r s) (some' n s)) (q - w * FloatOps.sitofp (F := Ideal) .f32 (dst r s)) ⊥

theorem masked_of_none (n r : Fin 128) (s : Fin 256) (w q : EReal) (h : n.val * 128 + s.val < 128) : masked n r s w q = ⊥ := by
  have : some' n s = 0#1 := if_neg (by omega)
  unfold masked
  rw [this]
  have : IntOp.andi (near r s) 0#1 = 0#1 := by
    generalize near r s = b; revert b; decide
  rw [this]; rfl

/-- The scores' scale. -/
abbrev scale : EReal := Ideal.ofBits .f32 0x3E000000#32

theorem scale_eq : scale = (((1 : ℝ) / 8 : ℝ) : EReal) := by
  simp [scale, Ideal.ofBits, Ideal.ieee, -EReal.coe_mul]; norm_num

theorem scale_bf16 : Ideal.ofBits .bf16 0x3E00#16 = scale := by
  rw [scale_eq]
  simp [Ideal.ofBits, Ideal.ieee, -EReal.coe_mul]; norm_num

/-- A sum of scaled terms is the scaled sum. -/
theorem sum_mul_scale {ι : Type} (S : Finset ι) (f : ι → EReal) : ∑ i ∈ S, f i * scale = (∑ i ∈ S, f i) * scale := by
  classical
  induction S using Finset.induction_on with
  | empty => simp
  | insert a S ha ih => rw [Finset.sum_insert ha, Finset.sum_insert ha, ih, scale_eq,
      EReal.right_distrib_of_nonneg_of_ne_top (EReal.coe_nonneg.mpr (by norm_num)) (EReal.coe_ne_top _)]

end Cert.Attn

namespace Cert.ReferenceAttnIdeal.Attn

open Cert.ReferenceAttnIdeal Cert.ReferenceAttnIdeal.Gen Cert.Attn

/-! ## The reference's arrays -/

/-- The queries by block, row, group and head. -/
def qry (X : FVec Ideal S16384x768 .bf16) : FVec Ideal S128x128x2x4x64 .f32 :=
  shapeCast S128x128x2x4x64 (extractStridedSlice S16384x512 ![0, 0] (extf .f32 X bitsLt_bf16_f32) slices_S16384x768_S16384x512_0_0) shapeCasts_S16384x512_S128x128x2x4x64

/-- The keys each block of queries sees: the block before and its own. -/
def bandK (X : FVec Ideal S16384x768 .bf16) : FVec Ideal S128x256x2x64 .f32 :=
  concatenate S128x256x2x64 1 [⟨S128x128x2x64, (extractStridedSlice S128x128x2x64 ![0, 0, 0, 0] (shapeCast S129x128x2x64 (pad S16512x2x64 ![128, 0, 0] ![0, 0, 0] ![0, 0, 0] (shapeCast S16384x2x64 (extractStridedSlice S16384x128 ![0, 512] (extf .f32 X bitsLt_bf16_f32) slices_S16384x768_S16384x128_0_512) shapeCasts_S16384x128_S16384x2x64) (sitofp .f32 (constantI S_ 32 0#32)) pads_S16384x2x64_S16512x2x64_12800_000_000 h_S_) shapeCasts_S16512x2x64_S129x128x2x64) slices_S129x128x2x64_S128x128x2x64_0_0_0_0)⟩, ⟨S128x128x2x64, (extractStridedSlice S128x128x2x64 ![1, 0, 0, 0] (shapeCast S129x128x2x64 (pad S16512x2x64 ![128, 0, 0] ![0, 0, 0] ![0, 0, 0] (shapeCast S16384x2x64 (extractStridedSlice S16384x128 ![0, 512] (extf .f32 X bitsLt_bf16_f32) slices_S16384x768_S16384x128_0_512) shapeCasts_S16384x128_S16384x2x64) (sitofp .f32 (constantI S_ 32 0#32)) pads_S16384x2x64_S16512x2x64_12800_000_000 h_S_) shapeCasts_S16512x2x64_S129x128x2x64) slices_S129x128x2x64_S128x128x2x64_1_0_0_0)⟩] concatenates_S128x128x2x64_S128x128x2x64_S128x256x2x64_d1

/-- The values each block of queries sees. -/
def bandV (X : FVec Ideal S16384x768 .bf16) : FVec Ideal S128x256x2x64 .f32 :=
  concatenate S128x256x2x64 1 [⟨S128x128x2x64, (extractStridedSlice S128x128x2x64 ![0, 0, 0, 0] (shapeCast S129x128x2x64 (pad S16512x2x64 ![128, 0, 0] ![0, 0, 0] ![0, 0, 0] (shapeCast S16384x2x64 (extractStridedSlice S16384x128 ![0, 640] (extf .f32 X bitsLt_bf16_f32) slices_S16384x768_S16384x128_0_640) shapeCasts_S16384x128_S16384x2x64) (sitofp .f32 (constantI S_ 32 0#32)) pads_S16384x2x64_S16512x2x64_12800_000_000 h_S_) shapeCasts_S16512x2x64_S129x128x2x64) slices_S129x128x2x64_S128x128x2x64_0_0_0_0)⟩, ⟨S128x128x2x64, (extractStridedSlice S128x128x2x64 ![1, 0, 0, 0] (shapeCast S129x128x2x64 (pad S16512x2x64 ![128, 0, 0] ![0, 0, 0] ![0, 0, 0] (shapeCast S16384x2x64 (extractStridedSlice S16384x128 ![0, 640] (extf .f32 X bitsLt_bf16_f32) slices_S16384x768_S16384x128_0_640) shapeCasts_S16384x128_S16384x2x64) (sitofp .f32 (constantI S_ 32 0#32)) pads_S16384x2x64_S16512x2x64_12800_000_000 h_S_) shapeCasts_S16512x2x64_S129x128x2x64) slices_S129x128x2x64_S128x128x2x64_1_0_0_0)⟩] concatenates_S128x128x2x64_S128x128x2x64_S128x256x2x64_d1

/-- How far the key lies before the query. -/
def dist : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Which keys a query attends to. -/
def valid : IVec S128x128x256 1 :=
  andi (broadcastInDim S128x128x256 ![0, 1, 2] bcast_S1x128x256_S128x128x256_0_1_2 (andi (broadcastInDim S1x128x256 ![1, 2] bcast_S128x256_S1x128x256_1_2 (cmpi .sge dist (broadcastInDim S128x256 ![] bcast_S_S128x256 (constantI S_ 32 0#32)))) (broadcastInDim S1x128x256 ![1, 2] bcast_S128x256_S1x128x256_1_2 (cmpi .slt dist (broadcastInDim S128x256 ![] bcast_S_S128x256 (constantI S_ 32 128#32)))))) (broadcastInDim S128x128x256 ![0, 1, 2] bcast_S128x1x256_S128x128x256_0_1_2 (cmpi .sge (subi (addi (broadcastInDim S128x1x256 ![0, 1, 2] bcast_S128x1x1_S128x1x256_0_1_2 (muli (broadcastInDim S128x1x1 ![0] bcast_S128_S128x1x1_0 (iotaInDim S128 32 0)) (broadcastInDim S128x1x1 ![] bcast_S_S128x1x1 (constantI S_ 32 128#32)))) (broadcastInDim S128x1x256 ![0, 1, 2] bcast_S1x1x256_S128x1x256_0_1_2 (broadcastInDim S1x1x256 ![1, 2] bcast_S1x256_S1x1x256_1_2 (broadcastInDim S1x256 ![1] bcast_S256_S1x256_1 (iotaInDim S256 32 0))))) (broadcastInDim S128x1x256 ![] bcast_S_S128x1x256 (constantI S_ 32 128#32))) (broadcastInDim S128x1x256 ![] bcast_S_S128x1x256 (constantI S_ 32 0#32))))

/-- The heads' slopes times the distance. -/
def slope : FVec Ideal S2x4x128x128x256 .f32 :=
  broadcastInDim S2x4x128x128x256 ![0, 1, 2, 3, 4] bcast_S2x4x1x128x256_S2x4x128x128x256_0_1_2_3_4 (mulf (broadcastInDim S2x4x1x128x256 ![0, 1, 2, 3, 4] bcast_S2x4x1x1x1_S2x4x1x128x256_0_1_2_3_4 (broadcastInDim S2x4x1x1x1 ![0, 1] bcast_S2x4_S2x4x1x1x1_0_1 (shapeCast S2x4 (fun i => FloatOps.ofBits .f32 (lit0 (S8.rowMajor i))) shapeCasts_S8_S2x4))) (broadcastInDim S2x4x1x128x256 ![0, 1, 2, 3, 4] bcast_S1x1x1x128x256_S2x4x1x128x256_0_1_2_3_4 (broadcastInDim S1x1x1x128x256 ![3, 4] bcast_S128x256_S1x1x1x128x256_3_4 (sitofp .f32 dist))))

/-- The masked scores. -/
def score (X : FVec Ideal S16384x768 .bf16) : FVec Ideal S2x4x128x128x256 .f32 :=
  select (broadcastInDim S2x4x128x128x256 ![2, 3, 4] bcast_S128x128x256_S2x4x128x128x256_2_3_4 valid) (subf (mulf (transpose S2x4x128x128x256 [0, 4, 1, 3, 2] (Host.dotGeneral dot_S128x256x2x64_S128x128x2x4x64_S2x128x256x128x4_3_4_1_13_20_20 none (bandK X) (qry X)) transposes_S2x128x256x128x4_S2x4x128x128x256_0_4_1_3_2) (broadcastInDim S2x4x128x128x256 ![] bcast_S_S2x4x128x128x256 (constant S_ .f32 0x3E000000#32))) slope) (broadcastInDim S2x4x128x128x256 ![] bcast_S_S2x4x128x128x256 (constant S_ .f32 0xFF800000#32))

/-- The heads' sinks. -/
def sink (σ : FVec Ideal S8 .f32) : FVec Ideal S2x4x1x1 .f32 :=
  broadcastInDim S2x4x1x1 ![0, 1] bcast_S2x4_S2x4x1x1_0_1 (shapeCast S2x4 σ shapeCasts_S8_S2x4)

/-- The rows' maxima, the sink counted. -/
def top (X : FVec Ideal S16384x768 .bf16) (σ : FVec Ideal S8 .f32) : FVec Ideal S2x4x128x128 .f32 :=
  maximumf (Host.reduce FloatOps.maximumf (score X) (constant S_ .f32 0xFF800000#32) reducesTo_S2x4x128x128x256_S2x4x128x128_d4 h_S_) (broadcastInDim S2x4x128x128 ![0, 1, 2, 3] bcast_S2x4x1x1_S2x4x128x128_0_1_2_3 (sink σ))

/-- The exponentials. -/
def wgt (X : FVec Ideal S16384x768 .bf16) (σ : FVec Ideal S8 .f32) : FVec Ideal S2x4x128x128x256 .f32 :=
  Host.exp (subf (score X) (broadcastInDim S2x4x128x128x256 ![0, 1, 2, 3, 4] bcast_S2x4x128x128x1_S2x4x128x128x256_0_1_2_3_4 (broadcastInDim S2x4x128x128x1 ![0, 1, 2, 3] bcast_S2x4x128x128_S2x4x128x128x1_0_1_2_3 (top X σ))))

/-- Their sums, the sink counted. -/
def den (X : FVec Ideal S16384x768 .bf16) (σ : FVec Ideal S8 .f32) : FVec Ideal S2x4x128x128 .f32 :=
  addf (Host.reduceAdd (wgt X σ) (constant S_ .f32 0x00000000#32) reducesTo_S2x4x128x128x256_S2x4x128x128_d4 h_S_) (Host.exp (subf (broadcastInDim S2x4x128x128 ![0, 1, 2, 3] bcast_S2x4x1x1_S2x4x128x128_0_1_2_3 (sink σ)) (top X σ)))

/-- The weights. -/
def prb (X : FVec Ideal S16384x768 .bf16) (σ : FVec Ideal S8 .f32) : FVec Ideal S2x4x128x128x256 .f32 :=
  Host.divf (wgt X σ) (broadcastInDim S2x4x128x128x256 ![0, 1, 2, 3, 4] bcast_S2x4x128x128x1_S2x4x128x128x256_0_1_2_3_4 (broadcastInDim S2x4x128x128x1 ![0, 1, 2, 3] bcast_S2x4x128x128_S2x4x128x128x1_0_1_2_3 (den X σ)))

/-- The attended values, rounded. -/
def resO (X : FVec Ideal S16384x768 .bf16) (σ : FVec Ideal S8 .f32) : FVec Ideal S16384x512 .bf16 :=
  truncf .bf16 (shapeCast S16384x512 (transpose S128x128x2x4x64 [0, 4, 1, 3, 2] (Host.dotGeneral dot_S128x256x2x64_S2x4x128x128x256_S128x2x64x4x128_1_4_3_13_02_20 none (bandV X) (prb X σ)) transposes_S128x2x64x4x128_S128x128x2x4x64_0_4_1_3_2) shapeCasts_S128x128x2x4x64_S16384x512) bitsLt_bf16_f32

/-- The rows' log-sum-exps, by head, padded to 128 lanes. -/
def resL (X : FVec Ideal S16384x768 .bf16) (σ : FVec Ideal S8 .f32) : FVec Ideal S16384x128 .f32 :=
  pad S16384x128 ![0, 0] ![0, 120] ![0, 0] (shapeCast S16384x8 (transpose S128x128x2x4 [2, 3, 0, 1] (addf (top X σ) (Host.log (den X σ))) transposes_S2x4x128x128_S128x128x2x4_2_3_0_1) shapeCasts_S128x128x2x4_S16384x8) (sitofp .f32 (constantI S_ 32 0#32)) pads_S16384x8_S16384x128_000_01200 h_S_

/-! ## At an index -/

/-- Head `g, i`'s slope. -/
def slp (g : Fin 2) (i : Fin 4) : EReal := Ideal.ofBits .f32 (lit0 (S8.rowMajor (ix1 ⟨g.val * 4 + i.val, by omega⟩)))

/-- A query's product with a key, scaled. -/
def prod (X : FVec Ideal S16384x768 .bf16) (n r : Fin 128) (g : Fin 2) (i : Fin 4) (s : Fin 256) : EReal :=
  (∑ d : Fin 64, X (ix2 (keyRow n s) ⟨512 + (g.val * 64 + d.val), by omega⟩) * X (ix2 ⟨n.val * 128 + r.val, by omega⟩ ⟨g.val * 256 + i.val * 64 + d.val, by omega⟩)) * scale

/-- A query's scores. -/
def scr (X : FVec Ideal S16384x768 .bf16) (n r : Fin 128) (g : Fin 2) (i : Fin 4) (s : Fin 256) : EReal :=
  masked n r s (slp g i) (prod X n r g i s)

theorem qry_at (X : FVec Ideal S16384x768 .bf16) (n r : Fin 128) (g : Fin 2) (i : Fin 4) (d : Fin 64) :
    qry X (ix5 n r g i d) = X (ix2 ⟨n.val * 128 + r.val, by omega⟩ ⟨g.val * 256 + i.val * 64 + d.val, by omega⟩) := by
  pointwise [qry]

theorem bandK_at (X : FVec Ideal S16384x768 .bf16) (n : Fin 128) (s : Fin 256) (g : Fin 2) (d : Fin 64) (h : ¬ n.val * 128 + s.val < 128) :
    bandK X (ix4 n s g d) = X (ix2 (keyRow n s) ⟨512 + (g.val * 64 + d.val), by omega⟩) := by
  have hk : (keyRow n s).val = n.val * 128 + s.val - 128 := if_neg h
  pointwise [bandK]
  by_cases h1 : s.val < 128
  · rw [dif_pos h1, dif_pos (by omega)]
    exact congrArg X ((ix2_inj ..).2 ⟨Fin.ext hk.symm, rfl⟩)
  · rw [dif_neg h1, dif_pos (by omega)]
    exact congrArg X ((ix2_inj ..).2 ⟨Fin.ext (Eq.trans (by show _ - _ = _; omega) hk.symm), rfl⟩)

theorem bandV_at (X : FVec Ideal S16384x768 .bf16) (n : Fin 128) (s : Fin 256) (g : Fin 2) (d : Fin 64) (h : ¬ n.val * 128 + s.val < 128) :
    bandV X (ix4 n s g d) = X (ix2 (keyRow n s) ⟨640 + (g.val * 64 + d.val), by omega⟩) := by
  have hk : (keyRow n s).val = n.val * 128 + s.val - 128 := if_neg h
  pointwise [bandV]
  by_cases h1 : s.val < 128
  · rw [dif_pos h1, dif_pos (by omega)]
    exact congrArg X ((ix2_inj ..).2 ⟨Fin.ext hk.symm, rfl⟩)
  · rw [dif_neg h1, dif_pos (by omega)]
    exact congrArg X ((ix2_inj ..).2 ⟨Fin.ext (Eq.trans (by show _ - _ = _; omega) hk.symm), rfl⟩)

/-- The first block has zeros before it. -/
theorem bandV_none (X : FVec Ideal S16384x768 .bf16) (n : Fin 128) (s : Fin 256) (g : Fin 2) (d : Fin 64) (h : n.val * 128 + s.val < 128) :
    bandV X (ix4 n s g d) = 0 := by
  pointwise [bandV]
  rw [dif_pos (by omega), dif_neg (by omega)]
  simp [FloatOps.sitofp]

theorem reach (n : Fin 128) (s : Fin 256) : IntOp.cmpi CmpIPredicate.sge
    (IntOp.subi (IntOp.addi (IntOp.muli (BitVec.ofNat 32 n.val) 128#32) (BitVec.ofNat 32 s.val)) 128#32) 0#32 = some' n s := by
  obtain ⟨n, hn⟩ := n
  obtain ⟨s, hs⟩ := s
  have e : (BitVec.ofNat 32 n * 128#32 + BitVec.ofNat 32 s - 128#32).toInt = (n : ℤ) * 128 + s - 128 := by
    rw [BitVec.toInt_eq_toNat_cond]
    simp only [BitVec.toNat_sub, BitVec.toNat_add, BitVec.toNat_mul, BitVec.toNat_ofNat]
    split <;> omega
  show BitVec.ofBool ((0#32).sle (BitVec.ofNat 32 n * 128#32 + BitVec.ofNat 32 s - 128#32)) = _
  unfold some' BitVec.sle
  rw [e]
  by_cases h : 128 ≤ n * 128 + s
  · rw [if_pos h, decide_eq_true (by simp; omega)]; rfl
  · rw [if_neg h, decide_eq_false (by simp; omega)]; rfl

theorem valid_at (n r : Fin 128) (s : Fin 256) : valid (ix3 n r s) = IntOp.andi (near r s) (some' n s) := by
  pointwise [valid, dist]
  exact congrArg (IntOp.andi _) (reach n s)

theorem score_at (X : FVec Ideal S16384x768 .bf16) (n r : Fin 128) (g : Fin 2) (i : Fin 4) (s : Fin 256) :
    score X (ix5 g i n r s) = scr X n r g i s := by
  by_cases h : n.val * 128 + s.val < 128
  · refine Eq.trans ?_ (masked_of_none n r s _ _ h).symm
    have := masked_of_none n r s 0 0 h
    unfold masked at this
    pointwise [score]
    rw [valid_at, ninf_eq]
    have h0 : some' n s = 0#1 := if_neg (by omega)
    rw [h0]
    have : IntOp.andi (near r s) 0#1 = 0#1 := by
      generalize near r s = b; revert b; decide
    rw [this]; rfl
  · pointwise [score, slope, dist]
    rw [valid_at, ninf_eq]
    simp only [bandK_at X n s g _ h, qry_at]
    rfl

/-- The largest of a row. -/
theorem redMax (v : FVec Ideal S2x4x128x128x256 .f32) (n r : Fin 128) (g : Fin 2) (i : Fin 4) :
    Host.reduce FloatOps.maximumf v (constant S_ .f32 0xFF800000#32) reducesTo_S2x4x128x128x256_S2x4x128x128_d4 h_S_ (ix4 g i n r)
      = Finset.univ.fold max (Ideal.ofBits .f32 0xFF800000#32) fun s => v (ix5 g i n r s) := by
  rw [Host.reduce_eq_fold]
  refine (Shape.ReducesTo.fold_fiber_r5_a4 _ _ _ _ _).trans ?_
  rfl

/-- The sum of a row. -/
theorem redAdd (v : FVec Ideal S2x4x128x128x256 .f32) (n r : Fin 128) (g : Fin 2) (i : Fin 4) :
    Host.reduceAdd v (constant S_ .f32 0x00000000#32) reducesTo_S2x4x128x128x256_S2x4x128x128_d4 h_S_ (ix4 g i n r) = ∑ s : Fin 256, v (ix5 g i n r s) := by
  pointwise

/-- The sink of a head. -/
theorem sink_at (σ : FVec Ideal S8 .f32) (g : Fin 2) (i : Fin 4) (n r : Fin 128) :
    broadcastInDim S2x4x128x128 ![0, 1, 2, 3] bcast_S2x4x1x1_S2x4x128x128_0_1_2_3 (sink σ) (ix4 g i n r) = σ (ix1 ⟨g.val * 4 + i.val, by omega⟩) := by
  pointwise [sink]

/-- A row's number spread over its entries. -/
theorem wide_at (v : FVec Ideal S2x4x128x128 .f32) (g : Fin 2) (i : Fin 4) (n r : Fin 128) (s : Fin 256) :
    broadcastInDim S2x4x128x128x256 ![0, 1, 2, 3, 4] bcast_S2x4x128x128x1_S2x4x128x128x256_0_1_2_3_4 (broadcastInDim S2x4x128x128x1 ![0, 1, 2, 3] bcast_S2x4x128x128_S2x4x128x128x1_0_1_2_3 v) (ix5 g i n r s) = v (ix4 g i n r) := by
  pointwise

theorem max_pt {S : Shape} (a b : FVec Ideal S .f32) (y : S.Idx) : maximumf a b y = max (a y) (b y) := rfl
theorem add_pt {S : Shape} (a b : FVec Ideal S .f32) (y : S.Idx) : addf a b y = a y + b y := rfl
theorem exp_pt {S : Shape} (a b : FVec Ideal S .f32) (y : S.Idx) : Host.exp (subf a b) y = Ideal.exp (a y - b y) := rfl
theorem div_pt {S : Shape} (a b : FVec Ideal S .f32) (y : S.Idx) : Host.divf a b y = Ideal.div (a y) (b y) := rfl
theorem log_pt {S : Shape} (a b : FVec Ideal S .f32) (y : S.Idx) : addf a (Host.log b) y = a y + Ideal.log (b y) := rfl

theorem top_at (X : FVec Ideal S16384x768 .bf16) (σ : FVec Ideal S8 .f32) (n r : Fin 128) (g : Fin 2) (i : Fin 4) :
    top X σ (ix4 g i n r) = rmax (scr X n r g i) (σ (ix1 ⟨g.val * 4 + i.val, by omega⟩)) := by
  unfold top rmax
  rw [max_pt, redMax, sink_at]
  simp only [score_at]

theorem wgt_at (X : FVec Ideal S16384x768 .bf16) (σ : FVec Ideal S8 .f32) (n r : Fin 128) (g : Fin 2) (i : Fin 4) (s : Fin 256) :
    wgt X σ (ix5 g i n r s) = Ideal.exp (scr X n r g i s - rmax (scr X n r g i) (σ (ix1 ⟨g.val * 4 + i.val, by omega⟩))) := by
  unfold wgt
  rw [exp_pt, wide_at, score_at, top_at]

theorem den_at (X : FVec Ideal S16384x768 .bf16) (σ : FVec Ideal S8 .f32) (n r : Fin 128) (g : Fin 2) (i : Fin 4) :
    den X σ (ix4 g i n r) = rden (scr X n r g i) (σ (ix1 ⟨g.val * 4 + i.val, by omega⟩)) := by
  unfold den rden
  rw [add_pt, redAdd, exp_pt, sink_at, top_at]
  simp only [wgt_at]

theorem prb_at (X : FVec Ideal S16384x768 .bf16) (σ : FVec Ideal S8 .f32) (n r : Fin 128) (g : Fin 2) (i : Fin 4) (s : Fin 256) :
    prb X σ (ix5 g i n r s) = rprb (scr X n r g i) (σ (ix1 ⟨g.val * 4 + i.val, by omega⟩)) s := by
  unfold prb rprb
  rw [div_pt, wide_at, wgt_at, den_at]

/-- What a query attends to. -/
def att (X : FVec Ideal S16384x768 .bf16) (σ : FVec Ideal S8 .f32) (n r : Fin 128) (g : Fin 2) (i : Fin 4) (d : Fin 64) : EReal :=
  ∑ s : Fin 256, rprb (scr X n r g i) (σ (ix1 ⟨g.val * 4 + i.val, by omega⟩)) s * X (ix2 (keyRow n s) ⟨640 + (g.val * 64 + d.val), by omega⟩)

theorem att_eq (X : FVec Ideal S16384x768 .bf16) (σ : FVec Ideal S8 .f32) (n r : Fin 128) (g : Fin 2) (i : Fin 4) (d : Fin 64) :
    ∑ s : Fin 256, bandV X (ix4 n s g d) * prb X σ (ix5 g i n r s) = att X σ n r g i d := by
  unfold att
  simp only [prb_at]
  by_cases hd : rden (scr X n r g i) (σ (ix1 ⟨g.val * 4 + i.val, by omega⟩)) = 0
  · simp only [rprb_of_zero _ _ hd]
    by_cases hn : n.val = 0
    · have e1 : ∀ f : Fin 256 → EReal, ∑ s, f s = (∑ s : Fin 128, f ⟨s.val, by omega⟩) + ∑ s : Fin 128, f ⟨128 + s.val, by omega⟩ := fun f =>
        (Fin.sum_univ_add (a := 128) (b := 128) f)
      rw [e1, e1]
      have hz : ∀ s : Fin 128, bandV X (ix4 n ⟨s.val, by omega⟩ g d) = 0 := fun s =>
        bandV_none X n _ g d (by show n.val * 128 + s.val < 128; omega)
      have ha : ∀ s : Fin 128, keyRow n ⟨s.val, by omega⟩ = ⟨s.val, by omega⟩ := fun s =>
        Fin.ext (by show (if n.val * 128 + s.val < 128 then s.val else n.val * 128 + s.val - 128) = s.val; split <;> omega)
      have hb : ∀ s : Fin 128, keyRow n ⟨128 + s.val, by omega⟩ = ⟨s.val, by omega⟩ := fun s =>
        Fin.ext (by show (if n.val * 128 + (128 + s.val) < 128 then 128 + s.val else n.val * 128 + (128 + s.val) - 128) = s.val; split <;> omega)
      have hv : ∀ s : Fin 128, bandV X (ix4 n ⟨128 + s.val, by omega⟩ g d) = X (ix2 ⟨s.val, by omega⟩ ⟨640 + (g.val * 64 + d.val), by omega⟩) := fun s =>
        (bandV_at X n _ g d (by show ¬ n.val * 128 + (128 + s.val) < 128; omega)).trans (by rw [hb s])
      simp only [hz, ha, hb, hv, zero_mul, Finset.sum_const_zero, zero_add]
      refine Eq.trans (Finset.sum_congr rfl fun s _ => mul_comm _ _) (Ext.double (ext_sum _ _ fun s => ?_)).symm
      rw [mul_comm]
      exact ext_mul_bot _
    · refine Finset.sum_congr rfl fun s _ => ?_
      rw [bandV_at X n s g d (by omega), mul_comm]
  · refine Finset.sum_congr rfl fun s _ => ?_
    by_cases h : n.val * 128 + s.val < 128
    · rw [rprb_of_bot _ _ hd s (masked_of_none n r s _ _ h), mul_zero, zero_mul]
    · rw [bandV_at X n s g d h, mul_comm]

/-- The attended values over variable arrays. -/
theorem pv_at (v : FVec Ideal S128x256x2x64 .f32) (w : FVec Ideal S2x4x128x128x256 .f32) (R : Fin 16384) (c : Fin 512) :
    (truncf .bf16 (shapeCast S16384x512 (transpose S128x128x2x4x64 [0, 4, 1, 3, 2] (Host.dotGeneral dot_S128x256x2x64_S2x4x128x128x256_S128x2x64x4x128_1_4_3_13_02_20 none v w) transposes_S128x2x64x4x128_S128x128x2x4x64_0_4_1_3_2) shapeCasts_S128x128x2x4x64_S16384x512) bitsLt_bf16_f32 : FVec Ideal S16384x512 .bf16) (ix2 R c)
      = ∑ s : Fin 256, v (ix4 ⟨R.val / 128, by omega⟩ s ⟨c.val / 256, by omega⟩ ⟨c.val % 64, by omega⟩) * w (ix5 ⟨c.val / 256, by omega⟩ ⟨c.val / 64 % 4, by omega⟩ ⟨R.val / 128, by omega⟩ ⟨R.val % 128, by omega⟩ s) := by
  pointwise

theorem resO_at (X : FVec Ideal S16384x768 .bf16) (σ : FVec Ideal S8 .f32) (R : Fin 16384) (c : Fin 512) :
    resO X σ (ix2 R c) = att X σ ⟨R.val / 128, by omega⟩ ⟨R.val % 128, by omega⟩ ⟨c.val / 256, by omega⟩ ⟨c.val / 64 % 4, by omega⟩ ⟨c.val % 64, by omega⟩ :=
  by unfold resO; rw [pv_at, att_eq]

theorem sitofp_zero : (FloatOps.sitofp (F := Ideal) .f32 0#32) = (0 : EReal) := by
  simp [FloatOps.sitofp]

/-- The log-sum-exps over a variable array. -/
theorem pad_at (v : FVec Ideal S2x4x128x128 .f32) (R : Fin 16384) (c : Fin 128) :
    (pad S16384x128 ![0, 0] ![0, 120] ![0, 0] (shapeCast S16384x8 (transpose S128x128x2x4 [2, 3, 0, 1] v transposes_S2x4x128x128_S128x128x2x4_2_3_0_1) shapeCasts_S128x128x2x4_S16384x8) (sitofp .f32 (constantI S_ 32 0#32 )) pads_S16384x8_S16384x128_000_01200 h_S_ : FVec Ideal S16384x128 .f32) (ix2 R c)
      = if h : c.val < 8 then v (ix4 ⟨c.val / 4, by omega⟩ ⟨c.val % 4, by omega⟩ ⟨R.val / 128, by omega⟩ ⟨R.val % 128, by omega⟩) else 0 := by
  pointwise
  rw [sitofp_zero]

theorem resL_at (X : FVec Ideal S16384x768 .bf16) (σ : FVec Ideal S8 .f32) (R : Fin 16384) (c : Fin 128) :
    resL X σ (ix2 R c) = if h : c.val < 8 then rlse (scr X ⟨R.val / 128, by omega⟩ ⟨R.val % 128, by omega⟩ ⟨c.val / 4, by omega⟩ ⟨c.val % 4, by omega⟩) (σ (ix1 ⟨c.val, h⟩)) else 0 := by
  unfold resL
  rw [pad_at]
  by_cases h : c.val < 8
  · rw [dif_pos h, dif_pos h]
    rw [log_pt, top_at, den_at]
    have e : (⟨c.val / 4 * 4 + c.val % 4, by omega⟩ : Fin 8) = ⟨c.val, h⟩ := Fin.ext (by show c.val / 4 * 4 + c.val % 4 = c.val; omega)
    unfold rlse
    simp only [e]
  · rw [dif_neg h, dif_neg h]

end Cert.ReferenceAttnIdeal.Attn

end
-- ==== Proof.Attn.Pay.lean ====
module

public import proofs.«01_k».proof.Proof.Attn.Body
public import proofs.«01_k».proof.Proof.Attn.Ref
public import Idealize.ShloMosaic.Lib.Pointwise

@[expose] public section

set_option maxRecDepth 16384

noncomputable section

/-! The arithmetic of one walk of the forward attention, entry by entry. -/

namespace Cert.KernelAttnIdeal.Attn

open Cert.KernelAttnIdeal Cert.KernelAttnIdeal.Gen Cert.Attn
open Idealize.ShloMosaic Idealize.ShloMosaic.TcCoe

abbrev SC := FVec Ideal S512x256 .f32

/-! ## Choices by a lane's or a row's number -/

theorem toInt_lt (n : ℕ) (hn : n < 1000) : (BitVec.ofNat 32 n).toInt = n := by
  rw [BitVec.toInt_eq_toNat_cond, BitVec.toNat_ofNat]; split <;> omega

theorem sel_slt {α : Type} (n m : ℕ) (hn : n < 1000) (hm : m < 1000) (a b : α) :
    Scalar.select (IntOp.cmpi CmpIPredicate.slt (BitVec.ofNat 32 n) (BitVec.ofNat 32 m)) a b = if n < m then a else b := by
  have e : IntOp.cmpi CmpIPredicate.slt (BitVec.ofNat 32 n) (BitVec.ofNat 32 m) = BitVec.ofBool (decide (n < m)) := by
    show BitVec.ofBool ((BitVec.ofNat 32 n).slt (BitVec.ofNat 32 m)) = _
    unfold BitVec.slt
    rw [toInt_lt n hn, toInt_lt m hm]
    simp
  rw [e]
  by_cases h : n < m
  · rw [if_pos h, decide_eq_true h]; rfl
  · rw [if_neg h, decide_eq_false h]; rfl

theorem sel_sge {α : Type} (n m : ℕ) (hn : n < 1000) (hm : m < 1000) (a b : α) :
    Scalar.select (IntOp.cmpi CmpIPredicate.sge (BitVec.ofNat 32 n) (BitVec.ofNat 32 m)) a b = if n < m then b else a := by
  have e : IntOp.cmpi CmpIPredicate.sge (BitVec.ofNat 32 n) (BitVec.ofNat 32 m) = BitVec.ofBool (decide (m ≤ n)) := by
    show BitVec.ofBool ((BitVec.ofNat 32 m).sle (BitVec.ofNat 32 n)) = _
    unfold BitVec.sle
    rw [toInt_lt n hn, toInt_lt m hm]
    simp
  rw [e]
  by_cases h : n < m
  · rw [if_pos h, decide_eq_false (by omega)]; rfl
  · rw [if_neg h, decide_eq_true (by omega)]; rfl

theorem sel_eq {α : Type} (n m : ℕ) (hn : n < 1000) (hm : m < 1000) (a b : α) :
    Scalar.select (IntOp.cmpi CmpIPredicate.eq (BitVec.ofNat 32 n) (BitVec.ofNat 32 m)) a b = if n = m then a else b := by
  by_cases h : n = m
  · rw [if_pos h, h]
    have e : IntOp.cmpi CmpIPredicate.eq (BitVec.ofNat 32 m) (BitVec.ofNat 32 m) = 1#1 := by
      show BitVec.ofBool (BitVec.ofNat 32 m == BitVec.ofNat 32 m) = _
      rw [beq_self_eq_true]; rfl
    rw [e]; rfl
  · rw [if_neg h]
    have e : IntOp.cmpi CmpIPredicate.eq (BitVec.ofNat 32 n) (BitVec.ofNat 32 m) = 0#1 := by
      show BitVec.ofBool (BitVec.ofNat 32 n == BitVec.ofNat 32 m) = _
      have hne : BitVec.ofNat 32 n ≠ BitVec.ofNat 32 m := fun hh => h (by
        have := congrArg BitVec.toInt hh
        rw [toInt_lt n hn, toInt_lt m hm] at this
        omega)
      rw [beq_eq_false_iff_ne.mpr hne]; rfl
    rw [e]; rfl

/-! ## The softmax of the stacked rows -/

/-- The sink of the head whose rows hold row `ρ`. -/
def hd (a b c d : EReal) (ρ : Fin 512) : EReal := if ρ.val < 128 then a else if ρ.val < 256 then b else if ρ.val < 384 then c else d

/-- The heads' sinks as a column. -/
def snk (a b c d : Elt Ideal .f32) : FVec Ideal S512x1 .f32 := k0_pay34 a rowNo (k0_pay32 b c d) k0_pay33

theorem snk_at (a b c d : Elt Ideal .f32) (ρ : Fin 512) (z : Fin 1) : snk a b c d (ix2 ρ z) = hd a b c d ρ := by
  pointwise [snk, k0_pay34, k0_pay32, k0_pay33, rowNo, hd]
  rw [sel_slt _ 128 (by omega) (by omega), sel_slt _ 256 (by omega) (by omega), sel_slt _ 384 (by omega) (by omega)]

theorem mx_at (v : SC) (w : FVec Ideal S512x1 .f32) (ρ : Fin 512) (z : Fin 1) :
    maximumf (shapeCast S512x1 (multiReduction .maximumf [1] S512 v 0xFF800000#32 reduces_S512x256_S512 (.inl rfl) rfl) shapeCasts_S512_S512x1) w (ix2 ρ z)
      = rmax (fun s => v (ix2 ρ s)) (w (ix2 ρ z)) := by
  pointwise [rmax]

theorem sm_at (v : SC) (ρ : Fin 512) (z : Fin 1) :
    shapeCast S512x1 (multiReduction .add [1] S512 v 0x00000000#32 reduces_S512x256_S512 (.inl rfl) rfl) shapeCasts_S512_S512x1 (ix2 ρ z)
      = ∑ s : Fin 256, v (ix2 ρ s) := by
  pointwise

theorem bc_at (w : FVec Ideal S512x1 .f32) (ρ : Fin 512) (s : Fin 256) :
    broadcastTo S512x256 w broadcasts_S512x1_S512x256 (ix2 ρ s) = w (ix2 ρ ⟨0, by omega⟩) := by
  pointwise

theorem mm_at (v : SC) (w : FVec Ideal S256x128 .bf16) (ρ : Fin 512) (l : Fin 128) :
    matmul dot_S512x256_S256x128_S512x128_1_0_0_1_n_n none (truncf .bf16 v bitsLt_bf16_f32) w (constant S512x128 .f32 0x00000000#32) (ix2 ρ l) = ∑ s : Fin 256, v (ix2 ρ s) * w (ix2 s l) := by
  pointwise

theorem qk_at (K : Vec Ideal S256x128 .bf16) (q : Vec Ideal S1x512x128 .bf16) (b : Vec Ideal S1x1x512x256 .f32) (ρ : Fin 512) (s : Fin 256) :
    k0_pay31 K q b (ix2 ρ s) = (∑ l : Fin 128, q (ix3 ⟨0, by omega⟩ ρ l) * K (ix2 s l)) + b (ix4 ⟨0, by omega⟩ ⟨0, by omega⟩ ρ s) := by
  pointwise [k0_pay31]

/-- A stacked row's maximum, exponentials, sum, products with the values and log-sum-exp. -/
def smx (v : SC) (a b c d : Elt Ideal .f32) : FVec Ideal S512x1 .f32 := k0_pay35 v a rowNo (k0_pay32 b c d) k0_pay33
def sex (v : SC) (a b c d : Elt Ideal .f32) : SC := k0_pay36 v a rowNo (k0_pay32 b c d) k0_pay33
def sdn (v : SC) (a b c d : Elt Ideal .f32) : FVec Ideal S512x1 .f32 := k0_pay37 v a rowNo (k0_pay32 b c d) k0_pay33
def spv (V : Vec Ideal S256x128 .bf16) (v : SC) (a b c d : Elt Ideal .f32) : FVec Ideal S512x128 .f32 := k0_pay38 V v a rowNo (k0_pay32 b c d) k0_pay33
def sls (v : SC) (a b c d : Elt Ideal .f32) : FVec Ideal S512x1 .f32 := k0_pay41 v a rowNo (k0_pay32 b c d) k0_pay33

theorem exps_pt {S : Shape} (a b : FVec Ideal S .f32) (y : S.Idx) : exp (subf a b) y = Ideal.exp (a y - b y) := rfl
theorem adds_pt {S : Shape} (a b : FVec Ideal S .f32) (y : S.Idx) : addf a b y = a y + b y := rfl
theorem divs_pt {S : Shape} (a b : FVec Ideal S .f32) (y : S.Idx) : divf a b y = Ideal.div (a y) (b y) := rfl
theorem logs_pt {S : Shape} (a b : FVec Ideal S .f32) (y : S.Idx) : addf a (log b) y = a y + Ideal.log (b y) := rfl

theorem smx_at (v : SC) (a b c d : Elt Ideal .f32) (ρ : Fin 512) (z : Fin 1) : smx v a b c d (ix2 ρ z) = rmax (fun s => v (ix2 ρ s)) (hd a b c d ρ) := by
  rw [← snk_at a b c d ρ z]
  exact mx_at v (snk a b c d) ρ z

theorem sex_at (v : SC) (a b c d : Elt Ideal .f32) (ρ : Fin 512) (s : Fin 256) :
    sex v a b c d (ix2 ρ s) = Ideal.exp (v (ix2 ρ s) - rmax (fun s => v (ix2 ρ s)) (hd a b c d ρ)) := by
  have e : sex v a b c d = exp (subf v (broadcastTo S512x256 (smx v a b c d) broadcasts_S512x1_S512x256)) := rfl
  rw [e, exps_pt, bc_at, smx_at]

theorem sdn_at (v : SC) (a b c d : Elt Ideal .f32) (ρ : Fin 512) (z : Fin 1) : sdn v a b c d (ix2 ρ z) = rden (fun s => v (ix2 ρ s)) (hd a b c d ρ) := by
  have e : sdn v a b c d = addf (shapeCast S512x1 (multiReduction .add [1] S512 (sex v a b c d) 0x00000000#32 reduces_S512x256_S512 (.inl rfl) rfl) shapeCasts_S512_S512x1) (exp (subf (snk a b c d) (smx v a b c d))) := rfl
  rw [e, adds_pt, exps_pt, sm_at, snk_at, smx_at]
  unfold rden
  simp only [sex_at]

theorem spv_at (V : Vec Ideal S256x128 .bf16) (v : SC) (a b c d : Elt Ideal .f32) (ρ : Fin 512) (l : Fin 128) :
    spv V v a b c d (ix2 ρ l) = ∑ s : Fin 256, rprb (fun s => v (ix2 ρ s)) (hd a b c d ρ) s * V (ix2 s l) := by
  have e : spv V v a b c d = matmul (φ₁ := .bf16) (φ₂ := .bf16) dot_S512x256_S256x128_S512x128_1_0_0_1_n_n none (truncf .bf16 (divf (sex v a b c d) (broadcastTo S512x256 (sdn v a b c d) broadcasts_S512x1_S512x256)) bitsLt_bf16_f32) V (constant S512x128 .f32 0x00000000#32) := rfl
  rw [e]
  refine (mm_at _ V ρ l).trans (Finset.sum_congr rfl fun s _ => ?_)
  rw [divs_pt, bc_at, sex_at, sdn_at]
  rfl

theorem sls_at (v : SC) (a b c d : Elt Ideal .f32) (ρ : Fin 512) (z : Fin 1) : sls v a b c d (ix2 ρ z) = rlse (fun s => v (ix2 ρ s)) (hd a b c d ρ) := by
  have e : sls v a b c d = addf (smx v a b c d) (log (sdn v a b c d)) := rfl
  rw [e, logs_pt, smx_at, sdn_at]
  rfl

/-! ## Unstacking the heads -/

/-- The two heads of the first group whose rows start at 0. -/
def un0 (v : FVec Ideal S512x128 .f32) : FVec Ideal S128x128 .bf16 :=
  truncf .bf16 (select (cmpi .slt (iota .tc S128x128 32 [1] iota_S128x128_d1_w32) (broadcast S128x128 64#32)) (extractStridedSlice S128x128 ![0, 0] v slices_S512x128_o0_0_S128x128) (dynamicRotate 1 64#32 none (extractStridedSlice S128x128 ![128, 0] v slices_S512x128_o128_0_S128x128) rotates_S128x128_d1)) bitsLt_bf16_f32

theorem un0_at (v : FVec Ideal S512x128 .f32) (r l : Fin 128) :
    un0 v (ix2 r l) = v (ix2 ⟨128 * (l.val / 64) + r.val, by omega⟩ ⟨l.val % 64, by omega⟩) := by
  pointwise [un0]
  rw [sel_slt _ 64 (by omega) (by omega)]
  by_cases h : l.val < 64
  · rw [if_pos h]; exact congrArg v ((ix2_inj ..).2 ⟨Fin.ext (by show r.val = 128 * (l.val / 64) + r.val; omega), Fin.ext (by show l.val = l.val % 64; omega)⟩)
  · rw [if_neg h]; exact congrArg v ((ix2_inj ..).2 ⟨Fin.ext (by show 128 + r.val = 128 * (l.val / 64) + r.val; omega), Fin.ext (by show (l.val + 128 - 64) % 128 = l.val % 64; omega)⟩)

theorem un1_at (v : FVec Ideal S512x128 .f32) (r l : Fin 128) :
    k0_pay22 v laneNo (ix2 r l) = v (ix2 ⟨256 + (128 * (l.val / 64) + r.val), by omega⟩ ⟨l.val % 64, by omega⟩) := by
  pointwise [k0_pay22, laneNo]
  rw [sel_slt _ 64 (by omega) (by omega)]
  by_cases h : l.val < 64
  · rw [if_pos h]; exact congrArg v ((ix2_inj ..).2 ⟨Fin.ext (by show 256 + r.val = 256 + (128 * (l.val / 64) + r.val); omega), Fin.ext (by show l.val = l.val % 64; omega)⟩)
  · rw [if_neg h]; exact congrArg v ((ix2_inj ..).2 ⟨Fin.ext (by show 384 + r.val = 256 + (128 * (l.val / 64) + r.val); omega), Fin.ext (by show (l.val + 128 - 64) % 128 = l.val % 64; omega)⟩)

/-- The two heads of the second group whose rows start at 0, and the two after them. -/
def un2 (v : FVec Ideal S512x128 .f32) : FVec Ideal S128x128 .bf16 :=
  truncf .bf16 (select (cmpi .slt (iota .tc S128x128 32 [1] iota_S128x128_d1_w32) (broadcast S128x128 64#32)) (dynamicRotate 1 64#32 none (extractStridedSlice S128x128 ![0, 0] v slices_S512x128_o0_0_S128x128) rotates_S128x128_d1) (extractStridedSlice S128x128 ![128, 0] v slices_S512x128_o128_0_S128x128)) bitsLt_bf16_f32
def un3 (v : FVec Ideal S512x128 .f32) : FVec Ideal S128x128 .bf16 :=
  truncf .bf16 (select (cmpi .slt (iota .tc S128x128 32 [1] iota_S128x128_d1_w32) (broadcast S128x128 64#32)) (dynamicRotate 1 64#32 none (extractStridedSlice S128x128 ![256, 0] v slices_S512x128_o256_0_S128x128) rotates_S128x128_d1) (extractStridedSlice S128x128 ![384, 0] v slices_S512x128_o384_0_S128x128)) bitsLt_bf16_f32

theorem un2_at (v : FVec Ideal S512x128 .f32) (r l : Fin 128) :
    un2 v (ix2 r l) = v (ix2 ⟨128 * (l.val / 64) + r.val, by omega⟩ ⟨64 + l.val % 64, by omega⟩) := by
  pointwise [un2]
  rw [sel_slt _ 64 (by omega) (by omega)]
  by_cases h : l.val < 64
  · rw [if_pos h]; exact congrArg v ((ix2_inj ..).2 ⟨Fin.ext (by show r.val = 128 * (l.val / 64) + r.val; omega), Fin.ext (by show (l.val + 128 - 64) % 128 = 64 + l.val % 64; omega)⟩)
  · rw [if_neg h]; exact congrArg v ((ix2_inj ..).2 ⟨Fin.ext (by show 128 + r.val = 128 * (l.val / 64) + r.val; omega), Fin.ext (by show l.val = 64 + l.val % 64; omega)⟩)

theorem un3_at (v : FVec Ideal S512x128 .f32) (r l : Fin 128) :
    un3 v (ix2 r l) = v (ix2 ⟨256 + (128 * (l.val / 64) + r.val), by omega⟩ ⟨64 + l.val % 64, by omega⟩) := by
  pointwise [un3]
  rw [sel_slt _ 64 (by omega) (by omega)]
  by_cases h : l.val < 64
  · rw [if_pos h]; exact congrArg v ((ix2_inj ..).2 ⟨Fin.ext (by show 256 + r.val = 256 + (128 * (l.val / 64) + r.val); omega), Fin.ext (by show (l.val + 128 - 64) % 128 = 64 + l.val % 64; omega)⟩)
  · rw [if_neg h]; exact congrArg v ((ix2_inj ..).2 ⟨Fin.ext (by show 384 + r.val = 256 + (128 * (l.val / 64) + r.val); omega), Fin.ext (by show l.val = 64 + l.val % 64; omega)⟩)

/-- The log-sum-exps' lanes, from the two groups' columns. -/
def lanes (w u : FVec Ideal S512x1 .f32) : FVec Ideal S128x128 .f32 :=
  let col := fun (x : FVec Ideal S128x1 .f32) => broadcastTo S128x128 (shapeCast S128x1 x shapeCasts_S128x1_S128x1) broadcasts_S128x1_S128x128
  let at' := fun (n : BitVec 32) => cmpi .eq laneNo (broadcast S128x128 n)
  select (at' 7#32) (col (extractStridedSlice S128x1 ![384, 0] u slices_S512x1_o384_0_S128x1))
    (select (at' 6#32) (col (extractStridedSlice S128x1 ![256, 0] u slices_S512x1_o256_0_S128x1))
      (select (at' 5#32) (col (extractStridedSlice S128x1 ![128, 0] u slices_S512x1_o128_0_S128x1))
        (select (at' 4#32) (col (extractStridedSlice S128x1 ![0, 0] u slices_S512x1_o0_0_S128x1))
          (select (at' 3#32) (col (extractStridedSlice S128x1 ![384, 0] w slices_S512x1_o384_0_S128x1))
            (select (at' 2#32) (col (extractStridedSlice S128x1 ![256, 0] w slices_S512x1_o256_0_S128x1))
              (select (at' 1#32) (col (extractStridedSlice S128x1 ![128, 0] w slices_S512x1_o128_0_S128x1))
                (select (at' 0#32) (col (extractStridedSlice S128x1 ![0, 0] w slices_S512x1_o0_0_S128x1)) k0_pay6)))))))

theorem lanes_at (w u : FVec Ideal S512x1 .f32) (r l : Fin 128) :
    lanes w u (ix2 r l) = if l.val < 8 then (if l.val < 4 then w else u) (ix2 ⟨128 * (l.val % 4) + r.val, by omega⟩ ⟨0, by omega⟩) else 0 := by
  pointwise [lanes, laneNo, k0_pay6]
  rw [sel_eq _ 7 (by omega) (by omega), sel_eq _ 6 (by omega) (by omega), sel_eq _ 5 (by omega) (by omega), sel_eq _ 4 (by omega) (by omega),
    sel_eq _ 3 (by omega) (by omega), sel_eq _ 2 (by omega) (by omega), sel_eq _ 1 (by omega) (by omega), sel_eq _ 0 (by omega) (by omega)]
  obtain ⟨l, hl⟩ := l
  by_cases h : l < 8
  · interval_cases l <;> simp
  · simp only [if_neg h]
    rw [if_neg (by omega), if_neg (by omega), if_neg (by omega), if_neg (by omega), if_neg (by omega), if_neg (by omega), if_neg (by omega), if_neg (by omega)]
    try simp

/-! ## Stacking the queries -/

/-- The scaled queries of one head, in its half of the lanes. -/
def stk (g : ℕ) (x : EReal) (l : Fin 128) : EReal := if l.val / 64 = g then x * scale else 0

theorem st0_at (x : Vec Ideal S128x128 .bf16) (z : Fin 1) (r l : Fin 128) :
    k0_pay8 x (ix3 z r l) = stk 0 (x (ix2 r ⟨l.val % 64, by omega⟩)) l := by
  pointwise [k0_pay8, k0_pay7, stk]
  rw [sel_slt _ 64 (by omega) (by omega), scale_bf16]
  by_cases h : l.val < 64
  · rw [if_pos h, if_pos (by omega)]; exact congrArg (fun y => x y * scale) ((ix2_inj ..).2 ⟨rfl, Fin.ext (by show l.val = l.val % 64; omega)⟩)
  · rw [if_neg h, if_neg (by omega)]

theorem st1_at (x : Vec Ideal S128x128 .bf16) (z : Fin 1) (r l : Fin 128) :
    k0_pay10 (k0_pay9 x) (ix3 z r l) = stk 0 (x (ix2 r ⟨64 + l.val % 64, by omega⟩)) l := by
  pointwise [k0_pay10, k0_pay9, k0_pay7, stk]
  rw [sel_slt _ 64 (by omega) (by omega), scale_bf16]
  by_cases h : l.val < 64
  · rw [if_pos h, if_pos (by omega)]; exact congrArg (fun y => x y * scale) ((ix2_inj ..).2 ⟨rfl, Fin.ext (by show (l.val + 128 - 64) % 128 = 64 + l.val % 64; omega)⟩)
  · rw [if_neg h, if_neg (by omega)]

theorem st2_at (x : Vec Ideal S128x128 .bf16) (z : Fin 1) (r l : Fin 128) :
    k0_pay11 k0_pay7 x (ix3 z r l) = stk 0 (x (ix2 r ⟨l.val % 64, by omega⟩)) l := by
  pointwise [k0_pay11, k0_pay7, stk]
  rw [sel_slt _ 64 (by omega) (by omega), scale_bf16]
  by_cases h : l.val < 64
  · rw [if_pos h, if_pos (by omega)]; exact congrArg (fun y => x y * scale) ((ix2_inj ..).2 ⟨rfl, Fin.ext (by show l.val = l.val % 64; omega)⟩)
  · rw [if_neg h, if_neg (by omega)]

theorem st3_at (x : Vec Ideal S128x128 .bf16) (z : Fin 1) (r l : Fin 128) :
    k0_pay12 k0_pay7 x (ix3 z r l) = stk 0 (x (ix2 r ⟨64 + l.val % 64, by omega⟩)) l := by
  pointwise [k0_pay12, k0_pay7, stk]
  rw [sel_slt _ 64 (by omega) (by omega), scale_bf16]
  by_cases h : l.val < 64
  · rw [if_pos h, if_pos (by omega)]; exact congrArg (fun y => x y * scale) ((ix2_inj ..).2 ⟨rfl, Fin.ext (by show (l.val + 128 - 64) % 128 = 64 + l.val % 64; omega)⟩)
  · rw [if_neg h, if_neg (by omega)]

theorem st4_at (x : Vec Ideal S128x128 .bf16) (z : Fin 1) (r l : Fin 128) :
    k0_pay26 k0_pay24 (k0_pay25 x) (Scalar.ofBits .bf16 0x3E00#16) (ix3 z r l) = stk 1 (x (ix2 r ⟨l.val % 64, by omega⟩)) l := by
  pointwise [k0_pay26, k0_pay25, k0_pay24, stk]
  rw [sel_sge _ 64 (by omega) (by omega), scale_bf16]
  by_cases h : l.val < 64
  · rw [if_pos h, if_neg (by omega)]
  · rw [if_neg h, if_pos (by omega)]; exact congrArg (fun y => x y * scale) ((ix2_inj ..).2 ⟨rfl, Fin.ext (by show (l.val + 128 - 64) % 128 = l.val % 64; omega)⟩)

theorem st5_at (x : Vec Ideal S128x128 .bf16) (z : Fin 1) (r l : Fin 128) :
    k0_pay27 k0_pay24 x (ix3 z r l) = stk 1 (x (ix2 r ⟨64 + l.val % 64, by omega⟩)) l := by
  pointwise [k0_pay27, k0_pay24, stk]
  rw [sel_sge _ 64 (by omega) (by omega), scale_bf16]
  by_cases h : l.val < 64
  · rw [if_pos h, if_neg (by omega)]
  · rw [if_neg h, if_pos (by omega)]; exact congrArg (fun y => x y * scale) ((ix2_inj ..).2 ⟨rfl, Fin.ext (by show l.val = 64 + l.val % 64; omega)⟩)

theorem st6_at (x : Vec Ideal S128x128 .bf16) (z : Fin 1) (r l : Fin 128) :
    k0_pay29 (k0_pay28 k0_pay24 x) (ix3 z r l) = stk 1 (x (ix2 r ⟨l.val % 64, by omega⟩)) l := by
  pointwise [k0_pay29, k0_pay28, k0_pay24, stk]
  rw [sel_sge _ 64 (by omega) (by omega), scale_bf16]
  by_cases h : l.val < 64
  · rw [if_pos h, if_neg (by omega)]
  · rw [if_neg h, if_pos (by omega)]; exact congrArg (fun y => x y * scale) ((ix2_inj ..).2 ⟨rfl, Fin.ext (by show (l.val + 128 - 64) % 128 = l.val % 64; omega)⟩)

theorem st7_at (x : Vec Ideal S128x128 .bf16) (z : Fin 1) (r l : Fin 128) :
    k0_pay30 k0_pay24 x (ix3 z r l) = stk 1 (x (ix2 r ⟨64 + l.val % 64, by omega⟩)) l := by
  pointwise [k0_pay30, k0_pay24, stk]
  rw [sel_sge _ 64 (by omega) (by omega), scale_bf16]
  by_cases h : l.val < 64
  · rw [if_pos h, if_neg (by omega)]
  · rw [if_neg h, if_pos (by omega)]; exact congrArg (fun y => x y * scale) ((ix2_inj ..).2 ⟨rfl, Fin.ext (by show l.val = 64 + l.val % 64; omega)⟩)

end Cert.KernelAttnIdeal.Attn

end
-- ==== Proof.Attn.Walk.lean ====
module

public import proofs.«01_k».proof.Proof.Attn.Pay
public import Idealize.ShloMosaic.Lib.Pipeline.ValueKit.Tiles

@[expose] public section

set_option maxRecDepth 16384

noncomputable section

/-! One walk of the forward attention, from the staged blocks: the scores, what the walk stores, and the two blocks the four
    walks leave. -/

namespace Cert.KernelAttnIdeal.Attn

open Cert.KernelAttnIdeal Cert.KernelAttnIdeal.Gen Cert.Attn
open Idealize.ShloMosaic Idealize.ShloMosaic.TcCoe

theorem lt4 (k : Fin k0_t1_loop.trips) : k.val < 4 := Nat.lt_of_lt_of_le k.isLt k0_t1_abs.2.1

/-- The walk's number. -/
abbrev wk (k : Fin k0_t1_loop.trips) : Fin 4 := ⟨k.val, lt4 k⟩

/-! ## The stacked queries -/

theorem ldq (xq : Vec Ideal S512x512 .bf16) (off : Fin 2 → ℕ) (inb) (k e : ℕ) (he : off = ![128 * k, e]) (hk : k < 4) (h : e ≤ 384) (r c : Fin 128) :
    View.ld xq (Rect.unit (s := S512x512) off S128x128.size inb) (ix2 r c) = xq (ix2 ⟨128 * k + r.val, by omega⟩ ⟨e + c.val, by omega⟩) := by
  subst he
  exact View.ld_unit_apply_of xq _ _ _ _ _ (Fin.forall_fin_two.mpr ⟨rfl, rfl⟩)

/-- The query of head `64 j …` in a walk, scaled, in its half of the lanes. -/
def qv (xq : Vec Ideal S512x512 .bf16) (k : Fin 4) (g : Fin 2) (ρ : Fin 512) (l : Fin 128) : EReal :=
  stk g.val (xq (ix2 ⟨128 * k.val + ρ.val % 128, by omega⟩ ⟨256 * g.val + 64 * (ρ.val / 128) + l.val % 64, by omega⟩)) l

theorem tileQ (g : Fin 2) (ρ : Fin 512) (l : Fin 128) (v : EReal) (o : ℕ) (off : Fin 3 → ℕ) (hoff : off = ![g.val, o, 0]) (w : S1x128x128.Idx → EReal)
    (h : ∀ (z : Fin 1) (r : Fin 128), ρ.val = o + r.val → w (ix3 z r l) = v) :
    View.TileAt (Val := Elt Ideal) (e := .bf16) (S := S2x512x128) (ix3 g ρ l) off S1x128x128.size w v := by
  intro x hx
  subst hoff
  have h1 : ρ.val = o + (x 1).val := hx 1
  have h2 : l = x 2 := Fin.ext ((hx 2).trans (Nat.zero_add _))
  have e := h (x 0) (x 1) h1
  rw [h2] at e
  exact (congrArg w (eq_ix3 x)).trans e

theorem tileQ' (g g' : Fin 2) (hg : g ≠ g') (ρ : Fin 512) (l : Fin 128) (v : EReal) (o : ℕ) (off : Fin 3 → ℕ) (hoff : off = ![g'.val, o, 0]) (w : S1x128x128.Idx → EReal) :
    View.TileAt (Val := Elt Ideal) (e := .bf16) (S := S2x512x128) (ix3 g ρ l) off S1x128x128.size w v := by
  intro x hx
  subst hoff
  have h0 : g.val = g'.val + (x 0).val := hx 0
  have : (x 0).val < 1 := (x 0).isLt
  exact absurd (Fin.ext (by omega)) hg

theorem memQ (g : Fin 2) (ρ : Fin 512) (l : Fin 128) (o : ℕ) (off : Fin 3 → ℕ) (hoff : off = ![g.val, o, 0]) (inb) (h : o ≤ ρ.val) (h' : ρ.val < o + 128) :
    (ix3 g ρ l : S2x512x128.Idx) ∈ (Rect.unit (s := S2x512x128) off S1x128x128.size inb).set := by
  subst hoff
  rw [Rect.mem_set_unit]
  intro a
  match a with
  | ⟨0, _⟩ => exact ⟨le_refl g.val, Nat.lt_succ_self g.val⟩
  | ⟨1, _⟩ => exact ⟨h, h'⟩
  | ⟨2, _⟩ => exact ⟨Nat.zero_le _, by show l.val < 0 + 128; omega⟩

theorem pcQ0_at (xq : Vec Ideal S512x512 .bf16) (k : Fin k0_t1_loop.trips) (ρ : Fin 512) (l : Fin 128) :
    View.canon (pcQ0 xq k) (ix3 0 ρ l) = qv xq (wk k) 0 ρ l := by
  refine View.canon_eq_of_allAt _ _ _ ?_ ?_
  · unfold pcQ0
    rcases (show ρ.val < 128 ∨ (128 ≤ ρ.val ∧ ρ.val < 256) ∨ (256 ≤ ρ.val ∧ ρ.val < 384) ∨ (384 ≤ ρ.val ∧ ρ.val < 512) by omega) with h | h | h | h
    · exact ⟨_, List.mem_cons_of_mem _ (List.mem_cons_of_mem _ (List.mem_cons_of_mem _ (List.mem_cons_self))), memQ 0 ρ l 0 _ rfl inb_S2x512x128_S1x128x128_0_0_0 (Nat.zero_le _) (by omega)⟩
    · exact ⟨_, List.mem_cons_of_mem _ (List.mem_cons_of_mem _ (List.mem_cons_self)), memQ 0 ρ l 128 _ rfl inb_S2x512x128_S1x128x128_0_128_0 h.1 (by omega)⟩
    · exact ⟨_, List.mem_cons_of_mem _ (List.mem_cons_self), memQ 0 ρ l 256 _ rfl inb_S2x512x128_S1x128x128_0_256_0 h.1 (by omega)⟩
    · exact ⟨_, List.mem_cons_self, memQ 0 ρ l 384 _ rfl inb_S2x512x128_S1x128x128_0_384_0 h.1 (by omega)⟩
  · unfold pcQ0
    refine View.allAt_cons_unit _ _ _ _ _ (tileQ 0 ρ l _ 384 _ rfl _ fun z r h => by
      rw [st3_at, ldq xq _ _ k.val 128 (k0_off3_eq k) (lt4 k) (by omega)]
      unfold qv
      exact congrArg (fun y => stk 0 (xq y) l) ((ix2_inj ..).2 ⟨Fin.ext (by show 128 * k.val + r.val = 128 * k.val + ρ.val % 128; omega), Fin.ext (by show 128 + (64 + l.val % 64) = 256 * 0 + 64 * (ρ.val / 128) + l.val % 64; omega)⟩)) ?_
    refine View.allAt_cons_unit _ _ _ _ _ (tileQ 0 ρ l _ 256 _ rfl _ fun z r h => by
      rw [st2_at, ldq xq _ _ k.val 128 (k0_off3_eq k) (lt4 k) (by omega)]
      unfold qv
      exact congrArg (fun y => stk 0 (xq y) l) ((ix2_inj ..).2 ⟨Fin.ext (by show 128 * k.val + r.val = 128 * k.val + ρ.val % 128; omega), Fin.ext (by show 128 + (l.val % 64) = 256 * 0 + 64 * (ρ.val / 128) + l.val % 64; omega)⟩)) ?_
    refine View.allAt_cons_unit _ _ _ _ _ (tileQ 0 ρ l _ 128 _ rfl _ fun z r h => by
      rw [st1_at, ldq xq _ _ k.val 0 (k0_off2_eq k) (lt4 k) (by omega)]
      unfold qv
      exact congrArg (fun y => stk 0 (xq y) l) ((ix2_inj ..).2 ⟨Fin.ext (by show 128 * k.val + r.val = 128 * k.val + ρ.val % 128; omega), Fin.ext (by show 0 + (64 + l.val % 64) = 256 * 0 + 64 * (ρ.val / 128) + l.val % 64; omega)⟩)) ?_
    refine View.allAt_cons_unit _ _ _ _ _ (tileQ 0 ρ l _ 0 _ rfl _ fun z r h => by
      rw [st0_at, ldq xq _ _ k.val 0 (k0_off2_eq k) (lt4 k) (by omega)]
      unfold qv
      exact congrArg (fun y => stk 0 (xq y) l) ((ix2_inj ..).2 ⟨Fin.ext (by show 128 * k.val + r.val = 128 * k.val + ρ.val % 128; omega), Fin.ext (by show 0 + (l.val % 64) = 256 * 0 + 64 * (ρ.val / 128) + l.val % 64; omega)⟩)) ?_
    exact View.allAt_nil _ _

theorem qs0_at (xq : Vec Ideal S512x512 .bf16) (k : Fin k0_t1_loop.trips) (z : Fin 1) (ρ : Fin 512) (l : Fin 128) :
    qs0 xq k (ix3 z ρ l) = qv xq (wk k) 0 ρ l := by
  unfold qs0
  refine (View.ld_unit_apply_of _ _ _ _ _ (ix3 0 ρ l) fun a => ?_).trans (pcQ0_at xq k ρ l)
  match a with
  | ⟨0, _⟩ => show 0 = 0 + z.val; omega
  | ⟨1, _⟩ => exact (Nat.zero_add _).symm
  | ⟨2, _⟩ => exact (Nat.zero_add _).symm

theorem pcQ1_at (xq : Vec Ideal S512x512 .bf16) (k : Fin k0_t1_loop.trips) (ρ : Fin 512) (l : Fin 128) :
    View.canon (pcQ1 xq k) (ix3 1 ρ l) = qv xq (wk k) 1 ρ l := by
  refine View.canon_eq_of_allAt _ _ _ ?_ ?_
  · unfold pcQ1
    rcases (show ρ.val < 128 ∨ (128 ≤ ρ.val ∧ ρ.val < 256) ∨ (256 ≤ ρ.val ∧ ρ.val < 384) ∨ (384 ≤ ρ.val ∧ ρ.val < 512) by omega) with h | h | h | h
    · exact ⟨_, List.mem_cons_of_mem _ (List.mem_cons_of_mem _ (List.mem_cons_of_mem _ (List.mem_cons_self))), memQ 1 ρ l 0 _ rfl inb_S2x512x128_S1x128x128_1_0_0 (Nat.zero_le _) (by omega)⟩
    · exact ⟨_, List.mem_cons_of_mem _ (List.mem_cons_of_mem _ (List.mem_cons_self)), memQ 1 ρ l 128 _ rfl inb_S2x512x128_S1x128x128_1_128_0 h.1 (by omega)⟩
    · exact ⟨_, List.mem_cons_of_mem _ (List.mem_cons_self), memQ 1 ρ l 256 _ rfl inb_S2x512x128_S1x128x128_1_256_0 h.1 (by omega)⟩
    · exact ⟨_, List.mem_cons_self, memQ 1 ρ l 384 _ rfl inb_S2x512x128_S1x128x128_1_384_0 h.1 (by omega)⟩
  · unfold pcQ1
    refine View.allAt_cons_unit _ _ _ _ _ (tileQ 1 ρ l _ 384 _ rfl _ fun z r h => by
      rw [st7_at, ldq xq _ _ k.val 384 (k0_off6_eq k) (lt4 k) (by omega)]
      unfold qv
      exact congrArg (fun y => stk 1 (xq y) l) ((ix2_inj ..).2 ⟨Fin.ext (by show 128 * k.val + r.val = 128 * k.val + ρ.val % 128; omega), Fin.ext (by show 384 + (64 + l.val % 64) = 256 * 1 + 64 * (ρ.val / 128) + l.val % 64; omega)⟩)) ?_
    refine View.allAt_cons_unit _ _ _ _ _ (tileQ 1 ρ l _ 256 _ rfl _ fun z r h => by
      rw [st6_at, ldq xq _ _ k.val 384 (k0_off6_eq k) (lt4 k) (by omega)]
      unfold qv
      exact congrArg (fun y => stk 1 (xq y) l) ((ix2_inj ..).2 ⟨Fin.ext (by show 128 * k.val + r.val = 128 * k.val + ρ.val % 128; omega), Fin.ext (by show 384 + (l.val % 64) = 256 * 1 + 64 * (ρ.val / 128) + l.val % 64; omega)⟩)) ?_
    refine View.allAt_cons_unit _ _ _ _ _ (tileQ 1 ρ l _ 128 _ rfl _ fun z r h => by
      rw [st5_at, ldq xq _ _ k.val 256 (k0_off5_eq k) (lt4 k) (by omega)]
      unfold qv
      exact congrArg (fun y => stk 1 (xq y) l) ((ix2_inj ..).2 ⟨Fin.ext (by show 128 * k.val + r.val = 128 * k.val + ρ.val % 128; omega), Fin.ext (by show 256 + (64 + l.val % 64) = 256 * 1 + 64 * (ρ.val / 128) + l.val % 64; omega)⟩)) ?_
    refine View.allAt_cons_unit _ _ _ _ _ (tileQ 1 ρ l _ 0 _ rfl _ fun z r h => by
      rw [st4_at, ldq xq _ _ k.val 256 (k0_off5_eq k) (lt4 k) (by omega)]
      unfold qv
      exact congrArg (fun y => stk 1 (xq y) l) ((ix2_inj ..).2 ⟨Fin.ext (by show 128 * k.val + r.val = 128 * k.val + ρ.val % 128; omega), Fin.ext (by show 256 + (l.val % 64) = 256 * 1 + 64 * (ρ.val / 128) + l.val % 64; omega)⟩)) ?_
    unfold pcQ0
    refine View.allAt_cons_unit _ _ _ _ _ (tileQ' 1 0 (by decide) ρ l _ 384 _ rfl _) ?_
    refine View.allAt_cons_unit _ _ _ _ _ (tileQ' 1 0 (by decide) ρ l _ 256 _ rfl _) ?_
    refine View.allAt_cons_unit _ _ _ _ _ (tileQ' 1 0 (by decide) ρ l _ 128 _ rfl _) ?_
    refine View.allAt_cons_unit _ _ _ _ _ (tileQ' 1 0 (by decide) ρ l _ 0 _ rfl _) ?_
    exact View.allAt_nil _ _

theorem qs1_at (xq : Vec Ideal S512x512 .bf16) (k : Fin k0_t1_loop.trips) (z : Fin 1) (ρ : Fin 512) (l : Fin 128) :
    qs1 xq k (ix3 z ρ l) = qv xq (wk k) 1 ρ l := by
  unfold qs1
  refine (View.ld_unit_apply_of _ _ _ _ _ (ix3 1 ρ l) fun a => ?_).trans (pcQ1_at xq k ρ l)
  match a with
  | ⟨0, _⟩ => show 1 = 1 + z.val; omega
  | ⟨1, _⟩ => exact (Nat.zero_add _).symm
  | ⟨2, _⟩ => exact (Nat.zero_add _).symm

/-! ## The scores -/

theorem half_sum (g : Fin 2) (x : Fin 64 → EReal) (K : Fin 128 → EReal) :
    ∑ l : Fin 128, stk g.val (x ⟨l.val % 64, by omega⟩) l * K l = ∑ d : Fin 64, x d * scale * K ⟨64 * g.val + d.val, by omega⟩ := by
  have e : ∀ f : Fin 128 → EReal, ∑ l, f l = (∑ d : Fin 64, f ⟨d.val, by omega⟩) + ∑ d : Fin 64, f ⟨64 + d.val, by omega⟩ := fun f => Fin.sum_univ_add (a := 64) (b := 64) f
  rw [e]
  have hx0 : ∀ d : Fin 64, (⟨d.val % 64, by omega⟩ : Fin 64) = d := fun d => Fin.ext (by show d.val % 64 = d.val; omega)
  have hx1 : ∀ d : Fin 64, (⟨(64 + d.val) % 64, by omega⟩ : Fin 64) = d := fun d => Fin.ext (by show (64 + d.val) % 64 = d.val; omega)
  have hd0 : ∀ d : Fin 64, d.val / 64 = 0 := fun d => by omega
  have hd1 : ∀ d : Fin 64, (64 + d.val) / 64 = 1 := fun d => by omega
  unfold stk
  simp only [hx0, hx1, hd0, hd1]
  match g with
  | ⟨0, _⟩ =>
    have e0 : ∀ d : Fin 64, (⟨64 * 0 + d.val, by omega⟩ : Fin 128) = ⟨d.val, by omega⟩ := fun d => Fin.ext (Nat.zero_add _)
    simp [e0]
  | ⟨1, _⟩ => simp

/-- A walk's score. -/
def wsc (xq : Vec Ideal S512x512 .bf16) (kx : Vec Ideal S640x128 .bf16) (x2 : Vec Ideal S2x2x512x256 .f32) (f : Fin 2) (k : Fin 4) (g : Fin 2) (i : Fin 4) (r : Fin 128) (s : Fin 256) : EReal :=
  (∑ d : Fin 64, xq (ix2 ⟨128 * k.val + r.val, by omega⟩ ⟨256 * g.val + 64 * i.val + d.val, by omega⟩) * scale * kx (ix2 ⟨128 * k.val + s.val, by omega⟩ ⟨64 * g.val + d.val, by omega⟩))
    + x2 (ix4 f g ⟨128 * i.val + r.val, by omega⟩ s)

/-- Which of the two score tables. -/
def fst (i : grid0.Coords) (k : Fin 4) : Fin 2 := ⟨if (i 0).val = 0 ∧ k.val = 0 then 1 else 0, by split <;> omega⟩

theorem win_at (kx : Vec Ideal S640x128 .bf16) (k : Fin k0_t1_loop.trips) (s : Fin 256) (l : Fin 128) :
    win kx k (ix2 s l) = kx (ix2 ⟨128 * k.val + s.val, by have := lt4 k; omega⟩ l) := by
  unfold win
  refine View.ld_unit_apply_of kx _ _ _ _ _ fun a => Eq.trans ?_ (congrArg (· + _) (congrFun (k0_off1_eq k) a).symm)
  match a with
  | ⟨0, _⟩ => rfl
  | ⟨1, _⟩ => exact (Nat.zero_add _).symm

theorem bias0_at (i : grid0.Coords) (x2 : Vec Ideal S2x2x512x256 .f32) (k : Fin k0_t1_loop.trips) (z z' : Fin 1) (ρ : Fin 512) (s : Fin 256) :
    bias0 i x2 k (ix4 z z' ρ s) = x2 (ix4 (fst i (wk k)) 0 ρ s) := by
  unfold bias0
  refine View.ld_unit_apply_of x2 _ _ _ _ _ fun a => Eq.trans ?_ (congrArg (· + _) (congrFun (k0_off4_eq i k) a).symm)
  match a with
  | ⟨0, _⟩ => show (if (i 0).val = 0 ∧ k.val = 0 then 1 else 0) = (if (i 0).val = 0 ∧ k.val = 0 then 1 else 0) + z.val; omega
  | ⟨1, _⟩ => show 0 = 0 + z'.val; omega
  | ⟨2, _⟩ => exact (Nat.zero_add _).symm
  | ⟨3, _⟩ => exact (Nat.zero_add _).symm

theorem sco0_at (i : grid0.Coords) (x2 : Vec Ideal S2x2x512x256 .f32) (xq : Vec Ideal S512x512 .bf16) (kx : Vec Ideal S640x128 .bf16) (k : Fin k0_t1_loop.trips) (h : Fin 4) (r : Fin 128) (s : Fin 256) :
    k0_pay31 (win kx k) (qs0 xq k) (bias0 i x2 k) (ix2 ⟨128 * h.val + r.val, by omega⟩ s) = wsc xq kx x2 (fst i (wk k)) (wk k) 0 h r s := by
  rw [qk_at, bias0_at]
  unfold wsc
  refine congrArg (· + _) ?_
  refine Eq.trans (Finset.sum_congr rfl fun l _ => ?_) (half_sum 0 (fun d => xq (ix2 ⟨128 * k.val + r.val, by have := lt4 k; omega⟩ ⟨256 * 0 + 64 * h.val + d.val, by omega⟩)) (fun l => kx (ix2 ⟨128 * k.val + s.val, by have := lt4 k; omega⟩ l)))
  rw [qs0_at, win_at]
  unfold qv
  refine congrArg (fun y => stk 0 (xq y) l * _) ((ix2_inj ..).2 ⟨Fin.ext ?_, Fin.ext ?_⟩)
  · show 128 * k.val + (128 * h.val + r.val) % 128 = 128 * k.val + r.val; omega
  · show 256 * 0 + 64 * ((128 * h.val + r.val) / 128) + l.val % 64 = 256 * 0 + 64 * h.val + l.val % 64; omega

theorem bias1_at (i : grid0.Coords) (x2 : Vec Ideal S2x2x512x256 .f32) (k : Fin k0_t1_loop.trips) (z z' : Fin 1) (ρ : Fin 512) (s : Fin 256) :
    bias1 i x2 k (ix4 z z' ρ s) = x2 (ix4 (fst i (wk k)) 1 ρ s) := by
  unfold bias1
  refine View.ld_unit_apply_of x2 _ _ _ _ _ fun a => Eq.trans ?_ (congrArg (· + _) (congrFun (k0_off7_eq i k) a).symm)
  match a with
  | ⟨0, _⟩ => show (if (i 0).val = 0 ∧ k.val = 0 then 1 else 0) = (if (i 0).val = 0 ∧ k.val = 0 then 1 else 0) + z.val; omega
  | ⟨1, _⟩ => show 1 = 1 + z'.val; omega
  | ⟨2, _⟩ => exact (Nat.zero_add _).symm
  | ⟨3, _⟩ => exact (Nat.zero_add _).symm

theorem sco1_at (i : grid0.Coords) (x2 : Vec Ideal S2x2x512x256 .f32) (xq : Vec Ideal S512x512 .bf16) (kx : Vec Ideal S640x128 .bf16) (k : Fin k0_t1_loop.trips) (h : Fin 4) (r : Fin 128) (s : Fin 256) :
    k0_pay31 (win kx k) (qs1 xq k) (bias1 i x2 k) (ix2 ⟨128 * h.val + r.val, by omega⟩ s) = wsc xq kx x2 (fst i (wk k)) (wk k) 1 h r s := by
  rw [qk_at, bias1_at]
  unfold wsc
  refine congrArg (· + _) ?_
  refine Eq.trans (Finset.sum_congr rfl fun l _ => ?_) (half_sum 1 (fun d => xq (ix2 ⟨128 * k.val + r.val, by have := lt4 k; omega⟩ ⟨256 * 1 + 64 * h.val + d.val, by omega⟩)) (fun l => kx (ix2 ⟨128 * k.val + s.val, by have := lt4 k; omega⟩ l)))
  rw [qs1_at, win_at]
  unfold qv
  refine congrArg (fun y => stk 1 (xq y) l * _) ((ix2_inj ..).2 ⟨Fin.ext ?_, Fin.ext ?_⟩)
  · show 128 * k.val + (128 * h.val + r.val) % 128 = 128 * k.val + r.val; omega
  · show 256 * 1 + 64 * ((128 * h.val + r.val) / 128) + l.val % 64 = 256 * 1 + 64 * h.val + l.val % 64; omega

/-! ## What a walk stores -/

/-- A walk's attended value. -/
def wo (xq : Vec Ideal S512x512 .bf16) (kx vx : Vec Ideal S640x128 .bf16) (x1 : Vec Ideal S8 .f32) (x2 : Vec Ideal S2x2x512x256 .f32) (f : Fin 2) (k : Fin 4) (g : Fin 2) (i : Fin 4) (r : Fin 128) (d : Fin 64) : EReal :=
  ∑ s : Fin 256, rprb (wsc xq kx x2 f k g i r) (x1 (ix1 ⟨4 * g.val + i.val, by omega⟩)) s * vx (ix2 ⟨128 * k.val + s.val, by omega⟩ ⟨64 * g.val + d.val, by omega⟩)

/-- A walk's log-sum-exp. -/
def wl (xq : Vec Ideal S512x512 .bf16) (kx : Vec Ideal S640x128 .bf16) (x1 : Vec Ideal S8 .f32) (x2 : Vec Ideal S2x2x512x256 .f32) (f : Fin 2) (k : Fin 4) (g : Fin 2) (i : Fin 4) (r : Fin 128) : EReal :=
  rlse (wsc xq kx x2 f k g i r) (x1 (ix1 ⟨4 * g.val + i.val, by omega⟩))

theorem ld1 (x1 : Vec Ideal S8 .f32) (n : ℕ) (hn : n < 8) (inb) (z : S1.Idx) : View.ld x1 (Rect.unit (s := S8) ![n] S1.size inb) z = x1 (ix1 ⟨n, hn⟩) := by
  refine View.ld_unit_apply_of x1 _ _ _ _ _ fun a => ?_
  match a with
  | ⟨0, _⟩ =>
    have h : (z 0).val < 1 := (z 0).isLt
    show n = n + (z 0).val
    omega

theorem hd0_at (x1 : Vec Ideal S8 .f32) (h : Fin 4) (r : Fin 128) : hd (sk0 x1) (sk1 x1) (sk2 x1) (sk3 x1) ⟨128 * h.val + r.val, by omega⟩ = x1 (ix1 ⟨4 * 0 + h.val, by omega⟩) := by
  unfold hd sk0 sk1 sk2 sk3
  rw [ld1 x1 0 (by omega), ld1 x1 1 (by omega), ld1 x1 2 (by omega), ld1 x1 3 (by omega)]
  match h with
  | ⟨0, _⟩ => rw [if_pos (by show 128 * 0 + r.val < 128; omega)]; rfl
  | ⟨1, _⟩ => rw [if_neg (by show ¬ 128 * 1 + r.val < 128; omega), if_pos (by show 128 * 1 + r.val < 256; omega)]; rfl
  | ⟨2, _⟩ => rw [if_neg (by show ¬ 128 * 2 + r.val < 128; omega), if_neg (by show ¬ 128 * 2 + r.val < 256; omega), if_pos (by show 128 * 2 + r.val < 384; omega)]; rfl
  | ⟨3, _⟩ => rw [if_neg (by show ¬ 128 * 3 + r.val < 128; omega), if_neg (by show ¬ 128 * 3 + r.val < 256; omega), if_neg (by show ¬ 128 * 3 + r.val < 384; omega)]; rfl

/-- The group's scores. -/
abbrev gsc0 (i : grid0.Coords) (x2 : Vec Ideal S2x2x512x256 .f32) (xq : Vec Ideal S512x512 .bf16) (kx : Vec Ideal S640x128 .bf16) (k : Fin k0_t1_loop.trips) : SC :=
  k0_pay31 (win kx k) (qs0 xq k) (bias0 i x2 k)

theorem spv0 (i : grid0.Coords) (x1 : Vec Ideal S8 .f32) (x2 : Vec Ideal S2x2x512x256 .f32) (xq : Vec Ideal S512x512 .bf16) (kx vx : Vec Ideal S640x128 .bf16) (k : Fin k0_t1_loop.trips) (h : Fin 4) (r : Fin 128) (d : Fin 64) :
    spv (win vx k) (gsc0 i x2 xq kx k) (sk0 x1) (sk1 x1) (sk2 x1) (sk3 x1) (ix2 ⟨128 * h.val + r.val, by omega⟩ ⟨64 * 0 + d.val, by omega⟩) = wo xq kx vx x1 x2 (fst i (wk k)) (wk k) 0 h r d := by
  rw [spv_at, hd0_at]
  unfold wo
  rw [show (fun s : Fin 256 => gsc0 i x2 xq kx k (ix2 ⟨128 * h.val + r.val, by omega⟩ s)) = wsc xq kx x2 (fst i (wk k)) (wk k) 0 h r from
    funext fun s => sco0_at i x2 xq kx k h r s]
  exact Finset.sum_congr rfl fun s _ => congrArg (_ * ·) (win_at vx k s _)

theorem sls0 (i : grid0.Coords) (x1 : Vec Ideal S8 .f32) (x2 : Vec Ideal S2x2x512x256 .f32) (xq : Vec Ideal S512x512 .bf16) (kx : Vec Ideal S640x128 .bf16) (k : Fin k0_t1_loop.trips) (h : Fin 4) (r : Fin 128) (z : Fin 1) :
    sls (gsc0 i x2 xq kx k) (sk0 x1) (sk1 x1) (sk2 x1) (sk3 x1) (ix2 ⟨128 * h.val + r.val, by omega⟩ z) = wl xq kx x1 x2 (fst i (wk k)) (wk k) 0 h r := by
  rw [sls_at, hd0_at]
  unfold wl
  rw [show (fun s : Fin 256 => gsc0 i x2 xq kx k (ix2 ⟨128 * h.val + r.val, by omega⟩ s)) = wsc xq kx x2 (fst i (wk k)) (wk k) 0 h r from
    funext fun s => sco0_at i x2 xq kx k h r s]
  rfl

theorem hd1_at (x1 : Vec Ideal S8 .f32) (h : Fin 4) (r : Fin 128) : hd (sk4 x1) (sk5 x1) (sk6 x1) (sk7 x1) ⟨128 * h.val + r.val, by omega⟩ = x1 (ix1 ⟨4 * 1 + h.val, by omega⟩) := by
  unfold hd sk4 sk5 sk6 sk7
  rw [ld1 x1 4 (by omega), ld1 x1 5 (by omega), ld1 x1 6 (by omega), ld1 x1 7 (by omega)]
  match h with
  | ⟨0, _⟩ => rw [if_pos (by show 128 * 0 + r.val < 128; omega)]; rfl
  | ⟨1, _⟩ => rw [if_neg (by show ¬ 128 * 1 + r.val < 128; omega), if_pos (by show 128 * 1 + r.val < 256; omega)]; rfl
  | ⟨2, _⟩ => rw [if_neg (by show ¬ 128 * 2 + r.val < 128; omega), if_neg (by show ¬ 128 * 2 + r.val < 256; omega), if_pos (by show 128 * 2 + r.val < 384; omega)]; rfl
  | ⟨3, _⟩ => rw [if_neg (by show ¬ 128 * 3 + r.val < 128; omega), if_neg (by show ¬ 128 * 3 + r.val < 256; omega), if_neg (by show ¬ 128 * 3 + r.val < 384; omega)]; rfl

/-- The group's scores. -/
abbrev gsc1 (i : grid0.Coords) (x2 : Vec Ideal S2x2x512x256 .f32) (xq : Vec Ideal S512x512 .bf16) (kx : Vec Ideal S640x128 .bf16) (k : Fin k0_t1_loop.trips) : SC :=
  k0_pay31 (win kx k) (qs1 xq k) (bias1 i x2 k)

theorem spv1 (i : grid0.Coords) (x1 : Vec Ideal S8 .f32) (x2 : Vec Ideal S2x2x512x256 .f32) (xq : Vec Ideal S512x512 .bf16) (kx vx : Vec Ideal S640x128 .bf16) (k : Fin k0_t1_loop.trips) (h : Fin 4) (r : Fin 128) (d : Fin 64) :
    spv (win vx k) (gsc1 i x2 xq kx k) (sk4 x1) (sk5 x1) (sk6 x1) (sk7 x1) (ix2 ⟨128 * h.val + r.val, by omega⟩ ⟨64 * 1 + d.val, by omega⟩) = wo xq kx vx x1 x2 (fst i (wk k)) (wk k) 1 h r d := by
  rw [spv_at, hd1_at]
  unfold wo
  rw [show (fun s : Fin 256 => gsc1 i x2 xq kx k (ix2 ⟨128 * h.val + r.val, by omega⟩ s)) = wsc xq kx x2 (fst i (wk k)) (wk k) 1 h r from
    funext fun s => sco1_at i x2 xq kx k h r s]
  exact Finset.sum_congr rfl fun s _ => congrArg (_ * ·) (win_at vx k s _)

theorem sls1 (i : grid0.Coords) (x1 : Vec Ideal S8 .f32) (x2 : Vec Ideal S2x2x512x256 .f32) (xq : Vec Ideal S512x512 .bf16) (kx : Vec Ideal S640x128 .bf16) (k : Fin k0_t1_loop.trips) (h : Fin 4) (r : Fin 128) (z : Fin 1) :
    sls (gsc1 i x2 xq kx k) (sk4 x1) (sk5 x1) (sk6 x1) (sk7 x1) (ix2 ⟨128 * h.val + r.val, by omega⟩ z) = wl xq kx x1 x2 (fst i (wk k)) (wk k) 1 h r := by
  rw [sls_at, hd1_at]
  unfold wl
  rw [show (fun s : Fin 256 => gsc1 i x2 xq kx k (ix2 ⟨128 * h.val + r.val, by omega⟩ s)) = wsc xq kx x2 (fst i (wk k)) (wk k) 1 h r from
    funext fun s => sco1_at i x2 xq kx k h r s]
  rfl

theorem po0_at (i : grid0.Coords) (x1 : Vec Ideal S8 .f32) (x2 : Vec Ideal S2x2x512x256 .f32) (xq : Vec Ideal S512x512 .bf16) (kx vx : Vec Ideal S640x128 .bf16) (k : Fin k0_t1_loop.trips) (r l : Fin 128) :
    k0_pay21 (k0_pay20 (win kx k) (win vx k) (k0_pay13 (qs0 xq k)) z256 (bias0 i x2 k) (sk0 x1) (sk1 x1) (sk2 x1) (sk3 x1)) (ix2 r l) = wo xq kx vx x1 x2 (fst i (wk k)) (wk k) 0 ⟨0 + l.val / 64, by omega⟩ r ⟨l.val % 64, by omega⟩ := by
  refine Eq.trans (b := un0 (spv (win vx k) (gsc0 i x2 xq kx k) (sk0 x1) (sk1 x1) (sk2 x1) (sk3 x1)) (ix2 r l)) rfl ?_
  rw [un0_at, ← spv0]
  exact congrArg _ ((ix2_inj ..).2 ⟨Fin.ext (by show 128 * (l.val / 64) + r.val = 128 * (0 + l.val / 64) + r.val; omega), Fin.ext (by show l.val % 64 = 64 * 0 + l.val % 64; omega)⟩)

theorem po1_at (i : grid0.Coords) (x1 : Vec Ideal S8 .f32) (x2 : Vec Ideal S2x2x512x256 .f32) (xq : Vec Ideal S512x512 .bf16) (kx vx : Vec Ideal S640x128 .bf16) (k : Fin k0_t1_loop.trips) (r l : Fin 128) :
    k0_pay22 (k0_pay19 (win kx k) (win vx k) (k0_pay13 (qs0 xq k)) z256 (bias0 i x2 k) (sk0 x1) (sk1 x1) (sk2 x1) (sk3 x1)) laneNo (ix2 r l) = wo xq kx vx x1 x2 (fst i (wk k)) (wk k) 0 ⟨2 + l.val / 64, by omega⟩ r ⟨l.val % 64, by omega⟩ := by
  refine Eq.trans (b := k0_pay22 (spv (win vx k) (gsc0 i x2 xq kx k) (sk0 x1) (sk1 x1) (sk2 x1) (sk3 x1)) laneNo (ix2 r l)) rfl ?_
  rw [un1_at, ← spv0]
  exact congrArg _ ((ix2_inj ..).2 ⟨Fin.ext (by show 256 + (128 * (l.val / 64) + r.val) = 128 * (2 + l.val / 64) + r.val; omega), Fin.ext (by show l.val % 64 = 64 * 0 + l.val % 64; omega)⟩)

theorem po2_at (i : grid0.Coords) (x1 : Vec Ideal S8 .f32) (x2 : Vec Ideal S2x2x512x256 .f32) (xq : Vec Ideal S512x512 .bf16) (kx vx : Vec Ideal S640x128 .bf16) (k : Fin k0_t1_loop.trips) (r l : Fin 128) :
    k0_pay39 (win vx k) (sc1 i x1 x2 xq kx vx k) (sk4 x1) rowNo (k0_pay32 (sk5 x1) (sk6 x1) (sk7 x1)) k0_pay33 (ix2 r l) = wo xq kx vx x1 x2 (fst i (wk k)) (wk k) 1 ⟨0 + l.val / 64, by omega⟩ r ⟨l.val % 64, by omega⟩ := by
  refine Eq.trans (b := un2 (spv (win vx k) (gsc1 i x2 xq kx k) (sk4 x1) (sk5 x1) (sk6 x1) (sk7 x1)) (ix2 r l)) rfl ?_
  rw [un2_at, ← spv1]
  exact congrArg _ ((ix2_inj ..).2 ⟨Fin.ext (by show 128 * (l.val / 64) + r.val = 128 * (0 + l.val / 64) + r.val; omega), Fin.ext (by show 64 + l.val % 64 = 64 * 1 + l.val % 64; omega)⟩)

theorem po3_at (i : grid0.Coords) (x1 : Vec Ideal S8 .f32) (x2 : Vec Ideal S2x2x512x256 .f32) (xq : Vec Ideal S512x512 .bf16) (kx vx : Vec Ideal S640x128 .bf16) (k : Fin k0_t1_loop.trips) (r l : Fin 128) :
    k0_pay40 (win vx k) (sc1 i x1 x2 xq kx vx k) (sk4 x1) rowNo (k0_pay32 (sk5 x1) (sk6 x1) (sk7 x1)) k0_pay33 (ix2 r l) = wo xq kx vx x1 x2 (fst i (wk k)) (wk k) 1 ⟨2 + l.val / 64, by omega⟩ r ⟨l.val % 64, by omega⟩ := by
  refine Eq.trans (b := un3 (spv (win vx k) (gsc1 i x2 xq kx k) (sk4 x1) (sk5 x1) (sk6 x1) (sk7 x1)) (ix2 r l)) rfl ?_
  rw [un3_at, ← spv1]
  exact congrArg _ ((ix2_inj ..).2 ⟨Fin.ext (by show 256 + (128 * (l.val / 64) + r.val) = 128 * (2 + l.val / 64) + r.val; omega), Fin.ext (by show 64 + l.val % 64 = 64 * 1 + l.val % 64; omega)⟩)

theorem pl_at (i : grid0.Coords) (x1 : Vec Ideal S8 .f32) (x2 : Vec Ideal S2x2x512x256 .f32) (xq : Vec Ideal S512x512 .bf16) (kx vx : Vec Ideal S640x128 .bf16) (k : Fin k0_t1_loop.trips) (r l : Fin 128) :
    k0_pay5 (k0_pay41 (sc1 i x1 x2 xq kx vx k) (sk4 x1) rowNo (k0_pay32 (sk5 x1) (sk6 x1) (sk7 x1)) k0_pay33)
      (k0_pay42 laneNo (lse0 i x1 x2 xq kx vx laneNo k) (sc1 i x1 x2 xq kx vx k) (sk4 x1) rowNo (k0_pay32 (sk5 x1) (sk6 x1) (sk7 x1)) k0_pay33) (k0_pay43 laneNo) (ix2 r l)
      = if h : l.val < 8 then wl xq kx x1 x2 (fst i (wk k)) (wk k) ⟨l.val / 4, by omega⟩ ⟨l.val % 4, by omega⟩ r else 0 := by
  refine Eq.trans (b := lanes (sls (gsc0 i x2 xq kx k) (sk0 x1) (sk1 x1) (sk2 x1) (sk3 x1)) (sls (gsc1 i x2 xq kx k) (sk4 x1) (sk5 x1) (sk6 x1) (sk7 x1)) (ix2 r l)) rfl ?_
  rw [lanes_at]
  by_cases h : l.val < 8
  · rw [if_pos h, dif_pos h]
    by_cases h4 : l.val < 4
    · rw [if_pos h4, show (⟨l.val / 4, by omega⟩ : Fin 2) = 0 from Fin.ext (by show l.val / 4 = 0; omega)]
      exact sls0 i x1 x2 xq kx k ⟨l.val % 4, by omega⟩ r _
    · rw [if_neg h4, show (⟨l.val / 4, by omega⟩ : Fin 2) = 1 from Fin.ext (by show l.val / 4 = 1; omega)]
      exact sls1 i x1 x2 xq kx k ⟨l.val % 4, by omega⟩ r _
  · rw [if_neg h, dif_neg h]

/-! ## The blocks after the four walks -/

theorem allAt_upto {S : Shape} {e : EltTy} (L : Fin k0_t1_loop.trips → List (View.Piece (Elt Ideal) S e)) (y : S.Idx) (v : Elt Ideal e)
    (h : ∀ k, View.AllAt (L k) y v) : ∀ n, View.AllAt (upto L n) y v
  | 0 => View.allAt_nil _ _
  | n + 1 => by
    rw [upto.eq_2]
    split
    · rename_i hn
      intro p hp
      rcases List.mem_append.mp hp with hp | hp
      · exact h _ p hp
      · exact allAt_upto L y v h n p hp
    · exact allAt_upto L y v h n

theorem tileO {C : ℕ} {e : EltTy} (R : Fin 512) (c : Fin C) (v : Elt Ideal e) (o u : ℕ) (off : Fin 2 → ℕ) (hoff : off = ![o, u]) (w : S128x128.Idx → Elt Ideal e)
    (h : ∀ r l : Fin 128, R.val = o + r.val → c.val = u + l.val → w (ix2 r l) = v) :
    View.TileAt (Val := Elt Ideal) (S := ⟨2, ![512, C]⟩) (ix2 R c) off S128x128.size w v := by
  intro x hx
  subst hoff
  exact (congrArg w (eq_ix2 x)).trans (h (x 0) (x 1) (hx 0) (hx 1))

theorem outO_at (i : grid0.Coords) (x1 : Vec Ideal S8 .f32) (x2 : Vec Ideal S2x2x512x256 .f32) (xq : Vec Ideal S512x512 .bf16) (kp : Vec Ideal S128x128 .bf16) (kc : Vec Ideal S512x128 .bf16) (vp : Vec Ideal S128x128 .bf16) (vc : Vec Ideal S512x128 .bf16) (R c : Fin 512) :
    outO i x1 x2 xq kp kc vp vc (ix2 R c) = wo xq (ext kp kc) (ext vp vc) x1 x2 (fst i ⟨R.val / 128, by omega⟩) ⟨R.val / 128, by omega⟩ ⟨c.val / 256, by omega⟩ ⟨c.val / 64 % 4, by omega⟩ ⟨R.val % 128, by omega⟩ ⟨c.val % 64, by omega⟩ := by
  unfold outO
  generalize ext kp kc = kx
  generalize ext vp vc = vx
  refine View.canon_eq_of_allAt _ _ _ (cover_O i x1 x2 xq kx vx _) (allAt_upto _ _ _ (fun k => ?_) _)
  have key : ∀ (g : Fin 2) (h : Fin 4) (r : Fin 128) (d : Fin 64), R.val = 128 * k.val + r.val → c.val = 256 * g.val + 64 * h.val + d.val →
      wo xq kx vx x1 x2 (fst i (wk k)) (wk k) g h r d = wo xq kx vx x1 x2 (fst i ⟨R.val / 128, by omega⟩) ⟨R.val / 128, by omega⟩ ⟨c.val / 256, by omega⟩ ⟨c.val / 64 % 4, by omega⟩ ⟨R.val % 128, by omega⟩ ⟨c.val % 64, by omega⟩ := by
    intro g h r d e1 e2
    rw [show (⟨R.val / 128, by omega⟩ : Fin 4) = wk k from Fin.ext (by show R.val / 128 = k.val; omega),
      show (⟨c.val / 256, by omega⟩ : Fin 2) = g from Fin.ext (by show c.val / 256 = g.val; omega),
      show (⟨c.val / 64 % 4, by omega⟩ : Fin 4) = h from Fin.ext (by show c.val / 64 % 4 = h.val; omega),
      show (⟨R.val % 128, by omega⟩ : Fin 128) = r from Fin.ext (by show R.val % 128 = r.val; omega),
      show (⟨c.val % 64, by omega⟩ : Fin 64) = d from Fin.ext (by show c.val % 64 = d.val; omega)]
  unfold pcO
  refine View.allAt_cons_unit _ _ _ _ _ (tileO R c _ (128 * k.val) 384 _ (k0_off6_eq k) _ fun r l h1 h2 =>
    (po3_at i x1 x2 xq kx vx k r l).trans (key 1 ⟨2 + l.val / 64, by omega⟩ r ⟨l.val % 64, by omega⟩ h1 (by show c.val = 256 * 1 + 64 * (2 + l.val / 64) + l.val % 64; omega))) ?_
  refine View.allAt_cons_unit _ _ _ _ _ (tileO R c _ (128 * k.val) 256 _ (k0_off5_eq k) _ fun r l h1 h2 =>
    (po2_at i x1 x2 xq kx vx k r l).trans (key 1 ⟨0 + l.val / 64, by omega⟩ r ⟨l.val % 64, by omega⟩ h1 (by show c.val = 256 * 1 + 64 * (0 + l.val / 64) + l.val % 64; omega))) ?_
  refine View.allAt_cons_unit _ _ _ _ _ (tileO R c _ (128 * k.val) 128 _ (k0_off3_eq k) _ fun r l h1 h2 =>
    (po1_at i x1 x2 xq kx vx k r l).trans (key 0 ⟨2 + l.val / 64, by omega⟩ r ⟨l.val % 64, by omega⟩ h1 (by show c.val = 256 * 0 + 64 * (2 + l.val / 64) + l.val % 64; omega))) ?_
  refine View.allAt_cons_unit _ _ _ _ _ (tileO R c _ (128 * k.val) 0 _ (k0_off2_eq k) _ fun r l h1 h2 =>
    (po0_at i x1 x2 xq kx vx k r l).trans (key 0 ⟨0 + l.val / 64, by omega⟩ r ⟨l.val % 64, by omega⟩ h1 (by show c.val = 256 * 0 + 64 * (0 + l.val / 64) + l.val % 64; omega))) ?_
  exact View.allAt_nil _ _

theorem outL_at (i : grid0.Coords) (x1 : Vec Ideal S8 .f32) (x2 : Vec Ideal S2x2x512x256 .f32) (xq : Vec Ideal S512x512 .bf16) (kp : Vec Ideal S128x128 .bf16) (kc : Vec Ideal S512x128 .bf16) (vp : Vec Ideal S128x128 .bf16) (vc : Vec Ideal S512x128 .bf16) (R : Fin 512) (c : Fin 128) :
    outL i x1 x2 xq kp kc vp vc (ix2 R c) = if h : c.val < 8 then wl xq (ext kp kc) x1 x2 (fst i ⟨R.val / 128, by omega⟩) ⟨R.val / 128, by omega⟩ ⟨c.val / 4, by omega⟩ ⟨c.val % 4, by omega⟩ ⟨R.val % 128, by omega⟩ else 0 := by
  unfold outL
  generalize ext kp kc = kx
  generalize ext vp vc = vx
  refine View.canon_eq_of_allAt _ _ _ (cover_L i x1 x2 xq kx vx _) (allAt_upto _ _ _ (fun k => ?_) _)
  unfold pcL
  refine View.allAt_cons_unit _ _ _ _ _ (tileO R c _ (128 * k.val) 0 _ (k0_off8_eq k) _ fun r l h1 h2 =>
    (pl_at i x1 x2 xq kx vx k r l).trans ?_) (View.allAt_nil _ _)
  rw [show l = c from Fin.ext (by omega)]
  rw [show (⟨R.val / 128, by omega⟩ : Fin 4) = wk k from Fin.ext (by show R.val / 128 = k.val; omega),
    show (⟨R.val % 128, by omega⟩ : Fin 128) = r from Fin.ext (by show R.val % 128 = r.val; omega)]

/-- The keys (or values) before and within a block of 512 rows. -/
theorem ext_at (xp : Vec Ideal S128x128 .bf16) (xc : Vec Ideal S512x128 .bf16) (s : Fin 640) (l : Fin 128) :
    ext xp xc (ix2 s l) = if h : s.val < 128 then xp (ix2 ⟨s.val, h⟩ l) else xc (ix2 ⟨s.val - 128, by omega⟩ l) := by
  have ep : ∀ r : Fin 128, k0_pay1 (View.ld xp (Rect.unit (s := S128x128) ![0, 0] S128x128.size inb_S128x128_S128x128_0_0)) (ix2 r l) = xp (ix2 r l) := by
    intro r
    pointwise [k0_pay1]
  have ec : ∀ r : Fin 512, k0_pay2 (View.ld xc (Rect.unit (s := S512x128) ![0, 0] S512x128.size inb_S512x128_S512x128_0_0)) (ix2 r l) = xc (ix2 r l) := by
    intro r
    pointwise [k0_pay2]
  unfold ext
  refine View.canon_eq_of_allAt _ _ _ (cover_ext _ _ _) (View.allAt_cons_unit _ _ _ _ _ ?_ (View.allAt_cons_unit _ _ _ _ _ ?_ (View.allAt_nil _ _)))
  · intro x hx
    have h0 : s.val = 128 + (x 0).val := hx 0
    have h1 : l = x 1 := Fin.ext ((hx 1).trans (Nat.zero_add _))
    rw [dif_neg (by omega)]
    refine (congrArg _ ((eq_ix2 x).trans (by rw [← h1]))).trans ((ec (x 0)).trans ?_)
    exact (congrArg xc ((ix2_inj ..).2 ⟨Fin.ext (by show (x 0).val = s.val - 128; omega), rfl⟩))
  · intro x hx
    have h0 : s.val = 0 + (x 0).val := hx 0
    have hl : (x 0).val < 128 := (x 0).isLt
    have h1 : l = x 1 := Fin.ext ((hx 1).trans (Nat.zero_add _))
    rw [dif_pos (by omega)]
    refine (congrArg _ ((eq_ix2 x).trans (by rw [← h1]))).trans ((ep (x 0)).trans ?_)
    exact (congrArg xp ((ix2_inj ..).2 ⟨Fin.ext (by show (x 0).val = s.val; omega), rfl⟩))

end Cert.KernelAttnIdeal.Attn

end
-- ==== Proof.Attn.Table.lean ====
module

public import proofs.«01_k».proof.Proof.Attn.Walk
public import Idealize.ShloMosaic.Lib.Pipeline.ValueKit
public import Idealize.ShloMosaic.Lib.Pipeline.ReadBack

@[expose] public section

set_option maxRecDepth 16384

noncomputable section

/-! The forward attention's score table, as the host leaves it, and the blocks of the other arguments. -/

namespace Cert.KernelAttnIdeal.Attn

open Cert.KernelAttnIdeal Cert.KernelAttnIdeal.Gen Cert.Attn
open Idealize.ShloMosaic Idealize.ShloMosaic.TcCoe StableHlo

/-- How far the key lies before the query. -/
def tdist : IVec S2x2x4x128x256 32 :=
  subi (addi (iotaInDim S2x2x4x128x256 32 3) (broadcastInDim S2x2x4x128x256 ![] bcast_S_S2x2x4x128x256 (constantI S_ 32 128#32))) (iotaInDim S2x2x4x128x256 32 4)

/-- Which keys a query attends to, in the first block of all and in the others. -/
def tvalid : IVec S2x2x4x128x256 1 :=
  andi (andi (cmpi .sge tdist (broadcastInDim S2x2x4x128x256 ![] bcast_S_S2x2x4x128x256 (constantI S_ 32 0#32))) (cmpi .slt tdist (broadcastInDim S2x2x4x128x256 ![] bcast_S_S2x2x4x128x256 (constantI S_ 32 128#32))))
    (ori (cmpi .sge (iotaInDim S2x2x4x128x256 32 4) (broadcastInDim S2x2x4x128x256 ![] bcast_S_S2x2x4x128x256 (constantI S_ 32 128#32)))
      (cmpi .eq (iotaInDim S2x2x4x128x256 32 0) (broadcastInDim S2x2x4x128x256 ![] bcast_S_S2x2x4x128x256 (constantI S_ 32 0#32))))

/-- The score table. -/
def table : FVec Ideal S2x2x512x256 .f32 :=
  shapeCast S2x2x512x256 (select tvalid (Host.negf (mulf (broadcastInDim S2x2x4x128x256 ![0, 1, 2, 3, 4] bcast_S1x2x4x1x1_S2x2x4x128x256_0_1_2_3_4
      (shapeCast S1x2x4x1x1 (fun i => FloatOps.ofBits .f32 (lit0 (S8.rowMajor i)) : FVec Ideal S8 .f32) shapeCasts_S8_S1x2x4x1x1)) (sitofp .f32 tdist)))
    (broadcastInDim S2x2x4x128x256 ![] bcast_S_S2x2x4x128x256 (constant S_ .f32 0xFF800000#32))) shapeCasts_S2x2x4x128x256_S2x2x512x256

variable (m : (ℓ : Loc nD τ sig) → Buf (Elt Ideal) ℓ)

theorem V_table (c : Dev nD) : V m c main_v23 = table := by
  unfold V
  simp only [hostOps0, hostOps0_1, hostOps0_2, List.flatten_cons, List.flatten_nil, List.append_nil, List.cons_append, List.nil_append,
    TRef.binary, TRef.ternary, TRef.unary, TRef.toBuf, TRef.ofBuf, cast_eq]
  after_results_simp <;> rfl

theorem table_at (f g : Fin 2) (i : Fin 4) (r : Fin 128) (s : Fin 256) :
    table (ix4 f g ⟨128 * i.val + r.val, by omega⟩ s)
      = Scalar.select (IntOp.andi (near r s) (IntOp.ori (IntOp.cmpi .sge (BitVec.ofNat 32 s.val) 128#32) (IntOp.cmpi .eq (BitVec.ofNat 32 f.val) 0#32)))
          (-(Cert.ReferenceAttnIdeal.Attn.slp g i * FloatOps.sitofp (F := Ideal) .f32 (dst r s))) ⊥ := by
  pointwise [table, tvalid, tdist, near, dst]
  rw [ninf_eq]
  rfl

/-- Every window's block index at every grid point. -/
theorem idx_val : ∀ t : Fin cfg0.N, win0_0.index t = ![0]
    ∧ win0_1.index t = ![0, 0, 0, 0]
    ∧ win0_2.index t = ![t.val, 0]
    ∧ win0_3.index t = ![4 * t.val - 1, 4]
    ∧ win0_4.index t = ![t.val, 4]
    ∧ win0_5.index t = ![4 * t.val - 1, 5]
    ∧ win0_6.index t = ![t.val, 5]
    ∧ win0_7.index t = ![t.val, 0]
    ∧ win0_8.index t = ![t.val, 0] :=
  (by decide +kernel : ∀ t : Fin grid0.N, _)

theorem coord_val (t : Fin cfg0.N) : ((grid0.coords t) 0).val = t.val :=
  (by decide +kernel : ∀ t : Fin grid0.N, ((grid0.coords t) 0).val = t.val) t

theorem b0_at (c : Dev nD) (t : Fin cfg0.N) (h : Fin 8) : iblk m c 0 t (ix1 h) = m ((c : Thread nD τ).loc main_arg1) (ix1 h) := by
  blk_point [iblk, V_main_arg1, idx_val t]

theorem b1_at (c : Dev nD) (t : Fin cfg0.N) (a b : Fin 2) (ρ : Fin 512) (s : Fin 256) : iblk m c 1 t (ix4 a b ρ s) = table (ix4 a b ρ s) := by
  rw [← V_table m c]
  blk_point [iblk, idx_val t]

theorem b2_at (c : Dev nD) (t : Fin cfg0.N) (R C : Fin 512) : X0_2 m c t (ix2 R C) = m ((c : Thread nD τ).loc main_arg0) (ix2 ⟨512 * t.val + R.val, by have : t.val < 32 := t.isLt; omega⟩ ⟨C.val, by omega⟩) := by
  unfold X0_2 Pipeline.Window.fill
  rw [dif_pos (moved0_2 t _)]
  blk_point [iblk, V_main_arg0, idx_val t]

theorem b3_at (c : Dev nD) (t : Fin cfg0.N) (R : Fin 128) (C : Fin 128) : iblk m c 3 t (ix2 R C) = m ((c : Thread nD τ).loc main_arg0) (ix2 ⟨128 * (4 * t.val - 1) + R.val, by have : t.val < 32 := t.isLt; omega⟩ ⟨512 + C.val, by omega⟩) := by
  blk_point [iblk, V_main_arg0, idx_val t]

theorem b4_at (c : Dev nD) (t : Fin cfg0.N) (R : Fin 512) (C : Fin 128) : iblk m c 4 t (ix2 R C) = m ((c : Thread nD τ).loc main_arg0) (ix2 ⟨512 * t.val + R.val, by have : t.val < 32 := t.isLt; omega⟩ ⟨512 + C.val, by omega⟩) := by
  blk_point [iblk, V_main_arg0, idx_val t]

theorem b5_at (c : Dev nD) (t : Fin cfg0.N) (R : Fin 128) (C : Fin 128) : iblk m c 5 t (ix2 R C) = m ((c : Thread nD τ).loc main_arg0) (ix2 ⟨128 * (4 * t.val - 1) + R.val, by have : t.val < 32 := t.isLt; omega⟩ ⟨640 + C.val, by omega⟩) := by
  blk_point [iblk, V_main_arg0, idx_val t]

theorem b6_at (c : Dev nD) (t : Fin cfg0.N) (R : Fin 512) (C : Fin 128) : iblk m c 6 t (ix2 R C) = m ((c : Thread nD τ).loc main_arg0) (ix2 ⟨512 * t.val + R.val, by have : t.val < 32 := t.isLt; omega⟩ ⟨640 + C.val, by omega⟩) := by
  blk_point [iblk, V_main_arg0, idx_val t]

end Cert.KernelAttnIdeal.Attn

end
-- ==== Proof.Attn.Final.lean ====
/- The forward attention: the two arrays the kernel writes are the reference's. -/
module

public import proofs.«01_k».proof.Proof.Attn.Table

@[expose] public section

set_option maxRecDepth 16384

noncomputable section

namespace Cert.KernelAttnIdeal.Attn

open Cert.KernelAttnIdeal Cert.KernelAttnIdeal.Gen Cert.Attn
open Cert.ReferenceAttnIdeal.Attn (scr slp prod att resO resL resO_at resL_at)
open Idealize.ShloMosaic Idealize.ShloMosaic.TcCoe

/-! ## The mask -/

theorem sge_128 (s : Fin 256) : IntOp.cmpi CmpIPredicate.sge (BitVec.ofNat 32 s.val) 128#32 = if 128 ≤ s.val then 1#1 else 0#1 := by
  show BitVec.ofBool ((BitVec.ofNat 32 128).sle (BitVec.ofNat 32 s.val)) = _
  unfold BitVec.sle
  rw [toInt_lt s.val (by omega), toInt_lt 128 (by omega)]
  by_cases h : 128 ≤ s.val
  · rw [if_pos h, decide_eq_true (by omega)]; rfl
  · rw [if_neg h, decide_eq_false (by omega)]; rfl

theorem first_or (n : Fin 128) (s : Fin 256) (f : Fin 2) (hf : f.val = if n.val = 0 then 1 else 0) :
    IntOp.ori (IntOp.cmpi CmpIPredicate.sge (BitVec.ofNat 32 s.val) 128#32) (IntOp.cmpi CmpIPredicate.eq (BitVec.ofNat 32 f.val) 0#32) = some' n s := by
  rw [sge_128, hf]
  unfold some'
  by_cases hn : n.val = 0
  · rw [if_pos hn]
    by_cases h : 128 ≤ s.val
    · rw [if_pos h, if_pos (by omega)]; decide
    · rw [if_neg h, if_neg (by omega)]; decide
  · rw [if_neg hn, if_pos (show 128 ≤ n.val * 128 + s.val by omega)]
    by_cases h : 128 ≤ s.val
    · rw [if_pos h]; decide
    · rw [if_neg h]; decide

theorem sel_add (b : BitVec 1) (q a : EReal) : q + Scalar.select b (-a) ⊥ = Scalar.select b (q - a) ⊥ := by
  rcases (show b = 0#1 ∨ b = 1#1 by revert b; decide) with rfl | rfl
  · show q + ⊥ = ⊥
    exact EReal.add_bot q
  · show q + -a = q - a
    exact (sub_eq_add_neg q a).symm

/-! ## The keys and values of a walk -/

variable (m : (ℓ : Loc nD τ sig) → Buf (Elt Ideal) ℓ)

/-- The projected rows and the sinks. -/
abbrev Xm (c : Dev nD) : FVec Ideal S16384x768 .bf16 := m ((c : Thread nD τ).loc main_arg0)
abbrev Sm (c : Dev nD) : FVec Ideal S8 .f32 := m ((c : Thread nD τ).loc main_arg1)

theorem t32 (t : Fin cfg0.N) : t.val < 32 := t.isLt

/-- The walk's block of 128 rows. -/
abbrev blkNo (t : Fin cfg0.N) (k : Fin 4) : Fin 128 := ⟨4 * t.val + k.val, by have := t32 t; omega⟩

theorem kx_at (c : Dev nD) (t : Fin cfg0.N) (k : Fin 4) (s : Fin 256) (l : Fin 128) :
    ext (iblk m c 3 t) (iblk m c 4 t) (ix2 ⟨128 * k.val + s.val, by omega⟩ l) = Xm m c (ix2 (keyRow (blkNo t k) s) ⟨512 + l.val, by omega⟩) := by
  have ht := t32 t
  refine (ext_at (iblk m c 3 t) (iblk m c 4 t) ⟨128 * k.val + s.val, by omega⟩ l).trans ?_
  by_cases h : 128 * k.val + s.val < 128
  · rw [dif_pos h]
    refine (b3_at m c t ⟨128 * k.val + s.val, h⟩ l).trans (congrArg (Xm m c) ((ix2_inj ..).2 ⟨Fin.ext ?_, rfl⟩))
    show 128 * (4 * t.val - 1) + (128 * k.val + s.val) = if (4 * t.val + k.val) * 128 + s.val < 128 then s.val else (4 * t.val + k.val) * 128 + s.val - 128
    split <;> omega
  · rw [dif_neg h]
    refine (b4_at m c t ⟨128 * k.val + s.val - 128, by omega⟩ l).trans (congrArg (Xm m c) ((ix2_inj ..).2 ⟨Fin.ext ?_, rfl⟩))
    show 512 * t.val + (128 * k.val + s.val - 128) = if (4 * t.val + k.val) * 128 + s.val < 128 then s.val else (4 * t.val + k.val) * 128 + s.val - 128
    split <;> omega

theorem vx_at (c : Dev nD) (t : Fin cfg0.N) (k : Fin 4) (s : Fin 256) (l : Fin 128) :
    ext (iblk m c 5 t) (iblk m c 6 t) (ix2 ⟨128 * k.val + s.val, by omega⟩ l) = Xm m c (ix2 (keyRow (blkNo t k) s) ⟨640 + l.val, by omega⟩) := by
  have ht := t32 t
  refine (ext_at (iblk m c 5 t) (iblk m c 6 t) ⟨128 * k.val + s.val, by omega⟩ l).trans ?_
  by_cases h : 128 * k.val + s.val < 128
  · rw [dif_pos h]
    refine (b5_at m c t ⟨128 * k.val + s.val, h⟩ l).trans (congrArg (Xm m c) ((ix2_inj ..).2 ⟨Fin.ext ?_, rfl⟩))
    show 128 * (4 * t.val - 1) + (128 * k.val + s.val) = if (4 * t.val + k.val) * 128 + s.val < 128 then s.val else (4 * t.val + k.val) * 128 + s.val - 128
    split <;> omega
  · rw [dif_neg h]
    refine (b6_at m c t ⟨128 * k.val + s.val - 128, by omega⟩ l).trans (congrArg (Xm m c) ((ix2_inj ..).2 ⟨Fin.ext ?_, rfl⟩))
    show 512 * t.val + (128 * k.val + s.val - 128) = if (4 * t.val + k.val) * 128 + s.val < 128 then s.val else (4 * t.val + k.val) * 128 + s.val - 128
    split <;> omega

/-! ## The scores -/

theorem fst_val (t : Fin cfg0.N) (k : Fin 4) : (fst (grid0.coords t) k).val = if (blkNo t k).val = 0 then 1 else 0 := by
  show (if ((grid0.coords t) 0).val = 0 ∧ k.val = 0 then 1 else 0) = if 4 * t.val + k.val = 0 then 1 else 0
  rw [coord_val t]
  exact if_congr (by omega) rfl rfl

/-- A walk's scores are the reference's. -/
theorem wsc_eq (c : Dev nD) (t : Fin cfg0.N) (k : Fin 4) (g : Fin 2) (i : Fin 4) (r : Fin 128) (s : Fin 256) :
    wsc (X0_2 m c t) (ext (iblk m c 3 t) (iblk m c 4 t)) (iblk m c 1 t) (fst (grid0.coords t) k) k g i r s = scr (Xm m c) (blkNo t k) r g i s := by
  have ht := t32 t
  unfold wsc
  rw [b1_at m c t, table_at, first_or (blkNo t k) s _ (fst_val t k), sel_add]
  unfold scr masked
  refine congrArg (fun q : EReal => Scalar.select (IntOp.andi (near r s) (some' (blkNo t k) s)) (q - slp g i * FloatOps.sitofp (F := Ideal) .f32 (dst r s)) ⊥) ?_
  unfold prod
  rw [← sum_mul_scale]
  refine Finset.sum_congr rfl fun d _ => ?_
  rw [b2_at m c t, kx_at m c t k s, mul_right_comm, mul_comm (Xm m c _) (Xm m c _)]
  refine congrArg₂ (fun a b : EReal => a * b * scale) (congrArg (Xm m c) ((ix2_inj ..).2 ⟨rfl, Fin.ext ?_⟩)) (congrArg (Xm m c) ((ix2_inj ..).2 ⟨Fin.ext ?_, Fin.ext ?_⟩))
  · show 512 + (64 * g.val + d.val) = 512 + (g.val * 64 + d.val); omega
  · show 512 * t.val + (128 * k.val + r.val) = (4 * t.val + k.val) * 128 + r.val; omega
  · show 256 * g.val + 64 * i.val + d.val = g.val * 256 + i.val * 64 + d.val; omega

theorem sink_eq (c : Dev nD) (t : Fin cfg0.N) (g : Fin 2) (i : Fin 4) :
    iblk m c 0 t (ix1 ⟨4 * g.val + i.val, by omega⟩) = Sm m c (ix1 ⟨g.val * 4 + i.val, by omega⟩) :=
  (b0_at m c t _).trans (congrArg (fun h => Sm m c (ix1 h)) (Fin.ext (by show 4 * g.val + i.val = g.val * 4 + i.val; omega)))

theorem wo_eq (c : Dev nD) (t : Fin cfg0.N) (k : Fin 4) (g : Fin 2) (i : Fin 4) (r : Fin 128) (d : Fin 64) :
    wo (X0_2 m c t) (ext (iblk m c 3 t) (iblk m c 4 t)) (ext (iblk m c 5 t) (iblk m c 6 t)) (iblk m c 0 t) (iblk m c 1 t) (fst (grid0.coords t) k) k g i r d
      = att (Xm m c) (Sm m c) (blkNo t k) r g i d := by
  unfold wo att
  rw [sink_eq m c t, show wsc (X0_2 m c t) (ext (iblk m c 3 t) (iblk m c 4 t)) (iblk m c 1 t) (fst (grid0.coords t) k) k g i r = scr (Xm m c) (blkNo t k) r g i from
    funext fun s => wsc_eq m c t k g i r s]
  refine Finset.sum_congr rfl fun s _ => ?_
  rw [vx_at m c t k s]
  refine congrArg (fun z : S16384x768.Idx => rprb (scr (Xm m c) (blkNo t k) r g i) (Sm m c (ix1 ⟨g.val * 4 + i.val, by omega⟩)) s * Xm m c z) ((ix2_inj ..).2 ⟨rfl, Fin.ext ?_⟩)
  show 640 + (64 * g.val + d.val) = 640 + (g.val * 64 + d.val); omega

theorem wl_eq (c : Dev nD) (t : Fin cfg0.N) (k : Fin 4) (g : Fin 2) (i : Fin 4) (r : Fin 128) :
    wl (X0_2 m c t) (ext (iblk m c 3 t) (iblk m c 4 t)) (iblk m c 0 t) (iblk m c 1 t) (fst (grid0.coords t) k) k g i r
      = rlse (scr (Xm m c) (blkNo t k) r g i) (Sm m c (ix1 ⟨g.val * 4 + i.val, by omega⟩)) := by
  unfold wl
  rw [sink_eq m c t, show wsc (X0_2 m c t) (ext (iblk m c 3 t) (iblk m c 4 t)) (iblk m c 1 t) (fst (grid0.coords t) k) k g i r = scr (Xm m c) (blkNo t k) r g i from
    funext fun s => wsc_eq m c t k g i r s]

/-! ## The arrays after the run -/

theorem blkO_at (c : Dev nD) (t : Fin cfg0.N) (R C : Fin 512) (R' : Fin 16384) (C' : Fin 512) (h0 : R'.val = 512 * t.val + R.val) (h1 : C'.val = C.val) :
    outO (grid0.coords t) (iblk m c 0 t) (iblk m c 1 t) (X0_2 m c t) (iblk m c 3 t) (iblk m c 4 t) (iblk m c 5 t) (iblk m c 6 t) (ix2 R C)
      = resO (Xm m c) (Sm m c) (ix2 R' C') := by
  have ht := t32 t
  refine (outO_at _ _ _ _ _ _ _ _ R C).trans ((wo_eq m c t _ _ _ _ _).trans ?_)
  rw [resO_at, show C' = C from Fin.ext h1,
    show (⟨R'.val / 128, by omega⟩ : Fin 128) = blkNo t ⟨R.val / 128, by omega⟩ from Fin.ext (by show R'.val / 128 = 4 * t.val + R.val / 128; omega),
    show (⟨R'.val % 128, by omega⟩ : Fin 128) = ⟨R.val % 128, by omega⟩ from Fin.ext (by show R'.val % 128 = R.val % 128; omega)]

theorem blkL_at (c : Dev nD) (t : Fin cfg0.N) (R : Fin 512) (C : Fin 128) (R' : Fin 16384) (C' : Fin 128) (h0 : R'.val = 512 * t.val + R.val) (h1 : C'.val = C.val) :
    outL (grid0.coords t) (iblk m c 0 t) (iblk m c 1 t) (X0_2 m c t) (iblk m c 3 t) (iblk m c 4 t) (iblk m c 5 t) (iblk m c 6 t) (ix2 R C)
      = resL (Xm m c) (Sm m c) (ix2 R' C') := by
  have ht := t32 t
  refine (outL_at _ _ _ _ _ _ _ _ R C).trans ?_
  rw [resL_at, show C' = C from Fin.ext h1,
    show (⟨R'.val / 128, by omega⟩ : Fin 128) = blkNo t ⟨R.val / 128, by omega⟩ from Fin.ext (by show R'.val / 128 = 4 * t.val + R.val / 128; omega),
    show (⟨R'.val % 128, by omega⟩ : Fin 128) = ⟨R.val % 128, by omega⟩ from Fin.ext (by show R'.val % 128 = R.val % 128; omega)]
  by_cases h : C.val < 8
  · rw [dif_pos h, dif_pos h]
    refine (wl_eq m c t _ _ _ _).trans (congrArg (fun z => rlse _ (Sm m c (ix1 z))) (Fin.ext ?_))
    show C.val / 4 * 4 + C.val % 4 = C.val; omega
  · rw [dif_neg h, dif_neg h]

theorem final7 (c : Dev nD) : (dats m 0 c).arrAt 7 (cfgs 0).N = resO (Xm m c) (Sm m c) := by
  refine (dats m 0 c).arrAt_eq_of_covers 7 _ (by decide +kernel) fun t hf y => ?_
  blk_simp
  rw [after0_7]
  refine (congrArg _ (eq_ix2 y)).trans ((blkO_at m c t (y 0) (y 1) _ _ ?_ ?_).trans (congrArg _ (eq_ix2 _).symm))
  · blk_simp [idx_val t]
    exact congrArg (· + _) (Nat.mul_comm ..)
  · blk_simp [idx_val t]

theorem final8 (c : Dev nD) : (dats m 0 c).arrAt 8 (cfgs 0).N = resL (Xm m c) (Sm m c) := by
  refine (dats m 0 c).arrAt_eq_of_covers 8 _ (by decide +kernel) fun t hf y => ?_
  blk_simp
  rw [after0_8]
  refine (congrArg _ (eq_ix2 y)).trans ((blkL_at m c t (y 0) (y 1) _ _ ?_ ?_).trans (congrArg _ (eq_ix2 _).symm))
  · blk_simp [idx_val t]
    exact congrArg (· + _) (Nat.mul_comm ..)
  · blk_simp [idx_val t]

end Cert.KernelAttnIdeal.Attn

end
-- ==== Proof.Attn.Claim.lean ====
/- The forward attention: the claims about its programs. -/
module

public import proofs.«01_k».proof.Defs
public import proofs.«01_k».proof.Proof.Attn.Final
public import proofs.«01_k».proof.Proof.Attn.BodyBits
public import proofs.«01_k».proof.Proof.Gen.ReferenceAttnIdeal.Run

@[expose] public section

set_option maxRecDepth 16384

noncomputable section

open Idealize.ShloMosaic Idealize.ShloMosaic.TcCoe Idealize.SL.Sem

namespace Cert.KernelAttnIdeal.Attn

open Cert.KernelAttnIdeal Cert.KernelAttnIdeal.Gen
open Cert.ReferenceAttnIdeal.Attn (resO resL)

/-- The ideal run: both results are the reference's, the arguments unchanged. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v24_0) = resO (Xm m c) (Sm m c)
      ∧ r.2.mem ((c.tc : Thread nD τ).loc main_v24_1) = resL (Xm m c) (Sm m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 7).trans (final7 m c), ((h.1 c).1 8).trans (final8 m c), (h.2.1 c).1, (h.2.1 c).2⟩)
    (θ_run_and (run_main m ρ) (frame m ρ))

end Cert.KernelAttnIdeal.Attn

namespace Cert.Attn

open Cert.ReferenceAttnIdeal.Attn (resO resL)

theorem frame_kernel : Cert.quiescent_KernelAttn := fun m ρ _ => Cert.KernelAttn.Attn.frame m ρ

theorem frame_ideal : Cert.quiescent_KernelAttnIdeal := fun m ρ _ => Cert.KernelAttnIdeal.Attn.frame m ρ

theorem frame_reference : Cert.quiescent_ReferenceAttnIdeal := fun m ρ _ =>
  (θ_run Cert.ReferenceAttnIdeal.defs _ _).mono (fun r h => ⟨fun c => (h c).2.2,
      Idealize.ShloMosaic.sem_eq_zero_of_no_sems (by decide) r.2⟩)
    (Cert.ReferenceAttnIdeal.Value.run (F := Ideal) m ρ)

theorem preserves : Cert.preserves_KernelAttn_KernelAttnIdeal := trivial

theorem refO (m : (ℓ : Loc Cert.ReferenceAttnIdeal.nD Cert.ReferenceAttnIdeal.τ Cert.ReferenceAttnIdeal.sig) → Buf (Elt Ideal) ℓ) (c : Dev Cert.ReferenceAttnIdeal.nD) :
    Cert.ReferenceAttnIdeal.Value.res_main_v86 m c = resO (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) := by
  unfold Cert.ReferenceAttnIdeal.Value.res_main_v86
  rfl

theorem refL (m : (ℓ : Loc Cert.ReferenceAttnIdeal.nD Cert.ReferenceAttnIdeal.τ Cert.ReferenceAttnIdeal.sig) → Buf (Elt Ideal) ℓ) (c : Dev Cert.ReferenceAttnIdeal.nD) :
    Cert.ReferenceAttnIdeal.Value.res_main_v87 m c = resL (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) := by
  unfold Cert.ReferenceAttnIdeal.Value.res_main_v87
  rfl

theorem algebraic : Cert.algebraic_KernelAttnIdeal_ReferenceAttnIdeal := by
  intro m ρ m' ρ' _ hagree
  refine ⟨fun c => resO (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)),
    fun c => resL (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)),
    Cert.KernelAttnIdeal.Attn.run_values m ρ, ?_⟩
  refine (θ_run Cert.ReferenceAttnIdeal.defs _ _).mono (fun r h c => ?_) (Cert.ReferenceAttnIdeal.Value.run (F := Ideal) m' ρ')
  obtain ⟨h0, h1, ha⟩ := h c
  obtain ⟨e0, e1⟩ := hagree c
  refine ⟨?_, ?_, ha⟩
  · beta_reduce; rw [← e0, ← e1]; exact h0.trans (refO m' c)
  · beta_reduce; rw [← e0, ← e1]; exact h1.trans (refL m' c)

end Cert.Attn

end
-- ==== Proof.AdamMlp.Final.lean ====
/- The optimiser's step for the MLP's two weights: the three arrays the kernel writes are the reference's. -/
module

public import proofs.«01_k».proof.Proof.Gen.KernelAdamMlpIdeal.Value
public import proofs.«01_k».proof.Proof.Gen.ReferenceAdamMlpIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamMlp

open Cert.KernelAdamMlpIdeal Cert.KernelAdamMlpIdeal.Gen

/-! ## The reference's arrays -/

/-- The new first moment. -/
def resM (g u : FVec Ideal Cert.ReferenceAdamMlpIdeal.S2x1024x1024 .f32) : FVec Ideal Cert.ReferenceAdamMlpIdeal.S2x1024x1024 .f32 :=
  addf (mulf (broadcastInDim Cert.ReferenceAdamMlpIdeal.S2x1024x1024 ![] Cert.ReferenceAdamMlpIdeal.Gen.bcast_S_S2x1024x1024 (constant Cert.ReferenceAdamMlpIdeal.S_ .f32 0x3F666666#32)) u)
    (mulf (broadcastInDim Cert.ReferenceAdamMlpIdeal.S2x1024x1024 ![] Cert.ReferenceAdamMlpIdeal.Gen.bcast_S_S2x1024x1024 (constant Cert.ReferenceAdamMlpIdeal.S_ .f32 0x3DCCCCCD#32)) g)

/-- The new second moment. -/
def resV (g v : FVec Ideal Cert.ReferenceAdamMlpIdeal.S2x1024x1024 .f32) : FVec Ideal Cert.ReferenceAdamMlpIdeal.S2x1024x1024 .f32 :=
  addf (mulf (broadcastInDim Cert.ReferenceAdamMlpIdeal.S2x1024x1024 ![] Cert.ReferenceAdamMlpIdeal.Gen.bcast_S_S2x1024x1024 (constant Cert.ReferenceAdamMlpIdeal.S_ .f32 0x3F7FBE77#32)) v)
    (mulf (broadcastInDim Cert.ReferenceAdamMlpIdeal.S2x1024x1024 ![] Cert.ReferenceAdamMlpIdeal.Gen.bcast_S_S2x1024x1024 (constant Cert.ReferenceAdamMlpIdeal.S_ .f32 0x3A83126F#32)) (mulf g g))

/-- The weight's change. -/
def resD (w g u v : FVec Ideal Cert.ReferenceAdamMlpIdeal.S2x1024x1024 .f32) : FVec Ideal Cert.ReferenceAdamMlpIdeal.S2x1024x1024 .f32 :=
  mulf (broadcastInDim Cert.ReferenceAdamMlpIdeal.S2x1024x1024 ![] Cert.ReferenceAdamMlpIdeal.Gen.bcast_S_S2x1024x1024 (constant Cert.ReferenceAdamMlpIdeal.S_ .f32 0xBA83126F#32))
    (addf (Host.divf (Host.divf (resM g u) (broadcastInDim Cert.ReferenceAdamMlpIdeal.S2x1024x1024 ![] Cert.ReferenceAdamMlpIdeal.Gen.bcast_S_S2x1024x1024 (constant Cert.ReferenceAdamMlpIdeal.S_ .f32 0x3F26BD02#32)))
        (addf (Host.sqrt (Host.divf (resV g v) (broadcastInDim Cert.ReferenceAdamMlpIdeal.S2x1024x1024 ![] Cert.ReferenceAdamMlpIdeal.Gen.bcast_S_S2x1024x1024 (constant Cert.ReferenceAdamMlpIdeal.S_ .f32 0x3C231ACC#32))))
          (broadcastInDim Cert.ReferenceAdamMlpIdeal.S2x1024x1024 ![] Cert.ReferenceAdamMlpIdeal.Gen.bcast_S_S2x1024x1024 (constant Cert.ReferenceAdamMlpIdeal.S_ .f32 0x322BCC77#32))))
      (mulf (broadcastInDim Cert.ReferenceAdamMlpIdeal.S2x1024x1024 ![] Cert.ReferenceAdamMlpIdeal.Gen.bcast_S_S2x1024x1024 (constant Cert.ReferenceAdamMlpIdeal.S_ .f32 0x3C23D70A#32)) w))

/-! ## The blocks -/

variable (m : (ℓ : Loc nD τ sig) → Buf (Elt Ideal) ℓ)

/-- Every window's block index at every grid point. -/
theorem idx_val : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0] :=
  (by decide +kernel : ∀ t : Fin grid0.N, _)

theorem m_at (c : Dev nD) (t : Fin cfg0.N) (i : S1x512x1024.Idx) (j : Cert.ReferenceAdamMlpIdeal.S2x1024x1024.Idx)
    (h0 : (j 0 : ℕ) = t.val / 2) (h1 : (j 1 : ℕ) = t.val % 2 * 512 + i 1) (h2 : (j 2 : ℕ) = i 2) :
    k0_pay2 (F := Ideal) (k0_pay5 (iblk m c 1 t) (iblk m c 2 t)) i = resM (m ((c : Thread nD τ).loc main_arg1)) (m ((c : Thread nD τ).loc main_arg2)) j := by
  have e1 : iblk m c 1 t i = (m ((c : Thread nD τ).loc main_arg1)) j := by blk_point [iblk, V, idx_val t]
  have e2 : iblk m c 2 t i = (m ((c : Thread nD τ).loc main_arg2)) j := by blk_point [iblk, V, idx_val t]
  pointwise [k0_pay2, k0_pay5, k0_pay4, resM]
  rw [e1, e2]

theorem v_at (c : Dev nD) (t : Fin cfg0.N) (i : S1x512x1024.Idx) (j : Cert.ReferenceAdamMlpIdeal.S2x1024x1024.Idx)
    (h0 : (j 0 : ℕ) = t.val / 2) (h1 : (j 1 : ℕ) = t.val % 2 * 512 + i 1) (h2 : (j 2 : ℕ) = i 2) :
    k0_pay3 (F := Ideal) (k0_pay6 (iblk m c 1 t) (iblk m c 3 t)) i = resV (m ((c : Thread nD τ).loc main_arg1)) (m ((c : Thread nD τ).loc main_arg3)) j := by
  have e1 : iblk m c 1 t i = (m ((c : Thread nD τ).loc main_arg1)) j := by blk_point [iblk, V, idx_val t]
  have e3 : iblk m c 3 t i = (m ((c : Thread nD τ).loc main_arg3)) j := by blk_point [iblk, V, idx_val t]
  pointwise [k0_pay3, k0_pay6, k0_pay4, resV]
  rw [e1, e3]

theorem d_at (c : Dev nD) (t : Fin cfg0.N) (i : S1x512x1024.Idx) (j : Cert.ReferenceAdamMlpIdeal.S2x1024x1024.Idx)
    (h0 : (j 0 : ℕ) = t.val / 2) (h1 : (j 1 : ℕ) = t.val % 2 * 512 + i 1) (h2 : (j 2 : ℕ) = i 2) :
    k0_pay1 (F := Ideal) (k0_pay7 (iblk m c 0 t) (iblk m c 1 t) (iblk m c 2 t) (iblk m c 3 t)) i = resD (m ((c : Thread nD τ).loc main_arg0)) (m ((c : Thread nD τ).loc main_arg1)) (m ((c : Thread nD τ).loc main_arg2)) (m ((c : Thread nD τ).loc main_arg3)) j := by
  have e0 : iblk m c 0 t i = (m ((c : Thread nD τ).loc main_arg0)) j := by blk_point [iblk, V, idx_val t]
  have e1 : iblk m c 1 t i = (m ((c : Thread nD τ).loc main_arg1)) j := by blk_point [iblk, V, idx_val t]
  have e2 : iblk m c 2 t i = (m ((c : Thread nD τ).loc main_arg2)) j := by blk_point [iblk, V, idx_val t]
  have e3 : iblk m c 3 t i = (m ((c : Thread nD τ).loc main_arg3)) j := by blk_point [iblk, V, idx_val t]
  pointwise [k0_pay1, k0_pay7, k0_pay6, k0_pay5, k0_pay4, resD, resM, resV]
  rw [e0, e1, e2, e3]

/-! ## The arrays after the run -/

theorem final4 (c : Dev nD) : (dats m 0 c).arrAt 4 (cfgs 0).N
    = resD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay1 (F := Ideal) (k0_pay7 (iblk m c 0 t) (iblk m c 1 t) (iblk m c 2 t) (iblk m c 3 t)) := by
    simp only [out0_4]; frame_out
  rw [e]
  exact d_at m c t y _ (by blk_simp [idx_val t]) (by blk_simp [idx_val t]) (by blk_simp [idx_val t])

theorem final5 (c : Dev nD) : (dats m 0 c).arrAt 5 (cfgs 0).N
    = resM (m ((c : Thread nD τ).loc main_arg1)) (m ((c : Thread nD τ).loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay2 (F := Ideal) (k0_pay5 (iblk m c 1 t) (iblk m c 2 t)) := by
    simp only [out0_5]; frame_out
  rw [e]
  exact m_at m c t y _ (by blk_simp [idx_val t]) (by blk_simp [idx_val t]) (by blk_simp [idx_val t])

theorem final6 (c : Dev nD) : (dats m 0 c).arrAt 6 (cfgs 0).N
    = resV (m ((c : Thread nD τ).loc main_arg1)) (m ((c : Thread nD τ).loc main_arg3)) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay3 (F := Ideal) (k0_pay6 (iblk m c 1 t) (iblk m c 3 t)) := by
    simp only [out0_6]; frame_out
  rw [e]
  exact v_at m c t y _ (by blk_simp [idx_val t]) (by blk_simp [idx_val t]) (by blk_simp [idx_val t])

end Cert.AdamMlp

end
-- ==== Proof.AdamMlp.Claim.lean ====
/- The optimiser's step for the MLP's two weights: the claims about its programs. -/
module

public import proofs.«01_k».proof.Defs
public import proofs.«01_k».proof.Proof.AdamMlp.Final
public import proofs.«01_k».proof.Proof.Gen.KernelAdamMlp.Frame
public import proofs.«01_k».proof.Proof.Gen.ReferenceAdamMlpIdeal.Run

@[expose] public section

set_option maxRecDepth 16384

noncomputable section

open Idealize.ShloMosaic Idealize.ShloMosaic.TcCoe Idealize.SL.Sem

namespace Cert.AdamMlp

theorem frame_kernel : Cert.quiescent_KernelAdamMlp := fun m ρ _ => Cert.KernelAdamMlp.Gen.frame m ρ

theorem frame_ideal : Cert.quiescent_KernelAdamMlpIdeal := fun m ρ _ => Cert.KernelAdamMlpIdeal.Gen.frame m ρ

theorem frame_reference : Cert.quiescent_ReferenceAdamMlpIdeal := fun m ρ _ =>
  (θ_run Cert.ReferenceAdamMlpIdeal.defs _ _).mono (fun r h => ⟨fun c => (h c).2.2.2,
      Idealize.ShloMosaic.sem_eq_zero_of_no_sems (by decide) r.2⟩)
    (Cert.ReferenceAdamMlpIdeal.Value.run (F := Ideal) m ρ)

theorem preserves : Cert.preserves_KernelAdamMlp_KernelAdamMlpIdeal := trivial

theorem algebraic : Cert.algebraic_KernelAdamMlpIdeal_ReferenceAdamMlpIdeal := by
  intro m ρ m' ρ' _ hagree
  refine ⟨fun c => resD (m ((c.tc : Thread Cert.KernelAdamMlpIdeal.nD Cert.KernelAdamMlpIdeal.τ).loc Cert.KernelAdamMlpIdeal.main_arg0)) (m ((c.tc : Thread Cert.KernelAdamMlpIdeal.nD Cert.KernelAdamMlpIdeal.τ).loc Cert.KernelAdamMlpIdeal.main_arg1)) (m ((c.tc : Thread Cert.KernelAdamMlpIdeal.nD Cert.KernelAdamMlpIdeal.τ).loc Cert.KernelAdamMlpIdeal.main_arg2)) (m ((c.tc : Thread Cert.KernelAdamMlpIdeal.nD Cert.KernelAdamMlpIdeal.τ).loc Cert.KernelAdamMlpIdeal.main_arg3)),
    fun c => resM (m ((c.tc : Thread Cert.KernelAdamMlpIdeal.nD Cert.KernelAdamMlpIdeal.τ).loc Cert.KernelAdamMlpIdeal.main_arg1)) (m ((c.tc : Thread Cert.KernelAdamMlpIdeal.nD Cert.KernelAdamMlpIdeal.τ).loc Cert.KernelAdamMlpIdeal.main_arg2)),
    fun c => resV (m ((c.tc : Thread Cert.KernelAdamMlpIdeal.nD Cert.KernelAdamMlpIdeal.τ).loc Cert.KernelAdamMlpIdeal.main_arg1)) (m ((c.tc : Thread Cert.KernelAdamMlpIdeal.nD Cert.KernelAdamMlpIdeal.τ).loc Cert.KernelAdamMlpIdeal.main_arg3)), ?_, ?_⟩
  · refine (θ_run Cert.KernelAdamMlpIdeal.defs _ _).mono (fun r h c => ?_) (Cert.KernelAdamMlpIdeal.Value.run_blocks (F := Ideal) m ρ)
    obtain ⟨h0, h1, h2, ha⟩ := h c
    exact ⟨h0.trans (final4 m c), h1.trans (final5 m c), h2.trans (final6 m c), ha⟩
  · refine (θ_run Cert.ReferenceAdamMlpIdeal.defs _ _).mono (fun r h c => ?_) (Cert.ReferenceAdamMlpIdeal.Value.run (F := Ideal) m' ρ')
    obtain ⟨h0, h1, h2, ha⟩ := h c
    obtain ⟨e0, e1, e2, e3⟩ := hagree c
    refine ⟨?_, ?_, ?_, ha⟩
    · beta_reduce; rw [← e0, ← e1, ← e2, ← e3]; exact h0
    · beta_reduce; rw [← e1, ← e2]; exact h1
    · beta_reduce; rw [← e1, ← e3]; exact h2

end Cert.AdamMlp

end
-- ==== Proof.AdamIn.Final.lean ====
/- The optimiser's step for the input projection's weight: the three arrays the kernel writes are the reference's. -/
module

public import proofs.«01_k».proof.Proof.Gen.KernelAdamInIdeal.Value
public import proofs.«01_k».proof.Proof.Gen.ReferenceAdamInIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamIn

open Cert.KernelAdamInIdeal Cert.KernelAdamInIdeal.Gen

/-! ## The reference's arrays -/

/-- The new first moment. -/
def resM (g u : FVec Ideal Cert.ReferenceAdamInIdeal.S2x960x1024 .f32) : FVec Ideal Cert.ReferenceAdamInIdeal.S2x960x1024 .f32 :=
  addf (mulf (broadcastInDim Cert.ReferenceAdamInIdeal.S2x960x1024 ![] Cert.ReferenceAdamInIdeal.Gen.bcast_S_S2x960x1024 (constant Cert.ReferenceAdamInIdeal.S_ .f32 0x3F666666#32)) u)
    (mulf (broadcastInDim Cert.ReferenceAdamInIdeal.S2x960x1024 ![] Cert.ReferenceAdamInIdeal.Gen.bcast_S_S2x960x1024 (constant Cert.ReferenceAdamInIdeal.S_ .f32 0x3DCCCCCD#32)) g)

/-- The new second moment. -/
def resV (g v : FVec Ideal Cert.ReferenceAdamInIdeal.S2x960x1024 .f32) : FVec Ideal Cert.ReferenceAdamInIdeal.S2x960x1024 .f32 :=
  addf (mulf (broadcastInDim Cert.ReferenceAdamInIdeal.S2x960x1024 ![] Cert.ReferenceAdamInIdeal.Gen.bcast_S_S2x960x1024 (constant Cert.ReferenceAdamInIdeal.S_ .f32 0x3F7FBE77#32)) v)
    (mulf (broadcastInDim Cert.ReferenceAdamInIdeal.S2x960x1024 ![] Cert.ReferenceAdamInIdeal.Gen.bcast_S_S2x960x1024 (constant Cert.ReferenceAdamInIdeal.S_ .f32 0x3A83126F#32)) (mulf g g))

/-- The weight's change. -/
def resD (w g u v : FVec Ideal Cert.ReferenceAdamInIdeal.S2x960x1024 .f32) : FVec Ideal Cert.ReferenceAdamInIdeal.S2x960x1024 .f32 :=
  mulf (broadcastInDim Cert.ReferenceAdamInIdeal.S2x960x1024 ![] Cert.ReferenceAdamInIdeal.Gen.bcast_S_S2x960x1024 (constant Cert.ReferenceAdamInIdeal.S_ .f32 0xBA83126F#32))
    (addf (Host.divf (Host.divf (resM g u) (broadcastInDim Cert.ReferenceAdamInIdeal.S2x960x1024 ![] Cert.ReferenceAdamInIdeal.Gen.bcast_S_S2x960x1024 (constant Cert.ReferenceAdamInIdeal.S_ .f32 0x3F26BD02#32)))
        (addf (Host.sqrt (Host.divf (resV g v) (broadcastInDim Cert.ReferenceAdamInIdeal.S2x960x1024 ![] Cert.ReferenceAdamInIdeal.Gen.bcast_S_S2x960x1024 (constant Cert.ReferenceAdamInIdeal.S_ .f32 0x3C231ACC#32))))
          (broadcastInDim Cert.ReferenceAdamInIdeal.S2x960x1024 ![] Cert.ReferenceAdamInIdeal.Gen.bcast_S_S2x960x1024 (constant Cert.ReferenceAdamInIdeal.S_ .f32 0x322BCC77#32))))
      (mulf (broadcastInDim Cert.ReferenceAdamInIdeal.S2x960x1024 ![] Cert.ReferenceAdamInIdeal.Gen.bcast_S_S2x960x1024 (constant Cert.ReferenceAdamInIdeal.S_ .f32 0x3C23D70A#32)) w))

/-! ## The blocks -/

variable (m : (ℓ : Loc nD τ sig) → Buf (Elt Ideal) ℓ)

/-- Every window's block index at every grid point. -/
theorem idx_val : ∀ t : Fin cfg0.N, win0_0.index t = ![t.val / 2, t.val % 2, 0]
    ∧ win0_1.index t = ![t.val / 2, t.val % 2, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0] :=
  (by decide +kernel : ∀ t : Fin grid0.N, _)

theorem m_at (c : Dev nD) (t : Fin cfg0.N) (i : S1x480x1024.Idx) (j : Cert.ReferenceAdamInIdeal.S2x960x1024.Idx)
    (h0 : (j 0 : ℕ) = t.val / 2) (h1 : (j 1 : ℕ) = t.val % 2 * 480 + i 1) (h2 : (j 2 : ℕ) = i 2) :
    k0_pay2 (F := Ideal) (k0_pay5 (iblk m c 1 t) (iblk m c 2 t)) i = resM (m ((c : Thread nD τ).loc main_arg1)) (m ((c : Thread nD τ).loc main_arg2)) j := by
  have e1 : iblk m c 1 t i = (m ((c : Thread nD τ).loc main_arg1)) j := by blk_point [iblk, V, idx_val t]
  have e2 : iblk m c 2 t i = (m ((c : Thread nD τ).loc main_arg2)) j := by blk_point [iblk, V, idx_val t]
  pointwise [k0_pay2, k0_pay5, k0_pay4, resM]
  rw [e1, e2]

theorem v_at (c : Dev nD) (t : Fin cfg0.N) (i : S1x480x1024.Idx) (j : Cert.ReferenceAdamInIdeal.S2x960x1024.Idx)
    (h0 : (j 0 : ℕ) = t.val / 2) (h1 : (j 1 : ℕ) = t.val % 2 * 480 + i 1) (h2 : (j 2 : ℕ) = i 2) :
    k0_pay3 (F := Ideal) (k0_pay6 (iblk m c 1 t) (iblk m c 3 t)) i = resV (m ((c : Thread nD τ).loc main_arg1)) (m ((c : Thread nD τ).loc main_arg3)) j := by
  have e1 : iblk m c 1 t i = (m ((c : Thread nD τ).loc main_arg1)) j := by blk_point [iblk, V, idx_val t]
  have e3 : iblk m c 3 t i = (m ((c : Thread nD τ).loc main_arg3)) j := by blk_point [iblk, V, idx_val t]
  pointwise [k0_pay3, k0_pay6, k0_pay4, resV]
  rw [e1, e3]

theorem d_at (c : Dev nD) (t : Fin cfg0.N) (i : S1x480x1024.Idx) (j : Cert.ReferenceAdamInIdeal.S2x960x1024.Idx)
    (h0 : (j 0 : ℕ) = t.val / 2) (h1 : (j 1 : ℕ) = t.val % 2 * 480 + i 1) (h2 : (j 2 : ℕ) = i 2) :
    k0_pay1 (F := Ideal) (k0_pay7 (iblk m c 0 t) (iblk m c 1 t) (iblk m c 2 t) (iblk m c 3 t)) i = resD (m ((c : Thread nD τ).loc main_arg0)) (m ((c : Thread nD τ).loc main_arg1)) (m ((c : Thread nD τ).loc main_arg2)) (m ((c : Thread nD τ).loc main_arg3)) j := by
  have e0 : iblk m c 0 t i = (m ((c : Thread nD τ).loc main_arg0)) j := by blk_point [iblk, V, idx_val t]
  have e1 : iblk m c 1 t i = (m ((c : Thread nD τ).loc main_arg1)) j := by blk_point [iblk, V, idx_val t]
  have e2 : iblk m c 2 t i = (m ((c : Thread nD τ).loc main_arg2)) j := by blk_point [iblk, V, idx_val t]
  have e3 : iblk m c 3 t i = (m ((c : Thread nD τ).loc main_arg3)) j := by blk_point [iblk, V, idx_val t]
  pointwise [k0_pay1, k0_pay7, k0_pay6, k0_pay5, k0_pay4, resD, resM, resV]
  rw [e0, e1, e2, e3]

/-! ## The arrays after the run -/

theorem final4 (c : Dev nD) : (dats m 0 c).arrAt 4 (cfgs 0).N
    = resD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay1 (F := Ideal) (k0_pay7 (iblk m c 0 t) (iblk m c 1 t) (iblk m c 2 t) (iblk m c 3 t)) := by
    simp only [out0_4]; frame_out
  rw [e]
  exact d_at m c t y _ (by blk_simp [idx_val t]) (by blk_simp [idx_val t]) (by blk_simp [idx_val t])

theorem final5 (c : Dev nD) : (dats m 0 c).arrAt 5 (cfgs 0).N
    = resM (m ((c : Thread nD τ).loc main_arg1)) (m ((c : Thread nD τ).loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay2 (F := Ideal) (k0_pay5 (iblk m c 1 t) (iblk m c 2 t)) := by
    simp only [out0_5]; frame_out
  rw [e]
  exact m_at m c t y _ (by blk_simp [idx_val t]) (by blk_simp [idx_val t]) (by blk_simp [idx_val t])

theorem final6 (c : Dev nD) : (dats m 0 c).arrAt 6 (cfgs 0).N
    = resV (m ((c : Thread nD τ).loc main_arg1)) (m ((c : Thread nD τ).loc main_arg3)) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay3 (F := Ideal) (k0_pay6 (iblk m c 1 t) (iblk m c 3 t)) := by
    simp only [out0_6]; frame_out
  rw [e]
  exact v_at m c t y _ (by blk_simp [idx_val t]) (by blk_simp [idx_val t]) (by blk_simp [idx_val t])

end Cert.AdamIn

end
-- ==== Proof.AdamIn.Claim.lean ====
/- The optimiser's step for the input projection's weight: the claims about its programs. -/
module

public import proofs.«01_k».proof.Defs
public import proofs.«01_k».proof.Proof.AdamIn.Final
public import proofs.«01_k».proof.Proof.Gen.KernelAdamIn.Frame
public import proofs.«01_k».proof.Proof.Gen.ReferenceAdamInIdeal.Run

@[expose] public section

set_option maxRecDepth 16384

noncomputable section

open Idealize.ShloMosaic Idealize.ShloMosaic.TcCoe Idealize.SL.Sem

namespace Cert.AdamIn

theorem frame_kernel : Cert.quiescent_KernelAdamIn := fun m ρ _ => Cert.KernelAdamIn.Gen.frame m ρ

theorem frame_ideal : Cert.quiescent_KernelAdamInIdeal := fun m ρ _ => Cert.KernelAdamInIdeal.Gen.frame m ρ

theorem frame_reference : Cert.quiescent_ReferenceAdamInIdeal := fun m ρ _ =>
  (θ_run Cert.ReferenceAdamInIdeal.defs _ _).mono (fun r h => ⟨fun c => (h c).2.2.2,
      Idealize.ShloMosaic.sem_eq_zero_of_no_sems (by decide) r.2⟩)
    (Cert.ReferenceAdamInIdeal.Value.run (F := Ideal) m ρ)

theorem preserves : Cert.preserves_KernelAdamIn_KernelAdamInIdeal := trivial

theorem algebraic : Cert.algebraic_KernelAdamInIdeal_ReferenceAdamInIdeal := by
  intro m ρ m' ρ' _ hagree
  refine ⟨fun c => resD (m ((c.tc : Thread Cert.KernelAdamInIdeal.nD Cert.KernelAdamInIdeal.τ).loc Cert.KernelAdamInIdeal.main_arg0)) (m ((c.tc : Thread Cert.KernelAdamInIdeal.nD Cert.KernelAdamInIdeal.τ).loc Cert.KernelAdamInIdeal.main_arg1)) (m ((c.tc : Thread Cert.KernelAdamInIdeal.nD Cert.KernelAdamInIdeal.τ).loc Cert.KernelAdamInIdeal.main_arg2)) (m ((c.tc : Thread Cert.KernelAdamInIdeal.nD Cert.KernelAdamInIdeal.τ).loc Cert.KernelAdamInIdeal.main_arg3)),
    fun c => resM (m ((c.tc : Thread Cert.KernelAdamInIdeal.nD Cert.KernelAdamInIdeal.τ).loc Cert.KernelAdamInIdeal.main_arg1)) (m ((c.tc : Thread Cert.KernelAdamInIdeal.nD Cert.KernelAdamInIdeal.τ).loc Cert.KernelAdamInIdeal.main_arg2)),
    fun c => resV (m ((c.tc : Thread Cert.KernelAdamInIdeal.nD Cert.KernelAdamInIdeal.τ).loc Cert.KernelAdamInIdeal.main_arg1)) (m ((c.tc : Thread Cert.KernelAdamInIdeal.nD Cert.KernelAdamInIdeal.τ).loc Cert.KernelAdamInIdeal.main_arg3)), ?_, ?_⟩
  · refine (θ_run Cert.KernelAdamInIdeal.defs _ _).mono (fun r h c => ?_) (Cert.KernelAdamInIdeal.Value.run_blocks (F := Ideal) m ρ)
    obtain ⟨h0, h1, h2, ha⟩ := h c
    exact ⟨h0.trans (final4 m c), h1.trans (final5 m c), h2.trans (final6 m c), ha⟩
  · refine (θ_run Cert.ReferenceAdamInIdeal.defs _ _).mono (fun r h c => ?_) (Cert.ReferenceAdamInIdeal.Value.run (F := Ideal) m' ρ')
    obtain ⟨h0, h1, h2, ha⟩ := h c
    obtain ⟨e0, e1, e2, e3⟩ := hagree c
    refine ⟨?_, ?_, ?_, ha⟩
    · beta_reduce; rw [← e0, ← e1, ← e2, ← e3]; exact h0
    · beta_reduce; rw [← e1, ← e2]; exact h1
    · beta_reduce; rw [← e1, ← e3]; exact h2

end Cert.AdamIn

end
-- ==== Proof.AdamOut.Final.lean ====
/- The optimiser's step for the output projection's weight: the three arrays the kernel writes are the reference's. -/
module

public import proofs.«01_k».proof.Proof.Gen.KernelAdamOutIdeal.Value
public import proofs.«01_k».proof.Proof.Gen.ReferenceAdamOutIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamOut

open Cert.KernelAdamOutIdeal Cert.KernelAdamOutIdeal.Gen

/-! ## The reference's arrays -/

/-- The new first moment. -/
def resM (g u : FVec Ideal Cert.ReferenceAdamOutIdeal.S2x256x1024 .f32) : FVec Ideal Cert.ReferenceAdamOutIdeal.S2x256x1024 .f32 :=
  addf (mulf (broadcastInDim Cert.ReferenceAdamOutIdeal.S2x256x1024 ![] Cert.ReferenceAdamOutIdeal.Gen.bcast_S_S2x256x1024 (constant Cert.ReferenceAdamOutIdeal.S_ .f32 0x3F666666#32)) u)
    (mulf (broadcastInDim Cert.ReferenceAdamOutIdeal.S2x256x1024 ![] Cert.ReferenceAdamOutIdeal.Gen.bcast_S_S2x256x1024 (constant Cert.ReferenceAdamOutIdeal.S_ .f32 0x3DCCCCCD#32)) g)

/-- The new second moment. -/
def resV (g v : FVec Ideal Cert.ReferenceAdamOutIdeal.S2x256x1024 .f32) : FVec Ideal Cert.ReferenceAdamOutIdeal.S2x256x1024 .f32 :=
  addf (mulf (broadcastInDim Cert.ReferenceAdamOutIdeal.S2x256x1024 ![] Cert.ReferenceAdamOutIdeal.Gen.bcast_S_S2x256x1024 (constant Cert.ReferenceAdamOutIdeal.S_ .f32 0x3F7FBE77#32)) v)
    (mulf (broadcastInDim Cert.ReferenceAdamOutIdeal.S2x256x1024 ![] Cert.ReferenceAdamOutIdeal.Gen.bcast_S_S2x256x1024 (constant Cert.ReferenceAdamOutIdeal.S_ .f32 0x3A83126F#32)) (mulf g g))

/-- The weight's change. -/
def resD (w g u v : FVec Ideal Cert.ReferenceAdamOutIdeal.S2x256x1024 .f32) : FVec Ideal Cert.ReferenceAdamOutIdeal.S2x256x1024 .f32 :=
  mulf (broadcastInDim Cert.ReferenceAdamOutIdeal.S2x256x1024 ![] Cert.ReferenceAdamOutIdeal.Gen.bcast_S_S2x256x1024 (constant Cert.ReferenceAdamOutIdeal.S_ .f32 0xBA83126F#32))
    (addf (Host.divf (Host.divf (resM g u) (broadcastInDim Cert.ReferenceAdamOutIdeal.S2x256x1024 ![] Cert.ReferenceAdamOutIdeal.Gen.bcast_S_S2x256x1024 (constant Cert.ReferenceAdamOutIdeal.S_ .f32 0x3F26BD02#32)))
        (addf (Host.sqrt (Host.divf (resV g v) (broadcastInDim Cert.ReferenceAdamOutIdeal.S2x256x1024 ![] Cert.ReferenceAdamOutIdeal.Gen.bcast_S_S2x256x1024 (constant Cert.ReferenceAdamOutIdeal.S_ .f32 0x3C231ACC#32))))
          (broadcastInDim Cert.ReferenceAdamOutIdeal.S2x256x1024 ![] Cert.ReferenceAdamOutIdeal.Gen.bcast_S_S2x256x1024 (constant Cert.ReferenceAdamOutIdeal.S_ .f32 0x322BCC77#32))))
      (mulf (broadcastInDim Cert.ReferenceAdamOutIdeal.S2x256x1024 ![] Cert.ReferenceAdamOutIdeal.Gen.bcast_S_S2x256x1024 (constant Cert.ReferenceAdamOutIdeal.S_ .f32 0x3C23D70A#32)) w))

/-! ## The blocks -/

variable (m : (ℓ : Loc nD τ sig) → Buf (Elt Ideal) ℓ)

/-- Every window's block index at every grid point. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

theorem m_at (c : Dev nD) (t : Fin cfg0.N) (i : S1x256x1024.Idx) (j : Cert.ReferenceAdamOutIdeal.S2x256x1024.Idx)
    (h0 : (j 0 : ℕ) = t.val) (h1 : (j 1 : ℕ) = i 1) (h2 : (j 2 : ℕ) = i 2) :
    k0_pay2 (F := Ideal) (k0_pay5 (iblk m c 1 t) (iblk m c 2 t)) i = resM (m ((c : Thread nD τ).loc main_arg1)) (m ((c : Thread nD τ).loc main_arg2)) j := by
  have e1 : iblk m c 1 t i = (m ((c : Thread nD τ).loc main_arg1)) j := by blk_point [iblk, V, idx_val t]
  have e2 : iblk m c 2 t i = (m ((c : Thread nD τ).loc main_arg2)) j := by blk_point [iblk, V, idx_val t]
  pointwise [k0_pay2, k0_pay5, k0_pay4, resM]
  rw [e1, e2]

theorem v_at (c : Dev nD) (t : Fin cfg0.N) (i : S1x256x1024.Idx) (j : Cert.ReferenceAdamOutIdeal.S2x256x1024.Idx)
    (h0 : (j 0 : ℕ) = t.val) (h1 : (j 1 : ℕ) = i 1) (h2 : (j 2 : ℕ) = i 2) :
    k0_pay3 (F := Ideal) (k0_pay6 (iblk m c 1 t) (iblk m c 3 t)) i = resV (m ((c : Thread nD τ).loc main_arg1)) (m ((c : Thread nD τ).loc main_arg3)) j := by
  have e1 : iblk m c 1 t i = (m ((c : Thread nD τ).loc main_arg1)) j := by blk_point [iblk, V, idx_val t]
  have e3 : iblk m c 3 t i = (m ((c : Thread nD τ).loc main_arg3)) j := by blk_point [iblk, V, idx_val t]
  pointwise [k0_pay3, k0_pay6, k0_pay4, resV]
  rw [e1, e3]

theorem d_at (c : Dev nD) (t : Fin cfg0.N) (i : S1x256x1024.Idx) (j : Cert.ReferenceAdamOutIdeal.S2x256x1024.Idx)
    (h0 : (j 0 : ℕ) = t.val) (h1 : (j 1 : ℕ) = i 1) (h2 : (j 2 : ℕ) = i 2) :
    k0_pay1 (F := Ideal) (k0_pay7 (iblk m c 0 t) (iblk m c 1 t) (iblk m c 2 t) (iblk m c 3 t)) i = resD (m ((c : Thread nD τ).loc main_arg0)) (m ((c : Thread nD τ).loc main_arg1)) (m ((c : Thread nD τ).loc main_arg2)) (m ((c : Thread nD τ).loc main_arg3)) j := by
  have e0 : iblk m c 0 t i = (m ((c : Thread nD τ).loc main_arg0)) j := by blk_point [iblk, V, idx_val t]
  have e1 : iblk m c 1 t i = (m ((c : Thread nD τ).loc main_arg1)) j := by blk_point [iblk, V, idx_val t]
  have e2 : iblk m c 2 t i = (m ((c : Thread nD τ).loc main_arg2)) j := by blk_point [iblk, V, idx_val t]
  have e3 : iblk m c 3 t i = (m ((c : Thread nD τ).loc main_arg3)) j := by blk_point [iblk, V, idx_val t]
  pointwise [k0_pay1, k0_pay7, k0_pay6, k0_pay5, k0_pay4, resD, resM, resV]
  rw [e0, e1, e2, e3]

/-! ## The arrays after the run -/

theorem final4 (c : Dev nD) : (dats m 0 c).arrAt 4 (cfgs 0).N
    = resD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay1 (F := Ideal) (k0_pay7 (iblk m c 0 t) (iblk m c 1 t) (iblk m c 2 t) (iblk m c 3 t)) := by
    simp only [out0_4]; frame_out
  rw [e]
  exact d_at m c t y _ (by blk_simp [idx_val t]) (by blk_simp [idx_val t]) (by blk_simp [idx_val t])

theorem final5 (c : Dev nD) : (dats m 0 c).arrAt 5 (cfgs 0).N
    = resM (m ((c : Thread nD τ).loc main_arg1)) (m ((c : Thread nD τ).loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay2 (F := Ideal) (k0_pay5 (iblk m c 1 t) (iblk m c 2 t)) := by
    simp only [out0_5]; frame_out
  rw [e]
  exact m_at m c t y _ (by blk_simp [idx_val t]) (by blk_simp [idx_val t]) (by blk_simp [idx_val t])

theorem final6 (c : Dev nD) : (dats m 0 c).arrAt 6 (cfgs 0).N
    = resV (m ((c : Thread nD τ).loc main_arg1)) (m ((c : Thread nD τ).loc main_arg3)) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay3 (F := Ideal) (k0_pay6 (iblk m c 1 t) (iblk m c 3 t)) := by
    simp only [out0_6]; frame_out
  rw [e]
  exact v_at m c t y _ (by blk_simp [idx_val t]) (by blk_simp [idx_val t]) (by blk_simp [idx_val t])

end Cert.AdamOut

end
-- ==== Proof.AdamOut.Claim.lean ====
/- The optimiser's step for the output projection's weight: the claims about its programs. -/
module

public import proofs.«01_k».proof.Defs
public import proofs.«01_k».proof.Proof.AdamOut.Final
public import proofs.«01_k».proof.Proof.Gen.KernelAdamOut.Frame
public import proofs.«01_k».proof.Proof.Gen.ReferenceAdamOutIdeal.Run

@[expose] public section

set_option maxRecDepth 16384

noncomputable section

open Idealize.ShloMosaic Idealize.ShloMosaic.TcCoe Idealize.SL.Sem

namespace Cert.AdamOut

theorem frame_kernel : Cert.quiescent_KernelAdamOut := fun m ρ _ => Cert.KernelAdamOut.Gen.frame m ρ

theorem frame_ideal : Cert.quiescent_KernelAdamOutIdeal := fun m ρ _ => Cert.KernelAdamOutIdeal.Gen.frame m ρ

theorem frame_reference : Cert.quiescent_ReferenceAdamOutIdeal := fun m ρ _ =>
  (θ_run Cert.ReferenceAdamOutIdeal.defs _ _).mono (fun r h => ⟨fun c => (h c).2.2.2,
      Idealize.ShloMosaic.sem_eq_zero_of_no_sems (by decide) r.2⟩)
    (Cert.ReferenceAdamOutIdeal.Value.run (F := Ideal) m ρ)

theorem preserves : Cert.preserves_KernelAdamOut_KernelAdamOutIdeal := trivial

theorem algebraic : Cert.algebraic_KernelAdamOutIdeal_ReferenceAdamOutIdeal := by
  intro m ρ m' ρ' _ hagree
  refine ⟨fun c => resD (m ((c.tc : Thread Cert.KernelAdamOutIdeal.nD Cert.KernelAdamOutIdeal.τ).loc Cert.KernelAdamOutIdeal.main_arg0)) (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg2)) (m ((c.tc : Thread Cert.KernelAdamOutIdeal.nD Cert.KernelAdamOutIdeal.τ).loc Cert.KernelAdamOutIdeal.main_arg3)),
    fun c => resM (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg2)),
    fun c => resV (m ((c.tc : Thread Cert.KernelAdamOutIdeal.nD Cert.KernelAdamOutIdeal.τ).loc Cert.KernelAdamOutIdeal.main_arg1)) (m ((c.tc : Thread Cert.KernelAdamOutIdeal.nD Cert.KernelAdamOutIdeal.τ).loc Cert.KernelAdamOutIdeal.main_arg3)), ?_, ?_⟩
  · refine (θ_run Cert.KernelAdamOutIdeal.defs _ _).mono (fun r h c => ?_) (Cert.KernelAdamOutIdeal.Value.run_blocks (F := Ideal) m ρ)
    obtain ⟨h0, h1, h2, ha⟩ := h c
    exact ⟨h0.trans (final4 m c), h1.trans (final5 m c), h2.trans (final6 m c), ha⟩
  · refine (θ_run Cert.ReferenceAdamOutIdeal.defs _ _).mono (fun r h c => ?_) (Cert.ReferenceAdamOutIdeal.Value.run (F := Ideal) m' ρ')
    obtain ⟨h0, h1, h2, ha⟩ := h c
    obtain ⟨e0, e1, e2, e3⟩ := hagree c
    refine ⟨?_, ?_, ?_, ha⟩
    · beta_reduce; rw [← e0, ← e1, ← e2, ← e3]; exact h0
    · beta_reduce; rw [← e1, ← e2]; exact h1
    · beta_reduce; rw [← e1, ← e3]; exact h2

end Cert.AdamOut

end
-- ==== Proof.AdamProj.Final.lean ====
/- The optimiser's step for the branches' two projections: the three arrays the kernel writes are the reference's. -/
module

public import proofs.«01_k».proof.Proof.Gen.KernelAdamProjIdeal.Value
public import proofs.«01_k».proof.Proof.Gen.ReferenceAdamProjIdeal
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamProj

open Cert.KernelAdamProjIdeal Cert.KernelAdamProjIdeal.Gen

/-! ## The reference's arrays -/

/-- The new first moment. -/
def resM (g u : FVec Ideal Cert.ReferenceAdamProjIdeal.S2x512x256 .f32) : FVec Ideal Cert.ReferenceAdamProjIdeal.S2x512x256 .f32 :=
  addf (mulf (broadcastInDim Cert.ReferenceAdamProjIdeal.S2x512x256 ![] Cert.ReferenceAdamProjIdeal.Gen.bcast_S_S2x512x256 (constant Cert.ReferenceAdamProjIdeal.S_ .f32 0x3F666666#32)) u)
    (mulf (broadcastInDim Cert.ReferenceAdamProjIdeal.S2x512x256 ![] Cert.ReferenceAdamProjIdeal.Gen.bcast_S_S2x512x256 (constant Cert.ReferenceAdamProjIdeal.S_ .f32 0x3DCCCCCD#32)) g)

/-- The new second moment. -/
def resV (g v : FVec Ideal Cert.ReferenceAdamProjIdeal.S2x512x256 .f32) : FVec Ideal Cert.ReferenceAdamProjIdeal.S2x512x256 .f32 :=
  addf (mulf (broadcastInDim Cert.ReferenceAdamProjIdeal.S2x512x256 ![] Cert.ReferenceAdamProjIdeal.Gen.bcast_S_S2x512x256 (constant Cert.ReferenceAdamProjIdeal.S_ .f32 0x3F7FBE77#32)) v)
    (mulf (broadcastInDim Cert.ReferenceAdamProjIdeal.S2x512x256 ![] Cert.ReferenceAdamProjIdeal.Gen.bcast_S_S2x512x256 (constant Cert.ReferenceAdamProjIdeal.S_ .f32 0x3A83126F#32)) (mulf g g))

/-- The weight's change. -/
def resD (w g u v : FVec Ideal Cert.ReferenceAdamProjIdeal.S2x512x256 .f32) : FVec Ideal Cert.ReferenceAdamProjIdeal.S2x512x256 .f32 :=
  mulf (broadcastInDim Cert.ReferenceAdamProjIdeal.S2x512x256 ![] Cert.ReferenceAdamProjIdeal.Gen.bcast_S_S2x512x256 (constant Cert.ReferenceAdamProjIdeal.S_ .f32 0xBA83126F#32))
    (addf (Host.divf (Host.divf (resM g u) (broadcastInDim Cert.ReferenceAdamProjIdeal.S2x512x256 ![] Cert.ReferenceAdamProjIdeal.Gen.bcast_S_S2x512x256 (constant Cert.ReferenceAdamProjIdeal.S_ .f32 0x3F26BD02#32)))
        (addf (Host.sqrt (Host.divf (resV g v) (broadcastInDim Cert.ReferenceAdamProjIdeal.S2x512x256 ![] Cert.ReferenceAdamProjIdeal.Gen.bcast_S_S2x512x256 (constant Cert.ReferenceAdamProjIdeal.S_ .f32 0x3C231ACC#32))))
          (broadcastInDim Cert.ReferenceAdamProjIdeal.S2x512x256 ![] Cert.ReferenceAdamProjIdeal.Gen.bcast_S_S2x512x256 (constant Cert.ReferenceAdamProjIdeal.S_ .f32 0x322BCC77#32))))
      (mulf (broadcastInDim Cert.ReferenceAdamProjIdeal.S2x512x256 ![] Cert.ReferenceAdamProjIdeal.Gen.bcast_S_S2x512x256 (constant Cert.ReferenceAdamProjIdeal.S_ .f32 0x3C23D70A#32)) w))

/-! ## The blocks -/

variable (m : (ℓ : Loc nD τ sig) → Buf (Elt Ideal) ℓ)

/-- Every window's block index at every grid point. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

theorem m_at (c : Dev nD) (t : Fin cfg0.N) (i : S1x512x256.Idx) (j : Cert.ReferenceAdamProjIdeal.S2x512x256.Idx)
    (h0 : (j 0 : ℕ) = t.val) (h1 : (j 1 : ℕ) = i 1) (h2 : (j 2 : ℕ) = i 2) :
    k0_pay2 (F := Ideal) (k0_pay5 (iblk m c 1 t) (iblk m c 2 t)) i = resM (m ((c : Thread nD τ).loc main_arg1)) (m ((c : Thread nD τ).loc main_arg2)) j := by
  have e1 : iblk m c 1 t i = (m ((c : Thread nD τ).loc main_arg1)) j := by blk_point [iblk, V, idx_val t]
  have e2 : iblk m c 2 t i = (m ((c : Thread nD τ).loc main_arg2)) j := by blk_point [iblk, V, idx_val t]
  pointwise [k0_pay2, k0_pay5, k0_pay4, resM]
  rw [e1, e2]

theorem v_at (c : Dev nD) (t : Fin cfg0.N) (i : S1x512x256.Idx) (j : Cert.ReferenceAdamProjIdeal.S2x512x256.Idx)
    (h0 : (j 0 : ℕ) = t.val) (h1 : (j 1 : ℕ) = i 1) (h2 : (j 2 : ℕ) = i 2) :
    k0_pay3 (F := Ideal) (k0_pay6 (iblk m c 1 t) (iblk m c 3 t)) i = resV (m ((c : Thread nD τ).loc main_arg1)) (m ((c : Thread nD τ).loc main_arg3)) j := by
  have e1 : iblk m c 1 t i = (m ((c : Thread nD τ).loc main_arg1)) j := by blk_point [iblk, V, idx_val t]
  have e3 : iblk m c 3 t i = (m ((c : Thread nD τ).loc main_arg3)) j := by blk_point [iblk, V, idx_val t]
  pointwise [k0_pay3, k0_pay6, k0_pay4, resV]
  rw [e1, e3]

theorem d_at (c : Dev nD) (t : Fin cfg0.N) (i : S1x512x256.Idx) (j : Cert.ReferenceAdamProjIdeal.S2x512x256.Idx)
    (h0 : (j 0 : ℕ) = t.val) (h1 : (j 1 : ℕ) = i 1) (h2 : (j 2 : ℕ) = i 2) :
    k0_pay1 (F := Ideal) (k0_pay7 (iblk m c 0 t) (iblk m c 1 t) (iblk m c 2 t) (iblk m c 3 t)) i = resD (m ((c : Thread nD τ).loc main_arg0)) (m ((c : Thread nD τ).loc main_arg1)) (m ((c : Thread nD τ).loc main_arg2)) (m ((c : Thread nD τ).loc main_arg3)) j := by
  have e0 : iblk m c 0 t i = (m ((c : Thread nD τ).loc main_arg0)) j := by blk_point [iblk, V, idx_val t]
  have e1 : iblk m c 1 t i = (m ((c : Thread nD τ).loc main_arg1)) j := by blk_point [iblk, V, idx_val t]
  have e2 : iblk m c 2 t i = (m ((c : Thread nD τ).loc main_arg2)) j := by blk_point [iblk, V, idx_val t]
  have e3 : iblk m c 3 t i = (m ((c : Thread nD τ).loc main_arg3)) j := by blk_point [iblk, V, idx_val t]
  pointwise [k0_pay1, k0_pay7, k0_pay6, k0_pay5, k0_pay4, resD, resM, resV]
  rw [e0, e1, e2, e3]

/-! ## The arrays after the run -/

theorem final4 (c : Dev nD) : (dats m 0 c).arrAt 4 (cfgs 0).N
    = resD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay1 (F := Ideal) (k0_pay7 (iblk m c 0 t) (iblk m c 1 t) (iblk m c 2 t) (iblk m c 3 t)) := by
    simp only [out0_4]; frame_out
  rw [e]
  exact d_at m c t y _ (by blk_simp [idx_val t]) (by blk_simp [idx_val t]) (by blk_simp [idx_val t])

theorem final5 (c : Dev nD) : (dats m 0 c).arrAt 5 (cfgs 0).N
    = resM (m ((c : Thread nD τ).loc main_arg1)) (m ((c : Thread nD τ).loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay2 (F := Ideal) (k0_pay5 (iblk m c 1 t) (iblk m c 2 t)) := by
    simp only [out0_5]; frame_out
  rw [e]
  exact m_at m c t y _ (by blk_simp [idx_val t]) (by blk_simp [idx_val t]) (by blk_simp [idx_val t])

theorem final6 (c : Dev nD) : (dats m 0 c).arrAt 6 (cfgs 0).N
    = resV (m ((c : Thread nD τ).loc main_arg1)) (m ((c : Thread nD τ).loc main_arg3)) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay3 (F := Ideal) (k0_pay6 (iblk m c 1 t) (iblk m c 3 t)) := by
    simp only [out0_6]; frame_out
  rw [e]
  exact v_at m c t y _ (by blk_simp [idx_val t]) (by blk_simp [idx_val t]) (by blk_simp [idx_val t])

end Cert.AdamProj

end
-- ==== Proof.AdamProj.Claim.lean ====
/- The optimiser's step for the branches' two projections: the claims about its programs. -/
module

public import proofs.«01_k».proof.Defs
public import proofs.«01_k».proof.Proof.AdamProj.Final
public import proofs.«01_k».proof.Proof.Gen.KernelAdamProj.Frame
public import proofs.«01_k».proof.Proof.Gen.ReferenceAdamProjIdeal.Run

@[expose] public section

set_option maxRecDepth 16384

noncomputable section

open Idealize.ShloMosaic Idealize.ShloMosaic.TcCoe Idealize.SL.Sem

namespace Cert.AdamProj

theorem frame_kernel : Cert.quiescent_KernelAdamProj := fun m ρ _ => Cert.KernelAdamProj.Gen.frame m ρ

theorem frame_ideal : Cert.quiescent_KernelAdamProjIdeal := fun m ρ _ => Cert.KernelAdamProjIdeal.Gen.frame m ρ

theorem frame_reference : Cert.quiescent_ReferenceAdamProjIdeal := fun m ρ _ =>
  (θ_run Cert.ReferenceAdamProjIdeal.defs _ _).mono (fun r h => ⟨fun c => (h c).2.2.2,
      Idealize.ShloMosaic.sem_eq_zero_of_no_sems (by decide) r.2⟩)
    (Cert.ReferenceAdamProjIdeal.Value.run (F := Ideal) m ρ)

theorem preserves : Cert.preserves_KernelAdamProj_KernelAdamProjIdeal := trivial

theorem algebraic : Cert.algebraic_KernelAdamProjIdeal_ReferenceAdamProjIdeal := by
  intro m ρ m' ρ' _ hagree
  refine ⟨fun c => resD (m ((c.tc : Thread Cert.KernelAdamProjIdeal.nD Cert.KernelAdamProjIdeal.τ).loc Cert.KernelAdamProjIdeal.main_arg0)) (m ((c.tc : Thread Cert.KernelAdamProjIdeal.nD Cert.KernelAdamProjIdeal.τ).loc Cert.KernelAdamProjIdeal.main_arg1)) (m ((c.tc : Thread Cert.KernelAdamProjIdeal.nD Cert.KernelAdamProjIdeal.τ).loc Cert.KernelAdamProjIdeal.main_arg2)) (m ((c.tc : Thread Cert.KernelAdamProjIdeal.nD Cert.KernelAdamProjIdeal.τ).loc Cert.KernelAdamProjIdeal.main_arg3)),
    fun c => resM (m ((c.tc : Thread Cert.KernelAdamProjIdeal.nD Cert.KernelAdamProjIdeal.τ).loc Cert.KernelAdamProjIdeal.main_arg1)) (m ((c.tc : Thread Cert.KernelAdamProjIdeal.nD Cert.KernelAdamProjIdeal.τ).loc Cert.KernelAdamProjIdeal.main_arg2)),
    fun c => resV (m ((c.tc : Thread Cert.KernelAdamProjIdeal.nD Cert.KernelAdamProjIdeal.τ).loc Cert.KernelAdamProjIdeal.main_arg1)) (m ((c.tc : Thread Cert.KernelAdamProjIdeal.nD Cert.KernelAdamProjIdeal.τ).loc Cert.KernelAdamProjIdeal.main_arg3)), ?_, ?_⟩
  · refine (θ_run Cert.KernelAdamProjIdeal.defs _ _).mono (fun r h c => ?_) (Cert.KernelAdamProjIdeal.Value.run_blocks (F := Ideal) m ρ)
    obtain ⟨h0, h1, h2, ha⟩ := h c
    exact ⟨h0.trans (final4 m c), h1.trans (final5 m c), h2.trans (final6 m c), ha⟩
  · refine (θ_run Cert.ReferenceAdamProjIdeal.defs _ _).mono (fun r h c => ?_) (Cert.ReferenceAdamProjIdeal.Value.run (F := Ideal) m' ρ')
    obtain ⟨h0, h1, h2, ha⟩ := h c
    obtain ⟨e0, e1, e2, e3⟩ := hagree c
    refine ⟨?_, ?_, ?_, ha⟩
    · beta_reduce; rw [← e0, ← e1, ← e2, ← e3]; exact h0
    · beta_reduce; rw [← e1, ← e2]; exact h1
    · beta_reduce; rw [← e1, ← e3]; exact h2

end Cert.AdamProj

end
-- ==== Proof.lean ====
/- The proof of the claims: each part is proved in a module of its own under Proof/. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.KernelMlp.Frame
public import proofs.«01_k».proof.Proof.Gen.KernelMlpIdeal.Frame
public import proofs.«01_k».proof.Proof.Gen.KernelMlpIdeal.Value
public import proofs.«01_k».proof.Proof.Gen.ReferenceMlpIdeal.Run
public import proofs.«01_k».proof.Proof.Gen.KernelFwd.Frame
public import proofs.«01_k».proof.Proof.Gen.KernelFwdIdeal.Frame
public import proofs.«01_k».proof.Proof.Gen.KernelFwdIdeal.Value
public import proofs.«01_k».proof.Proof.Gen.ReferenceFwdIdeal.Run
public import proofs.«01_k».proof.Proof.Gen.KernelLoss.Frame
public import proofs.«01_k».proof.Proof.Gen.KernelLossIdeal.Frame
public import proofs.«01_k».proof.Proof.Gen.KernelLossIdeal.Value
public import proofs.«01_k».proof.Proof.Gen.ReferenceLossIdeal.Run
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.KernelDown.Frame
public import proofs.«01_k».proof.Proof.Gen.KernelDownIdeal.Frame
public import proofs.«01_k».proof.Proof.Gen.KernelDownIdeal.Value
public import proofs.«01_k».proof.Proof.Gen.ReferenceDownIdeal.Run
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.KernelWin.Frame
public import proofs.«01_k».proof.Proof.Gen.KernelWinIdeal.Frame
public import proofs.«01_k».proof.Proof.Gen.KernelWinIdeal.Value
public import proofs.«01_k».proof.Proof.Gen.ReferenceWinIdeal.Run
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.KernelWout.Frame
public import proofs.«01_k».proof.Proof.Gen.KernelWoutIdeal.Frame
public import proofs.«01_k».proof.Proof.Gen.KernelWoutIdeal.Value
public import proofs.«01_k».proof.Proof.Gen.ReferenceWoutIdeal.Run
public import proofs.«01_k».proof.Proof.Gen.KernelWattn.Frame
public import proofs.«01_k».proof.Proof.Gen.KernelWattnIdeal.Frame
public import proofs.«01_k».proof.Proof.Gen.KernelWattnIdeal.Value
public import proofs.«01_k».proof.Proof.Gen.ReferenceWattnIdeal.Run
public import proofs.«01_k».proof.Proof.Gen.KernelWconv.Frame
public import proofs.«01_k».proof.Proof.Gen.KernelWconvIdeal.Frame
public import proofs.«01_k».proof.Proof.Gen.KernelWconvIdeal.Value
public import proofs.«01_k».proof.Proof.Gen.ReferenceWconvIdeal.Run
public import proofs.«01_k».proof.Proof.Gen.KernelAttn.Loops
public import proofs.«01_k».proof.Proof.Gen.KernelAttn.Frame
public import proofs.«01_k».proof.Proof.Gen.KernelAttnIdeal.Loops
public import proofs.«01_k».proof.Proof.Gen.KernelAttnIdeal.Frame
public import proofs.«01_k».proof.Proof.Gen.ReferenceAttnIdeal.Run
public import proofs.«01_k».proof.Proof.Gen.KernelAdamMlp.Frame
public import proofs.«01_k».proof.Proof.Gen.KernelAdamMlpIdeal.Frame
public import proofs.«01_k».proof.Proof.Gen.KernelAdamMlpIdeal.Value
public import proofs.«01_k».proof.Proof.Gen.ReferenceAdamMlpIdeal.Run
public import proofs.«01_k».proof.Proof.Gen.KernelAdamIn.Frame
public import proofs.«01_k».proof.Proof.Gen.KernelAdamInIdeal.Frame
public import proofs.«01_k».proof.Proof.Gen.KernelAdamInIdeal.Value
public import proofs.«01_k».proof.Proof.Gen.ReferenceAdamInIdeal.Run
public import proofs.«01_k».proof.Proof.Gen.KernelAdamOut.Frame
public import proofs.«01_k».proof.Proof.Gen.KernelAdamOutIdeal.Frame
public import proofs.«01_k».proof.Proof.Gen.KernelAdamOutIdeal.Value
public import proofs.«01_k».proof.Proof.Gen.ReferenceAdamOutIdeal.Run
public import proofs.«01_k».proof.Proof.Gen.KernelAdamProj.Frame
public import proofs.«01_k».proof.Proof.Gen.KernelAdamProjIdeal.Frame
public import proofs.«01_k».proof.Proof.Gen.KernelAdamProjIdeal.Value
public import proofs.«01_k».proof.Proof.Gen.ReferenceAdamProjIdeal.Run
public import proofs.«01_k».proof.Proof.Merge.Claim
public import proofs.«01_k».proof.Proof.Mlp.Claim
public import proofs.«01_k».proof.Proof.Fwd.Claim
public import proofs.«01_k».proof.Proof.Loss.Claim
public import proofs.«01_k».proof.Proof.Up.Claim
public import proofs.«01_k».proof.Proof.Down.Claim
public import proofs.«01_k».proof.Proof.In.Claim
public import proofs.«01_k».proof.Proof.Win.Claim
public import proofs.«01_k».proof.Proof.Proj.Claim
public import proofs.«01_k».proof.Proof.Out.Claim
public import proofs.«01_k».proof.Proof.Wout.Claim
public import proofs.«01_k».proof.Proof.Wattn.Claim
public import proofs.«01_k».proof.Proof.Wconv.Claim
public import proofs.«01_k».proof.Proof.Attn.Claim
public import proofs.«01_k».proof.Proof.AdamMlp.Claim
public import proofs.«01_k».proof.Proof.AdamIn.Claim
public import proofs.«01_k».proof.Proof.AdamOut.Claim
public import proofs.«01_k».proof.Proof.AdamProj.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelMlp.Gen.facts, Cert.KernelMlpIdeal.Gen.facts, Cert.ReferenceMlpIdeal.Gen.facts,
  Cert.KernelFwd.Gen.facts, Cert.KernelFwdIdeal.Gen.facts, Cert.ReferenceFwdIdeal.Gen.facts,
  Cert.KernelLoss.Gen.facts, Cert.KernelLossIdeal.Gen.facts, Cert.ReferenceLossIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelWin.Gen.facts, Cert.KernelWinIdeal.Gen.facts, Cert.ReferenceWinIdeal.Gen.facts,
  Cert.KernelProj.Gen.facts, Cert.KernelProjIdeal.Gen.facts, Cert.ReferenceProjIdeal.Gen.facts,
  Cert.KernelOut.Gen.facts, Cert.KernelOutIdeal.Gen.facts, Cert.ReferenceOutIdeal.Gen.facts,
  Cert.KernelWout.Gen.facts, Cert.KernelWoutIdeal.Gen.facts, Cert.ReferenceWoutIdeal.Gen.facts,
  Cert.KernelWattn.Gen.facts, Cert.KernelWattnIdeal.Gen.facts, Cert.ReferenceWattnIdeal.Gen.facts,
  Cert.KernelWconv.Gen.facts, Cert.KernelWconvIdeal.Gen.facts, Cert.ReferenceWconvIdeal.Gen.facts,
  Cert.KernelAttn.Gen.facts, Cert.KernelAttnIdeal.Gen.facts, Cert.ReferenceAttnIdeal.Gen.facts,
  Cert.KernelAdamMlp.Gen.facts, Cert.KernelAdamMlpIdeal.Gen.facts, Cert.ReferenceAdamMlpIdeal.Gen.facts,
  Cert.KernelAdamIn.Gen.facts, Cert.KernelAdamInIdeal.Gen.facts, Cert.ReferenceAdamInIdeal.Gen.facts,
  Cert.KernelAdamOut.Gen.facts, Cert.KernelAdamOutIdeal.Gen.facts, Cert.ReferenceAdamOutIdeal.Gen.facts,
  Cert.KernelAdamProj.Gen.facts, Cert.KernelAdamProjIdeal.Gen.facts, Cert.ReferenceAdamProjIdeal.Gen.facts,
  Cert.Merge.frame_kernel, Cert.Merge.frame_ideal, Cert.Merge.frame_reference,
  Cert.Mlp.frame_kernel, Cert.Mlp.frame_ideal, Cert.Mlp.frame_reference,
  Cert.Fwd.frame_kernel, Cert.Fwd.frame_ideal, Cert.Fwd.frame_reference,
  Cert.Loss.frame_kernel, Cert.Loss.frame_ideal, Cert.Loss.frame_reference,
  Cert.Up.frame_kernel, Cert.Up.frame_ideal, Cert.Up.frame_reference,
  Cert.Down.frame_kernel, Cert.Down.frame_ideal, Cert.Down.frame_reference,
  Cert.In.frame_kernel, Cert.In.frame_ideal, Cert.In.frame_reference,
  Cert.Win.frame_kernel, Cert.Win.frame_ideal, Cert.Win.frame_reference,
  Cert.Proj.frame_kernel, Cert.Proj.frame_ideal, Cert.Proj.frame_reference,
  Cert.Out.frame_kernel, Cert.Out.frame_ideal, Cert.Out.frame_reference,
  Cert.Wout.frame_kernel, Cert.Wout.frame_ideal, Cert.Wout.frame_reference,
  Cert.Wattn.frame_kernel, Cert.Wattn.frame_ideal, Cert.Wattn.frame_reference,
  Cert.Wconv.frame_kernel, Cert.Wconv.frame_ideal, Cert.Wconv.frame_reference,
  Cert.Attn.frame_kernel, Cert.Attn.frame_ideal, Cert.Attn.frame_reference,
  Cert.AdamMlp.frame_kernel, Cert.AdamMlp.frame_ideal, Cert.AdamMlp.frame_reference,
  Cert.AdamIn.frame_kernel, Cert.AdamIn.frame_ideal, Cert.AdamIn.frame_reference,
  Cert.AdamOut.frame_kernel, Cert.AdamOut.frame_ideal, Cert.AdamOut.frame_reference,
  Cert.AdamProj.frame_kernel, Cert.AdamProj.frame_ideal, Cert.AdamProj.frame_reference,
  Cert.Merge.preserves, Cert.Merge.algebraic,
  Cert.Mlp.preserves, Cert.Mlp.algebraic,
  Cert.Fwd.preserves, Cert.Fwd.algebraic,
  Cert.Loss.preserves, Cert.Loss.algebraic,
  Cert.Up.preserves, Cert.Up.algebraic,
  Cert.Down.preserves, Cert.Down.algebraic,
  Cert.In.preserves, Cert.In.algebraic,
  Cert.Win.preserves, Cert.Win.algebraic,
  Cert.Proj.preserves, Cert.Proj.algebraic,
  Cert.Out.preserves, Cert.Out.algebraic,
  Cert.Wout.preserves, Cert.Wout.algebraic,
  Cert.Wattn.preserves, Cert.Wattn.algebraic,
  Cert.Wconv.preserves, Cert.Wconv.algebraic,
  Cert.Attn.preserves, Cert.Attn.algebraic,
  Cert.AdamMlp.preserves, Cert.AdamMlp.algebraic,
  Cert.AdamIn.preserves, Cert.AdamIn.algebraic,
  Cert.AdamOut.preserves, Cert.AdamOut.algebraic,
  Cert.AdamProj.preserves, Cert.AdamProj.algebraic⟩

end Cert.Proof

end
